-- ==== Defs.lean ====
def Pre_GateUp [hPre_experts_in_range : Cert.Pre_experts_in_range.Facts] (m : (ℓ : Loc Cert.GateUp.nD Cert.GateUp.τ Cert.GateUp.sig) → Buf (Elt Bits) ℓ) : Prop :=
  ∀ c : Dev Cert.GateUp.nD,
    (Cert.Pre_experts_in_range.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4))) = (fun _ => 1#1)

def Pre_GateUpIdeal [hPre_experts_in_range : Cert.Pre_experts_in_range.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_experts_in_range.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4))) = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_experts_in_range [hPre_experts_in_range : Cert.Pre_experts_in_range.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_experts_in_range.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3)) (m ((c.tc : Thread Cert.GateUpRefIdeal.nD Cert.GateUpRefIdeal.τ).loc Cert.GateUpRefIdeal.main_arg4))) = (fun _ => 1#1)

def Pre_Down [hPre_experts_in_range_down : Cert.Pre_experts_in_range_down.Facts] (m : (ℓ : Loc Cert.Down.nD Cert.Down.τ Cert.Down.sig) → Buf (Elt Bits) ℓ) : Prop :=
  ∀ c : Dev Cert.Down.nD,
    (Cert.Pre_experts_in_range_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_experts_in_range_down : Cert.Pre_experts_in_range_down.Facts] (m : (ℓ : Loc Cert.DownIdeal.nD Cert.DownIdeal.τ Cert.DownIdeal.sig) → Buf (Elt Ideal) ℓ) : Prop :=
  ∀ c : Dev Cert.DownIdeal.nD,
    (Cert.Pre_experts_in_range_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_experts_in_range_down [hPre_experts_in_range_down : Cert.Pre_experts_in_range_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_experts_in_range_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QkProj (m : (ℓ : Loc Cert.QkProj.nD Cert.QkProj.τ Cert.QkProj.sig) → Buf (Elt Bits) ℓ) : Prop :=
  True

def Pre_QkProjIdeal (m : (ℓ : Loc Cert.QkProjIdeal.nD Cert.QkProjIdeal.τ Cert.QkProjIdeal.sig) → Buf (Elt Ideal) ℓ) : Prop :=
  True

def Pre_QkProjRefIdeal (m : (ℓ : Loc Cert.QkProjRefIdeal.nD Cert.QkProjRefIdeal.τ Cert.QkProjRefIdeal.sig) → Buf (Elt Ideal) ℓ) : Prop :=
  True

def Pre_VProj (m : (ℓ : Loc Cert.VProj.nD Cert.VProj.τ Cert.VProj.sig) → Buf (Elt Bits) ℓ) : Prop :=
  True

def Pre_VProjIdeal (m : (ℓ : Loc Cert.VProjIdeal.nD Cert.VProjIdeal.τ Cert.VProjIdeal.sig) → Buf (Elt Ideal) ℓ) : Prop :=
  True

def Pre_VProjRefIdeal (m : (ℓ : Loc Cert.VProjRefIdeal.nD Cert.VProjRefIdeal.τ Cert.VProjRefIdeal.sig) → Buf (Elt Ideal) ℓ) : Prop :=
  True

def Pre_UProj (m : (ℓ : Loc Cert.UProj.nD Cert.UProj.τ Cert.UProj.sig) → Buf (Elt Bits) ℓ) : Prop :=
  True

def Pre_UProjIdeal (m : (ℓ : Loc Cert.UProjIdeal.nD Cert.UProjIdeal.τ Cert.UProjIdeal.sig) → Buf (Elt Ideal) ℓ) : Prop :=
  True

def Pre_UProjRefIdeal (m : (ℓ : Loc Cert.UProjRefIdeal.nD Cert.UProjRefIdeal.τ Cert.UProjRefIdeal.sig) → Buf (Elt Ideal) ℓ) : Prop :=
  True

def Pre_RmsNorm (m : (ℓ : Loc Cert.RmsNorm.nD Cert.RmsNorm.τ Cert.RmsNorm.sig) → Buf (Elt Bits) ℓ) : Prop :=
  True

def Pre_RmsNormIdeal (m : (ℓ : Loc Cert.RmsNormIdeal.nD Cert.RmsNormIdeal.τ Cert.RmsNormIdeal.sig) → Buf (Elt Ideal) ℓ) : Prop :=
  True

def Pre_RmsNormRefIdeal (m : (ℓ : Loc Cert.RmsNormRefIdeal.nD Cert.RmsNormRefIdeal.τ Cert.RmsNormRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_router [hPre_finite_router : Cert.Pre_finite_router.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def quiescent_GateUp [hGateUp : Cert.GateUp.Facts] [hPre_experts_in_range : Cert.Pre_experts_in_range.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] [hPre_experts_in_range : Cert.Pre_experts_in_range.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_GateUpRefIdeal_pre_experts_in_range [hGateUpRefIdeal : Cert.GateUpRefIdeal.Facts] [hPre_experts_in_range : Cert.Pre_experts_in_range.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_experts_in_range m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_Down [hDown : Cert.Down.Facts] [hPre_experts_in_range_down : Cert.Pre_experts_in_range_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_experts_in_range_down : Cert.Pre_experts_in_range_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_experts_in_range_down [hDownRefIdeal : Cert.DownRefIdeal.Facts] [hPre_experts_in_range_down : Cert.Pre_experts_in_range_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_experts_in_range_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_QkProj [hQkProj : Cert.QkProj.Facts] : Prop :=
  ∀ (m : (ℓ : Loc Cert.QkProj.nD Cert.QkProj.τ Cert.QkProj.sig) → Buf (Elt Bits) ℓ) (g : Dev Cert.QkProj.nD → PrngReg), Pre_QkProj m →
    θ_run (Cert.QkProj.defs (F := Bits)) (onTc (τ := Cert.QkProj.τ) (Cert.QkProj.main (F := Bits))) ⟨m, fun _ => 0, g⟩ (fun r => (∀ c : Dev Cert.QkProj.nD,
      r.2.mem ((c.tc : Thread Cert.QkProj.nD Cert.QkProj.τ).loc Cert.QkProj.main_arg0) = m ((c.tc : Thread Cert.QkProj.nD Cert.QkProj.τ).loc Cert.QkProj.main_arg0)
      ∧ r.2.mem ((c.tc : Thread Cert.QkProj.nD Cert.QkProj.τ).loc Cert.QkProj.main_arg1) = m ((c.tc : Thread Cert.QkProj.nD Cert.QkProj.τ).loc Cert.QkProj.main_arg1)
      ∧ r.2.mem ((c.tc : Thread Cert.QkProj.nD Cert.QkProj.τ).loc Cert.QkProj.main_arg2) = m ((c.tc : Thread Cert.QkProj.nD Cert.QkProj.τ).loc Cert.QkProj.main_arg2)
      ∧ r.2.mem ((c.tc : Thread Cert.QkProj.nD Cert.QkProj.τ).loc Cert.QkProj.main_arg3) = m ((c.tc : Thread Cert.QkProj.nD Cert.QkProj.τ).loc Cert.QkProj.main_arg3))
      ∧ r.2.sem = fun _ => 0)

def quiescent_QkProjIdeal [hQkProjIdeal : Cert.QkProjIdeal.Facts] : Prop :=
  ∀ (m : (ℓ : Loc Cert.QkProjIdeal.nD Cert.QkProjIdeal.τ Cert.QkProjIdeal.sig) → Buf (Elt Ideal) ℓ) (g : Dev Cert.QkProjIdeal.nD → PrngReg), Pre_QkProjIdeal m →
    θ_run (Cert.QkProjIdeal.defs (F := Ideal)) (onTc (τ := Cert.QkProjIdeal.τ) (Cert.QkProjIdeal.main (F := Ideal))) ⟨m, fun _ => 0, g⟩ (fun r => (∀ c : Dev Cert.QkProjIdeal.nD,
      r.2.mem ((c.tc : Thread Cert.QkProjIdeal.nD Cert.QkProjIdeal.τ).loc Cert.QkProjIdeal.main_arg0) = m ((c.tc : Thread Cert.QkProjIdeal.nD Cert.QkProjIdeal.τ).loc Cert.QkProjIdeal.main_arg0)
      ∧ r.2.mem ((c.tc : Thread Cert.QkProjIdeal.nD Cert.QkProjIdeal.τ).loc Cert.QkProjIdeal.main_arg1) = m ((c.tc : Thread Cert.QkProjIdeal.nD Cert.QkProjIdeal.τ).loc Cert.QkProjIdeal.main_arg1)
      ∧ r.2.mem ((c.tc : Thread Cert.QkProjIdeal.nD Cert.QkProjIdeal.τ).loc Cert.QkProjIdeal.main_arg2) = m ((c.tc : Thread Cert.QkProjIdeal.nD Cert.QkProjIdeal.τ).loc Cert.QkProjIdeal.main_arg2)
      ∧ r.2.mem ((c.tc : Thread Cert.QkProjIdeal.nD Cert.QkProjIdeal.τ).loc Cert.QkProjIdeal.main_arg3) = m ((c.tc : Thread Cert.QkProjIdeal.nD Cert.QkProjIdeal.τ).loc Cert.QkProjIdeal.main_arg3))
      ∧ r.2.sem = fun _ => 0)

def quiescent_QkProjRefIdeal [hQkProjRefIdeal : Cert.QkProjRefIdeal.Facts] : Prop :=
  ∀ (m : (ℓ : Loc Cert.QkProjRefIdeal.nD Cert.QkProjRefIdeal.τ Cert.QkProjRefIdeal.sig) → Buf (Elt Ideal) ℓ) (g : Dev Cert.QkProjRefIdeal.nD → PrngReg), Pre_QkProjRefIdeal m →
    θ_run (Cert.QkProjRefIdeal.defs (F := Ideal)) (onTc (τ := Cert.QkProjRefIdeal.τ) (Cert.QkProjRefIdeal.main (F := Ideal))) ⟨m, fun _ => 0, g⟩ (fun r => (∀ c : Dev Cert.QkProjRefIdeal.nD,
      r.2.mem ((c.tc : Thread Cert.QkProjRefIdeal.nD Cert.QkProjRefIdeal.τ).loc Cert.QkProjRefIdeal.main_arg0) = m ((c.tc : Thread Cert.QkProjRefIdeal.nD Cert.QkProjRefIdeal.τ).loc Cert.QkProjRefIdeal.main_arg0)
      ∧ r.2.mem ((c.tc : Thread Cert.QkProjRefIdeal.nD Cert.QkProjRefIdeal.τ).loc Cert.QkProjRefIdeal.main_arg1) = m ((c.tc : Thread Cert.QkProjRefIdeal.nD Cert.QkProjRefIdeal.τ).loc Cert.QkProjRefIdeal.main_arg1)
      ∧ r.2.mem ((c.tc : Thread Cert.QkProjRefIdeal.nD Cert.QkProjRefIdeal.τ).loc Cert.QkProjRefIdeal.main_arg2) = m ((c.tc : Thread Cert.QkProjRefIdeal.nD Cert.QkProjRefIdeal.τ).loc Cert.QkProjRefIdeal.main_arg2)
      ∧ r.2.mem ((c.tc : Thread Cert.QkProjRefIdeal.nD Cert.QkProjRefIdeal.τ).loc Cert.QkProjRefIdeal.main_arg3) = m ((c.tc : Thread Cert.QkProjRefIdeal.nD Cert.QkProjRefIdeal.τ).loc Cert.QkProjRefIdeal.main_arg3))
      ∧ r.2.sem = fun _ => 0)

def quiescent_VProj [hVProj : Cert.VProj.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1))
      ∧ r.2.sem = fun _ => 0)

def quiescent_VProjIdeal [hVProjIdeal : Cert.VProjIdeal.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ r.2.sem = fun _ => 0)

def quiescent_VProjRefIdeal [hVProjRefIdeal : Cert.VProjRefIdeal.Facts] : Prop :=
  ∀ (m : (ℓ : Loc Cert.VProjRefIdeal.nD Cert.VProjRefIdeal.τ Cert.VProjRefIdeal.sig) → Buf (Elt Ideal) ℓ) (g : Dev Cert.VProjRefIdeal.nD → PrngReg), Pre_VProjRefIdeal m →
    θ_run (Cert.VProjRefIdeal.defs (F := Ideal)) (onTc (τ := Cert.VProjRefIdeal.τ) (Cert.VProjRefIdeal.main (F := Ideal))) ⟨m, fun _ => 0, g⟩ (fun r => (∀ c : Dev Cert.VProjRefIdeal.nD,
      r.2.mem ((c.tc : Thread Cert.VProjRefIdeal.nD Cert.VProjRefIdeal.τ).loc Cert.VProjRefIdeal.main_arg0) = m ((c.tc : Thread Cert.VProjRefIdeal.nD Cert.VProjRefIdeal.τ).loc Cert.VProjRefIdeal.main_arg0)
      ∧ r.2.mem ((c.tc : Thread Cert.VProjRefIdeal.nD Cert.VProjRefIdeal.τ).loc Cert.VProjRefIdeal.main_arg1) = m ((c.tc : Thread Cert.VProjRefIdeal.nD Cert.VProjRefIdeal.τ).loc Cert.VProjRefIdeal.main_arg1))
      ∧ r.2.sem = fun _ => 0)

def quiescent_UProj [hUProj : Cert.UProj.Facts] : Prop :=
  ∀ (m : (ℓ : Loc Cert.UProj.nD Cert.UProj.τ Cert.UProj.sig) → Buf (Elt Bits) ℓ) (g : Dev Cert.UProj.nD → PrngReg), Pre_UProj m →
    θ_run (Cert.UProj.defs (F := Bits)) (onTc (τ := Cert.UProj.τ) (Cert.UProj.main (F := Bits))) ⟨m, fun _ => 0, g⟩ (fun r => (∀ c : Dev Cert.UProj.nD,
      r.2.mem ((c.tc : Thread Cert.UProj.nD Cert.UProj.τ).loc Cert.UProj.main_arg0) = m ((c.tc : Thread Cert.UProj.nD Cert.UProj.τ).loc Cert.UProj.main_arg0)
      ∧ r.2.mem ((c.tc : Thread Cert.UProj.nD Cert.UProj.τ).loc Cert.UProj.main_arg1) = m ((c.tc : Thread Cert.UProj.nD Cert.UProj.τ).loc Cert.UProj.main_arg1))
      ∧ r.2.sem = fun _ => 0)

def quiescent_UProjIdeal [hUProjIdeal : Cert.UProjIdeal.Facts] : Prop :=
  ∀ (m : (ℓ : Loc Cert.UProjIdeal.nD Cert.UProjIdeal.τ Cert.UProjIdeal.sig) → Buf (Elt Ideal) ℓ) (g : Dev Cert.UProjIdeal.nD → PrngReg), Pre_UProjIdeal m →
    θ_run (Cert.UProjIdeal.defs (F := Ideal)) (onTc (τ := Cert.UProjIdeal.τ) (Cert.UProjIdeal.main (F := Ideal))) ⟨m, fun _ => 0, g⟩ (fun r => (∀ c : Dev Cert.UProjIdeal.nD,
      r.2.mem ((c.tc : Thread Cert.UProjIdeal.nD Cert.UProjIdeal.τ).loc Cert.UProjIdeal.main_arg0) = m ((c.tc : Thread Cert.UProjIdeal.nD Cert.UProjIdeal.τ).loc Cert.UProjIdeal.main_arg0)
      ∧ r.2.mem ((c.tc : Thread Cert.UProjIdeal.nD Cert.UProjIdeal.τ).loc Cert.UProjIdeal.main_arg1) = m ((c.tc : Thread Cert.UProjIdeal.nD Cert.UProjIdeal.τ).loc Cert.UProjIdeal.main_arg1))
      ∧ r.2.sem = fun _ => 0)

def quiescent_UProjRefIdeal [hUProjRefIdeal : Cert.UProjRefIdeal.Facts] : Prop :=
  ∀ (m : (ℓ : Loc Cert.UProjRefIdeal.nD Cert.UProjRefIdeal.τ Cert.UProjRefIdeal.sig) → Buf (Elt Ideal) ℓ) (g : Dev Cert.UProjRefIdeal.nD → PrngReg), Pre_UProjRefIdeal m →
    θ_run (Cert.UProjRefIdeal.defs (F := Ideal)) (onTc (τ := Cert.UProjRefIdeal.τ) (Cert.UProjRefIdeal.main (F := Ideal))) ⟨m, fun _ => 0, g⟩ (fun r => (∀ c : Dev Cert.UProjRefIdeal.nD,
      r.2.mem ((c.tc : Thread Cert.UProjRefIdeal.nD Cert.UProjRefIdeal.τ).loc Cert.UProjRefIdeal.main_arg0) = m ((c.tc : Thread Cert.UProjRefIdeal.nD Cert.UProjRefIdeal.τ).loc Cert.UProjRefIdeal.main_arg0)
      ∧ r.2.mem ((c.tc : Thread Cert.UProjRefIdeal.nD Cert.UProjRefIdeal.τ).loc Cert.UProjRefIdeal.main_arg1) = m ((c.tc : Thread Cert.UProjRefIdeal.nD Cert.UProjRefIdeal.τ).loc Cert.UProjRefIdeal.main_arg1))
      ∧ r.2.sem = fun _ => 0)

def quiescent_RmsNorm [hRmsNorm : Cert.RmsNorm.Facts] : Prop :=
  ∀ (m : (ℓ : Loc Cert.RmsNorm.nD Cert.RmsNorm.τ Cert.RmsNorm.sig) → Buf (Elt Bits) ℓ) (g : Dev Cert.RmsNorm.nD → PrngReg), Pre_RmsNorm m →
    θ_run (Cert.RmsNorm.defs (F := Bits)) (onTc (τ := Cert.RmsNorm.τ) (Cert.RmsNorm.main (F := Bits))) ⟨m, fun _ => 0, g⟩ (fun r => (∀ c : Dev Cert.RmsNorm.nD,
      r.2.mem ((c.tc : Thread Cert.RmsNorm.nD Cert.RmsNorm.τ).loc Cert.RmsNorm.main_arg0) = m ((c.tc : Thread Cert.RmsNorm.nD Cert.RmsNorm.τ).loc Cert.RmsNorm.main_arg0)
      ∧ r.2.mem ((c.tc : Thread Cert.RmsNorm.nD Cert.RmsNorm.τ).loc Cert.RmsNorm.main_arg1) = m ((c.tc : Thread Cert.RmsNorm.nD Cert.RmsNorm.τ).loc Cert.RmsNorm.main_arg1))
      ∧ r.2.sem = fun _ => 0)

def quiescent_RmsNormIdeal [hRmsNormIdeal : Cert.RmsNormIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg), Pre_RmsNormIdeal m →
    θ_run (Cert.RmsNormIdeal.defs (F := Ideal)) (onTc (τ := Cert.RmsNormIdeal.τ) (Cert.RmsNormIdeal.main (F := Ideal))) ⟨m, fun _ => 0, g⟩ (fun r => (∀ c : Dev Cert.RmsNormIdeal.nD,
      r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
      ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ r.2.sem = fun _ => 0)

def quiescent_RmsNormRefIdeal [hRmsNormRefIdeal : Cert.RmsNormRefIdeal.Facts] : Prop :=
  ∀ (m : (ℓ : Loc Cert.RmsNormRefIdeal.nD Cert.RmsNormRefIdeal.τ Cert.RmsNormRefIdeal.sig) → Buf (Elt Ideal) ℓ) (g : Dev Cert.RmsNormRefIdeal.nD → PrngReg), Pre_RmsNormRefIdeal m →
    θ_run (Cert.RmsNormRefIdeal.defs (F := Ideal)) (onTc (τ := Cert.RmsNormRefIdeal.τ) (Cert.RmsNormRefIdeal.main (F := Ideal))) ⟨m, fun _ => 0, g⟩ (fun r => (∀ c : Dev Cert.RmsNormRefIdeal.nD,
      r.2.mem ((c.tc : Thread Cert.RmsNormRefIdeal.nD Cert.RmsNormRefIdeal.τ).loc Cert.RmsNormRefIdeal.main_arg0) = m ((c.tc : Thread Cert.RmsNormRefIdeal.nD Cert.RmsNormRefIdeal.τ).loc Cert.RmsNormRefIdeal.main_arg0)
      ∧ r.2.mem ((c.tc : Thread Cert.RmsNormRefIdeal.nD Cert.RmsNormRefIdeal.τ).loc Cert.RmsNormRefIdeal.main_arg1) = m ((c.tc : Thread Cert.RmsNormRefIdeal.nD Cert.RmsNormRefIdeal.τ).loc Cert.RmsNormRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def quiescent_RouterRefIdeal_pre_finite_router [hRouterRefIdeal : Cert.RouterRefIdeal.Facts] [hPre_finite_router : Cert.Pre_finite_router.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_router m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def preserves_GateUp_GateUpIdeal : Prop :=
  IdealRules.bf16_pair.Statement Cert.GateUpIdeal.S1024x2048 Cert.GateUpIdeal.S512x2048

def algebraic_GateUpIdeal_GateUpRefIdeal [hGateUpIdeal : Cert.GateUpIdeal.Facts] [hGateUpRefIdeal : Cert.GateUpRefIdeal.Facts] [hPre_experts_in_range : Cert.Pre_experts_in_range.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v44) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_Down_DownIdeal : Prop :=
  IdealRules.bf16_pair.Statement Cert.DownIdeal.S1024x512 Cert.DownIdeal.S512x512
  ∧ IdealRules.bf16_pack.Statement Cert.DownIdeal.S512x512

def algebraic_DownIdeal_DownRefIdeal [hDownIdeal : Cert.DownIdeal.Facts] [hDownRefIdeal : Cert.DownRefIdeal.Facts] [hPre_experts_in_range_down : Cert.Pre_experts_in_range_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v27) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v25) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_QkProj_QkProjIdeal : Prop :=
  True

def algebraic_QkProjIdeal_QkProjRefIdeal [hQkProjIdeal : Cert.QkProjIdeal.Facts] [hQkProjRefIdeal : Cert.QkProjRefIdeal.Facts] : Prop :=
  ∀ (m : (ℓ : Loc Cert.QkProjIdeal.nD Cert.QkProjIdeal.τ Cert.QkProjIdeal.sig) → Buf (Elt Ideal) ℓ) (g : Dev Cert.QkProjIdeal.nD → PrngReg)
    (m' : (ℓ : Loc Cert.QkProjRefIdeal.nD Cert.QkProjRefIdeal.τ Cert.QkProjRefIdeal.sig) → Buf (Elt Ideal) ℓ) (g' : Dev Cert.QkProjRefIdeal.nD → PrngReg), Pre_QkProjIdeal m →
    (∀ c : Dev Cert.QkProjIdeal.nD,
      m' ((c.tc : Thread Cert.QkProjRefIdeal.nD Cert.QkProjRefIdeal.τ).loc Cert.QkProjRefIdeal.main_arg0) = m ((c.tc : Thread Cert.QkProjIdeal.nD Cert.QkProjIdeal.τ).loc Cert.QkProjIdeal.main_arg0)
      ∧ m' ((c.tc : Thread Cert.QkProjRefIdeal.nD Cert.QkProjRefIdeal.τ).loc Cert.QkProjRefIdeal.main_arg1) = m ((c.tc : Thread Cert.QkProjIdeal.nD Cert.QkProjIdeal.τ).loc Cert.QkProjIdeal.main_arg1)
      ∧ m' ((c.tc : Thread Cert.QkProjRefIdeal.nD Cert.QkProjRefIdeal.τ).loc Cert.QkProjRefIdeal.main_arg2) = m ((c.tc : Thread Cert.QkProjIdeal.nD Cert.QkProjIdeal.τ).loc Cert.QkProjIdeal.main_arg2)
      ∧ m' ((c.tc : Thread Cert.QkProjRefIdeal.nD Cert.QkProjRefIdeal.τ).loc Cert.QkProjRefIdeal.main_arg3) = m ((c.tc : Thread Cert.QkProjIdeal.nD Cert.QkProjIdeal.τ).loc Cert.QkProjIdeal.main_arg3)) →
    ∃ (v0 : (c : Dev Cert.QkProjIdeal.nD) → Buf (Elt Ideal) ((c.tc : Thread Cert.QkProjIdeal.nD Cert.QkProjIdeal.τ).loc Cert.QkProjIdeal.main_v30)),
      θ_run (Cert.QkProjIdeal.defs (F := Ideal)) (onTc (τ := Cert.QkProjIdeal.τ) (Cert.QkProjIdeal.main (F := Ideal))) ⟨m, fun _ => 0, g⟩ (fun r => ∀ c : Dev Cert.QkProjIdeal.nD,
          r.2.mem ((c.tc : Thread Cert.QkProjIdeal.nD Cert.QkProjIdeal.τ).loc Cert.QkProjIdeal.main_v30) = v0 c
          ∧ r.2.mem ((c.tc : Thread Cert.QkProjIdeal.nD Cert.QkProjIdeal.τ).loc Cert.QkProjIdeal.main_arg0) = m ((c.tc : Thread Cert.QkProjIdeal.nD Cert.QkProjIdeal.τ).loc Cert.QkProjIdeal.main_arg0)
          ∧ r.2.mem ((c.tc : Thread Cert.QkProjIdeal.nD Cert.QkProjIdeal.τ).loc Cert.QkProjIdeal.main_arg1) = m ((c.tc : Thread Cert.QkProjIdeal.nD Cert.QkProjIdeal.τ).loc Cert.QkProjIdeal.main_arg1)
          ∧ r.2.mem ((c.tc : Thread Cert.QkProjIdeal.nD Cert.QkProjIdeal.τ).loc Cert.QkProjIdeal.main_arg2) = m ((c.tc : Thread Cert.QkProjIdeal.nD Cert.QkProjIdeal.τ).loc Cert.QkProjIdeal.main_arg2)
          ∧ r.2.mem ((c.tc : Thread Cert.QkProjIdeal.nD Cert.QkProjIdeal.τ).loc Cert.QkProjIdeal.main_arg3) = m ((c.tc : Thread Cert.QkProjIdeal.nD Cert.QkProjIdeal.τ).loc Cert.QkProjIdeal.main_arg3))
      ∧ θ_run (Cert.QkProjRefIdeal.defs (F := Ideal)) (onTc (τ := Cert.QkProjRefIdeal.τ) (Cert.QkProjRefIdeal.main (F := Ideal))) ⟨m', fun _ => 0, g'⟩ (fun r => ∀ c : Dev Cert.QkProjRefIdeal.nD,
          r.2.mem ((c.tc : Thread Cert.QkProjRefIdeal.nD Cert.QkProjRefIdeal.τ).loc Cert.QkProjRefIdeal.main_v99) = v0 c
          ∧ r.2.mem ((c.tc : Thread Cert.QkProjRefIdeal.nD Cert.QkProjRefIdeal.τ).loc Cert.QkProjRefIdeal.main_arg0) = m' ((c.tc : Thread Cert.QkProjRefIdeal.nD Cert.QkProjRefIdeal.τ).loc Cert.QkProjRefIdeal.main_arg0)
          ∧ r.2.mem ((c.tc : Thread Cert.QkProjRefIdeal.nD Cert.QkProjRefIdeal.τ).loc Cert.QkProjRefIdeal.main_arg1) = m' ((c.tc : Thread Cert.QkProjRefIdeal.nD Cert.QkProjRefIdeal.τ).loc Cert.QkProjRefIdeal.main_arg1)
          ∧ r.2.mem ((c.tc : Thread Cert.QkProjRefIdeal.nD Cert.QkProjRefIdeal.τ).loc Cert.QkProjRefIdeal.main_arg2) = m' ((c.tc : Thread Cert.QkProjRefIdeal.nD Cert.QkProjRefIdeal.τ).loc Cert.QkProjRefIdeal.main_arg2)
          ∧ r.2.mem ((c.tc : Thread Cert.QkProjRefIdeal.nD Cert.QkProjRefIdeal.τ).loc Cert.QkProjRefIdeal.main_arg3) = m' ((c.tc : Thread Cert.QkProjRefIdeal.nD Cert.QkProjRefIdeal.τ).loc Cert.QkProjRefIdeal.main_arg3))

def preserves_VProj_VProjIdeal : Prop :=
  True

def algebraic_VProjIdeal_VProjRefIdeal [hVProjIdeal : Cert.VProjIdeal.Facts] [hVProjRefIdeal : Cert.VProjRefIdeal.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.VProjRefIdeal.nD Cert.VProjRefIdeal.τ Cert.VProjRefIdeal.sig) → Buf (Elt Ideal) ℓ) (g' : Dev Cert.VProjRefIdeal.nD → PrngReg), Pre_VProjIdeal m →
    (∀ c : Dev Cert.VProjIdeal.nD,
      m' ((c.tc : Thread Cert.VProjRefIdeal.nD Cert.VProjRefIdeal.τ).loc Cert.VProjRefIdeal.main_arg0) = m ((c.tc : Thread Cert.VProjIdeal.nD Cert.VProjIdeal.τ).loc Cert.VProjIdeal.main_arg0)
      ∧ m' ((c.tc : Thread Cert.VProjRefIdeal.nD Cert.VProjRefIdeal.τ).loc Cert.VProjRefIdeal.main_arg1) = m ((c.tc : Thread Cert.VProjIdeal.nD Cert.VProjIdeal.τ).loc Cert.VProjIdeal.main_arg1)) →
    ∃ (v0 : (c : Dev Cert.VProjIdeal.nD) → Buf (Elt Ideal) ((c.tc : Thread Cert.VProjIdeal.nD Cert.VProjIdeal.τ).loc Cert.VProjIdeal.main_v1)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v1) = v0 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ θ_run (Cert.VProjRefIdeal.defs (F := Ideal)) (onTc (τ := Cert.VProjRefIdeal.τ) (Cert.VProjRefIdeal.main (F := Ideal))) ⟨m', fun _ => 0, g'⟩ (fun r => ∀ c : Dev Cert.VProjRefIdeal.nD,
          r.2.mem ((c.tc : Thread Cert.VProjRefIdeal.nD Cert.VProjRefIdeal.τ).loc Cert.VProjRefIdeal.main_v4) = v0 c
          ∧ r.2.mem ((c.tc : Thread Cert.VProjRefIdeal.nD Cert.VProjRefIdeal.τ).loc Cert.VProjRefIdeal.main_arg0) = m' ((c.tc : Thread Cert.VProjRefIdeal.nD Cert.VProjRefIdeal.τ).loc Cert.VProjRefIdeal.main_arg0)
          ∧ r.2.mem ((c.tc : Thread Cert.VProjRefIdeal.nD Cert.VProjRefIdeal.τ).loc Cert.VProjRefIdeal.main_arg1) = m' ((c.tc : Thread Cert.VProjRefIdeal.nD Cert.VProjRefIdeal.τ).loc Cert.VProjRefIdeal.main_arg1))

def preserves_UProj_UProjIdeal : Prop :=
  True

def algebraic_UProjIdeal_UProjRefIdeal [hUProjIdeal : Cert.UProjIdeal.Facts] [hUProjRefIdeal : Cert.UProjRefIdeal.Facts] : Prop :=
  ∀ (m : (ℓ : Loc Cert.UProjIdeal.nD Cert.UProjIdeal.τ Cert.UProjIdeal.sig) → Buf (Elt Ideal) ℓ) (g : Dev Cert.UProjIdeal.nD → PrngReg)
    (m' : (ℓ : Loc Cert.UProjRefIdeal.nD Cert.UProjRefIdeal.τ Cert.UProjRefIdeal.sig) → Buf (Elt Ideal) ℓ) (g' : Dev Cert.UProjRefIdeal.nD → PrngReg), Pre_UProjIdeal m →
    (∀ c : Dev Cert.UProjIdeal.nD,
      m' ((c.tc : Thread Cert.UProjRefIdeal.nD Cert.UProjRefIdeal.τ).loc Cert.UProjRefIdeal.main_arg0) = m ((c.tc : Thread Cert.UProjIdeal.nD Cert.UProjIdeal.τ).loc Cert.UProjIdeal.main_arg0)
      ∧ m' ((c.tc : Thread Cert.UProjRefIdeal.nD Cert.UProjRefIdeal.τ).loc Cert.UProjRefIdeal.main_arg1) = m ((c.tc : Thread Cert.UProjIdeal.nD Cert.UProjIdeal.τ).loc Cert.UProjIdeal.main_arg1)) →
    ∃ (v0 : (c : Dev Cert.UProjIdeal.nD) → Buf (Elt Ideal) ((c.tc : Thread Cert.UProjIdeal.nD Cert.UProjIdeal.τ).loc Cert.UProjIdeal.main_v1)),
      θ_run (Cert.UProjIdeal.defs (F := Ideal)) (onTc (τ := Cert.UProjIdeal.τ) (Cert.UProjIdeal.main (F := Ideal))) ⟨m, fun _ => 0, g⟩ (fun r => ∀ c : Dev Cert.UProjIdeal.nD,
          r.2.mem ((c.tc : Thread Cert.UProjIdeal.nD Cert.UProjIdeal.τ).loc Cert.UProjIdeal.main_v1) = v0 c
          ∧ r.2.mem ((c.tc : Thread Cert.UProjIdeal.nD Cert.UProjIdeal.τ).loc Cert.UProjIdeal.main_arg0) = m ((c.tc : Thread Cert.UProjIdeal.nD Cert.UProjIdeal.τ).loc Cert.UProjIdeal.main_arg0)
          ∧ r.2.mem ((c.tc : Thread Cert.UProjIdeal.nD Cert.UProjIdeal.τ).loc Cert.UProjIdeal.main_arg1) = m ((c.tc : Thread Cert.UProjIdeal.nD Cert.UProjIdeal.τ).loc Cert.UProjIdeal.main_arg1))
      ∧ θ_run (Cert.UProjRefIdeal.defs (F := Ideal)) (onTc (τ := Cert.UProjRefIdeal.τ) (Cert.UProjRefIdeal.main (F := Ideal))) ⟨m', fun _ => 0, g'⟩ (fun r => ∀ c : Dev Cert.UProjRefIdeal.nD,
          r.2.mem ((c.tc : Thread Cert.UProjRefIdeal.nD Cert.UProjRefIdeal.τ).loc Cert.UProjRefIdeal.main_v2) = v0 c
          ∧ r.2.mem ((c.tc : Thread Cert.UProjRefIdeal.nD Cert.UProjRefIdeal.τ).loc Cert.UProjRefIdeal.main_arg0) = m' ((c.tc : Thread Cert.UProjRefIdeal.nD Cert.UProjRefIdeal.τ).loc Cert.UProjRefIdeal.main_arg0)
          ∧ r.2.mem ((c.tc : Thread Cert.UProjRefIdeal.nD Cert.UProjRefIdeal.τ).loc Cert.UProjRefIdeal.main_arg1) = m' ((c.tc : Thread Cert.UProjRefIdeal.nD Cert.UProjRefIdeal.τ).loc Cert.UProjRefIdeal.main_arg1))

def preserves_RmsNorm_RmsNormIdeal : Prop :=
  True

def algebraic_RmsNormIdeal_RmsNormRefIdeal [hRmsNormIdeal : Cert.RmsNormIdeal.Facts] [hRmsNormRefIdeal : Cert.RmsNormRefIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg)
    (m' : (ℓ : Loc Cert.RmsNormRefIdeal.nD Cert.RmsNormRefIdeal.τ Cert.RmsNormRefIdeal.sig) → Buf (Elt Ideal) ℓ) (g' : Dev Cert.RmsNormRefIdeal.nD → PrngReg), Pre_RmsNormIdeal m →
    (∀ c : Dev Cert.RmsNormIdeal.nD,
      m' ((c.tc : Thread Cert.RmsNormRefIdeal.nD Cert.RmsNormRefIdeal.τ).loc Cert.RmsNormRefIdeal.main_arg0) = m ((c.tc : Thread Cert.RmsNormIdeal.nD Cert.RmsNormIdeal.τ).loc Cert.RmsNormIdeal.main_arg0)
      ∧ m' ((c.tc : Thread Cert.RmsNormRefIdeal.nD Cert.RmsNormRefIdeal.τ).loc Cert.RmsNormRefIdeal.main_arg1) = m ((c.tc : Thread Cert.RmsNormIdeal.nD Cert.RmsNormIdeal.τ).loc Cert.RmsNormIdeal.main_arg1)) →
    ∃ (v0 : (c : Dev Cert.RmsNormIdeal.nD) → Buf (Elt Ideal) ((c.tc : Thread Cert.RmsNormIdeal.nD Cert.RmsNormIdeal.τ).loc Cert.RmsNormIdeal.main_v1)),
      θ_run (Cert.RmsNormIdeal.defs (F := Ideal)) (onTc (τ := Cert.RmsNormIdeal.τ) (Cert.RmsNormIdeal.main (F := Ideal))) ⟨m, fun _ => 0, g⟩ (fun r => ∀ c : Dev Cert.RmsNormIdeal.nD,
          r.2.mem ((c.tc : Thread Cert.RmsNormIdeal.nD Cert.RmsNormIdeal.τ).loc Cert.RmsNormIdeal.main_v1) = v0 c
          ∧ r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
          ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ θ_run (Cert.RmsNormRefIdeal.defs (F := Ideal)) (onTc (τ := Cert.RmsNormRefIdeal.τ) (Cert.RmsNormRefIdeal.main (F := Ideal))) ⟨m', fun _ => 0, g'⟩ (fun r => ∀ c : Dev Cert.RmsNormRefIdeal.nD,
          r.2.mem ((c.tc : Thread Cert.RmsNormRefIdeal.nD Cert.RmsNormRefIdeal.τ).loc Cert.RmsNormRefIdeal.main_v13) = v0 c
          ∧ r.2.mem ((c.tc : Thread Cert.RmsNormRefIdeal.nD Cert.RmsNormRefIdeal.τ).loc Cert.RmsNormRefIdeal.main_arg0) = m' ((c.tc : Thread Cert.RmsNormRefIdeal.nD Cert.RmsNormRefIdeal.τ).loc Cert.RmsNormRefIdeal.main_arg0)
          ∧ r.2.mem ((c.tc : Thread Cert.RmsNormRefIdeal.nD Cert.RmsNormRefIdeal.τ).loc Cert.RmsNormRefIdeal.main_arg1) = m' ((c.tc : Thread Cert.RmsNormRefIdeal.nD Cert.RmsNormRefIdeal.τ).loc Cert.RmsNormRefIdeal.main_arg1))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v141) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Router_RouterIdeal : Prop :=
  IdealRules.bf16_pair.Statement Cert.RouterIdeal.S512x2048 Cert.RouterIdeal.S256x2048
  ∧ IdealRules.bf16_pack.Statement Cert.RouterIdeal.S256x2048

def algebraic_RouterIdeal_RouterRefIdeal_pre_finite_router [hRouterIdeal : Cert.RouterIdeal.Facts] [hRouterRefIdeal : Cert.RouterRefIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_router m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)) (v2 : (c : Dev Cert.RouterIdeal.nD) → Buf (Elt Ideal) ((c.tc : Thread Cert.RouterIdeal.nD Cert.RouterIdeal.τ).loc Cert.RouterIdeal.main_v3_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_0) = v0 c
          ∧ r.2.mem ((c.tc : Thread Cert.RouterIdeal.nD Cert.RouterIdeal.τ).loc Cert.RouterIdeal.main_v3_1) = v1 c
          ∧ r.2.mem ((c.tc : Thread Cert.RouterIdeal.nD Cert.RouterIdeal.τ).loc Cert.RouterIdeal.main_v3_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v29) = v0 c
          ∧ r.2.mem ((c.tc : Thread Cert.RouterRefIdeal.nD Cert.RouterRefIdeal.τ).loc Cert.RouterRefIdeal.main_indices) = v1 c
          ∧ r.2.mem ((c.tc : Thread Cert.RouterRefIdeal.nD Cert.RouterRefIdeal.τ).loc Cert.RouterRefIdeal.main_v27) = v2 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3))

def preserves_Attention_AttentionIdeal : Prop :=
  True

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hMix : Cert.Mix.Facts) (hMixIdeal : Cert.MixIdeal.Facts) (hMixRefIdeal : Cert.MixRefIdeal.Facts) (hOutProj : Cert.OutProj.Facts) (hOutProjIdeal : Cert.OutProjIdeal.Facts) (hOutProjRefIdeal : Cert.OutProjRefIdeal.Facts) (hQkProj : Cert.QkProj.Facts) (hQkProjIdeal : Cert.QkProjIdeal.Facts) (hQkProjRefIdeal : Cert.QkProjRefIdeal.Facts) (hVProj : Cert.VProj.Facts) (hVProjIdeal : Cert.VProjIdeal.Facts) (hVProjRefIdeal : Cert.VProjRefIdeal.Facts) (hUProj : Cert.UProj.Facts) (hUProjIdeal : Cert.UProjIdeal.Facts) (hUProjRefIdeal : Cert.UProjRefIdeal.Facts) (hRmsNorm : Cert.RmsNorm.Facts) (hRmsNormIdeal : Cert.RmsNormIdeal.Facts) (hRmsNormRefIdeal : Cert.RmsNormRefIdeal.Facts) (hPool : Cert.Pool.Facts) (hPoolIdeal : Cert.PoolIdeal.Facts) (hPoolRefIdeal : Cert.PoolRefIdeal.Facts) (hRouter : Cert.Router.Facts) (hRouterIdeal : Cert.RouterIdeal.Facts) (hRouterRefIdeal : Cert.RouterRefIdeal.Facts) (hAttention : Cert.Attention.Facts) (hAttentionIdeal : Cert.AttentionIdeal.Facts) (hPre_experts_in_range : Cert.Pre_experts_in_range.Facts) (hPre_experts_in_range_down : Cert.Pre_experts_in_range_down.Facts) (hPre_finite_router : Cert.Pre_finite_router.Facts),
    quiescent_GateUp (hGateUp := hGateUp) (hPre_experts_in_range := hPre_experts_in_range)
    ∧ quiescent_GateUpIdeal (hGateUpIdeal := hGateUpIdeal) (hPre_experts_in_range := hPre_experts_in_range)
    ∧ quiescent_GateUpRefIdeal (hGateUpRefIdeal := hGateUpRefIdeal)
    ∧ quiescent_GateUpRefIdeal_pre_experts_in_range (hGateUpRefIdeal := hGateUpRefIdeal) (hPre_experts_in_range := hPre_experts_in_range)
    ∧ quiescent_Down (hDown := hDown) (hPre_experts_in_range_down := hPre_experts_in_range_down)
    ∧ quiescent_DownIdeal (hDownIdeal := hDownIdeal) (hPre_experts_in_range_down := hPre_experts_in_range_down)
    ∧ quiescent_DownRefIdeal (hDownRefIdeal := hDownRefIdeal)
    ∧ quiescent_DownRefIdeal_pre_experts_in_range_down (hDownRefIdeal := hDownRefIdeal) (hPre_experts_in_range_down := hPre_experts_in_range_down)
    ∧ quiescent_Mix (hMix := hMix)
    ∧ quiescent_MixIdeal (hMixIdeal := hMixIdeal)
    ∧ quiescent_MixRefIdeal (hMixRefIdeal := hMixRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_QkProj (hQkProj := hQkProj)
    ∧ quiescent_QkProjIdeal (hQkProjIdeal := hQkProjIdeal)
    ∧ quiescent_QkProjRefIdeal (hQkProjRefIdeal := hQkProjRefIdeal)
    ∧ quiescent_VProj (hVProj := hVProj)
    ∧ quiescent_VProjIdeal (hVProjIdeal := hVProjIdeal)
    ∧ quiescent_VProjRefIdeal (hVProjRefIdeal := hVProjRefIdeal)
    ∧ quiescent_UProj (hUProj := hUProj)
    ∧ quiescent_UProjIdeal (hUProjIdeal := hUProjIdeal)
    ∧ quiescent_UProjRefIdeal (hUProjRefIdeal := hUProjRefIdeal)
    ∧ quiescent_RmsNorm (hRmsNorm := hRmsNorm)
    ∧ quiescent_RmsNormIdeal (hRmsNormIdeal := hRmsNormIdeal)
    ∧ quiescent_RmsNormRefIdeal (hRmsNormRefIdeal := hRmsNormRefIdeal)
    ∧ quiescent_Pool (hPool := hPool)
    ∧ quiescent_PoolIdeal (hPoolIdeal := hPoolIdeal)
    ∧ quiescent_PoolRefIdeal (hPoolRefIdeal := hPoolRefIdeal)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterRefIdeal (hRouterRefIdeal := hRouterRefIdeal)
    ∧ quiescent_RouterRefIdeal_pre_finite_router (hRouterRefIdeal := hRouterRefIdeal) (hPre_finite_router := hPre_finite_router)
    ∧ quiescent_Attention (hAttention := hAttention)
    ∧ quiescent_AttentionIdeal (hAttentionIdeal := hAttentionIdeal)
    ∧ preserves_GateUp_GateUpIdeal
    ∧ algebraic_GateUpIdeal_GateUpRefIdeal (hGateUpIdeal := hGateUpIdeal) (hGateUpRefIdeal := hGateUpRefIdeal) (hPre_experts_in_range := hPre_experts_in_range)
    ∧ preserves_Down_DownIdeal
    ∧ algebraic_DownIdeal_DownRefIdeal (hDownIdeal := hDownIdeal) (hDownRefIdeal := hDownRefIdeal) (hPre_experts_in_range_down := hPre_experts_in_range_down)
    ∧ preserves_Mix_MixIdeal
    ∧ algebraic_MixIdeal_MixRefIdeal (hMixIdeal := hMixIdeal) (hMixRefIdeal := hMixRefIdeal)
    ∧ preserves_OutProj_OutProjIdeal
    ∧ algebraic_OutProjIdeal_OutProjRefIdeal (hOutProjIdeal := hOutProjIdeal) (hOutProjRefIdeal := hOutProjRefIdeal)
    ∧ preserves_QkProj_QkProjIdeal
    ∧ algebraic_QkProjIdeal_QkProjRefIdeal (hQkProjIdeal := hQkProjIdeal) (hQkProjRefIdeal := hQkProjRefIdeal)
    ∧ preserves_VProj_VProjIdeal
    ∧ algebraic_VProjIdeal_VProjRefIdeal (hVProjIdeal := hVProjIdeal) (hVProjRefIdeal := hVProjRefIdeal)
    ∧ preserves_UProj_UProjIdeal
    ∧ algebraic_UProjIdeal_UProjRefIdeal (hUProjIdeal := hUProjIdeal) (hUProjRefIdeal := hUProjRefIdeal)
    ∧ preserves_RmsNorm_RmsNormIdeal
    ∧ algebraic_RmsNormIdeal_RmsNormRefIdeal (hRmsNormIdeal := hRmsNormIdeal) (hRmsNormRefIdeal := hRmsNormRefIdeal)
    ∧ preserves_Pool_PoolIdeal
    ∧ algebraic_PoolIdeal_PoolRefIdeal (hPoolIdeal := hPoolIdeal) (hPoolRefIdeal := hPoolRefIdeal)
    ∧ preserves_Router_RouterIdeal
    ∧ algebraic_RouterIdeal_RouterRefIdeal_pre_finite_router (hRouterIdeal := hRouterIdeal) (hRouterRefIdeal := hRouterRefIdeal) (hPre_finite_router := hPre_finite_router)
    ∧ preserves_Attention_AttentionIdeal
-- ==== Pre_experts_in_range.lean ====
abbrev S294912x2048 : Shape := ⟨2, ![294912, 2048]⟩
abbrev S32x4096x8192 : Shape := ⟨3, ![32, 4096, 8192]⟩
abbrev S32x8192 : Shape := ⟨2, ![32, 8192]⟩
abbrev S288 : Shape := ⟨1, ![288]⟩
abbrev S1 : Shape := ⟨1, ![1]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S294912x2048 .bf16) (main_arg1 : FVec F S32x4096x8192 .f32) (main_arg2 : FVec F S32x8192 .f32) (main_arg3 : IVec S288 32) (main_arg4 : IVec S1 32) : IVec S288 1 :=
  let main_c : IVec S_ 32 := constantI S_ 32 0#32
  let main_v0 : IVec S288 32 := broadcastInDim S288 ![] bcast_S_S288 main_c
  let main_v1 : IVec S288 1 := cmpi .sge main_arg3 main_v0
  let main_c_0 : IVec S_ 32 := constantI S_ 32 31#32
  let main_v2 : IVec S288 32 := broadcastInDim S288 ![] bcast_S_S288 main_c_0
  let main_v3 : IVec S288 1 := cmpi .sle main_arg3 main_v2
  let main_v4 : IVec S288 1 := andi main_v1 main_v3
  main_v4
-- ==== Pre_experts_in_range_down.lean ====
abbrev S147456x4096 : Shape := ⟨2, ![147456, 4096]⟩
abbrev S32x4096x4096 : Shape := ⟨3, ![32, 4096, 4096]⟩
abbrev S32x4096 : Shape := ⟨2, ![32, 4096]⟩
abbrev S288 : Shape := ⟨1, ![288]⟩
abbrev S1 : Shape := ⟨1, ![1]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S147456x4096 .bf16) (main_arg1 : FVec F S32x4096x4096 .f32) (main_arg2 : FVec F S32x4096 .f32) (main_arg3 : IVec S288 32) (main_arg4 : IVec S1 32) : IVec S288 1 :=
  let main_c : IVec S_ 32 := constantI S_ 32 0#32
  let main_v0 : IVec S288 32 := broadcastInDim S288 ![] bcast_S_S288 main_c
  let main_v1 : IVec S288 1 := cmpi .sge main_arg3 main_v0
  let main_c_0 : IVec S_ 32 := constantI S_ 32 31#32
  let main_v2 : IVec S288 32 := broadcastInDim S288 ![] bcast_S_S288 main_c_0
  let main_v3 : IVec S288 1 := cmpi .sle main_arg3 main_v2
  let main_v4 : IVec S288 1 := andi main_v1 main_v3
  main_v4
-- ==== Pre_finite_router.lean ====
abbrev S32768x4096 : Shape := ⟨2, ![32768, 4096]⟩
abbrev S4096 : Shape := ⟨1, ![4096]⟩
abbrev S4096x32 : Shape := ⟨2, ![4096, 32]⟩
abbrev S32 : Shape := ⟨1, ![32]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S32768x4096 .f32) (main_arg1 : FVec F S4096 .f32) (main_arg2 : FVec F S4096x32 .f32) (main_arg3 : FVec F S32 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== GateUp.lean ====
abbrev S294912x2048 : Shape := ⟨2, ![294912, 2048]⟩
abbrev S32x4096x8192 : Shape := ⟨3, ![32, 4096, 8192]⟩
abbrev S32x8192 : Shape := ⟨2, ![32, 8192]⟩
abbrev S288 : Shape := ⟨1, ![288]⟩
abbrev S1 : Shape := ⟨1, ![1]⟩
abbrev S32x1x8192 : Shape := ⟨3, ![32, 1, 8192]⟩
abbrev S147456x4096 : Shape := ⟨2, ![147456, 4096]⟩
abbrev S1024x2048 : Shape := ⟨2, ![1024, 2048]⟩
abbrev S1x4096x512 : Shape := ⟨3, ![1, 4096, 512]⟩
abbrev S1x1x512 : Shape := ⟨3, ![1, 1, 512]⟩
abbrev S512x512 : Shape := ⟨2, ![512, 512]⟩
abbrev S512x2048 : Shape := ⟨2, ![512, 2048]⟩
abbrev S1x2048x512 : Shape := ⟨3, ![1, 2048, 512]⟩
abbrev S2048x512 : Shape := ⟨2, ![2048, 512]⟩
abbrev S1x512 : Shape := ⟨2, ![1, 512]⟩

abbrev nBuf : Space → Nat
  | .hbm => 7
  | .vmem => 14
  | .smem => 2
  | _ => 0

abbrev bufTy : (tb : Table) → Fin (tcTables nBuf tb) → BufTy
  | .hbm, ⟨0, _⟩ => ⟨S294912x2048, .bf16⟩
  | .hbm, ⟨1, _⟩ => ⟨S32x4096x8192, .f32⟩
  | .hbm, ⟨2, _⟩ => ⟨S32x8192, .f32⟩
  | .hbm, ⟨3, _⟩ => ⟨S32x4096x8192, .bf16⟩
  | .hbm, ⟨4, _⟩ => ⟨S32x1x8192, .f32⟩
  | .hbm, ⟨5, _⟩ => ⟨S32x1x8192, .f32⟩
  | .hbm, ⟨6, _⟩ => ⟨S147456x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .smem, ⟨0, _⟩ => ⟨S288, .i32⟩
  | .local _ .smem, ⟨1, _⟩ => ⟨S1, .i32⟩
  | _, _ => ⟨S294912x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![288, 8], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond2 (i : grid0.Coords) (v0 : BitVec 32) : BitVec 1 :=
  let arg0 : BitVec 32 := BitVec.ofNat 32 (i 0).val
  let v1 : BitVec 1 := Scalar.cmpi .slt arg0 v0
  let v6 : BitVec 32 := Scalar.extui v1
  let c0_i32_1 : BitVec 32 := 0#32
  let v7 : BitVec 1 := Scalar.cmpi .ne v6 c0_i32_1
  v7

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v8 : BitVec 1 := Scalar.xori v1 v_true
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S288.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c7_i32 : BitVec 32 := 7#32
  let v2 : BitVec 32 := Scalar.select v1 arg1 c7_i32
  let v3 : Index := Scalar.indexCast arg0
  let v4 : BitVec 32 := pf.at 0 (Rect.unit (s := S288) ![v3.toNat] S1.size (k0_off1_inb i)) numel1_S1
  let c0_i32 : BitVec 32 := 0#32
  let v5 : BitVec 32 := Scalar.addi c0_i32 v2
  let c0_i32_0 : BitVec 32 := 0#32
  let c0_i32_1 : BitVec 32 := 0#32
  ![v4.toNat, c0_i32_0.toNat, v5.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S288.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c7_i32 : BitVec 32 := 7#32
  let v2 : BitVec 32 := Scalar.select v1 arg1 c7_i32
  let v3 : Index := Scalar.indexCast arg0
  let v4 : BitVec 32 := pf.at 0 (Rect.unit (s := S288) ![v3.toNat] S1.size (k0_off1_inb i)) numel1_S1
  let c8_i32 : BitVec 32 := 8#32
  let v5 : BitVec 32 := Scalar.addi c8_i32 v2
  let c0_i32 : BitVec 32 := 0#32
  let c0_i32_0 : BitVec 32 := 0#32
  ![v4.toNat, c0_i32.toNat, v5.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S288.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c7_i32 : BitVec 32 := 7#32
  let v2 : BitVec 32 := Scalar.select v1 arg1 c7_i32
  let v3 : Index := Scalar.indexCast arg0
  let v4 : BitVec 32 := pf.at 0 (Rect.unit (s := S288) ![v3.toNat] S1.size (k0_off1_inb i)) numel1_S1
  let c0_i32 : BitVec 32 := 0#32
  let v5 : BitVec 32 := Scalar.addi c0_i32 v2
  let c0_i32_0 : BitVec 32 := 0#32
  let c0_i32_1 : BitVec 32 := 0#32
  ![v4.toNat, c0_i32_0.toNat, v5.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S288.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c7_i32 : BitVec 32 := 7#32
  let v2 : BitVec 32 := Scalar.select v1 arg1 c7_i32
  let v3 : Index := Scalar.indexCast arg0
  let v4 : BitVec 32 := pf.at 0 (Rect.unit (s := S288) ![v3.toNat] S1.size (k0_off1_inb i)) numel1_S1
  let c8_i32 : BitVec 32 := 8#32
  let v5 : BitVec 32 := Scalar.addi c8_i32 v2
  let c0_i32 : BitVec 32 := 0#32
  let c0_i32_0 : BitVec 32 := 0#32
  ![v4.toNat, c0_i32.toNat, v5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpIdeal.lean ====
variable {F : FTy → Type} [FloatOps F]
-- ==== GateUpRefIdeal.lean ====
abbrev S294912x2048 : Shape := ⟨2, ![294912, 2048]⟩
abbrev S32x4096x8192 : Shape := ⟨3, ![32, 4096, 8192]⟩
abbrev S32x8192 : Shape := ⟨2, ![32, 8192]⟩
abbrev S288 : Shape := ⟨1, ![288]⟩
abbrev S1 : Shape := ⟨1, ![1]⟩
abbrev S288x512x4096 : Shape := ⟨3, ![288, 512, 4096]⟩
abbrev S_ : Shape := ⟨0, ![]⟩
abbrev S288x1 : Shape := ⟨2, ![288, 1]⟩
abbrev S288x4096x8192 : Shape := ⟨3, ![288, 4096, 8192]⟩
abbrev S288x512x8192 : Shape := ⟨3, ![288, 512, 8192]⟩
abbrev S288x8192 : Shape := ⟨2, ![288, 8192]⟩
abbrev S288x1x8192 : Shape := ⟨3, ![288, 1, 8192]⟩
abbrev S288x1x1 : Shape := ⟨3, ![288, 1, 1]⟩
abbrev S147456x4096 : Shape := ⟨2, ![147456, 4096]⟩

abbrev nBuf : Space → Nat
  | .hbm => 70
  | .vmem => 0
  | .smem => 0
  | _ => 0

abbrev bufTy : (tb : Table) → Fin (tcTables nBuf tb) → BufTy
  | .hbm, ⟨0, _⟩ => ⟨S294912x2048, .bf16⟩
  | .hbm, ⟨1, _⟩ => ⟨S32x4096x8192, .f32⟩
  | .hbm, ⟨2, _⟩ => ⟨S32x8192, .f32⟩
  | .hbm, ⟨3, _⟩ => ⟨S288, .i32⟩
  | .hbm, ⟨4, _⟩ => ⟨S1, .i32⟩
  | .hbm, ⟨5, _⟩ => ⟨S294912x2048, .f32⟩
  | .hbm, ⟨6, _⟩ => ⟨S288x512x4096, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x4096x8192, .f32⟩
  | .hbm, ⟨16, _⟩ => ⟨S288x512x8192, .f32⟩
  | .hbm, ⟨17, _⟩ => ⟨S_, .i32⟩
  | .hbm, ⟨18, _⟩ => ⟨S288, .i32⟩
  | .hbm, ⟨19, _⟩ => ⟨S288, .i1⟩
  | .hbm, ⟨20, _⟩ => ⟨S_, .i32⟩
  | .hbm, ⟨21, _⟩ => ⟨S288, .i32⟩
  | .hbm, ⟨22, _⟩ => ⟨S288, .i32⟩
  | .hbm, ⟨23, _⟩ => ⟨S288, .i32⟩
  | .hbm, ⟨24, _⟩ => ⟨S288x1, .i32⟩
  | .hbm, ⟨25, _⟩ => ⟨S288x8192, .f32⟩
  | .hbm, ⟨26, _⟩ => ⟨S288x1x8192, .f32⟩
  | .hbm, ⟨27, _⟩ => ⟨S288x512x8192, .f32⟩
  | .hbm, ⟨28, _⟩ => ⟨S288x512x8192, .f32⟩
  | .hbm, ⟨29, _⟩ => ⟨S288, .i32⟩
  | .hbm, ⟨30, _⟩ => ⟨S_, .i32⟩
  | .hbm, ⟨31, _⟩ => ⟨S288, .i32⟩
  | .hbm, ⟨32, _⟩ => ⟨S288, .i1⟩
  | .hbm, ⟨33, _⟩ => ⟨S288x1x1, .i1⟩
  | .hbm, ⟨34, _⟩ => ⟨S288x512x4096, .f32⟩
  | .hbm, ⟨35, _⟩ => ⟨S_, .f32⟩
  | .hbm, ⟨36, _⟩ => ⟨S288x512x4096, .f32⟩
  | .hbm, ⟨37, _⟩ => ⟨S288x512x4096, .f32⟩
  | .hbm, ⟨38, _⟩ => ⟨S288x512x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S288x512x4096, .f32⟩
  | .hbm, ⟨43, _⟩ => ⟨S288x512x4096, .f32⟩
  | .hbm, ⟨44, _⟩ => ⟨S_, .f32⟩
  | .hbm, ⟨45, _⟩ => ⟨S288x512x4096, .f32⟩
  | .hbm, ⟨46, _⟩ => ⟨S288x512x4096, .f32⟩
  | .hbm, ⟨47, _⟩ => ⟨S_, .f32⟩
  | .hbm, ⟨48, _⟩ => ⟨S288x512x4096, .f32⟩
  | .hbm, ⟨49, _⟩ => ⟨S288x512x4096, .f32⟩
  | .hbm, ⟨50, _⟩ => ⟨S288x512x4096, .f32⟩
  | .hbm, ⟨51, _⟩ => ⟨S288x512x4096, .f32⟩
  | .hbm, ⟨52, _⟩ => ⟨S_, .f32⟩
  | .hbm, ⟨53, _⟩ => ⟨S288x512x4096, .f32⟩
  | .hbm, ⟨54, _⟩ => ⟨S288x512x4096, .f32⟩
  | .hbm, ⟨55, _⟩ => ⟨S_, .f32⟩
  | .hbm, ⟨56, _⟩ => ⟨S288x512x4096, .f32⟩
  | .hbm, ⟨57, _⟩ => ⟨S288x512x4096, .f32⟩
  | .hbm, ⟨58, _⟩ => ⟨S288x512x4096, .f32⟩
  | .hbm, ⟨59, _⟩ => ⟨S_, .f32⟩
  | .hbm, ⟨60, _⟩ => ⟨S288x512x4096, .f32⟩
  | .hbm, ⟨61, _⟩ => ⟨S288x512x4096, .f32⟩
  | .hbm, ⟨62, _⟩ => ⟨S288x512x4096, .f32⟩
  | .hbm, ⟨63, _⟩ => ⟨S_, .f32⟩
  | .hbm, ⟨64, _⟩ => ⟨S_, .f32⟩
  | .hbm, ⟨65, _⟩ => ⟨S288x512x4096, .i1⟩
  | .hbm, ⟨66, _⟩ => ⟨S288x512x4096, .f32⟩
  | .hbm, ⟨67, _⟩ => ⟨S288x512x4096, .f32⟩
  | .hbm, ⟨68, _⟩ => ⟨S288x512x4096, .bf16⟩
  | .hbm, ⟨69, _⟩ => ⟨S147456x4096, .bf16⟩
  | _, _ => ⟨S294912x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== Down.lean ====
abbrev S147456x4096 : Shape := ⟨2, ![147456, 4096]⟩
abbrev S32x4096x4096 : Shape := ⟨3, ![32, 4096, 4096]⟩
abbrev S32x4096 : Shape := ⟨2, ![32, 4096]⟩
abbrev S288 : Shape := ⟨1, ![288]⟩
abbrev S1 : Shape := ⟨1, ![1]⟩
abbrev S32x1x4096 : Shape := ⟨3, ![32, 1, 4096]⟩
abbrev S294912x2048 : Shape := ⟨2, ![294912, 2048]⟩
abbrev S512x4096 : Shape := ⟨2, ![512, 4096]⟩
abbrev S1x4096x512 : Shape := ⟨3, ![1, 4096, 512]⟩
abbrev S1x1x512 : Shape := ⟨3, ![1, 1, 512]⟩
abbrev S1024x512 : Shape := ⟨2, ![1024, 512]⟩
abbrev S4096x512 : Shape := ⟨2, ![4096, 512]⟩
abbrev S512x512 : Shape := ⟨2, ![512, 512]⟩
abbrev S1x512 : Shape := ⟨2, ![1, 512]⟩

abbrev nBuf : Space → Nat
  | .hbm => 7
  | .vmem => 12
  | .smem => 2
  | _ => 0

abbrev bufTy : (tb : Table) → Fin (tcTables nBuf tb) → BufTy
  | .hbm, ⟨0, _⟩ => ⟨S147456x4096, .bf16⟩
  | .hbm, ⟨1, _⟩ => ⟨S32x4096x4096, .f32⟩
  | .hbm, ⟨2, _⟩ => ⟨S32x4096, .f32⟩
  | .hbm, ⟨3, _⟩ => ⟨S32x4096x4096, .bf16⟩
  | .hbm, ⟨4, _⟩ => ⟨S32x1x4096, .f32⟩
  | .hbm, ⟨5, _⟩ => ⟨S32x1x4096, .f32⟩
  | .hbm, ⟨6, _⟩ => ⟨S294912x2048, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .bf16⟩
  | .local _ .vmem, ⟨11, _⟩ => ⟨S1024x512, .bf16⟩
  | .local _ .smem, ⟨0, _⟩ => ⟨S288, .i32⟩
  | .local _ .smem, ⟨1, _⟩ => ⟨S1, .i32⟩
  | _, _ => ⟨S147456x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![288, 4], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S288.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c3_i32 : BitVec 32 := 3#32
  let v2 : BitVec 32 := Scalar.select v1 arg1 c3_i32
  let v3 : Index := Scalar.indexCast arg0
  let v4 : BitVec 32 := pf.at 0 (Rect.unit (s := S288) ![v3.toNat] S1.size (k0_off1_inb i)) numel1_S1
  let c0_i32 : BitVec 32 := 0#32
  let v5 : BitVec 32 := Scalar.addi c0_i32 v2
  let c0_i32_0 : BitVec 32 := 0#32
  let c0_i32_1 : BitVec 32 := 0#32
  ![v4.toNat, c0_i32_0.toNat, v5.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S288.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c3_i32 : BitVec 32 := 3#32
  let v2 : BitVec 32 := Scalar.select v1 arg1 c3_i32
  let v3 : Index := Scalar.indexCast arg0
  let v4 : BitVec 32 := pf.at 0 (Rect.unit (s := S288) ![v3.toNat] S1.size (k0_off1_inb i)) numel1_S1
  let c4_i32 : BitVec 32 := 4#32
  let v5 : BitVec 32 := Scalar.addi c4_i32 v2
  let c0_i32 : BitVec 32 := 0#32
  let c0_i32_0 : BitVec 32 := 0#32
  ![v4.toNat, c0_i32.toNat, v5.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S288.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c3_i32 : BitVec 32 := 3#32
  let v2 : BitVec 32 := Scalar.select v1 arg1 c3_i32
  let v3 : Index := Scalar.indexCast arg0
  let v4 : BitVec 32 := pf.at 0 (Rect.unit (s := S288) ![v3.toNat] S1.size (k0_off1_inb i)) numel1_S1
  let c0_i32 : BitVec 32 := 0#32
  let v5 : BitVec 32 := Scalar.addi c0_i32 v2
  let c0_i32_0 : BitVec 32 := 0#32
  let c0_i32_1 : BitVec 32 := 0#32
  ![v4.toNat, c0_i32_0.toNat, v5.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S288.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c3_i32 : BitVec 32 := 3#32
  let v2 : BitVec 32 := Scalar.select v1 arg1 c3_i32
  let v3 : Index := Scalar.indexCast arg0
  let v4 : BitVec 32 := pf.at 0 (Rect.unit (s := S288) ![v3.toNat] S1.size (k0_off1_inb i)) numel1_S1
  let c4_i32 : BitVec 32 := 4#32
  let v5 : BitVec 32 := Scalar.addi c4_i32 v2
  let c0_i32 : BitVec 32 := 0#32
  let c0_i32_0 : BitVec 32 := 0#32
  ![v4.toNat, c0_i32.toNat, v5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownIdeal.lean ====
variable {F : FTy → Type} [FloatOps F]
-- ==== DownRefIdeal.lean ====
abbrev S147456x4096 : Shape := ⟨2, ![147456, 4096]⟩
abbrev S32x4096x4096 : Shape := ⟨3, ![32, 4096, 4096]⟩
abbrev S32x4096 : Shape := ⟨2, ![32, 4096]⟩
abbrev S288 : Shape := ⟨1, ![288]⟩
abbrev S1 : Shape := ⟨1, ![1]⟩
abbrev S288x512x4096 : Shape := ⟨3, ![288, 512, 4096]⟩
abbrev S_ : Shape := ⟨0, ![]⟩
abbrev S288x1 : Shape := ⟨2, ![288, 1]⟩
abbrev S288x4096x4096 : Shape := ⟨3, ![288, 4096, 4096]⟩
abbrev S288x4096 : Shape := ⟨2, ![288, 4096]⟩
abbrev S288x1x4096 : Shape := ⟨3, ![288, 1, 4096]⟩
abbrev S288x1x1 : Shape := ⟨3, ![288, 1, 1]⟩
abbrev S294912x2048 : Shape := ⟨2, ![294912, 2048]⟩

abbrev nBuf : Space → Nat
  | .hbm => 41
  | .vmem => 0
  | .smem => 0
  | _ => 0

abbrev bufTy : (tb : Table) → Fin (tcTables nBuf tb) → BufTy
  | .hbm, ⟨0, _⟩ => ⟨S147456x4096, .bf16⟩
  | .hbm, ⟨1, _⟩ => ⟨S32x4096x4096, .f32⟩
  | .hbm, ⟨2, _⟩ => ⟨S32x4096, .f32⟩
  | .hbm, ⟨3, _⟩ => ⟨S288, .i32⟩
  | .hbm, ⟨4, _⟩ => ⟨S1, .i32⟩
  | .hbm, ⟨5, _⟩ => ⟨S147456x4096, .f32⟩
  | .hbm, ⟨6, _⟩ => ⟨S288x512x4096, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x4096x4096, .f32⟩
  | .hbm, ⟨16, _⟩ => ⟨S288x512x4096, .f32⟩
  | .hbm, ⟨17, _⟩ => ⟨S_, .i32⟩
  | .hbm, ⟨18, _⟩ => ⟨S288, .i32⟩
  | .hbm, ⟨19, _⟩ => ⟨S288, .i1⟩
  | .hbm, ⟨20, _⟩ => ⟨S_, .i32⟩
  | .hbm, ⟨21, _⟩ => ⟨S288, .i32⟩
  | .hbm, ⟨22, _⟩ => ⟨S288, .i32⟩
  | .hbm, ⟨23, _⟩ => ⟨S288, .i32⟩
  | .hbm, ⟨24, _⟩ => ⟨S288x1, .i32⟩
  | .hbm, ⟨25, _⟩ => ⟨S288x4096, .f32⟩
  | .hbm, ⟨26, _⟩ => ⟨S288x1x4096, .f32⟩
  | .hbm, ⟨27, _⟩ => ⟨S288x512x4096, .f32⟩
  | .hbm, ⟨28, _⟩ => ⟨S288x512x4096, .f32⟩
  | .hbm, ⟨29, _⟩ => ⟨S288, .i32⟩
  | .hbm, ⟨30, _⟩ => ⟨S_, .i32⟩
  | .hbm, ⟨31, _⟩ => ⟨S288, .i32⟩
  | .hbm, ⟨32, _⟩ => ⟨S288, .i1⟩
  | .hbm, ⟨33, _⟩ => ⟨S288x1x1, .i1⟩
  | .hbm, ⟨34, _⟩ => ⟨S_, .f32⟩
  | .hbm, ⟨35, _⟩ => ⟨S_, .f32⟩
  | .hbm, ⟨36, _⟩ => ⟨S288x512x4096, .i1⟩
  | .hbm, ⟨37, _⟩ => ⟨S288x512x4096, .f32⟩
  | .hbm, ⟨38, _⟩ => ⟨S288x512x4096, .f32⟩
  | .hbm, ⟨39, _⟩ => ⟨S288x512x4096, .bf16⟩
  | .hbm, ⟨40, _⟩ => ⟨S294912x2048, .bf16⟩
  | _, _ => ⟨S147456x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Mix.lean ====
abbrev S32768x4096 : Shape := ⟨2, ![32768, 4096]⟩
abbrev S4096x18432 : Shape := ⟨2, ![4096, 18432]⟩
abbrev S32768x1024 : Shape := ⟨2, ![32768, 1024]⟩
abbrev S1024x4096 : Shape := ⟨2, ![1024, 4096]⟩
abbrev S512x4096 : Shape := ⟨2, ![512, 4096]⟩
abbrev S4096x512 : Shape := ⟨2, ![4096, 512]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S32768x4096, .bf16⟩
  | .hbm, ⟨1, _⟩ => ⟨S4096x18432, .f32⟩
  | .hbm, ⟨2, _⟩ => ⟨S32768x1024, .bf16⟩
  | .hbm, ⟨3, _⟩ => ⟨S1024x4096, .f32⟩
  | .hbm, ⟨4, _⟩ => ⟨S32768x1024, .bf16⟩
  | .hbm, ⟨5, _⟩ => ⟨S1024x4096, .f32⟩
  | .hbm, ⟨6, _⟩ => ⟨S4096x18432, .bf16⟩
  | .hbm, ⟨7, _⟩ => ⟨S1024x4096, .bf16⟩
  | .hbm, ⟨8, _⟩ => ⟨S1024x4096, .bf16⟩
  | .hbm, ⟨9, _⟩ => ⟨S32768x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | .local _ .vmem, ⟨14, _⟩ => ⟨S512x512, .bf16⟩
  | .local _ .vmem, ⟨15, _⟩ => ⟨S512x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixRefIdeal.lean ====
abbrev S32768x4096 : Shape := ⟨2, ![32768, 4096]⟩
abbrev S4096x18432 : Shape := ⟨2, ![4096, 18432]⟩
abbrev S32768x1024 : Shape := ⟨2, ![32768, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x18432, .f32⟩
  | .hbm, ⟨2, _⟩ => ⟨S32768x1024, .bf16⟩
  | .hbm, ⟨3, _⟩ => ⟨S1024x4096, .f32⟩
  | .hbm, ⟨4, _⟩ => ⟨S32768x1024, .bf16⟩
  | .hbm, ⟨5, _⟩ => ⟨S1024x4096, .f32⟩
  | .hbm, ⟨6, _⟩ => ⟨S32768x4096, .f32⟩
  | .hbm, ⟨7, _⟩ => ⟨S4096x4096, .f32⟩
  | .hbm, ⟨8, _⟩ => ⟨S32768x4096, .f32⟩
  | .hbm, ⟨9, _⟩ => ⟨S32768x4096, .f32⟩
  | .hbm, ⟨10, _⟩ => ⟨S4096x4096, .f32⟩
  | .hbm, ⟨11, _⟩ => ⟨S32768x4096, .f32⟩
  | .hbm, ⟨12, _⟩ => ⟨S32768x4096, .f32⟩
  | .hbm, ⟨13, _⟩ => ⟨S32768x4096, .f32⟩
  | .hbm, ⟨14, _⟩ => ⟨S_, .f32⟩
  | .hbm, ⟨15, _⟩ => ⟨S32768x4096, .f32⟩
  | .hbm, ⟨16, _⟩ => ⟨S32768x4096, .f32⟩
  | .hbm, ⟨17, _⟩ => ⟨S_, .f32⟩
  | .hbm, ⟨18, _⟩ => ⟨S32768x4096, .f32⟩
  | .hbm, ⟨19, _⟩ => ⟨S32768x4096, .f32⟩
  | .hbm, ⟨20, _⟩ => ⟨S32768x1024, .f32⟩
  | .hbm, ⟨21, _⟩ => ⟨S32768x4096, .f32⟩
  | .hbm, ⟨22, _⟩ => ⟨S32768x4096, .f32⟩
  | .hbm, ⟨23, _⟩ => ⟨S32768x4096, .f32⟩
  | .hbm, ⟨24, _⟩ => ⟨S32768x4096, .f32⟩
  | .hbm, ⟨25, _⟩ => ⟨S_, .f32⟩
  | .hbm, ⟨26, _⟩ => ⟨S32768x4096, .f32⟩
  | .hbm, ⟨27, _⟩ => ⟨S32768x4096, .f32⟩
  | .hbm, ⟨28, _⟩ => ⟨S_, .f32⟩
  | .hbm, ⟨29, _⟩ => ⟨S32768x4096, .f32⟩
  | .hbm, ⟨30, _⟩ => ⟨S32768x4096, .f32⟩
  | .hbm, ⟨31, _⟩ => ⟨S32768x1024, .f32⟩
  | .hbm, ⟨32, _⟩ => ⟨S32768x4096, .f32⟩
  | .hbm, ⟨33, _⟩ => ⟨S32768x4096, .f32⟩
  | .hbm, ⟨34, _⟩ => ⟨S32768x4096, .f32⟩
  | .hbm, ⟨35, _⟩ => ⟨S32768x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== OutProj.lean ====
abbrev S32768x4096 : Shape := ⟨2, ![32768, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .f32⟩
  | .hbm, ⟨2, _⟩ => ⟨S32768x4096, .f32⟩
  | .hbm, ⟨3, _⟩ => ⟨S4096x4096, .bf16⟩
  | .hbm, ⟨4, _⟩ => ⟨S32768x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S32768x4096 : Shape := ⟨2, ![32768, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .f32⟩
  | .hbm, ⟨2, _⟩ => ⟨S32768x4096, .f32⟩
  | .hbm, ⟨3, _⟩ => ⟨S32768x4096, .f32⟩
  | .hbm, ⟨4, _⟩ => ⟨S32768x4096, .f32⟩
  | .hbm, ⟨5, _⟩ => ⟨S32768x4096, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QkProj.lean ====
abbrev S32768x4096 : Shape := ⟨2, ![32768, 4096]⟩
abbrev S4096x18432 : Shape := ⟨2, ![4096, 18432]⟩
abbrev S3x128 : Shape := ⟨2, ![3, 128]⟩
abbrev S1x3x1x128 : Shape := ⟨4, ![1, 3, 1, 128]⟩
abbrev S1x3x8x128 : Shape := ⟨4, ![1, 3, 8, 128]⟩
abbrev S3x1024 : Shape := ⟨2, ![3, 1024]⟩
abbrev S1x3072 : Shape := ⟨2, ![1, 3072]⟩
abbrev S1x6144 : Shape := ⟨2, ![1, 6144]⟩
abbrev S64 : Shape := ⟨1, ![64]⟩
abbrev S_ : Shape := ⟨0, ![]⟩
abbrev S16384 : Shape := ⟨1, ![16384]⟩
abbrev S8192 : Shape := ⟨1, ![8192]⟩
abbrev S32768 : Shape := ⟨1, ![32768]⟩
abbrev S32768x1 : Shape := ⟨2, ![32768, 1]⟩
abbrev S1x64 : Shape := ⟨2, ![1, 64]⟩
abbrev S32768x64 : Shape := ⟨2, ![32768, 64]⟩
abbrev S32768x128 : Shape := ⟨2, ![32768, 128]⟩
abbrev S48x32768x128 : Shape := ⟨3, ![48, 32768, 128]⟩
abbrev S512x4096 : Shape := ⟨2, ![512, 4096]⟩
abbrev S4096x512 : Shape := ⟨2, ![4096, 512]⟩
abbrev S1x512 : Shape := ⟨2, ![1, 512]⟩
abbrev S512x128 : Shape := ⟨2, ![512, 128]⟩
abbrev S4x512x128 : Shape := ⟨3, ![4, 512, 128]⟩
abbrev S512x512 : Shape := ⟨2, ![512, 512]⟩
abbrev S512 : Shape := ⟨1, ![512]⟩
abbrev S512x1 : Shape := ⟨2, ![512, 1]⟩
abbrev S1x128 : Shape := ⟨2, ![1, 128]⟩
abbrev S1x512x128 : Shape := ⟨3, ![1, 512, 128]⟩

abbrev nBuf : Space → Nat
  | .hbm => 37
  | .vmem => 12
  | .smem => 0
  | _ => 0

abbrev bufTy : (tb : Table) → Fin (tcTables nBuf tb) → BufTy
  | .hbm, ⟨0, _⟩ => ⟨S32768x4096, .bf16⟩
  | .hbm, ⟨1, _⟩ => ⟨S4096x18432, .f32⟩
  | .hbm, ⟨2, _⟩ => ⟨S3x128, .f32⟩
  | .hbm, ⟨3, _⟩ => ⟨S3x128, .f32⟩
  | .hbm, ⟨4, _⟩ => ⟨S1x3x1x128, .f32⟩
  | .hbm, ⟨5, _⟩ => ⟨S1x3x8x128, .f32⟩
  | .hbm, ⟨6, _⟩ => ⟨S3x1024, .f32⟩
  | .hbm, ⟨7, _⟩ => ⟨S1x3072, .f32⟩
  | .hbm, ⟨8, _⟩ => ⟨S1x3x1x128, .f32⟩
  | .hbm, ⟨9, _⟩ => ⟨S1x3x8x128, .f32⟩
  | .hbm, ⟨10, _⟩ => ⟨S3x1024, .f32⟩
  | .hbm, ⟨11, _⟩ => ⟨S1x3072, .f32⟩
  | .hbm, ⟨12, _⟩ => ⟨S1x6144, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S16384, .f32⟩
  | .hbm, ⟨22, _⟩ => ⟨S8192, .f32⟩
  | .hbm, ⟨23, _⟩ => ⟨S8192, .f32⟩
  | .hbm, ⟨24, _⟩ => ⟨S32768, .f32⟩
  | .hbm, ⟨25, _⟩ => ⟨S32768x1, .f32⟩
  | .hbm, ⟨26, _⟩ => ⟨S1x64, .f32⟩
  | .hbm, ⟨27, _⟩ => ⟨S32768x64, .f32⟩
  | .hbm, ⟨28, _⟩ => ⟨S32768x64, .f32⟩
  | .hbm, ⟨29, _⟩ => ⟨S32768x64, .f32⟩
  | .hbm, ⟨30, _⟩ => ⟨S32768x64, .f32⟩
  | .hbm, ⟨31, _⟩ => ⟨S32768x64, .f32⟩
  | .hbm, ⟨32, _⟩ => ⟨S32768x128, .f32⟩
  | .hbm, ⟨33, _⟩ => ⟨S32768x64, .f32⟩
  | .hbm, ⟨34, _⟩ => ⟨S32768x128, .f32⟩
  | .hbm, ⟨35, _⟩ => ⟨S4096x18432, .bf16⟩
  | .hbm, ⟨36, _⟩ => ⟨S48x32768x128, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x512x128, .f32⟩
  | .local _ .vmem, ⟨11, _⟩ => ⟨S4x512x128, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkProjRefIdeal.lean ====
abbrev S32768x4096 : Shape := ⟨2, ![32768, 4096]⟩
abbrev S4096x18432 : Shape := ⟨2, ![4096, 18432]⟩
abbrev S3x128 : Shape := ⟨2, ![3, 128]⟩
abbrev S4096x6144 : Shape := ⟨2, ![4096, 6144]⟩
abbrev S32768x6144 : Shape := ⟨2, ![32768, 6144]⟩
abbrev S16384 : Shape := ⟨1, ![16384]⟩
abbrev S8192 : Shape := ⟨1, ![8192]⟩
abbrev S32768 : Shape := ⟨1, ![32768]⟩
abbrev S32768x3072 : Shape := ⟨2, ![32768, 3072]⟩
abbrev S32768x3x8x128 : Shape := ⟨4, ![32768, 3, 8, 128]⟩
abbrev S_ : Shape := ⟨0, ![]⟩
abbrev S32768x3x8 : Shape := ⟨3, ![32768, 3, 8]⟩
abbrev S32768x3x8x1 : Shape := ⟨4, ![32768, 3, 8, 1]⟩
abbrev S3x1x128 : Shape := ⟨3, ![3, 1, 128]⟩
abbrev S1x3x1x128 : Shape := ⟨4, ![1, 3, 1, 128]⟩
abbrev S64 : Shape := ⟨1, ![64]⟩
abbrev S32768x1 : Shape := ⟨2, ![32768, 1]⟩
abbrev S1x64 : Shape := ⟨2, ![1, 64]⟩
abbrev S32768x64 : Shape := ⟨2, ![32768, 64]⟩
abbrev S32768x1x1x64 : Shape := ⟨4, ![32768, 1, 1, 64]⟩
abbrev S32768x3x8x64 : Shape := ⟨4, ![32768, 3, 8, 64]⟩
abbrev S32768x24x128 : Shape := ⟨3, ![32768, 24, 128]⟩
abbrev S24x32768x128 : Shape := ⟨3, ![24, 32768, 128]⟩
abbrev S48x32768x128 : Shape := ⟨3, ![48, 32768, 128]⟩

abbrev nBuf : Space → Nat
  | .hbm => 114
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x18432, .f32⟩
  | .hbm, ⟨2, _⟩ => ⟨S3x128, .f32⟩
  | .hbm, ⟨3, _⟩ => ⟨S3x128, .f32⟩
  | .hbm, ⟨4, _⟩ => ⟨S32768x4096, .f32⟩
  | .hbm, ⟨5, _⟩ => ⟨S4096x6144, .f32⟩
  | .hbm, ⟨6, _⟩ => ⟨S32768x6144, .f32⟩
  | .hbm, ⟨7, _⟩ => ⟨S16384, .f32⟩
  | .hbm, ⟨8, _⟩ => ⟨S8192, .f32⟩
  | .hbm, ⟨9, _⟩ => ⟨S8192, .f32⟩
  | .hbm, ⟨10, _⟩ => ⟨S32768, .f32⟩
  | .hbm, ⟨11, _⟩ => ⟨S32768x3072, .f32⟩
  | .hbm, ⟨12, _⟩ => ⟨S32768x3x8x128, .f32⟩
  | .hbm, ⟨13, _⟩ => ⟨S32768x3x8x128, .f32⟩
  | .hbm, ⟨14, _⟩ => ⟨S_, .f32⟩
  | .hbm, ⟨15, _⟩ => ⟨S32768x3x8, .f32⟩
  | .hbm, ⟨16, _⟩ => ⟨S32768x3x8x1, .f32⟩
  | .hbm, ⟨17, _⟩ => ⟨S_, .f32⟩
  | .hbm, ⟨18, _⟩ => ⟨S32768x3x8x1, .f32⟩
  | .hbm, ⟨19, _⟩ => ⟨S32768x3x8x1, .f32⟩
  | .hbm, ⟨20, _⟩ => ⟨S_, .f32⟩
  | .hbm, ⟨21, _⟩ => ⟨S32768x3x8x1, .f32⟩
  | .hbm, ⟨22, _⟩ => ⟨S32768x3x8x1, .f32⟩
  | .hbm, ⟨23, _⟩ => ⟨S32768x3x8x1, .f32⟩
  | .hbm, ⟨24, _⟩ => ⟨S32768x3x8x128, .f32⟩
  | .hbm, ⟨25, _⟩ => ⟨S32768x3x8x128, .f32⟩
  | .hbm, ⟨26, _⟩ => ⟨S3x1x128, .f32⟩
  | .hbm, ⟨27, _⟩ => ⟨S1x3x1x128, .f32⟩
  | .hbm, ⟨28, _⟩ => ⟨S32768x3x8x128, .f32⟩
  | .hbm, ⟨29, _⟩ => ⟨S32768x3x8x128, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S32768x1, .f32⟩
  | .hbm, ⟨39, _⟩ => ⟨S1x64, .f32⟩
  | .hbm, ⟨40, _⟩ => ⟨S32768x64, .f32⟩
  | .hbm, ⟨41, _⟩ => ⟨S32768x64, .f32⟩
  | .hbm, ⟨42, _⟩ => ⟨S32768x64, .f32⟩
  | .hbm, ⟨43, _⟩ => ⟨S32768x64, .f32⟩
  | .hbm, ⟨44, _⟩ => ⟨S32768x1x1x64, .f32⟩
  | .hbm, ⟨45, _⟩ => ⟨S32768x64, .f32⟩
  | .hbm, ⟨46, _⟩ => ⟨S32768x1x1x64, .f32⟩
  | .hbm, ⟨47, _⟩ => ⟨S32768x3x8x64, .f32⟩
  | .hbm, ⟨48, _⟩ => ⟨S32768x3x8x64, .f32⟩
  | .hbm, ⟨49, _⟩ => ⟨S32768x3x8x64, .f32⟩
  | .hbm, ⟨50, _⟩ => ⟨S32768x3x8x64, .f32⟩
  | .hbm, ⟨51, _⟩ => ⟨S32768x3x8x64, .f32⟩
  | .hbm, ⟨52, _⟩ => ⟨S32768x3x8x64, .f32⟩
  | .hbm, ⟨53, _⟩ => ⟨S32768x3x8x64, .f32⟩
  | .hbm, ⟨54, _⟩ => ⟨S32768x3x8x64, .f32⟩
  | .hbm, ⟨55, _⟩ => ⟨S32768x3x8x64, .f32⟩
  | .hbm, ⟨56, _⟩ => ⟨S32768x3x8x64, .f32⟩
  | .hbm, ⟨57, _⟩ => ⟨S32768x3x8x64, .f32⟩
  | .hbm, ⟨58, _⟩ => ⟨S32768x3x8x64, .f32⟩
  | .hbm, ⟨59, _⟩ => ⟨S32768x3x8x128, .f32⟩
  | .hbm, ⟨60, _⟩ => ⟨S32768x3072, .f32⟩
  | .hbm, ⟨61, _⟩ => ⟨S32768x3x8x128, .f32⟩
  | .hbm, ⟨62, _⟩ => ⟨S32768x3x8x128, .f32⟩
  | .hbm, ⟨63, _⟩ => ⟨S_, .f32⟩
  | .hbm, ⟨64, _⟩ => ⟨S32768x3x8, .f32⟩
  | .hbm, ⟨65, _⟩ => ⟨S32768x3x8x1, .f32⟩
  | .hbm, ⟨66, _⟩ => ⟨S_, .f32⟩
  | .hbm, ⟨67, _⟩ => ⟨S32768x3x8x1, .f32⟩
  | .hbm, ⟨68, _⟩ => ⟨S32768x3x8x1, .f32⟩
  | .hbm, ⟨69, _⟩ => ⟨S_, .f32⟩
  | .hbm, ⟨70, _⟩ => ⟨S32768x3x8x1, .f32⟩
  | .hbm, ⟨71, _⟩ => ⟨S32768x3x8x1, .f32⟩
  | .hbm, ⟨72, _⟩ => ⟨S32768x3x8x1, .f32⟩
  | .hbm, ⟨73, _⟩ => ⟨S32768x3x8x128, .f32⟩
  | .hbm, ⟨74, _⟩ => ⟨S32768x3x8x128, .f32⟩
  | .hbm, ⟨75, _⟩ => ⟨S3x1x128, .f32⟩
  | .hbm, ⟨76, _⟩ => ⟨S1x3x1x128, .f32⟩
  | .hbm, ⟨77, _⟩ => ⟨S32768x3x8x128, .f32⟩
  | .hbm, ⟨78, _⟩ => ⟨S32768x3x8x128, .f32⟩
  | .hbm, ⟨79, _⟩ => ⟨S64, .f32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S32768x1, .f32⟩
  | .hbm, ⟨88, _⟩ => ⟨S1x64, .f32⟩
  | .hbm, ⟨89, _⟩ => ⟨S32768x64, .f32⟩
  | .hbm, ⟨90, _⟩ => ⟨S32768x64, .f32⟩
  | .hbm, ⟨91, _⟩ => ⟨S32768x64, .f32⟩
  | .hbm, ⟨92, _⟩ => ⟨S32768x64, .f32⟩
  | .hbm, ⟨93, _⟩ => ⟨S32768x1x1x64, .f32⟩
  | .hbm, ⟨94, _⟩ => ⟨S32768x64, .f32⟩
  | .hbm, ⟨95, _⟩ => ⟨S32768x1x1x64, .f32⟩
  | .hbm, ⟨96, _⟩ => ⟨S32768x3x8x64, .f32⟩
  | .hbm, ⟨97, _⟩ => ⟨S32768x3x8x64, .f32⟩
  | .hbm, ⟨98, _⟩ => ⟨S32768x3x8x64, .f32⟩
  | .hbm, ⟨99, _⟩ => ⟨S32768x3x8x64, .f32⟩
  | .hbm, ⟨100, _⟩ => ⟨S32768x3x8x64, .f32⟩
  | .hbm, ⟨101, _⟩ => ⟨S32768x3x8x64, .f32⟩
  | .hbm, ⟨102, _⟩ => ⟨S32768x3x8x64, .f32⟩
  | .hbm, ⟨103, _⟩ => ⟨S32768x3x8x64, .f32⟩
  | .hbm, ⟨104, _⟩ => ⟨S32768x3x8x64, .f32⟩
  | .hbm, ⟨105, _⟩ => ⟨S32768x3x8x64, .f32⟩
  | .hbm, ⟨106, _⟩ => ⟨S32768x3x8x64, .f32⟩
  | .hbm, ⟨107, _⟩ => ⟨S32768x3x8x64, .f32⟩
  | .hbm, ⟨108, _⟩ => ⟨S32768x3x8x128, .f32⟩
  | .hbm, ⟨109, _⟩ => ⟨S32768x24x128, .f32⟩
  | .hbm, ⟨110, _⟩ => ⟨S24x32768x128, .f32⟩
  | .hbm, ⟨111, _⟩ => ⟨S32768x24x128, .f32⟩
  | .hbm, ⟨112, _⟩ => ⟨S24x32768x128, .f32⟩
  | .hbm, ⟨113, _⟩ => ⟨S48x32768x128, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_v70 : Ref sig .tc := ⟨.hbm, 83, rfl⟩
abbrev main_cst_8 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩

abbrev nD : Nat := 1
abbrev τ : Topo := Topo.v7x

variable {F : FTy → Type} [FloatOps F]
-- ==== VProj.lean ====
abbrev S32768x4096 : Shape := ⟨2, ![32768, 4096]⟩
abbrev S4096x18432 : Shape := ⟨2, ![4096, 18432]⟩
abbrev S24x32768x128 : Shape := ⟨3, ![24, 32768, 128]⟩
abbrev S512x4096 : Shape := ⟨2, ![512, 4096]⟩
abbrev S4096x512 : Shape := ⟨2, ![4096, 512]⟩
abbrev S4x512x128 : Shape := ⟨3, ![4, 512, 128]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 4
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x18432, .f32⟩
  | .hbm, ⟨2, _⟩ => ⟨S4096x18432, .bf16⟩
  | .hbm, ⟨3, _⟩ => ⟨S24x32768x128, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S4x512x128, .f32⟩
  | .local _ .vmem, ⟨5, _⟩ => ⟨S4x512x128, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VProjRefIdeal.lean ====
abbrev S32768x4096 : Shape := ⟨2, ![32768, 4096]⟩
abbrev S4096x18432 : Shape := ⟨2, ![4096, 18432]⟩
abbrev S4096x3072 : Shape := ⟨2, ![4096, 3072]⟩
abbrev S32768x3072 : Shape := ⟨2, ![32768, 3072]⟩
abbrev S32768x24x128 : Shape := ⟨3, ![32768, 24, 128]⟩
abbrev S24x32768x128 : Shape := ⟨3, ![24, 32768, 128]⟩

abbrev nBuf : Space → Nat
  | .hbm => 7
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x18432, .f32⟩
  | .hbm, ⟨2, _⟩ => ⟨S32768x4096, .f32⟩
  | .hbm, ⟨3, _⟩ => ⟨S4096x3072, .f32⟩
  | .hbm, ⟨4, _⟩ => ⟨S32768x3072, .f32⟩
  | .hbm, ⟨5, _⟩ => ⟨S32768x24x128, .f32⟩
  | .hbm, ⟨6, _⟩ => ⟨S24x32768x128, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UProj.lean ====
abbrev S32768x4096 : Shape := ⟨2, ![32768, 4096]⟩
abbrev S4096x18432 : Shape := ⟨2, ![4096, 18432]⟩
abbrev S32768x1024 : Shape := ⟨2, ![32768, 1024]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x18432, .f32⟩
  | .hbm, ⟨2, _⟩ => ⟨S4096x18432, .bf16⟩
  | .hbm, ⟨3, _⟩ => ⟨S32768x1024, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UProjRefIdeal.lean ====
abbrev S32768x4096 : Shape := ⟨2, ![32768, 4096]⟩
abbrev S4096x18432 : Shape := ⟨2, ![4096, 18432]⟩
abbrev S4096x1024 : Shape := ⟨2, ![4096, 1024]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x18432, .f32⟩
  | .hbm, ⟨2, _⟩ => ⟨S32768x4096, .f32⟩
  | .hbm, ⟨3, _⟩ => ⟨S4096x1024, .f32⟩
  | .hbm, ⟨4, _⟩ => ⟨S32768x1024, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RmsNorm.lean ====
abbrev S32768x4096 : Shape := ⟨2, ![32768, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S1x4096, .f32⟩
  | .hbm, ⟨3, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsNormRefIdeal.lean ====
abbrev S32768x4096 : Shape := ⟨2, ![32768, 4096]⟩
abbrev S4096 : Shape := ⟨1, ![4096]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S32768x4096, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x4096, .f32⟩
  | .hbm, ⟨14, _⟩ => ⟨S32768x4096, .f32⟩
  | .hbm, ⟨15, _⟩ => ⟨S1x4096, .f32⟩
  | .hbm, ⟨16, _⟩ => ⟨S32768x4096, .f32⟩
  | .hbm, ⟨17, _⟩ => ⟨S32768x4096, .f32⟩
  | .hbm, ⟨18, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Pool.lean ====
abbrev S32768x1024 : Shape := ⟨2, ![32768, 1024]⟩
abbrev S4x256x256 : Shape := ⟨3, ![4, 256, 256]⟩
abbrev S1024 : Shape := ⟨1, ![1024]⟩
abbrev S64 : Shape := ⟨1, ![64]⟩
abbrev S1x1024 : Shape := ⟨2, ![1, 1024]⟩
abbrev S512x1024 : Shape := ⟨2, ![512, 1024]⟩
abbrev S8x1024 : Shape := ⟨2, ![8, 1024]⟩
abbrev S528x1024 : Shape := ⟨2, ![528, 1024]⟩
abbrev S1 : Shape := ⟨1, ![1]⟩
abbrev S8x1 : Shape := ⟨2, ![8, 1]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 6
  | .vmem => 11
  | .smem => 2
  | _ => 0

abbrev bufTy : (tb : Table) → Fin (tcTables nBuf tb) → BufTy
  | .hbm, ⟨0, _⟩ => ⟨S32768x1024, .f32⟩
  | .hbm, ⟨1, _⟩ => ⟨S4x256x256, .f32⟩
  | .hbm, ⟨2, _⟩ => ⟨S1024, .f32⟩
  | .hbm, ⟨3, _⟩ => ⟨S4x256x256, .bf16⟩
  | .hbm, ⟨4, _⟩ => ⟨S1x1024, .f32⟩
  | .hbm, ⟨5, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x256x256, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S528x1024, .f32⟩
  | .local _ .smem, ⟨0, _⟩ => ⟨S64, .i32⟩
  | .local _ .smem, ⟨1, _⟩ => ⟨S64, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolRefIdeal.lean ====
abbrev S32768x1024 : Shape := ⟨2, ![32768, 1024]⟩
abbrev S4x256x256 : Shape := ⟨3, ![4, 256, 256]⟩
abbrev S1024 : Shape := ⟨1, ![1024]⟩
abbrev S32768 : Shape := ⟨1, ![32768]⟩
abbrev S_ : Shape := ⟨0, ![]⟩
abbrev S32768x256 : Shape := ⟨2, ![32768, 256]⟩
abbrev S1x32768 : Shape := ⟨2, ![1, 32768]⟩
abbrev S32768x1 : Shape := ⟨2, ![32768, 1]⟩
abbrev S32768x32768 : Shape := ⟨2, ![32768, 32768]⟩
abbrev S1x256x256 : Shape := ⟨3, ![1, 256, 256]⟩
abbrev S256x256 : Shape := ⟨2, ![256, 256]⟩
abbrev S1x1024 : Shape := ⟨2, ![1, 1024]⟩

abbrev nBuf : Space → Nat
  | .hbm => 169
  | .vmem => 0
  | .smem => 0
  | _ => 0

abbrev hbmTy0_0 (i : Nat) : BufTy := match i % 128 with
  | 0 => ⟨S32768x1024, .f32⟩
  | 1 => ⟨S4x256x256, .f32⟩
  | 2 => ⟨S1024, .f32⟩
  | 3 => ⟨S32768, .i32⟩
  | 4 => ⟨S_, .i32⟩
  | 5 => ⟨S32768, .i32⟩
  | 6 => ⟨S32768, .i1⟩
  | 7 => ⟨S_, .i32⟩
  | 8 => ⟨S32768, .i32⟩
  | 9 => ⟨S32768, .i1⟩
  | 10 => ⟨S_, .i32⟩
  | 11 => ⟨S_, .i32⟩
  | 12 => ⟨S32768, .i32⟩
  | 13 => ⟨S32768, .i32⟩
  | 14 => ⟨S32768, .i32⟩
  | 15 => ⟨S_, .i32⟩
  | 16 => ⟨S32768, .i32⟩
  | 17 => ⟨S32768, .i32⟩
  | 18 => ⟨S_, .i32⟩
  | 19 => ⟨S32768, .i32⟩
  | 20 => ⟨S32768, .i1⟩
  | 21 => ⟨S_, .i32⟩
  | 22 => ⟨S32768, .i32⟩
  | 23 => ⟨S32768, .i1⟩
  | 24 => ⟨S_, .i32⟩
  | 25 => ⟨S_, .i32⟩
  | 26 => ⟨S32768, .i32⟩
  | 27 => ⟨S32768, .i32⟩
  | 28 => ⟨S32768, .i32⟩
  | 29 => ⟨S_, .i32⟩
  | 30 => ⟨S32768, .i32⟩
  | 31 => ⟨S32768, .i32⟩
  | 32 => ⟨S32768x256, .f32⟩
  | 33 => ⟨S_, .i32⟩
  | 34 => ⟨S32768, .i32⟩
  | 35 => ⟨S32768, .i32⟩
  | 36 => ⟨S32768, .i32⟩
  | 37 => ⟨S32768, .i32⟩
  | 38 => ⟨S_, .i32⟩
  | 39 => ⟨S32768, .i32⟩
  | 40 => ⟨S32768, .i32⟩
  | 41 => ⟨S32768, .i32⟩
  | 42 => ⟨S32768, .i32⟩
  | 43 => ⟨S1x32768, .i32⟩
  | 44 => ⟨S32768x1, .i32⟩
  | 45 => ⟨S32768x32768, .i32⟩
  | 46 => ⟨S32768x32768, .i32⟩
  | 47 => ⟨S32768x32768, .i1⟩
  | 48 => ⟨S1x32768, .i32⟩
  | 49 => ⟨S32768x1, .i32⟩
  | 50 => ⟨S32768x32768, .i32⟩
  | 51 => ⟨S32768x32768, .i32⟩
  | 52 => ⟨S32768x32768, .i1⟩
  | 53 => ⟨S32768x32768, .i1⟩
  | 54 => ⟨S32768x32768, .f32⟩
  | 55 => ⟨S32768x256, .f32⟩
  | 56 => ⟨S32768, .i32⟩
  | 57 => ⟨S32768, .f32⟩
  | 58 => ⟨S32768x1, .f32⟩
  | 59 => ⟨S32768x256, .f32⟩
  | 60 => ⟨S32768x256, .f32⟩
  | 61 => ⟨S32768x256, .f32⟩
  | 62 => ⟨S1x256x256, .f32⟩
  | 63 => ⟨S256x256, .f32⟩
  | 64 => ⟨S32768x256, .f32⟩
  | 65 => ⟨S32768x256, .f32⟩
  | 66 => ⟨S_, .i32⟩
  | 67 => ⟨S32768, .i32⟩
  | 68 => ⟨S32768, .i32⟩
  | 69 => ⟨S32768, .i32⟩
  | 70 => ⟨S32768, .i32⟩
  | 71 => ⟨S_, .i32⟩
  | 72 => ⟨S32768, .i32⟩
  | 73 => ⟨S32768, .i32⟩
  | 74 => ⟨S32768, .i32⟩
  | 75 => ⟨S32768, .i32⟩
  | 76 => ⟨S1x32768, .i32⟩
  | 77 => ⟨S32768x1, .i32⟩
  | 78 => ⟨S32768x32768, .i32⟩
  | 79 => ⟨S32768x32768, .i32⟩
  | 80 => ⟨S32768x32768, .i1⟩
  | 81 => ⟨S1x32768, .i32⟩
  | 82 => ⟨S32768x1, .i32⟩
  | 83 => ⟨S32768x32768, .i32⟩
  | 84 => ⟨S32768x32768, .i32⟩
  | 85 => ⟨S32768x32768, .i1⟩
  | 86 => ⟨S32768x32768, .i1⟩
  | 87 => ⟨S32768x32768, .f32⟩
  | 88 => ⟨S32768x256, .f32⟩
  | 89 => ⟨S32768, .i32⟩
  | 90 => ⟨S32768, .f32⟩
  | 91 => ⟨S32768x1, .f32⟩
  | 92 => ⟨S32768x256, .f32⟩
  | 93 => ⟨S32768x256, .f32⟩
  | 94 => ⟨S32768x256, .f32⟩
  | 95 => ⟨S1x256x256, .f32⟩
  | 96 => ⟨S256x256, .f32⟩
  | 97 => ⟨S32768x256, .f32⟩
  | 98 => ⟨S32768x256, .f32⟩
  | 99 => ⟨S_, .i32⟩
  | 100 => ⟨S32768, .i32⟩
  | 101 => ⟨S32768, .i32⟩
  | 102 => ⟨S32768, .i32⟩
  | 103 => ⟨S32768, .i32⟩
  | 104 => ⟨S_, .i32⟩
  | 105 => ⟨S32768, .i32⟩
  | 106 => ⟨S32768, .i32⟩
  | 107 => ⟨S32768, .i32⟩
  | 108 => ⟨S32768, .i32⟩
  | 109 => ⟨S1x32768, .i32⟩
  | 110 => ⟨S32768x1, .i32⟩
  | 111 => ⟨S32768x32768, .i32⟩
  | 112 => ⟨S32768x32768, .i32⟩
  | 113 => ⟨S32768x32768, .i1⟩
  | 114 => ⟨S1x32768, .i32⟩
  | 115 => ⟨S32768x1, .i32⟩
  | 116 => ⟨S32768x32768, .i32⟩
  | 117 => ⟨S32768x32768, .i32⟩
  | 118 => ⟨S32768x32768, .i1⟩
  | 119 => ⟨S32768x32768, .i1⟩
  | 120 => ⟨S32768x32768, .f32⟩
  | 121 => ⟨S32768x256, .f32⟩
  | 122 => ⟨S32768, .i32⟩
  | 123 => ⟨S32768, .f32⟩
  | 124 => ⟨S32768x1, .f32⟩
  | 125 => ⟨S32768x256, .f32⟩
  | 126 => ⟨S32768x256, .f32⟩
  | 127 => ⟨S32768x256, .f32⟩
  | _ => ⟨S32768x1024, .f32⟩

abbrev hbmTy0_1 (i : Nat) : BufTy := match i % 128 with
  | 0 => ⟨S1x256x256, .f32⟩
  | 1 => ⟨S256x256, .f32⟩
  | 2 => ⟨S32768x256, .f32⟩
  | 3 => ⟨S32768x256, .f32⟩
  | 4 => ⟨S_, .i32⟩
  | 5 => ⟨S32768, .i32⟩
  | 6 => ⟨S32768, .i32⟩
  | 7 => ⟨S32768, .i32⟩
  | 8 => ⟨S32768, .i32⟩
  | 9 => ⟨S_, .i32⟩
  | 10 => ⟨S32768, .i32⟩
  | 11 => ⟨S32768, .i32⟩
  | 12 => ⟨S32768, .i32⟩
  | 13 => ⟨S32768, .i32⟩
  | 14 => ⟨S1x32768, .i32⟩
  | 15 => ⟨S32768x1, .i32⟩
  | 16 => ⟨S32768x32768, .i32⟩
  | 17 => ⟨S32768x32768, .i32⟩
  | 18 => ⟨S32768x32768, .i1⟩
  | 19 => ⟨S1x32768, .i32⟩
  | 20 => ⟨S32768x1, .i32⟩
  | 21 => ⟨S32768x32768, .i32⟩
  | 22 => ⟨S32768x32768, .i32⟩
  | 23 => ⟨S32768x32768, .i1⟩
  | 24 => ⟨S32768x32768, .i1⟩
  | 25 => ⟨S32768x32768, .f32⟩
  | 26 => ⟨S32768x256, .f32⟩
  | 27 => ⟨S32768, .i32⟩
  | 28 => ⟨S32768, .f32⟩
  | 29 => ⟨S32768x1, .f32⟩
  | 30 => ⟨S32768x256, .f32⟩
  | 31 => ⟨S32768x256, .f32⟩
  | 32 => ⟨S32768x256, .f32⟩
  | 33 => ⟨S1x256x256, .f32⟩
  | 34 => ⟨S256x256, .f32⟩
  | 35 => ⟨S32768x256, .f32⟩
  | 36 => ⟨S32768x1024, .f32⟩
  | 37 => ⟨S1x1024, .f32⟩
  | 38 => ⟨S32768x1024, .f32⟩
  | 39 => ⟨S32768x1024, .f32⟩
  | 40 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_c_3 : Ref sig .tc := ⟨.hbm, 15, rfl⟩
abbrev main_call1_v0 : Ref sig .tc := ⟨.hbm, 16, rfl⟩
abbrev main_v6 : Ref sig .tc := ⟨.hbm, 17, rfl⟩
abbrev main_c_4 : Ref sig .tc := ⟨.hbm, 18, rfl⟩
abbrev main_v7 : Ref sig .tc := ⟨.hbm, 19, rfl⟩
abbrev main_v8 : Ref sig .tc := ⟨.hbm, 20, rfl⟩
abbrev main_c_5 : Ref sig .tc := ⟨.hbm, 21, rfl⟩
abbrev main_v9 : Ref sig .tc := ⟨.hbm, 22, rfl⟩
abbrev main_v10 : Ref sig .tc := ⟨.hbm, 23, rfl⟩
abbrev main_c_6 : Ref sig .tc := ⟨.hbm, 24, rfl⟩
abbrev main_c_7 : Ref sig .tc := ⟨.hbm, 25, rfl⟩
abbrev main_call2_v0 : Ref sig .tc := ⟨.hbm, 26, rfl⟩
abbrev main_call2_v1 : Ref sig .tc := ⟨.hbm, 27, rfl⟩
abbrev main_v11 : Ref sig .tc := ⟨.hbm, 28, rfl⟩
abbrev main_c_8 : Ref sig .tc := ⟨.hbm, 29, rfl⟩
abbrev main_call3_v0 : Ref sig .tc := ⟨.hbm, 30, rfl⟩
abbrev main_v12 : Ref sig .tc := ⟨.hbm, 31, rfl⟩
abbrev main_v13 : Ref sig .tc := ⟨.hbm, 32, rfl⟩
abbrev main_c_9 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_10 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_14 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_15 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_c_16 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩

abbrev nD : Nat := 1
abbrev τ : Topo := Topo.v7x

variable {F : FTy → Type} [FloatOps F]
-- ==== Router.lean ====
abbrev S32768x4096 : Shape := ⟨2, ![32768, 4096]⟩
abbrev S4096 : Shape := ⟨1, ![4096]⟩
abbrev S4096x32 : Shape := ⟨2, ![4096, 32]⟩
abbrev S32 : Shape := ⟨1, ![32]⟩
abbrev S1x4096 : Shape := ⟨2, ![1, 4096]⟩
abbrev S1x32 : Shape := ⟨2, ![1, 32]⟩
abbrev S65536x2048 : Shape := ⟨2, ![65536, 2048]⟩
abbrev S32768x4 : Shape := ⟨2, ![32768, 4]⟩
abbrev S256x4096 : Shape := ⟨2, ![256, 4096]⟩
abbrev S512x2048 : Shape := ⟨2, ![512, 2048]⟩
abbrev S256x4 : Shape := ⟨2, ![256, 4]⟩
abbrev S256 : Shape := ⟨1, ![256]⟩
abbrev S256x1 : Shape := ⟨2, ![256, 1]⟩
abbrev S256x2048 : Shape := ⟨2, ![256, 2048]⟩
abbrev S256x32 : Shape := ⟨2, ![256, 32]⟩

abbrev nBuf : Space → Nat
  | .hbm => 10
  | .vmem => 11
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S4096x32, .f32⟩
  | .hbm, ⟨3, _⟩ => ⟨S32, .f32⟩
  | .hbm, ⟨4, _⟩ => ⟨S4096x32, .bf16⟩
  | .hbm, ⟨5, _⟩ => ⟨S1x4096, .f32⟩
  | .hbm, ⟨6, _⟩ => ⟨S1x32, .f32⟩
  | .hbm, ⟨7, _⟩ => ⟨S65536x2048, .bf16⟩
  | .hbm, ⟨8, _⟩ => ⟨S32768x4, .i32⟩
  | .hbm, ⟨9, _⟩ => ⟨S32768x4, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x32, .bf16⟩
  | .local _ .vmem, ⟨4, _⟩ => ⟨S1x32, .f32⟩
  | .local _ .vmem, ⟨5, _⟩ => ⟨S512x2048, .bf16⟩
  | .local _ .vmem, ⟨6, _⟩ => ⟨S512x2048, .bf16⟩
  | .local _ .vmem, ⟨7, _⟩ => ⟨S256x4, .i32⟩
  | .local _ .vmem, ⟨8, _⟩ => ⟨S256x4, .i32⟩
  | .local _ .vmem, ⟨9, _⟩ => ⟨S256x4, .f32⟩
  | .local _ .vmem, ⟨10, _⟩ => ⟨S256x4, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouterIdeal.lean ====
variable {F : FTy → Type} [FloatOps F]
-- ==== RouterRefIdeal.lean ====
abbrev S32768x4096 : Shape := ⟨2, ![32768, 4096]⟩
abbrev S4096 : Shape := ⟨1, ![4096]⟩
abbrev S4096x32 : Shape := ⟨2, ![4096, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x4096 : Shape := ⟨2, ![1, 4096]⟩
abbrev S32768x32 : Shape := ⟨2, ![32768, 32]⟩
abbrev S1x32 : Shape := ⟨2, ![1, 32]⟩
abbrev S32768x4 : Shape := ⟨2, ![32768, 4]⟩
abbrev S65536x2048 : Shape := ⟨2, ![65536, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S4096x32, .f32⟩
  | .hbm, ⟨3, _⟩ => ⟨S32, .f32⟩
  | .hbm, ⟨4, _⟩ => ⟨S32768x4096, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x4096, .f32⟩
  | .hbm, ⟨16, _⟩ => ⟨S32768x4096, .f32⟩
  | .hbm, ⟨17, _⟩ => ⟨S1x4096, .f32⟩
  | .hbm, ⟨18, _⟩ => ⟨S32768x4096, .f32⟩
  | .hbm, ⟨19, _⟩ => ⟨S32768x4096, .f32⟩
  | .hbm, ⟨20, _⟩ => ⟨S32768x32, .f32⟩
  | .hbm, ⟨21, _⟩ => ⟨S1x32, .f32⟩
  | .hbm, ⟨22, _⟩ => ⟨S32768x32, .f32⟩
  | .hbm, ⟨23, _⟩ => ⟨S32768x32, .f32⟩
  | .hbm, ⟨24, _⟩ => ⟨S32768x4, .f32⟩
  | .hbm, ⟨25, _⟩ => ⟨S32768x4, .i32⟩
  | .hbm, ⟨26, _⟩ => ⟨S_, .f32⟩
  | .hbm, ⟨27, _⟩ => ⟨S32768, .f32⟩
  | .hbm, ⟨28, _⟩ => ⟨S_, .f32⟩
  | .hbm, ⟨29, _⟩ => ⟨S32768, .f32⟩
  | .hbm, ⟨30, _⟩ => ⟨S32768, .f32⟩
  | .hbm, ⟨31, _⟩ => ⟨S32768x1, .f32⟩
  | .hbm, ⟨32, _⟩ => ⟨S32768x4, .f32⟩
  | .hbm, ⟨33, _⟩ => ⟨S32768x4, .f32⟩
  | .hbm, ⟨34, _⟩ => ⟨S32768x4, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S32768x4, .f32⟩
  | .hbm, ⟨39, _⟩ => ⟨S32768x4, .f32⟩
  | .hbm, ⟨40, _⟩ => ⟨S32768x4096, .bf16⟩
  | .hbm, ⟨41, _⟩ => ⟨S65536x2048, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Attention.lean ====
abbrev S48x32768x128 : Shape := ⟨3, ![48, 32768, 128]⟩
abbrev S24x32768x128 : Shape := ⟨3, ![24, 32768, 128]⟩
abbrev S16 : Shape := ⟨1, ![16]⟩
abbrev S32768x1024 : Shape := ⟨2, ![32768, 1024]⟩
abbrev S1x2048x128 : Shape := ⟨3, ![1, 2048, 128]⟩
abbrev S1x64x128 : Shape := ⟨3, ![1, 64, 128]⟩
abbrev S1x256x128 : Shape := ⟨3, ![1, 256, 128]⟩
abbrev S1x1024x128 : Shape := ⟨3, ![1, 1024, 128]⟩
abbrev S2048x128 : Shape := ⟨2, ![2048, 128]⟩
abbrev S3x2048x128 : Shape := ⟨3, ![3, 2048, 128]⟩
abbrev S1 : Shape := ⟨1, ![1]⟩
abbrev S128x256 : Shape := ⟨2, ![128, 256]⟩
abbrev S64x128 : Shape := ⟨2, ![64, 128]⟩
abbrev S2176x128 : Shape := ⟨2, ![2176, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩
abbrev S1x512x128 : Shape := ⟨3, ![1, 512, 128]⟩
abbrev S512x128 : Shape := ⟨2, ![512, 128]⟩
abbrev S640x128 : Shape := ⟨2, ![640, 128]⟩

abbrev nBuf : Space → Nat
  | .hbm => 3
  | .vmem => 46
  | .smem => 2
  | _ => 0

abbrev bufTy : (tb : Table) → Fin (tcTables nBuf tb) → BufTy
  | .hbm, ⟨0, _⟩ => ⟨S48x32768x128, .f32⟩
  | .hbm, ⟨1, _⟩ => ⟨S24x32768x128, .f32⟩
  | .hbm, ⟨2, _⟩ => ⟨S32768x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x2048x128, .f32⟩
  | .local _ .vmem, ⟨9, _⟩ => ⟨S1x2048x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x2048x128, .f32⟩
  | .local _ .vmem, ⟨23, _⟩ => ⟨S1x2048x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x2048x128, .f32⟩
  | .local _ .vmem, ⟨29, _⟩ => ⟨S1x2048x128, .f32⟩
  | .local _ .vmem, ⟨30, _⟩ => ⟨S1x2048x128, .f32⟩
  | .local _ .vmem, ⟨31, _⟩ => ⟨S1x2048x128, .f32⟩
  | .local _ .vmem, ⟨32, _⟩ => ⟨S1x1024x128, .f32⟩
  | .local _ .vmem, ⟨33, _⟩ => ⟨S1x1024x128, .f32⟩
  | .local _ .vmem, ⟨34, _⟩ => ⟨S1x1024x128, .f32⟩
  | .local _ .vmem, ⟨35, _⟩ => ⟨S1x1024x128, .f32⟩
  | .local _ .vmem, ⟨36, _⟩ => ⟨S1x2048x128, .f32⟩
  | .local _ .vmem, ⟨37, _⟩ => ⟨S1x2048x128, .f32⟩
  | .local _ .vmem, ⟨38, _⟩ => ⟨S1x1024x128, .f32⟩
  | .local _ .vmem, ⟨39, _⟩ => ⟨S1x1024x128, .f32⟩
  | .local _ .vmem, ⟨40, _⟩ => ⟨S1x1024x128, .f32⟩
  | .local _ .vmem, ⟨41, _⟩ => ⟨S1x1024x128, .f32⟩
  | .local _ .vmem, ⟨42, _⟩ => ⟨S2048x128, .bf16⟩
  | .local _ .vmem, ⟨43, _⟩ => ⟨S2048x128, .bf16⟩
  | .local _ .vmem, ⟨44, _⟩ => ⟨S3x2048x128, .f32⟩
  | .local _ .vmem, ⟨45, _⟩ => ⟨S3x2048x128, .f32⟩
  | .local _ .smem, ⟨0, _⟩ => ⟨S16, .i32⟩
  | .local _ .smem, ⟨1, _⟩ => ⟨S16, .i32⟩
  | _, _ => ⟨S48x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_scratch0 : Ref sig .tc := ⟨.vmem, 44, rfl⟩
abbrev cc0_scratch1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨2, ![16, 8], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c32_i32 : BitVec 32 := 32#32
  let v1 : BitVec 32 := Scalar.muli arg0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c1_i32 : BitVec 32 := 1#32
  let v1 : BitVec 32 := Scalar.addi arg0 c1_i32
  let c32_i32 : BitVec 32 := 32#32
  let v2 : BitVec 32 := Scalar.muli v1 c32_i32
  let c511_i32 : BitVec 32 := 511#32
  let v3 : BitVec 32 := Scalar.minsi v2 c511_i32
  let c0_i32 : BitVec 32 := 0#32
  let c0_i32_0 : BitVec 32 := 0#32
  ![v0.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c32_i32 : BitVec 32 := 32#32
  let v1 : BitVec 32 := Scalar.muli arg0 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v0.toNat, v3.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.addi arg0 c1_i32
  let c32_i32 : BitVec 32 := 32#32
  let v2 : BitVec 32 := Scalar.muli v1 c32_i32
  let c511_i32 : BitVec 32 := 511#32
  let v3 : BitVec 32 := Scalar.minsi v2 c511_i32
  let c0_i32_0 : BitVec 32 := 0#32
  let c0_i32_1 : BitVec 32 := 0#32
  ![v0.toNat, v3.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c8_i32 : BitVec 32 := 8#32
  let v1 : BitVec 32 := Scalar.muli arg0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_10 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c1_i32 : BitVec 32 := 1#32
  let v1 : BitVec 32 := Scalar.addi arg0 c1_i32
  let c8_i32 : BitVec 32 := 8#32
  let v2 : BitVec 32 := Scalar.muli v1 c8_i32
  let c127_i32 : BitVec 32 := 127#32
  let v3 : BitVec 32 := Scalar.minsi v2 c127_i32
  let c0_i32 : BitVec 32 := 0#32
  let c0_i32_0 : BitVec 32 := 0#32
  ![v0.toNat, v3.toNat, c0_i32.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c8_i32_0 : BitVec 32 := 8#32
  let v1 : BitVec 32 := Scalar.muli arg0 c8_i32_0
  let c1_i32 : BitVec 32 := 1#32
  let v2 : BitVec 32 := Scalar.subi v1 c1_i32
  let c0_i32 : BitVec 32 := 0#32
  let v3 : BitVec 32 := Scalar.maxsi v2 c0_i32
  let c0_i32_1 : BitVec 32 := 0#32
  let c0_i32_2 : BitVec 32 := 0#32
  ![v0.toNat, v3.toNat, c0_i32_1.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let v1 : BitVec 32 := Scalar.addi arg0 c1_i32
  let c8_i32_0 : BitVec 32 := 8#32
  let v2 : BitVec 32 := Scalar.muli v1 c8_i32_0
  let c127_i32 : BitVec 32 := 127#32
  let v3 : BitVec 32 := Scalar.minsi v2 c127_i32
  let c0_i32 : BitVec 32 := 0#32
  let c0_i32_1 : BitVec 32 := 0#32
  ![v0.toNat, v3.toNat, c0_i32.toNat]

def cc0_transform_14 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![v0.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c2_i32 : BitVec 32 := 2#32
  let v1 : BitVec 32 := Scalar.muli arg0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_17 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c1_i32 : BitVec 32 := 1#32
  let v1 : BitVec 32 := Scalar.addi arg0 c1_i32
  let c2_i32 : BitVec 32 := 2#32
  let v2 : BitVec 32 := Scalar.muli v1 c2_i32
  let c31_i32 : BitVec 32 := 31#32
  let v3 : BitVec 32 := Scalar.minsi v2 c31_i32
  let c0_i32 : BitVec 32 := 0#32
  let c0_i32_0 : BitVec 32 := 0#32
  ![v0.toNat, v3.toNat, c0_i32.toNat]

def cc0_transform_18 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c2_i32 : BitVec 32 := 2#32
  let v1 : BitVec 32 := Scalar.muli arg0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_20 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c1_i32 : BitVec 32 := 1#32
  let v1 : BitVec 32 := Scalar.addi arg0 c1_i32
  let c2_i32 : BitVec 32 := 2#32
  let v2 : BitVec 32 := Scalar.muli v1 c2_i32
  let c31_i32 : BitVec 32 := 31#32
  let v3 : BitVec 32 := Scalar.minsi v2 c31_i32
  let c0_i32 : BitVec 32 := 0#32
  let c0_i32_0 : BitVec 32 := 0#32
  ![v0.toNat, v3.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S2048x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Proof.ExpertWords.lean ====
/-
  The words of the two tables the expert products read: an expert number between 0 and 31 as a natural number,
  and the column block a tile names, its own when the tile is in use and the last one when it is not.
-/
module

public import Idealize.ShloMosaic.Lib.WordCmp
public import Idealize.ShloMosaic.Lib.StableHlo.Predicate

@[expose] public section

namespace Cert.Experts

open Idealize.ShloMosaic

/-- A signed 32-bit word between 0 and 31 is a natural number below 32. -/
theorem toNat_lt_of_range (x : BitVec 32) (h : IntOp.andi (IntOp.cmpi .sge x 0#32) (IntOp.cmpi .sle x 31#32) = 1#1) :
    x.toNat < 32 := by
  have h0 : BitVec.ofBool ((0#32).sle x) &&& BitVec.ofBool (x.sle 31#32) = 1#1 := h
  have h1 : (0#32).sle x = true ∧ x.sle 31#32 = true := by
    revert h0; cases (0#32).sle x <;> cases x.sle 31#32 <;> decide
  obtain ⟨ha, hb⟩ := h1
  rw [BitVec.sle_iff_toInt_le] at ha hb
  have e0 : (0#32).toInt = 0 := by decide
  have e1 : (31#32).toInt = 31 := by decide
  rw [e0] at ha
  rw [e1] at hb
  rw [BitVec.toInt_eq_toNat_cond] at ha hb
  split at ha <;> omega

/-- The column block of eight: the tile's own or the last. -/
theorem sel8 : ∀ (p : BitVec 1) (j : Fin 8),
    (Scalar.addi (0#32) (Scalar.select p (BitVec.ofNat 32 j.val) 7#32)).toNat < 8
    ∧ (Scalar.addi (8#32) (Scalar.select p (BitVec.ofNat 32 j.val) 7#32)).toNat < 16
    ∧ (p = 1#1 → (Scalar.addi (0#32) (Scalar.select p (BitVec.ofNat 32 j.val) 7#32)).toNat = j.val
      ∧ (Scalar.addi (8#32) (Scalar.select p (BitVec.ofNat 32 j.val) 7#32)).toNat = j.val + 8) := by decide

/-- The column block of four: the tile's own or the last. -/
theorem sel4 : ∀ (p : BitVec 1) (j : Fin 4),
    (Scalar.addi (0#32) (Scalar.select p (BitVec.ofNat 32 j.val) 3#32)).toNat < 4
    ∧ (Scalar.addi (4#32) (Scalar.select p (BitVec.ofNat 32 j.val) 3#32)).toNat < 8
    ∧ (p = 1#1 → (Scalar.addi (0#32) (Scalar.select p (BitVec.ofNat 32 j.val) 3#32)).toNat = j.val
      ∧ (Scalar.addi (4#32) (Scalar.select p (BitVec.ofNat 32 j.val) 3#32)).toNat = j.val + 4) := by decide

end Cert.Experts
-- ==== Proof.GateUpBody.lean ====
/-
  One grid point of the expert gate-and-up product (program `GateUp`): the body run in its three
  cases. A tile not in use gets zeros. A tile in use at its first column block has its rows unpacked into
  the two scratch buffers, which are then multiplied; at a later column block the halves are read back.
-/
module

public import proofs.«01_k».proof.Proof.GateUpKit
public import Idealize.ShloMosaic.Lib.Pipeline.Value

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The conditions of the body -/

/-- The number of tiles in use, as the body reads it from the second table. -/
def nuOf (c : Dev nD) (T1 : TbBuf0 (F := F) c tbM0_1) : BitVec 32 :=
  tbM0_1.view.readAt (Elt F) (Rect.unit (s := S1) ![0] S1.size inb_S1_S1_0).toLoadRect T1
    (Shape.Idx.first (numel1_S1.symm ▸ Nat.one_pos))

/-- The condition under which the body unpacks its tile: a tile in use, at its first column block. -/
def startC (i : grid0.Coords) (v0 : BitVec 32) : BitVec 1 :=
  Scalar.cmpi .ne (Scalar.extui (Scalar.andi (Scalar.cmpi .slt (BitVec.ofNat 32 (i 0).val) v0) (Scalar.cmpi .eq (BitVec.ofNat 32 (i 1).val) 0#32)) : BitVec 32) 0#32

/-! ## What the body leaves -/

abbrev rX : Rect S1024x2048 := Rect.unit (s := S1024x2048) ![0, 0] S1024x2048.size inb_S1024x2048_S1024x2048_0_0
abbrev rS : Rect S512x2048 := Rect.unit (s := S512x2048) ![0, 0] S512x2048.size inb_S512x2048_S512x2048_0_0
abbrev rO : Rect S512x512 := Rect.unit (s := S512x512) ![0, 0] S512x512.size inb_S512x512_S512x512_0_0
abbrev rLo : Rect S1x4096x512 := Rect.unit (s := S1x4096x512) ![0, 0, 0] S1x2048x512.size inb_S1x4096x512_S1x2048x512_0_0_0
abbrev rHi : Rect S1x4096x512 := Rect.unit (s := S1x4096x512) ![0, 2048, 0] S1x2048x512.size inb_S1x4096x512_S1x2048x512_0_2048_0
abbrev rB : Rect S1x1x512 := Rect.unit (s := S1x1x512) ![0, 0, 0] S1x1x512.size inb_S1x1x512_S1x1x512_0_0_0

theorem zero2 : (![0, 0] : Fin 2 → Nat) = fun _ => 0 := by funext a; fin_cases a <;> rfl
theorem zero3 : (![0, 0, 0] : Fin 3 → Nat) = fun _ => 0 := by funext a; fin_cases a <;> rfl

/-- The output block of a tile in use, from the unpacked halves `s0`, `s1` of its rows, the two weight blocks and
    the two bias blocks. -/
def outUsed (s0 s1 : Vec F S512x2048 .bf16) (x1 x2 : Vec F S1x4096x512 .bf16) (x3 x4 : Vec F S1x1x512 .f32) : Vec F S512x512 .bf16 :=
  k0_pay4 (k0_pay6 s0 s1 (View.ld x1 rLo) (View.ld x1 rHi) x3) (k0_pay7 s0 s1 (View.ld x2 rLo) (View.ld x2 rHi) x4)
    (Scalar.ofBits .f32 0x3FD9DB23#32)

/-- A store through the whole block leaves what it stores. -/
theorem read_stored {S : Shape} {e : EltTy} (M : Memref sig .tc .vmem S e) (f : M.view.ty.Contents (Elt F)) (off : Fin S.rank → Nat)
    (h : off = fun _ => 0) (inb : ∀ a, off a + S.size a ≤ S.size a) (w : Vec F S e) :
    M.view.read (Elt F) (M.view.writes (Elt F) f [(⟨Rect.unit off S.size inb, w⟩ : View.Piece (Elt F) S e)]) = w := by
  subst h
  exact (View.read_writes_eq_canon _ _ _ (fun y => ⟨_, List.mem_singleton.2 rfl, View.mem_set_unit_zero rfl inb y⟩)).trans (View.canon_unit_zero rfl inb w)

/-! ## The body's triple, case by case -/

set_option maxHeartbeats 2000000 in
/-- A tile not in use: the body stores zeros. -/
theorem run_idle (c : Dev nD) (E : Set ℕ) (i : grid0.Coords) (arg4 : Memref sig .tc .vmem S1024x2048 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x512 .bf16) (harg9 : arg9.IsWhole)
    (T1 : TbBuf0 (F := F) c tbM0_1) (K : PUnit → sProp 𝕄)
    (h1 : ¬ startC i (nuOf c T1) = 1#1) (h2 : ¬ k0_cond2 i (nuOf c T1) = 1#1) (h3 : k0_cond3 i (nuOf c T1) = 1#1) :
    iprop((∃ d, owns (c : Thread nD τ) arg9 fullShare d) ∗ tbPt0 c tbM0_1 T1
        ∗ (iprop(owns (c : Thread nD τ) arg9 fullShare (k0_pay5 (F := F)) ∗ tbPt0 c tbM0_1 T1) -∗ K ⟨⟩))
      ⊢ wp frame (wpE (defs₀ (F := F)) Variants.none c none) E (cc0_expert_gate_up i tbM0_0 htbM0_0 tbM0_1 htbM0_1 arg4 harg4 arg5 harg5 arg6 harg6 arg7 harg7 arg8 harg8 arg9 harg9 (Memref.whole cc0_scratch0) (Memref.isWhole_whole _) (Memref.whole cc0_scratch1) (Memref.isWhole_whole _)) K := by
  simp only [cc0_expert_gate_up_eq_skeleton]; unfold cc0_expert_gate_up_skel
  unfold owns
  iintro ⟨⟨%d5, %f5, -, H5⟩, HT, Hk⟩
  sl_exec (disch := first | exact h1 | exact h2 | exact h3)
  sl_step
  iapply Hk
  isplitl [H5]
  · iexists _; isplitr
    swap; · iexact H5
    ipureintro
    exact read_stored arg9 f5 _ zero2 _ _
  iexact HT

set_option maxHeartbeats 4000000 in
/-- A tile in use at a later column block: the unpacked halves are read back from where the first block left them. -/
theorem run_next (c : Dev nD) (E : Set ℕ) (i : grid0.Coords) (arg4 : Memref sig .tc .vmem S1024x2048 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x512 .bf16) (harg9 : arg9.IsWhole)
    (x1 x2 : Vec F S1x4096x512 .bf16) (x3 x4 : Vec F S1x1x512 .f32) (s0 s1 : Vec F S512x2048 .bf16)
    (T1 : TbBuf0 (F := F) c tbM0_1) (K : PUnit → sProp 𝕄)
    (h1 : ¬ startC i (nuOf c T1) = 1#1) (h2 : k0_cond2 i (nuOf c T1) = 1#1) (h3 : ¬ k0_cond3 i (nuOf c T1) = 1#1) :
    iprop(owns (c : Thread nD τ) arg5 fullShare x1 ∗ owns (c : Thread nD τ) arg6 fullShare x2 ∗ owns (c : Thread nD τ) arg7 fullShare x3
        ∗ owns (c : Thread nD τ) arg8 fullShare x4 ∗ (∃ d, owns (c : Thread nD τ) arg9 fullShare d)
        ∗ owns (c : Thread nD τ) (Memref.whole cc0_scratch0) fullShare s0 ∗ owns (c : Thread nD τ) (Memref.whole cc0_scratch1) fullShare s1
        ∗ tbPt0 c tbM0_1 T1
        ∗ (iprop(owns (c : Thread nD τ) arg5 fullShare x1 ∗ owns (c : Thread nD τ) arg6 fullShare x2 ∗ owns (c : Thread nD τ) arg7 fullShare x3
        ∗ owns (c : Thread nD τ) arg8 fullShare x4 ∗ owns (c : Thread nD τ) arg9 fullShare (outUsed s0 s1 x1 x2 x3 x4)
        ∗ owns (c : Thread nD τ) (Memref.whole cc0_scratch0) fullShare s0 ∗ owns (c : Thread nD τ) (Memref.whole cc0_scratch1) fullShare s1
        ∗ tbPt0 c tbM0_1 T1) -∗ K ⟨⟩))
      ⊢ wp frame (wpE (defs₀ (F := F)) Variants.none c none) E (cc0_expert_gate_up i tbM0_0 htbM0_0 tbM0_1 htbM0_1 arg4 harg4 arg5 harg5 arg6 harg6 arg7 harg7 arg8 harg8 arg9 harg9 (Memref.whole cc0_scratch0) (Memref.isWhole_whole _) (Memref.whole cc0_scratch1) (Memref.isWhole_whole _)) K := by
  simp only [cc0_expert_gate_up_eq_skeleton]; unfold cc0_expert_gate_up_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%g0, %hg0, S0⟩, ⟨%g1, %hg1, S1⟩, HT, Hk⟩
  subst hf1 hf2 hf3 hf4 hg0 hg1
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_stored arg9 f5 _ zero2 _ _).trans ?_
    show k0_pay4 (k0_pay6 (View.ld _ rS) (View.ld _ rS) (View.ld _ rLo) (View.ld _ rHi) (View.ld _ rB))
      (k0_pay7 (View.ld _ rS) (View.ld _ rS) (View.ld _ rLo) (View.ld _ rHi) (View.ld _ rB)) _ = _
    rw [View.ld_unit_zero zero2, View.ld_unit_zero zero2, View.ld_unit_zero zero3, View.ld_unit_zero zero3]
    rfl
  isplitl [S0]
  · iexists g0; isplitr; · ipureintro; rfl
    iexact S0
  isplitl [S1]
  · iexists g1; isplitr; · ipureintro; rfl
    iexact S1
  iexact HT

set_option maxHeartbeats 4000000 in
/-- A tile in use at its first column block: the body unpacks the tile's rows, keeps the halves and uses them. -/
theorem run_first (c : Dev nD) (E : Set ℕ) (i : grid0.Coords) (arg4 : Memref sig .tc .vmem S1024x2048 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x512 .bf16) (harg9 : arg9.IsWhole)
    (x0 : Vec F S1024x2048 .bf16) (x1 x2 : Vec F S1x4096x512 .bf16) (x3 x4 : Vec F S1x1x512 .f32)
    (T1 : TbBuf0 (F := F) c tbM0_1) (K : PUnit → sProp 𝕄)
    (h1 : startC i (nuOf c T1) = 1#1) (h2 : k0_cond2 i (nuOf c T1) = 1#1) (h3 : ¬ k0_cond3 i (nuOf c T1) = 1#1) :
    iprop(owns (c : Thread nD τ) arg4 fullShare x0 ∗ owns (c : Thread nD τ) arg5 fullShare x1 ∗ owns (c : Thread nD τ) arg6 fullShare x2 ∗ owns (c : Thread nD τ) arg7 fullShare x3
        ∗ owns (c : Thread nD τ) arg8 fullShare x4 ∗ (∃ d, owns (c : Thread nD τ) arg9 fullShare d)
        ∗ (∃ d, owns (c : Thread nD τ) (Memref.whole cc0_scratch0) fullShare d) ∗ (∃ d, owns (c : Thread nD τ) (Memref.whole cc0_scratch1) fullShare d)
        ∗ tbPt0 c tbM0_1 T1
        ∗ (iprop(owns (c : Thread nD τ) arg4 fullShare x0 ∗ owns (c : Thread nD τ) arg5 fullShare x1 ∗ owns (c : Thread nD τ) arg6 fullShare x2 ∗ owns (c : Thread nD τ) arg7 fullShare x3
        ∗ owns (c : Thread nD τ) arg8 fullShare x4 ∗ owns (c : Thread nD τ) arg9 fullShare (outUsed (k0_pay2 x0) (k0_pay3 x0) x1 x2 x3 x4)
        ∗ owns (c : Thread nD τ) (Memref.whole cc0_scratch0) fullShare (k0_pay2 x0) ∗ owns (c : Thread nD τ) (Memref.whole cc0_scratch1) fullShare (k0_pay3 x0)
        ∗ tbPt0 c tbM0_1 T1) -∗ K ⟨⟩))
      ⊢ wp frame (wpE (defs₀ (F := F)) Variants.none c none) E (cc0_expert_gate_up i tbM0_0 htbM0_0 tbM0_1 htbM0_1 arg4 harg4 arg5 harg5 arg6 harg6 arg7 harg7 arg8 harg8 arg9 harg9 (Memref.whole cc0_scratch0) (Memref.isWhole_whole _) (Memref.whole cc0_scratch1) (Memref.isWhole_whole _)) K := by
  simp only [cc0_expert_gate_up_eq_skeleton]; unfold cc0_expert_gate_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%e0, %g0, -, S0⟩, ⟨%e1, %g1, -, S1⟩, HT, Hk⟩
  subst hf0 hf1 hf2 hf3 hf4
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_stored arg9 f5 _ zero2 _ _).trans ?_
    have e0 : run_first.sl.v11 c arg4 f0 = k0_pay2 (View.read (Elt F) arg4.view f0) := by
      unfold run_first.sl.v11
      refine (View.readCov_unit_zero _ zero2 _ _).trans ?_
      exact congrArg k0_pay2 (View.ld_unit_zero zero2 _ _)
    have e1 : run_first.sl.v12 c arg4 f0 = k0_pay3 (View.read (Elt F) arg4.view f0) := by
      unfold run_first.sl.v12
      refine (View.readCov_unit_zero _ zero2 _ _).trans ?_
      exact congrArg k0_pay3 (View.ld_unit_zero zero2 _ _)
    rw [e0, e1]
    show k0_pay4 (k0_pay6 _ _ (View.ld _ rLo) (View.ld _ rHi) (View.ld _ rB))
      (k0_pay7 _ _ (View.ld _ rLo) (View.ld _ rHi) (View.ld _ rB)) _ = _
    rw [View.ld_unit_zero zero3, View.ld_unit_zero zero3]
    rfl
  isplitl [S0]
  · iexists _; isplitr
    swap; · iexact S0
    ipureintro
    refine (read_stored (Memref.whole cc0_scratch0) g0 _ zero2 _ _).trans ?_
    exact congrArg k0_pay2 (View.ld_unit_zero zero2 _ _)
  isplitl [S1]
  · iexists _; isplitr
    swap; · iexact S1
    ipureintro
    refine (read_stored (Memref.whole cc0_scratch1) g1 _ zero2 _ _).trans ?_
    exact congrArg k0_pay3 (View.ld_unit_zero zero2 _ _)
  iexact HT

end Cert.GateUp.Gen

end
-- ==== Proof.TakeBlocks.lean ====
/-
  `x[idx]` for an array `x` of two or three axes and a vector `idx` of positions on its first axis: the gather it
  prints as, read at an index. Result `(t, …)` is `x` at the position named for `t`, read signed and clamped.
-/
module

public import Idealize.ShloMosaic.Lib.Pointwise

@[expose] public section

namespace Cert.Experts

open Idealize.ShloMosaic

variable {α : Type}

/-- The dimension numbers of `x[idx]` for `x : [N, A, B]`, `idx : [R]`. -/
abbrev takeDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

theorem gather_take3 {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (t : Fin R) (a : Fin A) (b : Fin B) :
    Host.gather (takeDims3 N A B R wf) x idx (ix3 t a b)
      = x (ix3 ⟨min (idx (ix2 t 0)).toInt.toNat (N - 1), by omega⟩ a b) := by
  unfold Host.gather
  congr 1
  funext c
  refine Fin.ext ?_
  show (takeDims3 N A B R wf).start (ix3 t a b) idx c + (takeDims3 N A B R wf).batchCoord (ix3 t a b) c
    + (takeDims3 N A B R wf).offCoord (ix3 t a b) c = _
  rw [GatherDims.batchCoord_eq_zero _ _ _ List.not_mem_nil, Nat.add_zero]
  match c with
  | ⟨0, _⟩ =>
    rw [GatherDims.offCoord_eq_zero _ _ _ (fun h => ((GatherDims.mem_sKept _ _).mp h).1 (List.mem_singleton.mpr rfl)), Nat.add_zero]
    show (takeDims3 N A B R wf).start (ix3 t a b) idx (0 : Fin 3) = _
    unfold GatherDims.start
    rw [dif_pos (show (0 : Fin 3) ∈ (takeDims3 N A B R wf).startIndexMap from List.mem_singleton.mpr rfl)]
    have hsi : (takeDims3 N A B R wf).siIdx (ix3 t a b) ⟨List.idxOf (0 : Fin 3) (takeDims3 N A B R wf).startIndexMap,
        List.idxOf_lt_length_iff.2 (List.mem_singleton.mpr rfl)⟩ = ix2 t 0 := by
      funext e; refine Fin.ext ?_
      match e with
      | ⟨0, _⟩ => rfl
      | ⟨1, _⟩ => rfl
    exact congrArg (fun z => min (idx z).toInt.toNat (N - 1)) hsi
  | ⟨1, _⟩ =>
    show (takeDims3 N A B R wf).start (ix3 t a b) idx (1 : Fin 3) + _ = _
    unfold GatherDims.start
    rw [dif_neg (show ¬ (1 : Fin 3) ∈ (takeDims3 N A B R wf).startIndexMap from (by decide : ¬ (1 : Fin 3) ∈ ([0] : List (Fin 3)))), Nat.zero_add]
    rfl
  | ⟨2, _⟩ =>
    show (takeDims3 N A B R wf).start (ix3 t a b) idx (2 : Fin 3) + _ = _
    unfold GatherDims.start
    rw [dif_neg (show ¬ (2 : Fin 3) ∈ (takeDims3 N A B R wf).startIndexMap from (by decide : ¬ (2 : Fin 3) ∈ ([0] : List (Fin 3)))), Nat.zero_add]
    rfl

/-- The dimension numbers of `x[idx]` for `x : [N, A]`, `idx : [R]`. -/
abbrev takeDims2 (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

theorem gather_take2 {N A R w : Nat} (hN : 0 < N)
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (t : Fin R) (a : Fin A) :
    Host.gather (takeDims2 N A R wf) x idx (ix2 t a) = x (ix2 ⟨min (idx (ix2 t 0)).toInt.toNat (N - 1), by omega⟩ a) := by
  unfold Host.gather
  congr 1
  funext c
  refine Fin.ext ?_
  show (takeDims2 N A R wf).start (ix2 t a) idx c + (takeDims2 N A R wf).batchCoord (ix2 t a) c
    + (takeDims2 N A R wf).offCoord (ix2 t a) c = _
  rw [GatherDims.batchCoord_eq_zero _ _ _ List.not_mem_nil, Nat.add_zero]
  match c with
  | ⟨0, _⟩ =>
    rw [GatherDims.offCoord_eq_zero _ _ _ (fun h => ((GatherDims.mem_sKept _ _).mp h).1 (List.mem_singleton.mpr rfl)), Nat.add_zero]
    show (takeDims2 N A R wf).start (ix2 t a) idx (0 : Fin 2) = _
    unfold GatherDims.start
    rw [dif_pos (show (0 : Fin 2) ∈ (takeDims2 N A R wf).startIndexMap from List.mem_singleton.mpr rfl)]
    have hsi : (takeDims2 N A R wf).siIdx (ix2 t a) ⟨List.idxOf (0 : Fin 2) (takeDims2 N A R wf).startIndexMap,
        List.idxOf_lt_length_iff.2 (List.mem_singleton.mpr rfl)⟩ = ix2 t 0 := by
      funext e; refine Fin.ext ?_
      match e with
      | ⟨0, _⟩ => rfl
      | ⟨1, _⟩ => rfl
    exact congrArg (fun z => min (idx z).toInt.toNat (N - 1)) hsi
  | ⟨1, _⟩ =>
    show (takeDims2 N A R wf).start (ix2 t a) idx (1 : Fin 2) + _ = _
    unfold GatherDims.start
    rw [dif_neg (show ¬ (1 : Fin 2) ∈ (takeDims2 N A R wf).startIndexMap from (by decide : ¬ (1 : Fin 2) ∈ ([0] : List (Fin 2)))), Nat.zero_add]
    rfl

/-- A number below 32 read as a signed word, counted from the end when negative and clamped to 31, is itself. -/
theorem wrap_clamp (x : BitVec 32) (h : x.toNat < 32) :
    min (Scalar.select (IntOp.cmpi .slt x 0#32) (IntOp.addi x 32#32) x).toInt.toNat (32 - 1) = x.toNat := by
  obtain ⟨k, rfl⟩ : ∃ k : Fin 32, x = BitVec.ofNat 32 k.val := ⟨⟨x.toNat, h⟩, by simp⟩
  revert k
  decide

end Cert.Experts
-- ==== Proof.GateUpMath.lean ====
/-
  The experts' first product as one formula. Row `R` of the result belongs to tile `R / 512`. A tile before the number
  of tiles in use gives every row the clamped gated unit of that row's activations times its expert's weights plus the
  biases; a tile past it gives zeros. A row of activations is kept as two rows of half the length.
-/
module

public import proofs.«01_k».proof.Proof.TakeBlocks
public import Idealize.ShloMosaic.Lib.Pointwise
public import Idealize.ShloMosaic.PureOps.Ideal.Laws

@[expose] public section

noncomputable section

namespace Cert.Experts

open Idealize.ShloMosaic

/-- The clamped gated unit of a gate and a linear part. -/
def swiglu (g l : EReal) : EReal :=
  min g (Ideal.ofBits .f32 0x40E00000#32)
      * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- The expert of a tile, its word read as a number and clamped to the last. -/
def expert (te : IVec ⟨1, ![288]⟩ 32) (t : Fin 288) : Fin 32 := ⟨min (te (ix1 t)).toNat 31, by omega⟩

/-- Entry `d` of row `s` of tile `t` of the activations. -/
def act (xs : (⟨2, ![294912, 2048]⟩ : Shape).Idx → EReal) (t : Fin 288) (s : Fin 512) (d : Fin 4096) : EReal :=
  xs (ix2 ⟨((t.val * 512 + s.val) * 4096 + d.val) / 2048, by omega⟩ ⟨((t.val * 512 + s.val) * 4096 + d.val) % 2048, by omega⟩)

/-- Row `s` of tile `t` times column `c` of its expert's weights, plus the bias. -/
def gateUp (xs : (⟨2, ![294912, 2048]⟩ : Shape).Idx → EReal) (w : (⟨3, ![32, 4096, 8192]⟩ : Shape).Idx → EReal)
    (b : (⟨2, ![32, 8192]⟩ : Shape).Idx → EReal) (te : IVec ⟨1, ![288]⟩ 32) (t : Fin 288) (s : Fin 512) (c : Fin 8192) : EReal :=
  (∑ d : Fin 4096, act xs t s d * w (ix3 (expert te t) d c)) + b (ix2 (expert te t) c)

/-- Whether tile `t` comes before the number of tiles in use. -/
abbrev used (nu : IVec ⟨1, ![1]⟩ 32) (t : Fin 288) : BitVec 1 := IntOp.cmpi .slt (BitVec.ofNat 32 t.val) (nu (ix1 0))

/-- Row `s`, column `f` of tile `t` of the result. -/
def gateUpAt (xs : (⟨2, ![294912, 2048]⟩ : Shape).Idx → EReal) (w : (⟨3, ![32, 4096, 8192]⟩ : Shape).Idx → EReal)
    (b : (⟨2, ![32, 8192]⟩ : Shape).Idx → EReal) (te : IVec ⟨1, ![288]⟩ 32) (nu : IVec ⟨1, ![1]⟩ 32) (t : Fin 288) (s : Fin 512)
    (f : Fin 4096) : EReal :=
  Scalar.select (used nu t) (swiglu (gateUp xs w b te t s ⟨f.val, by omega⟩) (gateUp xs w b te t s ⟨4096 + f.val, by omega⟩)) 0

/-- The result. -/
def gateUpAll (xs : (⟨2, ![294912, 2048]⟩ : Shape).Idx → EReal) (w : (⟨3, ![32, 4096, 8192]⟩ : Shape).Idx → EReal)
    (b : (⟨2, ![32, 8192]⟩ : Shape).Idx → EReal) (te : IVec ⟨1, ![288]⟩ 32) (nu : IVec ⟨1, ![1]⟩ 32) :
    (⟨2, ![147456, 4096]⟩ : Shape).Idx → EReal :=
  fun i => gateUpAt xs w b te nu ⟨(i 0).val / 512, by have h : (i 0).val < 147456 := (i 0).isLt; omega⟩ ⟨(i 0).val % 512, by omega⟩ ⟨(i 1).val, (i 1).isLt⟩

end Cert.Experts

end
-- ==== Proof.GateUpIdealKit.lean ====
/-
  The launch set-up of the expert gate-and-up product (program `GateUpIdeal`): at which points each window is fetched and written
  back, the body as the pipeline calls it, the arrays' contents when the call is entered, the two
  prefetched tables (the expert of each tile, the number of tiles in use) read off the launch memory,
  each window's block at a point, and the frame claim's post from a run of the pipeline.
-/
module

public import proofs.«01_k».proof.Proof.Gen.GateUpIdeal
public import proofs.«01_k».proof.Proof.Gen.GateUpIdeal.Launch
public import proofs.«01_k».proof.Proof.Gen.GateUpIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The schedule -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at the points ≡ 0 (mod 8), at any contents of the tables (its index map reads none). -/
theorem fetch0_0 (a : (pcfg0 (F := F)).Adm) : ∀ t : Fin (cfg0 a).N, ((cfg0 a).win 0).fetch t = true ↔ t.val % 8 = 0 :=
  (fun t => Pipeline.Window.fetchOf_reads cc0_transform_0 reads0_0 hreads0_0 0 (by decide) (by decide) (Pipeline.Window.sep_of_coord cc0_transform_0 0 0 (fun _ => rfl) (by decide)) (P := 8) (by decide) t : ∀ t : Fin grid0.N, Pipeline.Window.fetchOf grid0 false cc0_transform_0 t = true ↔ t.val % 8 = 0)
/-- Window 5 (result 0 (%3)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_gate_up (grid0.coords t) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (`ok0`). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg3
abbrev htbM0_0 : tbM0_0.IsWhole := Memref.isWhole_whole _
abbrev tbM0_1 : Memref sig .tc .smem S1 .i32 := Memref.whole main_arg4
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_GateUpIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

end Cert.GateUpIdeal.Gen

end
-- ==== Proof.GateUpIdealBody.lean ====
/-
  One grid point of the expert gate-and-up product (program `GateUpIdeal`): the body run in its three
  cases. A tile not in use gets zeros. A tile in use at its first column block has its rows unpacked into
  the two scratch buffers, which are then multiplied; at a later column block the halves are read back.
-/
module

public import proofs.«01_k».proof.Proof.GateUpIdealKit
public import Idealize.ShloMosaic.Lib.Pipeline.Value

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body -/

/-- The number of tiles in use, as the body reads it from the second table. -/
def nuOf (c : Dev nD) (T1 : TbBuf0 (F := F) c tbM0_1) : BitVec 32 :=
  tbM0_1.view.readAt (Elt F) (Rect.unit (s := S1) ![0] S1.size inb_S1_S1_0).toLoadRect T1
    (Shape.Idx.first (numel1_S1.symm ▸ Nat.one_pos))

/-- The condition under which the body unpacks its tile: a tile in use, at its first column block. -/
def startC (i : grid0.Coords) (v0 : BitVec 32) : BitVec 1 :=
  Scalar.cmpi .ne (Scalar.extui (Scalar.andi (Scalar.cmpi .slt (BitVec.ofNat 32 (i 0).val) v0) (Scalar.cmpi .eq (BitVec.ofNat 32 (i 1).val) 0#32)) : BitVec 32) 0#32

/-! ## What the body leaves -/

abbrev rX : Rect S1024x2048 := Rect.unit (s := S1024x2048) ![0, 0] S1024x2048.size inb_S1024x2048_S1024x2048_0_0
abbrev rS : Rect S512x2048 := Rect.unit (s := S512x2048) ![0, 0] S512x2048.size inb_S512x2048_S512x2048_0_0
abbrev rO : Rect S512x512 := Rect.unit (s := S512x512) ![0, 0] S512x512.size inb_S512x512_S512x512_0_0
abbrev rLo : Rect S1x4096x512 := Rect.unit (s := S1x4096x512) ![0, 0, 0] S1x2048x512.size inb_S1x4096x512_S1x2048x512_0_0_0
abbrev rHi : Rect S1x4096x512 := Rect.unit (s := S1x4096x512) ![0, 2048, 0] S1x2048x512.size inb_S1x4096x512_S1x2048x512_0_2048_0
abbrev rB : Rect S1x1x512 := Rect.unit (s := S1x1x512) ![0, 0, 0] S1x1x512.size inb_S1x1x512_S1x1x512_0_0_0

theorem zero2 : (![0, 0] : Fin 2 → Nat) = fun _ => 0 := by funext a; fin_cases a <;> rfl
theorem zero3 : (![0, 0, 0] : Fin 3 → Nat) = fun _ => 0 := by funext a; fin_cases a <;> rfl

/-- The output block of a tile in use, from the unpacked halves `s0`, `s1` of its rows, the two weight blocks and
    the two bias blocks. -/
def outUsed (s0 s1 : Vec F S512x2048 .bf16) (x1 x2 : Vec F S1x4096x512 .bf16) (x3 x4 : Vec F S1x1x512 .f32) : Vec F S512x512 .bf16 :=
  k0_pay3 (k0_pay5 s0 s1 (View.ld x1 rLo) (View.ld x1 rHi) x3) (k0_pay6 s0 s1 (View.ld x2 rLo) (View.ld x2 rHi) x4)
    (Scalar.ofBits .f32 0x3FD9DB23#32)

/-- A store through the whole block leaves what it stores. -/
theorem read_stored {S : Shape} {e : EltTy} (M : Memref sig .tc .vmem S e) (f : M.view.ty.Contents (Elt F)) (off : Fin S.rank → Nat)
    (h : off = fun _ => 0) (inb : ∀ a, off a + S.size a ≤ S.size a) (w : Vec F S e) :
    M.view.read (Elt F) (M.view.writes (Elt F) f [(⟨Rect.unit off S.size inb, w⟩ : View.Piece (Elt F) S e)]) = w := by
  subst h
  exact (View.read_writes_eq_canon _ _ _ (fun y => ⟨_, List.mem_singleton.2 rfl, View.mem_set_unit_zero rfl inb y⟩)).trans (View.canon_unit_zero rfl inb w)

/-! ## The body's triple, case by case -/

set_option maxHeartbeats 2000000 in
/-- A tile not in use: the body stores zeros. -/
theorem run_idle (c : Dev nD) (E : Set ℕ) (i : grid0.Coords) (arg4 : Memref sig .tc .vmem S1024x2048 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x512 .bf16) (harg9 : arg9.IsWhole)
    (T1 : TbBuf0 (F := F) c tbM0_1) (K : PUnit → sProp 𝕄)
    (h1 : ¬ startC i (nuOf c T1) = 1#1) (h2 : ¬ k0_cond2 i (nuOf c T1) = 1#1) (h3 : k0_cond3 i (nuOf c T1) = 1#1) :
    iprop((∃ d, owns (c : Thread nD τ) arg9 fullShare d) ∗ tbPt0 c tbM0_1 T1
        ∗ (iprop(owns (c : Thread nD τ) arg9 fullShare (k0_pay4 (F := F)) ∗ tbPt0 c tbM0_1 T1) -∗ K ⟨⟩))
      ⊢ wp frame (wpE (defs₀ (F := F)) Variants.none c none) E (cc0_expert_gate_up i tbM0_0 htbM0_0 tbM0_1 htbM0_1 arg4 harg4 arg5 harg5 arg6 harg6 arg7 harg7 arg8 harg8 arg9 harg9 (Memref.whole cc0_scratch0) (Memref.isWhole_whole _) (Memref.whole cc0_scratch1) (Memref.isWhole_whole _)) K := by
  simp only [cc0_expert_gate_up_eq_skeleton]; unfold cc0_expert_gate_up_skel
  unfold owns
  iintro ⟨⟨%d5, %f5, -, H5⟩, HT, Hk⟩
  sl_exec (disch := first | exact h1 | exact h2 | exact h3)
  sl_step
  iapply Hk
  isplitl [H5]
  · iexists _; isplitr
    swap; · iexact H5
    ipureintro
    exact read_stored arg9 f5 _ zero2 _ _
  iexact HT

set_option maxHeartbeats 4000000 in
/-- A tile in use at a later column block: the unpacked halves are read back from where the first block left them. -/
theorem run_next (c : Dev nD) (E : Set ℕ) (i : grid0.Coords) (arg4 : Memref sig .tc .vmem S1024x2048 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x512 .bf16) (harg9 : arg9.IsWhole)
    (x1 x2 : Vec F S1x4096x512 .bf16) (x3 x4 : Vec F S1x1x512 .f32) (s0 s1 : Vec F S512x2048 .bf16)
    (T1 : TbBuf0 (F := F) c tbM0_1) (K : PUnit → sProp 𝕄)
    (h1 : ¬ startC i (nuOf c T1) = 1#1) (h2 : k0_cond2 i (nuOf c T1) = 1#1) (h3 : ¬ k0_cond3 i (nuOf c T1) = 1#1) :
    iprop(owns (c : Thread nD τ) arg5 fullShare x1 ∗ owns (c : Thread nD τ) arg6 fullShare x2 ∗ owns (c : Thread nD τ) arg7 fullShare x3
        ∗ owns (c : Thread nD τ) arg8 fullShare x4 ∗ (∃ d, owns (c : Thread nD τ) arg9 fullShare d)
        ∗ owns (c : Thread nD τ) (Memref.whole cc0_scratch0) fullShare s0 ∗ owns (c : Thread nD τ) (Memref.whole cc0_scratch1) fullShare s1
        ∗ tbPt0 c tbM0_1 T1
        ∗ (iprop(owns (c : Thread nD τ) arg5 fullShare x1 ∗ owns (c : Thread nD τ) arg6 fullShare x2 ∗ owns (c : Thread nD τ) arg7 fullShare x3
        ∗ owns (c : Thread nD τ) arg8 fullShare x4 ∗ owns (c : Thread nD τ) arg9 fullShare (outUsed s0 s1 x1 x2 x3 x4)
        ∗ owns (c : Thread nD τ) (Memref.whole cc0_scratch0) fullShare s0 ∗ owns (c : Thread nD τ) (Memref.whole cc0_scratch1) fullShare s1
        ∗ tbPt0 c tbM0_1 T1) -∗ K ⟨⟩))
      ⊢ wp frame (wpE (defs₀ (F := F)) Variants.none c none) E (cc0_expert_gate_up i tbM0_0 htbM0_0 tbM0_1 htbM0_1 arg4 harg4 arg5 harg5 arg6 harg6 arg7 harg7 arg8 harg8 arg9 harg9 (Memref.whole cc0_scratch0) (Memref.isWhole_whole _) (Memref.whole cc0_scratch1) (Memref.isWhole_whole _)) K := by
  simp only [cc0_expert_gate_up_eq_skeleton]; unfold cc0_expert_gate_up_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%g0, %hg0, S0⟩, ⟨%g1, %hg1, S1⟩, HT, Hk⟩
  subst hf1 hf2 hf3 hf4 hg0 hg1
  sl_exec (disch := first | exact h1 | exact h2 | exact h3)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_stored arg9 f5 _ zero2 _ _).trans ?_
    show k0_pay3 (k0_pay5 (View.ld _ rS) (View.ld _ rS) (View.ld _ rLo) (View.ld _ rHi) (View.ld _ rB))
      (k0_pay6 (View.ld _ rS) (View.ld _ rS) (View.ld _ rLo) (View.ld _ rHi) (View.ld _ rB)) _ = _
    rw [View.ld_unit_zero zero2, View.ld_unit_zero zero2, View.ld_unit_zero zero3, View.ld_unit_zero zero3]
    rfl
  isplitl [S0]
  · iexists g0; isplitr; · ipureintro; rfl
    iexact S0
  isplitl [S1]
  · iexists g1; isplitr; · ipureintro; rfl
    iexact S1
  iexact HT

set_option maxHeartbeats 4000000 in
/-- A tile in use at its first column block: the body unpacks the tile's rows, keeps the halves and uses them. -/
theorem run_first (c : Dev nD) (E : Set ℕ) (i : grid0.Coords) (arg4 : Memref sig .tc .vmem S1024x2048 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x512 .bf16) (harg9 : arg9.IsWhole)
    (x0 : Vec F S1024x2048 .bf16) (x1 x2 : Vec F S1x4096x512 .bf16) (x3 x4 : Vec F S1x1x512 .f32)
    (T1 : TbBuf0 (F := F) c tbM0_1) (K : PUnit → sProp 𝕄)
    (h1 : startC i (nuOf c T1) = 1#1) (h2 : k0_cond2 i (nuOf c T1) = 1#1) (h3 : ¬ k0_cond3 i (nuOf c T1) = 1#1) :
    iprop(owns (c : Thread nD τ) arg4 fullShare x0 ∗ owns (c : Thread nD τ) arg5 fullShare x1 ∗ owns (c : Thread nD τ) arg6 fullShare x2 ∗ owns (c : Thread nD τ) arg7 fullShare x3
        ∗ owns (c : Thread nD τ) arg8 fullShare x4 ∗ (∃ d, owns (c : Thread nD τ) arg9 fullShare d)
        ∗ (∃ d, owns (c : Thread nD τ) (Memref.whole cc0_scratch0) fullShare d) ∗ (∃ d, owns (c : Thread nD τ) (Memref.whole cc0_scratch1) fullShare d)
        ∗ tbPt0 c tbM0_1 T1
        ∗ (iprop(owns (c : Thread nD τ) arg4 fullShare x0 ∗ owns (c : Thread nD τ) arg5 fullShare x1 ∗ owns (c : Thread nD τ) arg6 fullShare x2 ∗ owns (c : Thread nD τ) arg7 fullShare x3
        ∗ owns (c : Thread nD τ) arg8 fullShare x4 ∗ owns (c : Thread nD τ) arg9 fullShare (outUsed (k0_pay1 x0) (k0_pay2 x0) x1 x2 x3 x4)
        ∗ owns (c : Thread nD τ) (Memref.whole cc0_scratch0) fullShare (k0_pay1 x0) ∗ owns (c : Thread nD τ) (Memref.whole cc0_scratch1) fullShare (k0_pay2 x0)
        ∗ tbPt0 c tbM0_1 T1) -∗ K ⟨⟩))
      ⊢ wp frame (wpE (defs₀ (F := F)) Variants.none c none) E (cc0_expert_gate_up i tbM0_0 htbM0_0 tbM0_1 htbM0_1 arg4 harg4 arg5 harg5 arg6 harg6 arg7 harg7 arg8 harg8 arg9 harg9 (Memref.whole cc0_scratch0) (Memref.isWhole_whole _) (Memref.whole cc0_scratch1) (Memref.isWhole_whole _)) K := by
  simp only [cc0_expert_gate_up_eq_skeleton]; unfold cc0_expert_gate_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%e0, %g0, -, S0⟩, ⟨%e1, %g1, -, S1⟩, HT, Hk⟩
  subst hf0 hf1 hf2 hf3 hf4
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_stored arg9 f5 _ zero2 _ _).trans ?_
    have e0 : run_first.sl.v11 c arg4 f0 = k0_pay1 (View.read (Elt F) arg4.view f0) := by
      unfold run_first.sl.v11
      refine (View.readCov_unit_zero _ zero2 _ _).trans ?_
      exact congrArg k0_pay1 (View.ld_unit_zero zero2 _ _)
    have e1 : run_first.sl.v12 c arg4 f0 = k0_pay2 (View.read (Elt F) arg4.view f0) := by
      unfold run_first.sl.v12
      refine (View.readCov_unit_zero _ zero2 _ _).trans ?_
      exact congrArg k0_pay2 (View.ld_unit_zero zero2 _ _)
    rw [e0, e1]
    show k0_pay3 (k0_pay5 _ _ (View.ld _ rLo) (View.ld _ rHi) (View.ld _ rB))
      (k0_pay6 _ _ (View.ld _ rLo) (View.ld _ rHi) (View.ld _ rB)) _ = _
    rw [View.ld_unit_zero zero3, View.ld_unit_zero zero3]
    rfl
  isplitl [S0]
  · iexists _; isplitr
    swap; · iexact S0
    ipureintro
    refine (read_stored (Memref.whole cc0_scratch0) g0 _ zero2 _ _).trans ?_
    exact congrArg k0_pay1 (View.ld_unit_zero zero2 _ _)
  isplitl [S1]
  · iexists _; isplitr
    swap; · iexact S1
    ipureintro
    refine (read_stored (Memref.whole cc0_scratch1) g1 _ zero2 _ _).trans ?_
    exact congrArg k0_pay2 (View.ld_unit_zero zero2 _ _)
  iexact HT

end Cert.GateUpIdeal.Gen

end
-- ==== Proof.GateUpIdealFrame.lean ====
/-
  The run of the expert gate-and-up product (program `GateUpIdeal`), point by point: what every point leaves
  in its output block and what the scratch buffers carry from one column block of a tile to the next, the
  body obligation, the launch, and the frame claim.
-/
module

public import proofs.«01_k».proof.Proof.GateUpIdealBody
public import Idealize.ShloMosaic.Lib.Claim

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point -/

theorem conds_of : ∀ (p : BitVec 1) (j : Fin 8),
    (¬ Scalar.cmpi .ne (Scalar.extui (Scalar.andi p (Scalar.cmpi .eq (BitVec.ofNat 32 j.val) 0#32)) : BitVec 32) 0#32 = 1#1
      ∧ ¬ Scalar.cmpi .ne (Scalar.extui p : BitVec 32) 0#32 = 1#1 ∧ Scalar.cmpi .ne (Scalar.extui (Scalar.xori p 1#1) : BitVec 32) 0#32 = 1#1)
    ∨ (¬ Scalar.cmpi .ne (Scalar.extui (Scalar.andi p (Scalar.cmpi .eq (BitVec.ofNat 32 j.val) 0#32)) : BitVec 32) 0#32 = 1#1
      ∧ Scalar.cmpi .ne (Scalar.extui p : BitVec 32) 0#32 = 1#1 ∧ ¬ Scalar.cmpi .ne (Scalar.extui (Scalar.xori p 1#1) : BitVec 32) 0#32 = 1#1 ∧ j.val ≠ 0)
    ∨ (Scalar.cmpi .ne (Scalar.extui (Scalar.andi p (Scalar.cmpi .eq (BitVec.ofNat 32 j.val) 0#32)) : BitVec 32) 0#32 = 1#1
      ∧ Scalar.cmpi .ne (Scalar.extui p : BitVec 32) 0#32 = 1#1 ∧ ¬ Scalar.cmpi .ne (Scalar.extui (Scalar.xori p 1#1) : BitVec 32) 0#32 = 1#1 ∧ j.val = 0) := by
  decide

/-- The two conditions `k0_cond2` and `k0_cond3` are complementary, and a tile in use is unpacked at its first
    column block exactly. -/
theorem conds (i : grid0.Coords) (v0 : BitVec 32) :
    (¬ startC i v0 = 1#1 ∧ ¬ k0_cond2 i v0 = 1#1 ∧ k0_cond3 i v0 = 1#1)
    ∨ (¬ startC i v0 = 1#1 ∧ k0_cond2 i v0 = 1#1 ∧ ¬ k0_cond3 i v0 = 1#1 ∧ (i 1).val ≠ 0)
    ∨ (startC i v0 = 1#1 ∧ k0_cond2 i v0 = 1#1 ∧ ¬ k0_cond3 i v0 = 1#1 ∧ (i 1).val = 0) := by
  unfold startC k0_cond2 k0_cond3
  dsimp only
  exact conds_of _ ⟨(i 1).val, (i 1).isLt⟩

theorem coords0 : ∀ t : Fin grid0.N, (grid0.coords t 0).val = t.val / 8 ∧ (grid0.coords t 1).val = t.val % 8 := by decide +kernel

theorem index0 : ∀ t : Fin grid0.N, cc0_transform_0 (grid0.coords t) 0 = t.val / 8 ∧ cc0_transform_0 (grid0.coords t) 1 = 0 := by decide +kernel

/-! ## What a point leaves -/

/-- The tile of point `t` is in use. -/
abbrev usedAt (c : Dev nD) (t : Fin grid0.N) : Prop := k0_cond2 (grid0.coords t) (nuOf (F := F) c (tbl m 1)) = 1#1

/-- The output block at point `t`. -/
def outAt (hO : Ok m) (c : Dev nD) (t : Fin (cfgM m hO).N) : Vec F S512x512 .bf16 :=
  if usedAt m c t then outUsed (k0_pay1 (iblk m hO c 0 t)) (k0_pay2 (iblk m hO c 0 t)) (iblk m hO c 1 t) (iblk m hO c 2 t) (iblk m hO c 3 t) (iblk m hO c 4 t)
  else k0_pay4

theorem row_block (hO : Ok m) (c : Dev nD) (t t' : Fin (cfgM m hO).N) (h : t.val / 8 = t'.val / 8) :
    (iblk m hO c 0 t : S1024x2048.Idx → Elt F .bf16) = iblk m hO c 0 t' := by
  funext y
  show V m c main_arg0 ((((cfgM m hO).win 0).rect t).emb y) = V m c main_arg0 ((((cfgM m hO).win 0).rect t').emb y)
  refine congrArg _ (Shape.idx_ext₂ ?_ ?_)
  · rw [((cfgM m hO).win 0).rect_emb_val t y (0 : Fin 2), ((cfgM m hO).win 0).rect_emb_val t' y (0 : Fin 2)]
    show cc0_transform_0 (grid0.coords t) 0 * _ + _ = cc0_transform_0 (grid0.coords t') 0 * _ + _
    rw [(index0 t).1, (index0 t').1, h]
  · rw [((cfgM m hO).win 0).rect_emb_val t y (1 : Fin 2), ((cfgM m hO).win 0).rect_emb_val t' y (1 : Fin 2)]
    show cc0_transform_0 (grid0.coords t) 1 * _ + _ = cc0_transform_0 (grid0.coords t') 1 * _ + _
    rw [(index0 t).2, (index0 t').2]

theorem used_row (c : Dev nD) (t t' : Fin grid0.N) (h : t.val / 8 = t'.val / 8) : usedAt m c t ↔ usedAt m c t' := by
  have e : (grid0.coords t 0).val = (grid0.coords t' 0).val := by rw [(coords0 t).1, (coords0 t').1, h]
  unfold usedAt k0_cond2
  rw [e]

/-! ## The proof data -/

/-- What the scratch buffers hold before point `n`: within a tile in use, the unpacked halves of its rows. -/
def Keeps (hO : Ok m) (c : Dev nD) (n : ℕ) (s0 s1 : Vec F S512x2048 .bf16) : Prop :=
  ∀ t : Fin (cfgM m hO).N, t.val = n → n % 8 ≠ 0 → usedAt m c t → s0 = k0_pay1 (iblk m hO c 0 t) ∧ s1 = k0_pay2 (iblk m hO c 0 t)

/-- The invariant between points: the scratch buffers at such contents, the generator register at any, the tables. -/
def inv (hO : Ok m) (c : Dev nD) (n : ℕ) : sProp 𝕄 :=
  iprop(∃ s0 s1, ⌜Keeps m hO c n s0 s1⌝ ∗ owns (c : Thread nD τ) (Memref.whole cc0_scratch0) fullShare s0
    ∗ owns (c : Thread nD τ) (Memref.whole cc0_scratch1) fullShare s1 ∗ (∃ r, prngReg c r)
    ∗ tbPt0 c tbM0_0 (tbl m 0) ∗ tbPt0 c tbM0_1 (tbl m 1))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ k := inv m hO c k.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0_0 (adm m hO) t) fullShare ((dats m hO 0 c).before 0 t d))
    ∗ (∃ d, owns (c : Thread nD τ) (st0_1 (adm m hO) t) fullShare ((dats m hO 0 c).before 1 t d))
    ∗ (∃ d, owns (c : Thread nD τ) (st0_2 (adm m hO) t) fullShare ((dats m hO 0 c).before 2 t d))
    ∗ (∃ d, owns (c : Thread nD τ) (st0_3 (adm m hO) t) fullShare ((dats m hO 0 c).before 3 t d))
    ∗ (∃ d, owns (c : Thread nD τ) (st0_4 (adm m hO) t) fullShare ((dats m hO 0 c).before 4 t d))
    ∗ (∃ d, owns (c : Thread nD τ) (st0_5 (adm m hO) t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0_0 (adm m hO) t) fullShare ((dats m hO 0 c).after 0 t)
    ∗ owns (c : Thread nD τ) (st0_1 (adm m hO) t) fullShare ((dats m hO 0 c).after 1 t)
    ∗ owns (c : Thread nD τ) (st0_2 (adm m hO) t) fullShare ((dats m hO 0 c).after 2 t)
    ∗ owns (c : Thread nD τ) (st0_3 (adm m hO) t) fullShare ((dats m hO 0 c).after 3 t)
    ∗ owns (c : Thread nD τ) (st0_4 (adm m hO) t) fullShare ((dats m hO 0 c).after 4 t)
    ∗ owns (c : Thread nD τ) (st0_5 (adm m hO) t) fullShare ((dats m hO 0 c).after 5 t))

/-- The scratch buffers need hold nothing for a tile not in use. -/
theorem keeps_unused (hO : Ok m) (c : Dev nD) (t : Fin (cfgM m hO).N) (hu : ¬ usedAt m c t) (s0 s1 : Vec F S512x2048 .bf16) :
    Keeps m hO c (t.val + 1) s0 s1 := fun t' e hj hu' =>
  absurd ((used_row m c t t' (by omega)).2 hu') hu

/-- The unpacked halves serve the next column block of the tile. -/
theorem keeps_used (hO : Ok m) (c : Dev nD) (t : Fin (cfgM m hO).N) :
    Keeps m hO c (t.val + 1) (k0_pay1 (iblk m hO c 0 t)) (k0_pay2 (iblk m hO c 0 t)) := fun t' e hj _ => by
  have h := row_block m hO c t t' (by omega)
  exact ⟨congrArg k0_pay1 h, congrArg k0_pay2 h⟩

set_option maxHeartbeats 1000000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5,
    show (dats m hO 0 c).Φ t.castSucc = inv m hO c t.val from rfl, show (dats m hO 0 c).Φ t.succ = inv m hO c (t.val + 1) from rfl]
  unfold inv
  iintro ⟨⟨%s0, %s1, %hk, S0, S1, Hg, T0, T1⟩, Ho, ⟨%d0, H0⟩, ⟨%d1, H1⟩, ⟨%d2, H2⟩, ⟨%d3, H3⟩, ⟨%d4, H4⟩, ⟨%d5, H5⟩⟩
  rcases conds (grid0.coords t) (nuOf c (tbl m 1)) with ⟨h1, h2, h3⟩ | ⟨h1, h2, h3, hj⟩ | ⟨h1, h2, h3, hj⟩
  · rw [show outAt m hO c t = k0_pay4 from if_neg h2]
    iapply (run_idle c Set.univ (grid0.coords t) _ _ _ _ _ _ _ _ _ _ _ _ (tbl m 1) _ h1 h2 h3)
    isplitl [H5]; · iexists _; iexact H5
    isplitl [T1]; · iexact T1
    iintro ⟨H5, T1⟩
    isplitl [S0 S1 Hg T0 T1]
    · iexists s0; iexists s1
      isplitr; · ipureintro; exact keeps_unused m hO c t h2 s0 s1
      isplitl [S0]; · iexact S0
      isplitl [S1]; · iexact S1
      isplitl [Hg]; · iexact Hg
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    iexact H5
  · obtain ⟨rfl, rfl⟩ := hk t rfl (by rw [← (coords0 t).2]; exact hj) h2
    rw [show outAt m hO c t = outUsed (k0_pay1 (iblk m hO c 0 t)) (k0_pay2 (iblk m hO c 0 t)) (iblk m hO c 1 t) (iblk m hO c 2 t) (iblk m hO c 3 t) (iblk m hO c 4 t) from if_pos h2]
    iapply (run_next c Set.univ (grid0.coords t) _ _ _ _ _ _ _ _ _ _ _ _ (iblk m hO c 1 t) (iblk m hO c 2 t) (iblk m hO c 3 t) (iblk m hO c 4 t)
      (k0_pay1 (iblk m hO c 0 t)) (k0_pay2 (iblk m hO c 0 t)) (tbl m 1) _ h1 h2 h3)
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    isplitl [T1]; · iexact T1
    iintro ⟨H1, H2, H3, H4, H5, S0, S1, T1⟩
    isplitl [S0 S1 Hg T0 T1]
    · iexists (k0_pay1 (iblk m hO c 0 t)); iexists (k0_pay2 (iblk m hO c 0 t))
      isplitr; · ipureintro; exact keeps_used m hO c t
      isplitl [S0]; · iexact S0
      isplitl [S1]; · iexact S1
      isplitl [Hg]; · iexact Hg
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    iexact H5
  · rw [show outAt m hO c t = outUsed (k0_pay1 (iblk m hO c 0 t)) (k0_pay2 (iblk m hO c 0 t)) (iblk m hO c 1 t) (iblk m hO c 2 t) (iblk m hO c 3 t) (iblk m hO c 4 t) from if_pos h2]
    iapply (run_first c Set.univ (grid0.coords t) _ _ _ _ _ _ _ _ _ _ _ _ (iblk m hO c 0 t) (iblk m hO c 1 t) (iblk m hO c 2 t) (iblk m hO c 3 t) (iblk m hO c 4 t)
      (tbl m 1) _ h1 h2 h3)
    isplitl [H0]; · iexact H0
    isplitl [H1]; · iexact H1
    isplitl [H2]; · iexact H2
    isplitl [H3]; · iexact H3
    isplitl [H4]; · iexact H4
    isplitl [H5]; · iexists _; iexact H5
    isplitl [S0]; · iexists _; iexact S0
    isplitl [S1]; · iexists _; iexact S1
    isplitl [T1]; · iexact T1
    iintro ⟨H0, H1, H2, H3, H4, H5, S0, S1, T1⟩
    isplitl [S0 S1 Hg T0 T1]
    · iexists (k0_pay1 (iblk m hO c 0 t)); iexists (k0_pay2 (iblk m hO c 0 t))
      isplitr; · ipureintro; exact keeps_used m hO c t
      isplitl [S0]; · iexact S0
      isplitl [S1]; · iexact S1
      isplitl [Hg]; · iexact Hg
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What a point leaves in the output's buffer, as the obligation spells it: the block, whichever case holds. -/
theorem leaves5 (hO : Ok m) (c : Dev nD) (t : Fin (cfgM m hO).N) :
    (owns (c : Thread nD τ) (st0_5 (adm m hO) t) fullShare ((dats m hO 0 c).after 5 t) : sProp 𝕄) ⊢ (dats m hO 0 c).leavesExact 5 t := by
  unfold Dat.leavesExact
  rw [flush0_5 (adm m hO) t]
  cases (cfgM m hO).idle 5 ((cfgM m hO).grid.coords t) <;> exact .rfl

set_option maxHeartbeats 2000000 in
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  exact sep_mono .rfl (sep_mono .rfl (sep_mono .rfl (sep_mono .rfl (sep_mono .rfl (sep_mono .rfl (sep_mono .rfl (leaves5 m hO c t)))))))

/-! ## The run and the frame -/

/-- The scratch buffers and the generator register at anything, as memrefs. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem phi_in (hO : Ok m) (c : Dev nD) :
    iprop(Pipeline.ΦA spec0 c ∗ Pipeline.ΦT pre0 (tbl m) c : sProp 𝕄) ⊢ (dats m hO 0 c).Φ 0 := by
  rw [show (dats m hO 0 c).Φ 0 = inv m hO c 0 from rfl, PhiT0_eq, PhiA0_eq]
  unfold inv
  iintro ⟨⟨⟨⟨%s0, S0⟩, ⟨%s1, S1⟩⟩, Hg⟩, T0, T1⟩
  iexists s0; iexists s1
  isplitr; · ipureintro; exact fun t e h _ => absurd rfl h
  isplitl [S0]; · iexact S0
  isplitl [S1]; · iexact S1
  isplitl [Hg]; · iexact Hg
  isplitl [T0]; · iexact T0
  iexact T1

theorem phi_out (hO : Ok m) (c : Dev nD) :
    (dats m hO 0 c).Φ (Fin.last (cfgM m hO).N) ⊢ (Pipeline.ΦA spec0 c : sProp 𝕄) := by
  rw [show (dats m hO 0 c).Φ (Fin.last (cfgM m hO).N) = inv m hO c (cfgM m hO).N from rfl, PhiA0_eq]
  unfold inv
  iintro ⟨%s0, %s1, -, S0, S1, Hg, -⟩
  isplitl [S0 S1]
  · isplitl [S0]
    · iexists s0; iexact S0
    iexists s1; iexact S1
  iexact Hg

set_option backward.isDefEq.respectTransparency.types false in
set_option maxHeartbeats 800000 in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := phi_in m hO) (hout := phi_out m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- Every execution from memory `m` ends, with the argument arrays unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.GateUpIdeal.Gen

end
-- ==== Proof.GateUpIdealOk.lean ====
/-
  The blocks the gate-and-up product (program `GateUpIdeal`) names through its tables lie inside their arrays when
  every tile's expert is one of the thirty-two: the index maps in closed form, and the side condition of the call.
-/
module

public import proofs.«01_k».proof.Proof.ExpertWords
public import proofs.«01_k».proof.Proof.GateUpIdealFrame
public import proofs.«01_k».proof.Pre_experts_in_range

@[expose] public section

set_option maxRecDepth 16384

noncomputable section

namespace Cert.GateUpIdeal.Gen

open Idealize.ShloMosaic Idealize.ShloMosaic.TcCoe Idealize.ShloMosaic.Tactic

variable {F : FTy → Type} [FloatOps F]

/-- The word the index maps read of the expert table at a point: its tile's expert. -/
abbrev expertAt (pf : pre0.Contents (Elt F)) (i : grid0.Coords) : BitVec 32 :=
  pf.at 0 (Rect.unit (s := S288) ![(Scalar.indexCast (BitVec.ofNat 32 (i 0).val)).toNat] S1.size (k0_off1_inb i)) numel1_S1

/-- Whether a point's tile comes before the number of tiles in use. -/
abbrev before (pf : pre0.Contents (Elt F)) (i : grid0.Coords) : BitVec 1 :=
  Scalar.cmpi .slt (BitVec.ofNat 32 (i 0).val) (pf.at 1 (Rect.unit (s := S1) ![0] S1.size inb_S1_S1_0) numel1_S1)

/-- The column block a point names through the tables, `off` blocks on. -/
abbrev colAt (pf : pre0.Contents (Elt F)) (off : BitVec 32) (i : grid0.Coords) : BitVec 32 :=
  Scalar.addi off (Scalar.select (before pf i) (BitVec.ofNat 32 (i 1).val) 7#32)

theorem index_1 (pf : pre0.Contents (Elt F)) (i : grid0.Coords) :
    cc0_transform_1 inb_S1_S1_0 numel1_S1 k0_off1_inb pf i = ![(expertAt pf i).toNat, 0, (colAt pf 0#32 i).toNat] := rfl
theorem index_2 (pf : pre0.Contents (Elt F)) (i : grid0.Coords) :
    cc0_transform_2 inb_S1_S1_0 numel1_S1 k0_off1_inb pf i = ![(expertAt pf i).toNat, 0, (colAt pf 8#32 i).toNat] := rfl
theorem index_3 (pf : pre0.Contents (Elt F)) (i : grid0.Coords) :
    cc0_transform_3 inb_S1_S1_0 numel1_S1 k0_off1_inb pf i = ![(expertAt pf i).toNat, 0, (colAt pf 0#32 i).toNat] := rfl
theorem index_4 (pf : pre0.Contents (Elt F)) (i : grid0.Coords) :
    cc0_transform_4 inb_S1_S1_0 numel1_S1 k0_off1_inb pf i = ![(expertAt pf i).toNat, 0, (colAt pf 8#32 i).toNat] := rfl

theorem col_lt (pf : pre0.Contents (Elt F)) (i : grid0.Coords) : (colAt pf 0#32 i).toNat < 8 ∧ (colAt pf 8#32 i).toNat < 16 :=
  ⟨(Cert.Experts.sel8 (before pf i) ⟨(i 1).val, (i 1).isLt⟩).1, (Cert.Experts.sel8 (before pf i) ⟨(i 1).val, (i 1).isLt⟩).2.1⟩

/-- In a tile in use the column block is the point's own. -/
theorem col_eq (pf : pre0.Contents (Elt F)) (i : grid0.Coords) (h : before pf i = 1#1) :
    (colAt pf 0#32 i).toNat = (i 1).val ∧ (colAt pf 8#32 i).toNat = (i 1).val + 8 :=
  (Cert.Experts.sel8 (before pf i) ⟨(i 1).val, (i 1).isLt⟩).2.2 h

/-- A block of the weights, named by an expert below 32 and a column block below 16, lies inside the array. -/
theorem inb_w (e k : Nat) (he : e < 32) (hk : k < 16) : ∀ a, ((![e, 0, k] : Fin 3 → Nat) a + 1) * S1x4096x512.size a ≤ S32x4096x8192.size a := by
  intro a
  match a with
  | ⟨0, _⟩ => show (e + 1) * 1 ≤ 32; omega
  | ⟨1, _⟩ => show (0 + 1) * 4096 ≤ 4096; omega
  | ⟨2, _⟩ => show (k + 1) * 512 ≤ 8192; omega

/-- The same of a block of the biases. -/
theorem inb_b (e k : Nat) (he : e < 32) (hk : k < 16) : ∀ a, ((![e, 0, k] : Fin 3 → Nat) a + 1) * S1x1x512.size a ≤ S32x1x8192.size a := by
  intro a
  match a with
  | ⟨0, _⟩ => show (e + 1) * 1 ≤ 32; omega
  | ⟨1, _⟩ => show (0 + 1) * 1 ≤ 1; omega
  | ⟨2, _⟩ => show (k + 1) * 512 ≤ 8192; omega

/-- The side condition of the tables' contents, from experts below 32. -/
theorem ok_of (pf : pre0.Contents (Elt F)) (h : ∀ i, (expertAt pf i).toNat < 32) : ok0 pf :=
  ⟨fun i => ⟨inb_w _ _ (h i) ((col_lt pf i).1.trans (by decide)), .inr (Affine.block_words_dvd (by decide) (by decide))⟩,
   fun i => ⟨inb_w _ _ (h i) (col_lt pf i).2, .inr (Affine.block_words_dvd (by decide) (by decide))⟩,
   fun i => ⟨inb_b _ _ (h i) ((col_lt pf i).1.trans (by decide)), .inl rfl⟩,
   fun i => ⟨inb_b _ _ (h i) (col_lt pf i).2, .inl rfl⟩⟩

variable (m : (ℓ : Loc nD τ sig) → Buf (Elt F) ℓ)

/-- The expert table of the launch memory. -/
abbrev experts (c : Dev nD) : Vec F S288 .i32 := m ((c : Thread nD τ).loc main_arg3)

theorem tbl_zero (c : Dev nD) : tbl m 0 = experts m c := by
  obtain rfl : c = 0 := Subsingleton.elim _ _
  exact V_main_arg3 m 0

/-- The number of tiles in use, of the launch memory. -/
abbrev inUse (c : Dev nD) : Vec F S1 .i32 := m ((c : Thread nD τ).loc main_arg4)

theorem tbl_one (c : Dev nD) : tbl m 1 = inUse m c := by
  obtain rfl : c = 0 := Subsingleton.elim _ _
  exact V_main_arg4 m 0

/-- The precondition, entry by entry. -/
theorem experts_lt [Cert.Pre_experts_in_range.Facts] {x0 x1 x2 x4} (t : Vec F S288 .i32)
    (h : Cert.Pre_experts_in_range.fn (F := F) x0 x1 x2 t x4 = fun _ => 1#1) (k : S288.Idx) : (t k).toNat < 32 :=
  Cert.Experts.toNat_lt_of_range _ (congrFun h k)

/-- The side condition of the launch memory's tables, from the precondition. -/
theorem ok_of_experts (h : ∀ c k, (experts m c k).toNat < 32) : Ok m :=
  ok_of _ fun i => by
    have e := tbl_zero m 0
    show (tbl m 0 _).toNat < 32
    rw [e]; exact h 0 _

end Cert.GateUpIdeal.Gen

end
-- ==== Proof.GateUpIdealValue.lean ====
/-
  What the gate-and-up product's result holds after the run: the formula of `GateUpMath.lean`. The kernel's row is
  kept as two rows of half the length, so its sum over the activations is split in two; a tile in use names its own
  expert's weights and its own column block.
-/
module

public import proofs.«01_k».proof.Proof.GateUpMath
public import proofs.«01_k».proof.Proof.GateUpIdealOk
public import Idealize.ShloMosaic.Lib.Pipeline.Value

@[expose] public section

set_option maxRecDepth 16384

noncomputable section

namespace Cert.GateUpIdeal.Math

open Cert.GateUpIdeal Cert.GateUpIdeal.Gen Cert.Experts Idealize.ShloMosaic Idealize.ShloMosaic.TcCoe Idealize.SL.Sem
open Idealize.ShloMosaic.Pipeline (Dat)

/-- A point's row of the product, from the blocks it loads: the row's two halves times the weights' two halves. -/
def part (x0 : Vec Ideal S1024x2048 .bf16) (x1 : Vec Ideal S1x4096x512 .bf16) (x3 : Vec Ideal S1x1x512 .f32) (r s : Fin 512) : EReal :=
  (∑ k : Fin 2048, x0 (ix2 ⟨2 * r.val, by omega⟩ k) * x1 (ix3 0 ⟨k.val, by omega⟩ s))
    + (∑ k : Fin 2048, x0 (ix2 ⟨2 * r.val + 1, by omega⟩ k) * x1 (ix3 0 ⟨2048 + k.val, by omega⟩ s)) + x3 (ix3 0 0 s)

theorem gate_apply (x0 : Vec Ideal S1024x2048 .bf16) (x1 : Vec Ideal S1x4096x512 .bf16) (x3 : Vec Ideal S1x1x512 .f32) (r s : Fin 512) :
    k0_pay5 (k0_pay1 x0) (k0_pay2 x0) (View.ld x1 rLo) (View.ld x1 rHi) x3 (ix2 r s) = min (part x0 x1 x3 r s) (Ideal.ofBits .f32 0x40E00000#32) := by
  unfold part
  pointwise [k0_pay5, k0_pay1, k0_pay2]

theorem linear_apply (x0 : Vec Ideal S1024x2048 .bf16) (x1 : Vec Ideal S1x4096x512 .bf16) (x3 : Vec Ideal S1x1x512 .f32) (r s : Fin 512) :
    k0_pay6 (k0_pay1 x0) (k0_pay2 x0) (View.ld x1 rLo) (View.ld x1 rHi) x3 (ix2 r s)
      = min (Ideal.ofBits .f32 0x40E00000#32) (max (Ideal.ofBits .f32 0xC0E00000#32) (part x0 x1 x3 r s)) := by
  unfold part
  pointwise [k0_pay6, k0_pay1, k0_pay2]

theorem unit_apply (a b : Vec Ideal S512x512 .f32) (c : EReal) (r s : Fin 512) :
    k0_pay3 (F := Ideal) a b c (ix2 r s) = a (ix2 r s) * Ideal.logistic (c * a (ix2 r s)) * (b (ix2 r s) + 1) := by
  pointwise [k0_pay3]

/-- What a point of a tile in use leaves, element by element. -/
theorem out_apply (x0 : Vec Ideal S1024x2048 .bf16) (x1 x2 : Vec Ideal S1x4096x512 .bf16) (x3 x4 : Vec Ideal S1x1x512 .f32) (r s : Fin 512) :
    outUsed (k0_pay1 x0) (k0_pay2 x0) x1 x2 x3 x4 (ix2 r s) = swiglu (part x0 x1 x3 r s) (part x0 x2 x4 r s) := by
  unfold outUsed
  rw [unit_apply, gate_apply, linear_apply]
  rfl

/-- A sum over 4096 as two sums over 2048. -/
theorem halves (f : Fin 4096 → EReal) :
    ∑ d, f d = (∑ k : Fin 2048, f ⟨k.val, by omega⟩) + ∑ k : Fin 2048, f ⟨2048 + k.val, by omega⟩ :=
  Fin.sum_univ_add (a := 2048) (b := 2048) f

variable (m : (ℓ : Loc nD τ sig) → Buf (Elt Ideal) ℓ)

/-- The host rounds the weights before the kernel, which at the ideal instance is no change. -/
theorem V_v0 (c : Dev nD) : V m c main_v0 = m ((c : Thread nD τ).loc main_arg1) := by
  show StableHlo.after hostOps0 (fun b => m (c, b)) main_v0 = _
  after_results
  rfl

/-- The biases, each given an axis of one element. -/
theorem V_v1 (c : Dev nD) (e : Fin 32) (k : Fin 8192) :
    (V m c main_v1 : S32x1x8192.Idx → EReal) (ix3 e 0 k) = m ((c : Thread nD τ).loc main_arg2) (ix2 e k) := by
  show (StableHlo.after hostOps0 (fun b => m (c, b)) main_v1 : S32x1x8192.Idx → EReal) _ = _
  after_results
  pointwise

theorem V_v2 (c : Dev nD) (e : Fin 32) (k : Fin 8192) :
    (V m c main_v2 : S32x1x8192.Idx → EReal) (ix3 e 0 k) = m ((c : Thread nD τ).loc main_arg2) (ix2 e k) := by
  show (StableHlo.after hostOps0 (fun b => m (c, b)) main_v2 : S32x1x8192.Idx → EReal) _ = _
  after_results
  pointwise

theorem N_2304 : grid0.N = 2304 := by decide +kernel

/-- The tile of a point. -/
def tile (t : Fin grid0.N) : Fin 288 := ⟨t.val / 8, by have := N_2304; omega⟩

theorem one_idx (i j : S1.Idx) : i = j := by
  funext a
  match a with
  | ⟨0, _⟩ => exact Subsingleton.elim (α := Fin 1) _ _

theorem before_eq (c : Dev nD) (t : Fin grid0.N) : Gen.before (tbl m) (grid0.coords t) = used (inUse m c) (tile t) := by
  have e0 : (grid0.coords t 0).val = (tile t).val := (coords0 t).1
  unfold Gen.before used
  rw [e0]
  refine congrArg (IntOp.cmpi .slt _) ?_
  show tbl m 1 _ = _
  rw [tbl_one m c]
  exact congrArg (inUse m c) (one_idx _ _)

theorem used_iff (c : Dev nD) (t : Fin grid0.N) : usedAt m c t ↔ used (inUse m c) (tile t) = 1#1 := by
  rw [← before_eq m c t]
  have e : nuOf (F := Ideal) c (tbl m 1) = (tbl m).at 1 (Rect.unit (s := S1) ![0] S1.size inb_S1_S1_0) numel1_S1 := by
    exact congrArg (tbl m 1) (one_idx _ _)
  unfold usedAt k0_cond2 Gen.before
  dsimp only
  rw [e]
  generalize Scalar.cmpi .slt (BitVec.ofNat 32 (grid0.coords t 0).val) ((tbl m).at 1 (Rect.unit (s := S1) ![0] S1.size inb_S1_S1_0) numel1_S1) = p
  revert p
  decide

theorem expert_eq (c : Dev nD) (h : ∀ k, (experts m c k).toNat < 32) (t : Fin grid0.N) :
    (expertAt (tbl m) (grid0.coords t)).toNat = (expert (experts m c) (tile t)).val := by
  have e : expertAt (tbl m) (grid0.coords t) = experts m c (ix1 (tile t)) := by
    show tbl m 0 _ = _
    rw [tbl_zero m c]
    refine congrArg (experts m c) ?_
    funext a
    match a with
    | ⟨0, _⟩ =>
      refine Fin.ext ?_
      have e0 : (grid0.coords t 0).val = (tile t).val := (coords0 t).1
      have hl := (tile t).isLt
      show (Scalar.indexCast (BitVec.ofNat 32 (grid0.coords t 0).val)).toNat + 1 * 0 = (tile t).val
      rw [e0]
      show (BitVec.ofNat 32 (tile t).val).toNat + 1 * 0 = (tile t).val
      rw [BitVec.toNat_ofNat]
      omega
  have h' := h (ix1 (tile t))
  rw [e]
  show _ = min _ 31
  omega

variable (hO : Ok m)

/-! Where an element of a window's block at a point lies in its array. -/

theorem place0 (t : Fin (cfgM m hO).N) (y : S1024x2048.Idx) (a : Fin 2) :
    ((((cfgM m hO).win 0).rect t).emb y a : Nat) = cc0_transform_0 (grid0.coords t) a * S1024x2048.size a + (y a).val :=
  ((cfgM m hO).win 0).rect_emb_val t y a rfl

theorem place1 (t : Fin (cfgM m hO).N) (y : S1x4096x512.Idx) (a : Fin 3) :
    ((((cfgM m hO).win 1).rect t).emb y a : Nat)
      = cc0_transform_1 inb_S1_S1_0 numel1_S1 k0_off1_inb (tbl m) (grid0.coords t) a * S1x4096x512.size a + (y a).val :=
  ((cfgM m hO).win 1).rect_emb_val t y a rfl

theorem place2 (t : Fin (cfgM m hO).N) (y : S1x4096x512.Idx) (a : Fin 3) :
    ((((cfgM m hO).win 2).rect t).emb y a : Nat)
      = cc0_transform_2 inb_S1_S1_0 numel1_S1 k0_off1_inb (tbl m) (grid0.coords t) a * S1x4096x512.size a + (y a).val :=
  ((cfgM m hO).win 2).rect_emb_val t y a rfl

theorem place3 (t : Fin (cfgM m hO).N) (y : S1x1x512.Idx) (a : Fin 3) :
    ((((cfgM m hO).win 3).rect t).emb y a : Nat)
      = cc0_transform_3 inb_S1_S1_0 numel1_S1 k0_off1_inb (tbl m) (grid0.coords t) a * S1x1x512.size a + (y a).val :=
  ((cfgM m hO).win 3).rect_emb_val t y a rfl

theorem place4 (t : Fin (cfgM m hO).N) (y : S1x1x512.Idx) (a : Fin 3) :
    ((((cfgM m hO).win 4).rect t).emb y a : Nat)
      = cc0_transform_4 inb_S1_S1_0 numel1_S1 k0_off1_inb (tbl m) (grid0.coords t) a * S1x1x512.size a + (y a).val :=
  ((cfgM m hO).win 4).rect_emb_val t y a rfl

theorem index5 : ∀ t : Fin grid0.N, cc0_transform_5 (grid0.coords t) 0 = t.val / 8 ∧ cc0_transform_5 (grid0.coords t) 1 = t.val % 8 := by decide +kernel

theorem place5 (t : Fin (cfgM m hO).N) (y : S512x512.Idx) (a : Fin 2) :
    ((((cfgM m hO).win 5).rect t).emb y a : Nat) = cc0_transform_5 (grid0.coords t) a * S512x512.size a + (y a).val :=
  ((cfgM m hO).win 5).rect_emb_val t y a rfl

/-- Window 0's block: the tile's rows. -/
theorem blk0 (c : Dev nD) (t : Fin (cfgM m hO).N) (r : Fin 1024) (k : Fin 2048) (h : t.val / 8 * 1024 + r.val < 294912) :
    (iblk m hO c 0 t : S1024x2048.Idx → EReal) (ix2 r k) = m ((c : Thread nD τ).loc main_arg0) (ix2 ⟨t.val / 8 * 1024 + r.val, h⟩ k) := by
  show V m c main_arg0 ((((cfgM m hO).win 0).rect t).emb (ix2 r k)) = _
  rw [V_main_arg0]
  refine congrArg _ (Shape.idx_ext₂ ?_ ?_)
  · rw [place0 m hO t _ 0, (index0 t).1]; rfl
  · rw [place0 m hO t _ 1, (index0 t).2, Nat.zero_mul, Nat.zero_add]; rfl

/-- Window 1's block: the gate's columns of the tile's expert. -/
theorem blk1 (c : Dev nD) (h : ∀ k, (experts m c k).toNat < 32) (t : Fin (cfgM m hO).N) (hu : usedAt m c t) (d : Fin 4096) (s : Fin 512)
    (hs : t.val % 8 * 512 + s.val < 8192) :
    (iblk m hO c 1 t : S1x4096x512.Idx → EReal) (ix3 0 d s)
      = m ((c : Thread nD τ).loc main_arg1) (ix3 (expert (experts m c) (tile t)) d ⟨t.val % 8 * 512 + s.val, hs⟩) := by
  show V m c main_v0 ((((cfgM m hO).win 1).rect t).emb (ix3 0 d s)) = _
  rw [V_v0]
  have hb := ((before_eq m c t).trans ((used_iff m c t).mp hu))
  have hc := (col_eq (tbl m) (grid0.coords t) hb).1.trans (coords0 t).2
  have he := expert_eq m c h t
  refine congrArg _ ?_
  funext a
  refine Fin.ext ((place1 m hO t (ix3 0 d s) a).trans ?_)
  rw [index_1]
  match a with
  | ⟨0, _⟩ => show (expertAt (tbl m) (grid0.coords t)).toNat * 1 + 0 = _; rw [he]; exact Nat.mul_one _
  | ⟨1, _⟩ => show 0 * 4096 + d.val = d.val; omega
  | ⟨2, _⟩ => show (colAt (tbl m) 0#32 (grid0.coords t)).toNat * 512 + s.val = _; rw [hc]; rfl

/-- Window 2's block: the linear part's columns of the tile's expert. -/
theorem blk2 (c : Dev nD) (h : ∀ k, (experts m c k).toNat < 32) (t : Fin (cfgM m hO).N) (hu : usedAt m c t) (d : Fin 4096) (s : Fin 512)
    (hs : 4096 + (t.val % 8 * 512 + s.val) < 8192) :
    (iblk m hO c 2 t : S1x4096x512.Idx → EReal) (ix3 0 d s)
      = m ((c : Thread nD τ).loc main_arg1) (ix3 (expert (experts m c) (tile t)) d ⟨4096 + (t.val % 8 * 512 + s.val), hs⟩) := by
  show V m c main_v0 ((((cfgM m hO).win 2).rect t).emb (ix3 0 d s)) = _
  rw [V_v0]
  have hb := ((before_eq m c t).trans ((used_iff m c t).mp hu))
  have hc := (col_eq (tbl m) (grid0.coords t) hb).2.trans (congrArg (· + 8) (coords0 t).2)
  have he := expert_eq m c h t
  refine congrArg _ ?_
  funext a
  refine Fin.ext ((place2 m hO t (ix3 0 d s) a).trans ?_)
  rw [index_2]
  match a with
  | ⟨0, _⟩ => show (expertAt (tbl m) (grid0.coords t)).toNat * 1 + 0 = _; rw [he]; exact Nat.mul_one _
  | ⟨1, _⟩ => show 0 * 4096 + d.val = d.val; omega
  | ⟨2, _⟩ => show (colAt (tbl m) 8#32 (grid0.coords t)).toNat * 512 + s.val = 4096 + (t.val % 8 * 512 + s.val); rw [hc]; omega

/-- Window 3's block: the gate's biases. -/
theorem blk3 (c : Dev nD) (h : ∀ k, (experts m c k).toNat < 32) (t : Fin (cfgM m hO).N) (hu : usedAt m c t) (s : Fin 512)
    (hs : t.val % 8 * 512 + s.val < 8192) :
    (iblk m hO c 3 t : S1x1x512.Idx → EReal) (ix3 0 0 s)
      = m ((c : Thread nD τ).loc main_arg2) (ix2 (expert (experts m c) (tile t)) ⟨t.val % 8 * 512 + s.val, hs⟩) := by
  show (V m c main_v1 : S32x1x8192.Idx → EReal) ((((cfgM m hO).win 3).rect t).emb (ix3 0 0 s)) = _
  have hb := ((before_eq m c t).trans ((used_iff m c t).mp hu))
  have hc := (col_eq (tbl m) (grid0.coords t) hb).1.trans (coords0 t).2
  have he := expert_eq m c h t
  refine Eq.trans (congrArg _ ?_) (V_v1 m c _ _)
  funext a
  refine Fin.ext ((place3 m hO t (ix3 0 0 s) a).trans ?_)
  rw [index_3]
  match a with
  | ⟨0, _⟩ => show (expertAt (tbl m) (grid0.coords t)).toNat * 1 + 0 = _; rw [he]; exact Nat.mul_one _
  | ⟨1, _⟩ => rfl
  | ⟨2, _⟩ => show (colAt (tbl m) 0#32 (grid0.coords t)).toNat * 512 + s.val = _; rw [hc]; rfl

/-- Window 4's block: the linear part's biases. -/
theorem blk4 (c : Dev nD) (h : ∀ k, (experts m c k).toNat < 32) (t : Fin (cfgM m hO).N) (hu : usedAt m c t) (s : Fin 512)
    (hs : 4096 + (t.val % 8 * 512 + s.val) < 8192) :
    (iblk m hO c 4 t : S1x1x512.Idx → EReal) (ix3 0 0 s)
      = m ((c : Thread nD τ).loc main_arg2) (ix2 (expert (experts m c) (tile t)) ⟨4096 + (t.val % 8 * 512 + s.val), hs⟩) := by
  show (V m c main_v2 : S32x1x8192.Idx → EReal) ((((cfgM m hO).win 4).rect t).emb (ix3 0 0 s)) = _
  have hb := ((before_eq m c t).trans ((used_iff m c t).mp hu))
  have hc := (col_eq (tbl m) (grid0.coords t) hb).2.trans (congrArg (· + 8) (coords0 t).2)
  have he := expert_eq m c h t
  refine Eq.trans (congrArg _ ?_) (V_v2 m c _ _)
  funext a
  refine Fin.ext ((place4 m hO t (ix3 0 0 s) a).trans ?_)
  rw [index_4]
  match a with
  | ⟨0, _⟩ => show (expertAt (tbl m) (grid0.coords t)).toNat * 1 + 0 = _; rw [he]; exact Nat.mul_one _
  | ⟨1, _⟩ => rfl
  | ⟨2, _⟩ => show (colAt (tbl m) 8#32 (grid0.coords t)).toNat * 512 + s.val = 4096 + (t.val % 8 * 512 + s.val); rw [hc]; omega

/-- What the kernel computes from the launch memory. -/
abbrev G (c : Dev nD) : FVec Ideal S147456x4096 .bf16 :=
  gateUpAll (m ((c : Thread nD τ).loc main_arg0)) (m ((c : Thread nD τ).loc main_arg1)) (m ((c : Thread nD τ).loc main_arg2)) (experts m c) (inUse m c)

/-- Where an element of the result block at point `t` lies in the result. -/
theorem emb5 (t : Fin (cfgM m hO).N) (r s : Fin 512) (h : t.val / 8 * 512 + r.val < 147456) (h' : t.val % 8 * 512 + s.val < 4096) :
    (((cfgM m hO).win 5).rect t).emb (ix2 r s) = (ix2 ⟨t.val / 8 * 512 + r.val, h⟩ ⟨t.val % 8 * 512 + s.val, h'⟩ : S147456x4096.Idx) := by
  refine Shape.idx_ext₂ ?_ ?_
  · rw [place5 m hO t _ 0, (index5 t).1]; rfl
  · rw [place5 m hO t _ 1, (index5 t).2]; rfl

/-- A point's half of the product is the whole product's entry. -/
theorem part_eq (c : Dev nD) (t : Fin (cfgM m hO).N) (r s : Fin 512) (col : Fin 8192)
    (x1 : Vec Ideal S1x4096x512 .bf16) (x3 : Vec Ideal S1x1x512 .f32)
    (h1 : ∀ d : Fin 4096, x1 (ix3 0 d s) = m ((c : Thread nD τ).loc main_arg1) (ix3 (expert (experts m c) (tile t)) d col))
    (h3 : x3 (ix3 0 0 s) = m ((c : Thread nD τ).loc main_arg2) (ix2 (expert (experts m c) (tile t)) col)) :
    part (iblk m hO c 0 t) x1 x3 r s
      = gateUp (m ((c : Thread nD τ).loc main_arg0)) (m ((c : Thread nD τ).loc main_arg1)) (m ((c : Thread nD τ).loc main_arg2)) (experts m c) (tile t) r col := by
  have ht : t.val < 2304 := lt_of_lt_of_eq t.isLt N_2304
  unfold part gateUp
  rw [halves, h3]
  refine congrArg (· + _) (congrArg₂ _ (Finset.sum_congr rfl fun k _ => ?_) (Finset.sum_congr rfl fun k _ => ?_))
  · rw [h1]
    refine congrArg (· * _) ?_
    rw [blk0 m hO c t _ k (by show t.val / 8 * 1024 + 2 * r.val < 294912; omega)]
    unfold act
    refine congrArg _ (Shape.idx_ext₂ ?_ ?_)
    · show t.val / 8 * 1024 + 2 * r.val = ((t.val / 8 * 512 + r.val) * 4096 + k.val) / 2048; omega
    · show k.val = ((t.val / 8 * 512 + r.val) * 4096 + k.val) % 2048; omega
  · rw [h1]
    refine congrArg (· * _) ?_
    rw [blk0 m hO c t _ k (by show t.val / 8 * 1024 + (2 * r.val + 1) < 294912; omega)]
    unfold act
    refine congrArg _ (Shape.idx_ext₂ ?_ ?_)
    · show t.val / 8 * 1024 + (2 * r.val + 1) = ((t.val / 8 * 512 + r.val) * 4096 + (2048 + k.val)) / 2048; omega
    · show k.val = ((t.val / 8 * 512 + r.val) * 4096 + (2048 + k.val)) % 2048; omega

theorem zero_apply (i : S512x512.Idx) : k0_pay4 (F := Ideal) i = 0 := by
  idx_vars i
  pointwise [k0_pay4]

/-- What a point leaves is its block of the formula. -/
theorem outAt_eq (c : Dev nD) (h : ∀ k, (experts m c k).toNat < 32) (t : Fin (cfgM m hO).N) (r s : Fin 512) :
    outAt m hO c t (ix2 r s) = G m c ((((cfgM m hO).win 5).rect t).emb (ix2 r s)) := by
  have ht : t.val < 2304 := lt_of_lt_of_eq t.isLt N_2304
  rw [emb5 m hO t r s (by omega) (by omega)]
  have et : (⟨(t.val / 8 * 512 + r.val) / 512, by omega⟩ : Fin 288) = tile t := Fin.ext (by show (t.val / 8 * 512 + r.val) / 512 = t.val / 8; omega)
  have es : (⟨(t.val / 8 * 512 + r.val) % 512, by omega⟩ : Fin 512) = r := Fin.ext (by show (t.val / 8 * 512 + r.val) % 512 = r.val; omega)
  show _ = gateUpAt _ _ _ _ _ (⟨(t.val / 8 * 512 + r.val) / 512, _⟩ : Fin 288) (⟨(t.val / 8 * 512 + r.val) % 512, _⟩ : Fin 512) ⟨t.val % 8 * 512 + s.val, _⟩
  rw [et, es]
  unfold outAt gateUpAt
  by_cases hu : usedAt m c t
  · rw [if_pos hu, (used_iff m c t).mp hu]
    refine (out_apply _ _ _ _ _ r s).trans ?_
    exact congrArg₂ swiglu
      (part_eq m hO c t r s _ _ _ (fun d => blk1 m hO c h t hu d s (by omega)) (blk3 m hO c h t hu s (by omega)))
      (part_eq m hO c t r s _ _ _ (fun d => blk2 m hO c h t hu d s (by omega)) (blk4 m hO c h t hu s (by omega)))
  · rw [if_neg hu, zero_apply]
    have e : used (inUse m c) (tile t) = 0#1 := by
      have hn := mt (used_iff m c t).mpr hu
      revert hn
      generalize used (inUse m c) (tile t) = p
      revert p
      decide
    rw [e]
    rfl

/-- What point `t` writes back is its block of the formula. -/
theorem flushed_eq (c : Dev nD) (h : ∀ k, (experts m c k).toNat < 32) (t : Fin (cfgM m hO).N) :
    (dats m hO 0 c).flushed 5 t = (((cfgM m hO).win 5).blk t).view.read (Elt Ideal) (G m c) := by
  show ((cfgM m hO).win 5).cut (grid0.coords t) ((dats m hO 0 c).after 5 t) = _
  rw [after0_5]
  funext (y : S512x512.Idx)
  show outAt m hO c t y = G m c ((((cfgM m hO).win 5).rect t).emb y)
  obtain ⟨r, s, rfl⟩ : ∃ (r s : Fin 512), y = ix2 r s := ⟨y 0, y 1, eq_ix2 y⟩
  exact outAt_eq m hO c h t r s

/-- Every element of the result lies in some point's block. -/
theorem covered (i : S147456x4096.Idx) : ∃ t : Fin (cfgM m hO).N, ((cfgM m hO).win 5).flush t = true ∧ i ∈ (((cfgM m hO).win 5).blk t).view.set := by
  obtain ⟨r, s, rfl⟩ : ∃ (r : Fin 147456) (s : Fin 4096), i = ix2 r s := ⟨i 0, i 1, eq_ix2 i⟩
  have hlt : r.val / 512 * 8 + s.val / 512 < 2304 := by omega
  let t : Fin (cfgM m hO).N := ⟨r.val / 512 * 8 + s.val / 512, lt_of_lt_of_eq hlt N_2304.symm⟩
  refine ⟨t, flush0_5 (adm m hO) t, ?_⟩
  have e : (ix2 r s : S147456x4096.Idx) = (((cfgM m hO).win 5).blk t).view.emb (ix2 ⟨r.val % 512, by omega⟩ ⟨s.val % 512, by omega⟩ : S512x512.Idx) := by
    refine Eq.trans ?_ (emb5 m hO t ⟨r.val % 512, by omega⟩ ⟨s.val % 512, by omega⟩
      (by show (r.val / 512 * 8 + s.val / 512) / 8 * 512 + r.val % 512 < 147456; omega)
      (by show (r.val / 512 * 8 + s.val / 512) % 8 * 512 + s.val % 512 < 4096; omega)).symm
    refine Shape.idx_ext₂ ?_ ?_
    · show r.val = (r.val / 512 * 8 + s.val / 512) / 8 * 512 + r.val % 512; omega
    · show s.val = (r.val / 512 * 8 + s.val / 512) % 8 * 512 + s.val % 512; omega
  rw [e]
  exact View.emb_mem_set _ _

/-- The result array after the run. -/
theorem final (c : Dev nD) (h : ∀ k, (experts m c k).toNat < 32) : (dats m hO 0 c).arrAt 5 (cfgM m hO).N = G m c :=
  (dats m hO 0 c).arrAt_eq_of_cover 5 (G m c) (fun t _ => flushed_eq m hO c h t) (covered m hO)

/-- Every execution ends with the formula in the result array and the argument arrays unchanged. -/
theorem run (ρ : Dev nD → PrngReg) (h : ∀ c k, (experts m c k).toNat < 32) :
    θ_run defs (onTc (τ := τ) (main (F := Ideal))) ⟨m, fun _ => 0, ρ⟩ (fun r => (∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) := by
  have hO := ok_of_experts m h
  refine (θ_run defs _ _).mono (fun r hr c => ⟨?_, hr.2 c⟩) (θ_run_and (run_main m ρ hO) (unchanged m ρ hO))
  exact ((hr.1 c).1 5).trans (final m hO c (h c))

end Cert.GateUpIdeal.Math

end
-- ==== Proof.GateUpRefValue.lean ====
/-
  The reference of the experts' first product computes the formula of `GateUpMath.lean`: its gathers name each tile's
  expert, its batched product is the sum over the activations' row, and its selection zeroes the tiles not in use.
-/
module

public import proofs.«01_k».proof.Proof.GateUpMath
public import proofs.«01_k».proof.Proof.Gen.GateUpRefIdeal.Read

@[expose] public section

set_option maxRecDepth 16384

noncomputable section

namespace Cert.GateUpRefIdeal.Math

open Cert.GateUpRefIdeal Cert.GateUpRefIdeal.Gen Cert.GateUpRefIdeal.Read Idealize.ShloMosaic Cert.Experts

variable (x0 : FVec Ideal S294912x2048 .bf16) (x1 : FVec Ideal S32x4096x8192 .f32) (x2 : FVec Ideal S32x8192 .f32)
  (x3 : IVec S288 32) (x4 : IVec S1 32)

/-- An array of one element has one index. -/
theorem one_idx (i j : S1.Idx) : i = j := by
  funext a
  match a with
  | ⟨0, _⟩ => exact Subsingleton.elim (α := Fin 1) _ _

/-- The position a gather is given for tile `t`. -/
theorem pos_w (t : Fin 288) : val_main_v7 (F := Ideal) x3 (ix2 t 0) = Scalar.select (IntOp.cmpi .slt (x3 (ix1 t)) 0#32) (IntOp.addi (x3 (ix1 t)) 32#32) (x3 (ix1 t)) := by
  have e : idx_main_v7 (ix2 t 0) = ix1 t := by idx_ext
  rw [val_main_v7_apply, e]; rfl

theorem pos_b (t : Fin 288) : val_main_v15 (F := Ideal) x3 (ix2 t 0) = Scalar.select (IntOp.cmpi .slt (x3 (ix1 t)) 0#32) (IntOp.addi (x3 (ix1 t)) 32#32) (x3 (ix1 t)) := by
  have e : idx_main_v15 (ix2 t 0) = ix1 t := by idx_ext
  rw [val_main_v15_apply, e]; rfl

/-- With every expert one of the thirty-two, the gathered weights of tile `t` are its expert's. -/
theorem weights (h : ∀ k, (x3 k).toNat < 32) (t : Fin 288) (d : Fin 4096) (c : Fin 8192) :
    val_main_v8 (F := Ideal) x1 x3 (ix3 t d c) = x1 (ix3 (expert x3 t) d c) := by
  have e := gather_take3 (N := 32) (by decide) gather_S32x4096x8192_S288x1_S288x4096x8192_12_0_n_n_0_1_140968192_wf x1
    (val_main_v7 (F := Ideal) x3) t d c
  refine (show val_main_v8 (F := Ideal) x1 x3 (ix3 t d c) = _ from e).trans ?_
  refine congrArg (fun z => x1 (ix3 z d c)) (Fin.ext ?_)
  show min (val_main_v7 (F := Ideal) x3 (ix2 t 0)).toInt.toNat (32 - 1) = min (x3 (ix1 t)).toNat 31
  have h' := h (ix1 t)
  rw [pos_w, wrap_clamp _ h']
  omega

/-- And the gathered biases. -/
theorem biases (h : ∀ k, (x3 k).toNat < 32) (t : Fin 288) (c : Fin 8192) :
    val_main_v16 (F := Ideal) x2 x3 (ix2 t c) = x2 (ix2 (expert x3 t) c) := by
  have e := gather_take2 (N := 32) (by decide) gather_S32x8192_S288x1_S288x8192_1_0_n_n_0_1_18192_wf x2
    (val_main_v15 (F := Ideal) x3) t c
  refine (show val_main_v16 (F := Ideal) x2 x3 (ix2 t c) = _ from e).trans ?_
  refine congrArg (fun z => x2 (ix2 z c)) (Fin.ext ?_)
  show min (val_main_v15 (F := Ideal) x3 (ix2 t 0)).toInt.toNat (32 - 1) = min (x3 (ix1 t)).toNat 31
  have h' := h (ix1 t)
  rw [pos_b, wrap_clamp _ h']
  omega

/-- The product with its bias. -/
theorem product (h : ∀ k, (x3 k).toNat < 32) (t : Fin 288) (s : Fin 512) (c : Fin 8192) :
    val_main_v19 (F := Ideal) x0 x1 x2 x3 (ix3 t s c) = gateUp x0 x1 x2 x3 t s c := by
  have eb : idx_main_v17 (idx_main_v18 (ix3 t s c)) = ix2 t c := by idx_ext
  rw [val_main_v19_apply, val_main_v9_apply, val_main_v18_apply, val_main_v17_apply, eb, biases x2 x3 h]
  refine congrArg (· + x2 (ix2 (expert x3 t) c)) (Finset.sum_congr rfl fun k _ => ?_)
  have el : lidx_main_v9 (ix3 t s c) k = ix3 t s k := by idx_ext
  have er : ridx_main_v9 (ix3 t s c) k = ix3 t k c := by idx_ext
  rw [el, er, weights x1 x3 h, val_main_v1_apply]
  refine congrArg (· * x1 (ix3 (expert x3 t) k c)) ?_
  have ei : idx_main_v1 (ix3 t s k) = ix2 ⟨((t.val * 512 + s.val) * 4096 + k.val) / 2048, by omega⟩ ⟨((t.val * 512 + s.val) * 4096 + k.val) % 2048, by omega⟩ := by
    idx_ext
  rw [ei]; rfl

/-- The gated unit, from the product's two halves. -/
theorem unit (t : Fin 288) (s : Fin 512) (f : Fin 4096) :
    val_main_v41 (F := Ideal) x0 x1 x2 x3 (ix3 t s f)
      = swiglu (val_main_v19 (F := Ideal) x0 x1 x2 x3 (ix3 t s ⟨f.val, by omega⟩)) (val_main_v19 (F := Ideal) x0 x1 x2 x3 (ix3 t s ⟨4096 + f.val, by omega⟩)) := by
  unfold val_main_v41 val_main_v40 val_main_v38 val_main_v37 val_main_v36 val_main_v35 val_main_v34 val_main_v33 val_main_v32 val_main_v31
    val_main_v30 val_main_v29 val_main_v39 val_main_call0_v4 val_main_call0_v3 val_main_call0_v2 val_main_call0_v1 val_main_call0_v0 val_main_v28 val_main_v27
    val_main_v26 val_main_v25 val_main_cst val_main_cst_3 val_main_cst_4 val_main_cst_5 val_main_cst_6 val_main_cst_7 val_main_cst_8 swiglu
  generalize val_main_v19 (F := Ideal) x0 x1 x2 x3 = y
  pointwise
  rfl

theorem result (h : ∀ k, (x3 k).toNat < 32) : val_main_v44 (F := Ideal) x0 x1 x2 x3 x4 = gateUpAll x0 x1 x2 x3 x4 := by
  funext i
  obtain ⟨R, f, rfl⟩ : ∃ (R : Fin 147456) (f : Fin 4096), i = ix2 R f := ⟨i 0, i 1, eq_ix2 i⟩
  have ei : idx_main_v44 (ix2 R f) = ix3 ⟨R.val / 512, by omega⟩ ⟨R.val % 512, by omega⟩ f := by
    funext a
    match a with
    | ⟨0, _⟩ => refine Fin.ext ?_; show (R.val * 4096 + f.val) / 2097152 = R.val / 512; omega
    | ⟨1, _⟩ => refine Fin.ext ?_; show (R.val * 4096 + f.val) / 4096 % 512 = R.val % 512; omega
    | ⟨2, _⟩ => refine Fin.ext ?_; show (R.val * 4096 + f.val) % 4096 = f.val; omega
  rw [val_main_v44_apply, ei, val_main_v43_apply, val_main_v42_apply, unit, product x0 x1 x2 x3 h, product x0 x1 x2 x3 h]
  rw [val_main_call1_v1_apply, val_main_v24_apply]
  show Scalar.select _ _ _ = Scalar.select _ _ _
  congr 1
  · rw [val_main_v23_apply, val_main_v22_apply]
    refine congrArg (IntOp.cmpi .slt _) ?_
    exact congrArg x4 (one_idx _ _)
  · unfold val_main_call1_v2 val_main_call1_v0 val_main_cst_9
    show constant (F := Ideal) S_ .f32 0x00000000#32 ix0 = 0
    pointwise

end Cert.GateUpRefIdeal.Math

end
-- ==== Proof.GateUpClaims.lean ====
/-
  The claims about the experts' first product: the frames, the rewrites of the packed words, and that the ideal reading's result is the
  reference's.
-/
module

public import proofs.«01_k».proof.Defs
public import proofs.«01_k».proof.Proof.GateUpOk
public import proofs.«01_k».proof.Proof.GateUpIdealValue
public import proofs.«01_k».proof.Proof.GateUpRefValue
public import proofs.«01_k».proof.Proof.Gen.GateUpRefIdeal.Run
public import Idealize.ShloMosaic.Lib.Bf16Pair

@[expose] public section

noncomputable section

namespace Cert.Proof

open Idealize.ShloMosaic Idealize.SL.Sem

/-- The precondition's one side condition. -/
theorem gate_up_facts : Cert.Pre_experts_in_range.Facts := ⟨by decide⟩

theorem frame_GateUp (hp : Cert.Pre_experts_in_range.Facts) : Cert.quiescent_GateUp := fun m ρ h =>
  Cert.GateUp.Gen.frame m ρ (Cert.GateUp.Gen.ok_of_experts m fun c k => Cert.GateUp.Gen.experts_lt _ (h c) k)

/-- The precondition bounds every tile's expert. -/
theorem gate_up_lt [Cert.Pre_experts_in_range.Facts] {m} (h : Cert.Pre_GateUpIdeal m) (c) (k) : (Cert.GateUpIdeal.Gen.experts m c k).toNat < 32 :=
  Cert.GateUpIdeal.Gen.experts_lt _ (h c) k

theorem frame_GateUpIdeal (hp : Cert.Pre_experts_in_range.Facts) : Cert.quiescent_GateUpIdeal := fun m ρ h =>
  Cert.GateUpIdeal.Gen.frame m ρ (Cert.GateUpIdeal.Gen.ok_of_experts m (gate_up_lt h))

theorem frame_GateUpRefIdeal : Cert.quiescent_GateUpRefIdeal := fun m g _ =>
  (θ_run _ _ _).mono (fun r h => ⟨fun c => (h c).2, sem_eq_zero_of_no_sems (by decide) r.2⟩) (GateUpRefIdeal.Value.run (F := Ideal) m g)

theorem frame_GateUpRefIdeal_pre (hp : Cert.Pre_experts_in_range.Facts) : Cert.quiescent_GateUpRefIdeal_pre_experts_in_range := fun m g _ =>
  frame_GateUpRefIdeal m g trivial

theorem preserves_GateUp : Cert.preserves_GateUp_GateUpIdeal :=
  IdealRules.bf16_pair.statement _ _ (by decide)

theorem algebraic_GateUp (hp : Cert.Pre_experts_in_range.Facts) : Cert.algebraic_GateUpIdeal_GateUpRefIdeal := by
  intro m g m' g' hpre hag
  refine ⟨fun c => GateUpIdeal.Math.G m c, GateUpIdeal.Math.run m g (gate_up_lt hpre), ?_⟩
  refine (θ_run _ _ _).mono (fun r h c => ⟨(h c).1.trans ?_, (h c).2⟩) (GateUpRefIdeal.Value.run (F := Ideal) m' g')
  obtain ⟨h0, h1, h2, h3, h4⟩ := hag c
  rw [GateUpRefIdeal.Read.val_main_v44_eq, h0, h1, h2, h3, h4]
  exact GateUpRefIdeal.Math.result _ _ _ _ _ (gate_up_lt hpre c)

end Cert.Proof

end
-- ==== Proof.DownMath.lean ====
/-
  The experts' second product as one formula. A tile before the number of tiles in use gives every row its activations
  times its expert's weights plus the biases; a tile past it gives zeros. A result row is kept as two rows of half the
  length: row `2 R` holds its first half and row `2 R + 1` its second.
-/
module

public import proofs.«01_k».proof.Proof.GateUpMath

@[expose] public section

noncomputable section

namespace Cert.Experts

open Idealize.ShloMosaic

/-- Row `s` of tile `t` times column `d` of its expert's weights, plus the bias. -/
def down (a : (⟨2, ![147456, 4096]⟩ : Shape).Idx → EReal) (w : (⟨3, ![32, 4096, 4096]⟩ : Shape).Idx → EReal)
    (b : (⟨2, ![32, 4096]⟩ : Shape).Idx → EReal) (te : IVec ⟨1, ![288]⟩ 32) (t : Fin 288) (s : Fin 512) (d : Fin 4096) : EReal :=
  (∑ f : Fin 4096, a (ix2 ⟨t.val * 512 + s.val, by omega⟩ f) * w (ix3 (expert te t) f d)) + b (ix2 (expert te t) d)

/-- Entry `d` of row `s` of tile `t` of the result. -/
def downAt (a : (⟨2, ![147456, 4096]⟩ : Shape).Idx → EReal) (w : (⟨3, ![32, 4096, 4096]⟩ : Shape).Idx → EReal)
    (b : (⟨2, ![32, 4096]⟩ : Shape).Idx → EReal) (te : IVec ⟨1, ![288]⟩ 32) (nu : IVec ⟨1, ![1]⟩ 32) (t : Fin 288) (s : Fin 512)
    (d : Fin 4096) : EReal :=
  Scalar.select (used nu t) (down a w b te t s d) 0

/-- The result. -/
def downAll (a : (⟨2, ![147456, 4096]⟩ : Shape).Idx → EReal) (w : (⟨3, ![32, 4096, 4096]⟩ : Shape).Idx → EReal)
    (b : (⟨2, ![32, 4096]⟩ : Shape).Idx → EReal) (te : IVec ⟨1, ![288]⟩ 32) (nu : IVec ⟨1, ![1]⟩ 32) :
    (⟨2, ![294912, 2048]⟩ : Shape).Idx → EReal :=
  fun i => downAt a w b te nu ⟨(i 0).val / 1024, by have h : (i 0).val < 294912 := (i 0).isLt; omega⟩
    ⟨(i 0).val / 2 % 512, by omega⟩
    ⟨(i 0).val % 2 * 2048 + (i 1).val, by have h : (i 1).val < 2048 := (i 1).isLt; omega⟩

/-- The result at row `2 R` or `2 R + 1`, which half being told by the column of the whole row. -/
theorem downAll_apply (a : (⟨2, ![147456, 4096]⟩ : Shape).Idx → EReal) (w : (⟨3, ![32, 4096, 4096]⟩ : Shape).Idx → EReal)
    (b : (⟨2, ![32, 4096]⟩ : Shape).Idx → EReal) (te : IVec ⟨1, ![288]⟩ 32) (nu : IVec ⟨1, ![1]⟩ 32) (t : Fin 288) (s : Fin 512)
    (d : Fin 4096) (i : Fin 294912) (j : Fin 2048) (hi : i.val = t.val * 1024 + 2 * s.val + d.val / 2048) (hj : j.val = d.val % 2048) :
    downAll a w b te nu (ix2 i j) = downAt a w b te nu t s d := by
  show downAt a w b te nu ⟨i.val / 1024, _⟩ ⟨i.val / 2 % 512, _⟩ ⟨i.val % 2 * 2048 + j.val, _⟩ = _
  congr 1
  · exact Fin.ext (by show i.val / 1024 = t.val; omega)
  · exact Fin.ext (by show i.val / 2 % 512 = s.val; omega)
  · exact Fin.ext (by show i.val % 2 * 2048 + j.val = d.val; omega)

end Cert.Experts

end
-- ==== Proof.DownIdealKit.lean ====
/-
  The launch set-up of the expert down product (program `DownIdeal`): at which points each window is fetched and written
  back, the body as the pipeline calls it, the arrays' contents when the call is entered, the two
  prefetched tables (the expert of each tile, the number of tiles in use) read off the launch memory,
  each window's block at a point, and the frame claim's post from a run of the pipeline.
-/
module

public import proofs.«01_k».proof.Proof.Gen.DownIdeal
public import proofs.«01_k».proof.Proof.Gen.DownIdeal.Launch
public import proofs.«01_k».proof.Proof.Gen.DownIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The schedule -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at the points ≡ 0 (mod 4), at any contents of the tables (its index map reads none). -/
theorem fetch0_0 (a : (pcfg0 (F := F)).Adm) : ∀ t : Fin (cfg0 a).N, ((cfg0 a).win 0).fetch t = true ↔ t.val % 4 = 0 :=
  (fun t => Pipeline.Window.fetchOf_reads cc0_transform_0 reads0_0 hreads0_0 0 (by decide) (by decide) (Pipeline.Window.sep_of_coord cc0_transform_0 0 0 (fun _ => rfl) (by decide)) (P := 4) (by decide) t : ∀ t : Fin grid0.N, Pipeline.Window.fetchOf grid0 false cc0_transform_0 t = true ↔ t.val % 4 = 0)
/-- Window 5 (result 0 (%3)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_down (grid0.coords t) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (`ok0`). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg3
abbrev htbM0_0 : tbM0_0.IsWhole := Memref.isWhole_whole _
abbrev tbM0_1 : Memref sig .tc .smem S1 .i32 := Memref.whole main_arg4
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DownIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

end Cert.DownIdeal.Gen

end
-- ==== Proof.DownIdealBody.lean ====
/-
  One grid point of the expert down projection (program `DownIdeal`): the body run in its two cases. A tile
  not in use gets zeros; a tile in use is multiplied by its expert's two column blocks, which the body
  stores packed in pairs.
-/
module

public import proofs.«01_k».proof.Proof.DownIdealKit
public import Idealize.ShloMosaic.Lib.Pipeline.Value

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body reads and leaves -/

/-- The number of tiles in use, as the body reads it from the second table. -/
def nuOf (c : Dev nD) (T1 : TbBuf0 (F := F) c tbM0_1) : BitVec 32 :=
  tbM0_1.view.readAt (Elt F) (Rect.unit (s := S1) ![0] S1.size inb_S1_S1_0).toLoadRect T1
    (Shape.Idx.first (numel1_S1.symm ▸ Nat.one_pos))

theorem zero2 : (![0, 0] : Fin 2 → Nat) = fun _ => 0 := by funext a; fin_cases a <;> rfl
theorem zero3 : (![0, 0, 0] : Fin 3 → Nat) = fun _ => 0 := by funext a; fin_cases a <;> rfl

abbrev rA : Rect S512x4096 := Rect.unit (s := S512x4096) ![0, 0] S512x4096.size inb_S512x4096_S512x4096_0_0
abbrev rW : Rect S1x4096x512 := Rect.unit (s := S1x4096x512) ![0, 0, 0] S1x4096x512.size inb_S1x4096x512_S1x4096x512_0_0_0
abbrev rB : Rect S1x1x512 := Rect.unit (s := S1x1x512) ![0, 0, 0] S1x1x512.size inb_S1x1x512_S1x1x512_0_0_0

/-- A store through the whole block leaves what it stores. -/
theorem read_stored {S : Shape} {e : EltTy} (M : Memref sig .tc .vmem S e) (f : M.view.ty.Contents (Elt F)) (off : Fin S.rank → Nat)
    (h : off = fun _ => 0) (inb : ∀ a, off a + S.size a ≤ S.size a) (w : Vec F S e) :
    M.view.read (Elt F) (M.view.writes (Elt F) f [(⟨Rect.unit off S.size inb, w⟩ : View.Piece (Elt F) S e)]) = w := by
  subst h
  exact (View.read_writes_eq_canon _ _ _ (fun y => ⟨_, List.mem_singleton.2 rfl, View.mem_set_unit_zero rfl inb y⟩)).trans (View.canon_unit_zero rfl inb w)

/-! ## The body's triple, case by case -/

set_option maxHeartbeats 2000000 in
/-- A tile not in use: the body stores zeros. -/
theorem run_idle (c : Dev nD) (E : Set ℕ) (i : grid0.Coords) (arg4 : Memref sig .tc .vmem S512x4096 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1024x512 .bf16) (harg9 : arg9.IsWhole)
    (T1 : TbBuf0 (F := F) c tbM0_1) (K : PUnit → sProp 𝕄)
    (h1 : ¬ k0_cond1 i (nuOf c T1) = 1#1) (h2 : k0_cond2 i (nuOf c T1) = 1#1) :
    iprop((∃ d, owns (c : Thread nD τ) arg9 fullShare d) ∗ tbPt0 c tbM0_1 T1
        ∗ (iprop(owns (c : Thread nD τ) arg9 fullShare (k0_pay2 (F := F)) ∗ tbPt0 c tbM0_1 T1) -∗ K ⟨⟩))
      ⊢ wp frame (wpE (defs₀ (F := F)) Variants.none c none) E (cc0_expert_down i tbM0_0 htbM0_0 tbM0_1 htbM0_1 arg4 harg4 arg5 harg5 arg6 harg6 arg7 harg7 arg8 harg8 arg9 harg9) K := by
  simp only [cc0_expert_down_eq_skeleton]; unfold cc0_expert_down_skel
  unfold owns
  iintro ⟨⟨%d5, %f5, -, H5⟩, HT, Hk⟩
  sl_exec (disch := first | exact h1 | exact h2)
  sl_step
  iapply Hk
  isplitl [H5]
  · iexists _; isplitr
    swap; · iexact H5
    ipureintro
    exact read_stored arg9 f5 _ zero2 _ _
  iexact HT

set_option maxHeartbeats 4000000 in
/-- A tile in use: the body stores the two products, packed. -/
theorem run_used (c : Dev nD) (E : Set ℕ) (i : grid0.Coords) (arg4 : Memref sig .tc .vmem S512x4096 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1024x512 .bf16) (harg9 : arg9.IsWhole)
    (x0 : Vec F S512x4096 .bf16) (x1 x2 : Vec F S1x4096x512 .bf16) (x3 x4 : Vec F S1x1x512 .f32)
    (T1 : TbBuf0 (F := F) c tbM0_1) (K : PUnit → sProp 𝕄)
    (h1 : k0_cond1 i (nuOf c T1) = 1#1) (h2 : ¬ k0_cond2 i (nuOf c T1) = 1#1) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ (∃ d, owns (c : Thread nD τ) arg9 fullShare d)
        ∗ tbPt0 c tbM0_1 T1
        ∗ (iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4
        ∗ owns (c : Thread nD τ) arg9 fullShare (k0_pay1 x0 x1 x3 x2 x4)
        ∗ tbPt0 c tbM0_1 T1) -∗ K ⟨⟩))
      ⊢ wp frame (wpE (defs₀ (F := F)) Variants.none c none) E (cc0_expert_down i tbM0_0 htbM0_0 tbM0_1 htbM0_1 arg4 harg4 arg5 harg5 arg6 harg6 arg7 harg7 arg8 harg8 arg9 harg9) K := by
  simp only [cc0_expert_down_eq_skeleton]; unfold cc0_expert_down_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT, Hk⟩
  subst hf0 hf1 hf2 hf3 hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_stored arg9 f5 _ zero2 _ _).trans ?_
    show k0_pay1 (View.ld _ rA) (View.ld _ rW) (View.ld _ rB) (View.ld _ rW) (View.ld _ rB) = _
    rw [View.ld_unit_zero zero2, View.ld_unit_zero zero3, View.ld_unit_zero zero3, View.ld_unit_zero zero3, View.ld_unit_zero zero3]
  iexact HT

end Cert.DownIdeal.Gen

end
-- ==== Proof.DownIdealFrame.lean ====
/-
  The run of the expert down projection (program `DownIdeal`), point by point: what every point leaves in its
  output block, the body obligation, the launch, and the frame claim.
-/
module

public import proofs.«01_k».proof.Proof.DownIdealBody
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point -/

theorem conds_of : ∀ p : BitVec 1,
    (¬ Scalar.cmpi .ne (Scalar.extui p : BitVec 32) 0#32 = 1#1 ∧ Scalar.cmpi .ne (Scalar.extui (Scalar.xori p 1#1) : BitVec 32) 0#32 = 1#1)
    ∨ (Scalar.cmpi .ne (Scalar.extui p : BitVec 32) 0#32 = 1#1 ∧ ¬ Scalar.cmpi .ne (Scalar.extui (Scalar.xori p 1#1) : BitVec 32) 0#32 = 1#1) := by
  decide

/-- The two conditions of the body are complementary. -/
theorem conds (i : grid0.Coords) (v0 : BitVec 32) :
    (¬ k0_cond1 i v0 = 1#1 ∧ k0_cond2 i v0 = 1#1) ∨ (k0_cond1 i v0 = 1#1 ∧ ¬ k0_cond2 i v0 = 1#1) := by
  unfold k0_cond1 k0_cond2
  exact conds_of _

/-! ## What a point leaves -/

/-- The tile of point `t` is in use. -/
abbrev usedAt (c : Dev nD) (t : Fin grid0.N) : Prop := k0_cond1 (grid0.coords t) (nuOf (F := F) c (tbl m 1)) = 1#1

/-- The output block at point `t`. -/
def outAt (hO : Ok m) (c : Dev nD) (t : Fin (cfgM m hO).N) : Vec F S1024x512 .bf16 :=
  if usedAt m c t then k0_pay1 (iblk m hO c 0 t) (iblk m hO c 1 t) (iblk m hO c 3 t) (iblk m hO c 2 t) (iblk m hO c 4 t)
  else k0_pay2

/-! ## The proof data -/

/-- The invariant between points: the generator register at anything, the tables. -/
def inv (c : Dev nD) : sProp 𝕄 := iprop((∃ r, prngReg c r) ∗ tbPt0 c tbM0_0 (tbl m 0) ∗ tbPt0 c tbM0_1 (tbl m 1))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := inv m c
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0_0 (adm m hO) t) fullShare ((dats m hO 0 c).before 0 t d))
    ∗ (∃ d, owns (c : Thread nD τ) (st0_1 (adm m hO) t) fullShare ((dats m hO 0 c).before 1 t d))
    ∗ (∃ d, owns (c : Thread nD τ) (st0_2 (adm m hO) t) fullShare ((dats m hO 0 c).before 2 t d))
    ∗ (∃ d, owns (c : Thread nD τ) (st0_3 (adm m hO) t) fullShare ((dats m hO 0 c).before 3 t d))
    ∗ (∃ d, owns (c : Thread nD τ) (st0_4 (adm m hO) t) fullShare ((dats m hO 0 c).before 4 t d))
    ∗ (∃ d, owns (c : Thread nD τ) (st0_5 (adm m hO) t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0_0 (adm m hO) t) fullShare ((dats m hO 0 c).after 0 t)
    ∗ owns (c : Thread nD τ) (st0_1 (adm m hO) t) fullShare ((dats m hO 0 c).after 1 t)
    ∗ owns (c : Thread nD τ) (st0_2 (adm m hO) t) fullShare ((dats m hO 0 c).after 2 t)
    ∗ owns (c : Thread nD τ) (st0_3 (adm m hO) t) fullShare ((dats m hO 0 c).after 3 t)
    ∗ owns (c : Thread nD τ) (st0_4 (adm m hO) t) fullShare ((dats m hO 0 c).after 4 t)
    ∗ owns (c : Thread nD τ) (st0_5 (adm m hO) t) fullShare ((dats m hO 0 c).after 5 t))

set_option maxHeartbeats 1000000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5,
    show (dats m hO 0 c).Φ t.castSucc = inv m c from rfl, show (dats m hO 0 c).Φ t.succ = inv m c from rfl]
  unfold inv
  iintro ⟨⟨Hg, T0, T1⟩, Ho, ⟨%d0, H0⟩, ⟨%d1, H1⟩, ⟨%d2, H2⟩, ⟨%d3, H3⟩, ⟨%d4, H4⟩, ⟨%d5, H5⟩⟩
  rcases conds (grid0.coords t) (nuOf c (tbl m 1)) with ⟨h1, h2⟩ | ⟨h1, h2⟩
  · rw [show outAt m hO c t = k0_pay2 from if_neg h1]
    iapply (run_idle c Set.univ (grid0.coords t) _ _ _ _ _ _ _ _ _ _ _ _ (tbl m 1) _ h1 h2)
    isplitl [H5]; · iexists _; iexact H5
    isplitl [T1]; · iexact T1
    iintro ⟨H5, T1⟩
    isplitl [Hg T0 T1]
    · isplitl [Hg]; · iexact Hg
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    iexact H5
  · rw [show outAt m hO c t = k0_pay1 (iblk m hO c 0 t) (iblk m hO c 1 t) (iblk m hO c 3 t) (iblk m hO c 2 t) (iblk m hO c 4 t) from if_pos h1]
    iapply (run_used c Set.univ (grid0.coords t) _ _ _ _ _ _ _ _ _ _ _ _ (iblk m hO c 0 t) (iblk m hO c 1 t) (iblk m hO c 2 t) (iblk m hO c 3 t) (iblk m hO c 4 t)
      (tbl m 1) _ h1 h2)
    isplitl [H0]; · iexact H0
    isplitl [H1]; · iexact H1
    isplitl [H2]; · iexact H2
    isplitl [H3]; · iexact H3
    isplitl [H4]; · iexact H4
    isplitl [H5]; · iexists _; iexact H5
    isplitl [T1]; · iexact T1
    iintro ⟨H0, H1, H2, H3, H4, H5, T1⟩
    isplitl [Hg T0 T1]
    · isplitl [Hg]; · iexact Hg
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What a point leaves in the output's buffer, as the obligation spells it: the block, whichever case holds. -/
theorem leaves5 (hO : Ok m) (c : Dev nD) (t : Fin (cfgM m hO).N) :
    (owns (c : Thread nD τ) (st0_5 (adm m hO) t) fullShare ((dats m hO 0 c).after 5 t) : sProp 𝕄) ⊢ (dats m hO 0 c).leavesExact 5 t := by
  unfold Dat.leavesExact
  rw [flush0_5 (adm m hO) t]
  cases (cfgM m hO).idle 5 ((cfgM m hO).grid.coords t) <;> exact .rfl

set_option maxHeartbeats 2000000 in
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  exact sep_mono .rfl (sep_mono .rfl (sep_mono .rfl (sep_mono .rfl (sep_mono .rfl (sep_mono .rfl (sep_mono .rfl (leaves5 m hO c t)))))))

/-! ## The run and the frame -/

/-- What the loop borrows beside its windows: the generator register at anything. -/
theorem PhiA0_eq (c : Dev nD) : (Pipeline.ΦA spec0 c : sProp 𝕄) = iprop(emp ∗ (∃ r, prngReg c r)) := by
  unfold Pipeline.ΦA; rw [scopedRest0_eq]; try rfl

theorem phi_in (hO : Ok m) (c : Dev nD) :
    iprop(Pipeline.ΦA spec0 c ∗ Pipeline.ΦT pre0 (tbl m) c : sProp 𝕄) ⊢ (dats m hO 0 c).Φ 0 := by
  rw [show (dats m hO 0 c).Φ 0 = inv m c from rfl, PhiT0_eq, PhiA0_eq]
  unfold inv
  iintro ⟨⟨-, Hg⟩, T0, T1⟩
  isplitl [Hg]; · iexact Hg
  isplitl [T0]; · iexact T0
  iexact T1

theorem phi_out (hO : Ok m) (c : Dev nD) :
    (dats m hO 0 c).Φ (Fin.last (cfgM m hO).N) ⊢ (Pipeline.ΦA spec0 c : sProp 𝕄) := by
  rw [show (dats m hO 0 c).Φ (Fin.last (cfgM m hO).N) = inv m c from rfl, PhiA0_eq]
  unfold inv
  iintro ⟨Hg, -⟩
  isplitr; · exact .rfl
  iexact Hg

set_option backward.isDefEq.respectTransparency.types false in
set_option maxHeartbeats 800000 in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := phi_in m hO) (hout := phi_out m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- Every execution from memory `m` ends, with the argument arrays unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.DownIdeal.Gen

end
-- ==== Proof.DownIdealOk.lean ====
/-
  The blocks the down product (program `DownIdeal`) names through its tables lie inside their arrays when
  every tile's expert is one of the thirty-two: the index maps in closed form, and the side condition of the call.
-/
module

public import proofs.«01_k».proof.Proof.ExpertWords
public import proofs.«01_k».proof.Proof.DownIdealFrame
public import proofs.«01_k».proof.Pre_experts_in_range_down

@[expose] public section

set_option maxRecDepth 16384

noncomputable section

namespace Cert.DownIdeal.Gen

open Idealize.ShloMosaic Idealize.ShloMosaic.TcCoe Idealize.ShloMosaic.Tactic

variable {F : FTy → Type} [FloatOps F]

/-- The word the index maps read of the expert table at a point: its tile's expert. -/
abbrev expertAt (pf : pre0.Contents (Elt F)) (i : grid0.Coords) : BitVec 32 :=
  pf.at 0 (Rect.unit (s := S288) ![(Scalar.indexCast (BitVec.ofNat 32 (i 0).val)).toNat] S1.size (k0_off1_inb i)) numel1_S1

/-- Whether a point's tile comes before the number of tiles in use. -/
abbrev before (pf : pre0.Contents (Elt F)) (i : grid0.Coords) : BitVec 1 :=
  Scalar.cmpi .slt (BitVec.ofNat 32 (i 0).val) (pf.at 1 (Rect.unit (s := S1) ![0] S1.size inb_S1_S1_0) numel1_S1)

/-- The column block a point names through the tables, `off` blocks on. -/
abbrev colAt (pf : pre0.Contents (Elt F)) (off : BitVec 32) (i : grid0.Coords) : BitVec 32 :=
  Scalar.addi off (Scalar.select (before pf i) (BitVec.ofNat 32 (i 1).val) 3#32)

theorem index_1 (pf : pre0.Contents (Elt F)) (i : grid0.Coords) :
    cc0_transform_1 inb_S1_S1_0 numel1_S1 k0_off1_inb pf i = ![(expertAt pf i).toNat, 0, (colAt pf 0#32 i).toNat] := rfl
theorem index_2 (pf : pre0.Contents (Elt F)) (i : grid0.Coords) :
    cc0_transform_2 inb_S1_S1_0 numel1_S1 k0_off1_inb pf i = ![(expertAt pf i).toNat, 0, (colAt pf 4#32 i).toNat] := rfl
theorem index_3 (pf : pre0.Contents (Elt F)) (i : grid0.Coords) :
    cc0_transform_3 inb_S1_S1_0 numel1_S1 k0_off1_inb pf i = ![(expertAt pf i).toNat, 0, (colAt pf 0#32 i).toNat] := rfl
theorem index_4 (pf : pre0.Contents (Elt F)) (i : grid0.Coords) :
    cc0_transform_4 inb_S1_S1_0 numel1_S1 k0_off1_inb pf i = ![(expertAt pf i).toNat, 0, (colAt pf 4#32 i).toNat] := rfl

theorem col_lt (pf : pre0.Contents (Elt F)) (i : grid0.Coords) : (colAt pf 0#32 i).toNat < 4 ∧ (colAt pf 4#32 i).toNat < 8 :=
  ⟨(Cert.Experts.sel4 (before pf i) ⟨(i 1).val, (i 1).isLt⟩).1, (Cert.Experts.sel4 (before pf i) ⟨(i 1).val, (i 1).isLt⟩).2.1⟩

/-- In a tile in use the column block is the point's own. -/
theorem col_eq (pf : pre0.Contents (Elt F)) (i : grid0.Coords) (h : before pf i = 1#1) :
    (colAt pf 0#32 i).toNat = (i 1).val ∧ (colAt pf 4#32 i).toNat = (i 1).val + 4 :=
  (Cert.Experts.sel4 (before pf i) ⟨(i 1).val, (i 1).isLt⟩).2.2 h

/-- A block of the weights, named by an expert below 32 and a column block below 8, lies inside the array. -/
theorem inb_w (e k : Nat) (he : e < 32) (hk : k < 8) : ∀ a, ((![e, 0, k] : Fin 3 → Nat) a + 1) * S1x4096x512.size a ≤ S32x4096x4096.size a := by
  intro a
  match a with
  | ⟨0, _⟩ => show (e + 1) * 1 ≤ 32; omega
  | ⟨1, _⟩ => show (0 + 1) * 4096 ≤ 4096; omega
  | ⟨2, _⟩ => show (k + 1) * 512 ≤ 4096; omega

/-- The same of a block of the biases. -/
theorem inb_b (e k : Nat) (he : e < 32) (hk : k < 8) : ∀ a, ((![e, 0, k] : Fin 3 → Nat) a + 1) * S1x1x512.size a ≤ S32x1x4096.size a := by
  intro a
  match a with
  | ⟨0, _⟩ => show (e + 1) * 1 ≤ 32; omega
  | ⟨1, _⟩ => show (0 + 1) * 1 ≤ 1; omega
  | ⟨2, _⟩ => show (k + 1) * 512 ≤ 4096; omega

/-- The side condition of the tables' contents, from experts below 32. -/
theorem ok_of (pf : pre0.Contents (Elt F)) (h : ∀ i, (expertAt pf i).toNat < 32) : ok0 pf :=
  ⟨fun i => ⟨inb_w _ _ (h i) ((col_lt pf i).1.trans (by decide)), .inr (Affine.block_words_dvd (by decide) (by decide))⟩,
   fun i => ⟨inb_w _ _ (h i) (col_lt pf i).2, .inr (Affine.block_words_dvd (by decide) (by decide))⟩,
   fun i => ⟨inb_b _ _ (h i) ((col_lt pf i).1.trans (by decide)), .inl rfl⟩,
   fun i => ⟨inb_b _ _ (h i) (col_lt pf i).2, .inl rfl⟩⟩

variable (m : (ℓ : Loc nD τ sig) → Buf (Elt F) ℓ)

/-- The expert table of the launch memory. -/
abbrev experts (c : Dev nD) : Vec F S288 .i32 := m ((c : Thread nD τ).loc main_arg3)

theorem tbl_zero (c : Dev nD) : tbl m 0 = experts m c := by
  obtain rfl : c = 0 := Subsingleton.elim _ _
  exact V_main_arg3 m 0

/-- The number of tiles in use, of the launch memory. -/
abbrev inUse (c : Dev nD) : Vec F S1 .i32 := m ((c : Thread nD τ).loc main_arg4)

theorem tbl_one (c : Dev nD) : tbl m 1 = inUse m c := by
  obtain rfl : c = 0 := Subsingleton.elim _ _
  exact V_main_arg4 m 0

/-- The precondition, entry by entry. -/
theorem experts_lt [Cert.Pre_experts_in_range_down.Facts] {x0 x1 x2 x4} (t : Vec F S288 .i32)
    (h : Cert.Pre_experts_in_range_down.fn (F := F) x0 x1 x2 t x4 = fun _ => 1#1) (k : S288.Idx) : (t k).toNat < 32 :=
  Cert.Experts.toNat_lt_of_range _ (congrFun h k)

/-- The side condition of the launch memory's tables, from the precondition. -/
theorem ok_of_experts (h : ∀ c k, (experts m c k).toNat < 32) : Ok m :=
  ok_of _ fun i => by
    have e := tbl_zero m 0
    show (tbl m 0 _).toNat < 32
    rw [e]; exact h 0 _

end Cert.DownIdeal.Gen

end
-- ==== Proof.DownIdealValue.lean ====
/-
  What the experts' second product's result holds after the run: the formula of `DownMath.lean`. A point computes a
  column block of each half of a row and lays the two in turn, one row each; a tile in use names its own expert's
  weights and its own column blocks.
-/
module

public import proofs.«01_k».proof.Proof.DownMath
public import proofs.«01_k».proof.Proof.DownIdealOk
public import Idealize.ShloMosaic.Lib.Pipeline.Value

@[expose] public section

set_option maxRecDepth 16384

noncomputable section

namespace Cert.DownIdeal.Math

open Cert.DownIdeal Cert.DownIdeal.Gen Cert.Experts Idealize.ShloMosaic Idealize.ShloMosaic.TcCoe Idealize.SL.Sem
open Idealize.ShloMosaic.Pipeline (Dat)

/-- A point's row of the product, from the blocks it loads. -/
def part (x0 : Vec Ideal S512x4096 .bf16) (x1 : Vec Ideal S1x4096x512 .bf16) (x3 : Vec Ideal S1x1x512 .f32) (r s : Fin 512) : EReal :=
  (∑ k : Fin 4096, x0 (ix2 r k) * x1 (ix3 0 k s)) + x3 (ix3 0 0 s)

/-- What a point of a tile in use leaves: the even rows are the first half's. -/
theorem out_even (x0 : Vec Ideal S512x4096 .bf16) (x1 x2 : Vec Ideal S1x4096x512 .bf16) (x3 x4 : Vec Ideal S1x1x512 .f32) (r s : Fin 512) :
    k0_pay1 x0 x1 x3 x2 x4 (ix2 ⟨2 * r.val, by omega⟩ s) = part x0 x1 x3 r s := by
  unfold part
  pointwise [k0_pay1]
  have e : (⟨2 * r.val / 2, by omega⟩ : Fin 512) = r := Fin.ext (by show 2 * r.val / 2 = r.val; omega)
  rw [if_pos (by omega), e]

/-- And the odd rows the second half's. -/
theorem out_odd (x0 : Vec Ideal S512x4096 .bf16) (x1 x2 : Vec Ideal S1x4096x512 .bf16) (x3 x4 : Vec Ideal S1x1x512 .f32) (r s : Fin 512) :
    k0_pay1 x0 x1 x3 x2 x4 (ix2 ⟨2 * r.val + 1, by omega⟩ s) = part x0 x2 x4 r s := by
  unfold part
  pointwise [k0_pay1]
  have e : (⟨(2 * r.val + 1) / 2, by omega⟩ : Fin 512) = r := Fin.ext (by show (2 * r.val + 1) / 2 = r.val; omega)
  rw [if_neg (by omega), e]

variable (m : (ℓ : Loc nD τ sig) → Buf (Elt Ideal) ℓ)

/-- The host rounds the weights before the kernel, which at the ideal instance is no change. -/
theorem V_v0 (c : Dev nD) : V m c main_v0 = m ((c : Thread nD τ).loc main_arg1) := by
  show StableHlo.after hostOps0 (fun b => m (c, b)) main_v0 = _
  after_results
  rfl

/-- The biases, each given an axis of one element. -/
theorem V_v1 (c : Dev nD) (e : Fin 32) (k : Fin 4096) :
    (V m c main_v1 : S32x1x4096.Idx → EReal) (ix3 e 0 k) = m ((c : Thread nD τ).loc main_arg2) (ix2 e k) := by
  show (StableHlo.after hostOps0 (fun b => m (c, b)) main_v1 : S32x1x4096.Idx → EReal) _ = _
  after_results
  pointwise

theorem V_v2 (c : Dev nD) (e : Fin 32) (k : Fin 4096) :
    (V m c main_v2 : S32x1x4096.Idx → EReal) (ix3 e 0 k) = m ((c : Thread nD τ).loc main_arg2) (ix2 e k) := by
  show (StableHlo.after hostOps0 (fun b => m (c, b)) main_v2 : S32x1x4096.Idx → EReal) _ = _
  after_results
  pointwise

theorem coords0 : ∀ t : Fin grid0.N, (grid0.coords t 0).val = t.val / 4 ∧ (grid0.coords t 1).val = t.val % 4 := by decide +kernel

theorem index0 : ∀ t : Fin grid0.N, cc0_transform_0 (grid0.coords t) 0 = t.val / 4 ∧ cc0_transform_0 (grid0.coords t) 1 = 0 := by decide +kernel

theorem N_1152 : grid0.N = 1152 := by decide +kernel

/-- The tile of a point. -/
def tile (t : Fin grid0.N) : Fin 288 := ⟨t.val / 4, by have := N_1152; omega⟩

theorem one_idx (i j : S1.Idx) : i = j := by
  funext a
  match a with
  | ⟨0, _⟩ => exact Subsingleton.elim (α := Fin 1) _ _

theorem before_eq (c : Dev nD) (t : Fin grid0.N) : Gen.before (tbl m) (grid0.coords t) = used (inUse m c) (tile t) := by
  have e0 : (grid0.coords t 0).val = (tile t).val := (coords0 t).1
  unfold Gen.before used
  rw [e0]
  refine congrArg (IntOp.cmpi .slt _) ?_
  show tbl m 1 _ = _
  rw [tbl_one m c]
  exact congrArg (inUse m c) (one_idx _ _)

theorem used_iff (c : Dev nD) (t : Fin grid0.N) : usedAt m c t ↔ used (inUse m c) (tile t) = 1#1 := by
  rw [← before_eq m c t]
  have e : nuOf (F := Ideal) c (tbl m 1) = (tbl m).at 1 (Rect.unit (s := S1) ![0] S1.size inb_S1_S1_0) numel1_S1 := by
    exact congrArg (tbl m 1) (one_idx _ _)
  unfold usedAt k0_cond1 Gen.before
  dsimp only
  rw [e]
  generalize Scalar.cmpi .slt (BitVec.ofNat 32 (grid0.coords t 0).val) ((tbl m).at 1 (Rect.unit (s := S1) ![0] S1.size inb_S1_S1_0) numel1_S1) = p
  revert p
  decide

theorem expert_eq (c : Dev nD) (h : ∀ k, (experts m c k).toNat < 32) (t : Fin grid0.N) :
    (expertAt (tbl m) (grid0.coords t)).toNat = (expert (experts m c) (tile t)).val := by
  have e : expertAt (tbl m) (grid0.coords t) = experts m c (ix1 (tile t)) := by
    show tbl m 0 _ = _
    rw [tbl_zero m c]
    refine congrArg (experts m c) ?_
    funext a
    match a with
    | ⟨0, _⟩ =>
      refine Fin.ext ?_
      have e0 : (grid0.coords t 0).val = (tile t).val := (coords0 t).1
      have hl := (tile t).isLt
      show (Scalar.indexCast (BitVec.ofNat 32 (grid0.coords t 0).val)).toNat + 1 * 0 = (tile t).val
      rw [e0]
      show (BitVec.ofNat 32 (tile t).val).toNat + 1 * 0 = (tile t).val
      rw [BitVec.toNat_ofNat]
      omega
  have h' := h (ix1 (tile t))
  rw [e]
  show _ = min _ 31
  omega

variable (hO : Ok m)

/-! Where an element of a window's block at a point lies in its array. -/

theorem place0 (t : Fin (cfgM m hO).N) (y : S512x4096.Idx) (a : Fin 2) :
    ((((cfgM m hO).win 0).rect t).emb y a : Nat) = cc0_transform_0 (grid0.coords t) a * S512x4096.size a + (y a).val :=
  ((cfgM m hO).win 0).rect_emb_val t y a rfl

theorem place1 (t : Fin (cfgM m hO).N) (y : S1x4096x512.Idx) (a : Fin 3) :
    ((((cfgM m hO).win 1).rect t).emb y a : Nat)
      = cc0_transform_1 inb_S1_S1_0 numel1_S1 k0_off1_inb (tbl m) (grid0.coords t) a * S1x4096x512.size a + (y a).val :=
  ((cfgM m hO).win 1).rect_emb_val t y a rfl

theorem place2 (t : Fin (cfgM m hO).N) (y : S1x4096x512.Idx) (a : Fin 3) :
    ((((cfgM m hO).win 2).rect t).emb y a : Nat)
      = cc0_transform_2 inb_S1_S1_0 numel1_S1 k0_off1_inb (tbl m) (grid0.coords t) a * S1x4096x512.size a + (y a).val :=
  ((cfgM m hO).win 2).rect_emb_val t y a rfl

theorem place3 (t : Fin (cfgM m hO).N) (y : S1x1x512.Idx) (a : Fin 3) :
    ((((cfgM m hO).win 3).rect t).emb y a : Nat)
      = cc0_transform_3 inb_S1_S1_0 numel1_S1 k0_off1_inb (tbl m) (grid0.coords t) a * S1x1x512.size a + (y a).val :=
  ((cfgM m hO).win 3).rect_emb_val t y a rfl

theorem place4 (t : Fin (cfgM m hO).N) (y : S1x1x512.Idx) (a : Fin 3) :
    ((((cfgM m hO).win 4).rect t).emb y a : Nat)
      = cc0_transform_4 inb_S1_S1_0 numel1_S1 k0_off1_inb (tbl m) (grid0.coords t) a * S1x1x512.size a + (y a).val :=
  ((cfgM m hO).win 4).rect_emb_val t y a rfl

theorem index5 : ∀ t : Fin grid0.N, cc0_transform_5 (grid0.coords t) 0 = t.val / 4 ∧ cc0_transform_5 (grid0.coords t) 1 = t.val % 4 := by decide +kernel

theorem place5 (t : Fin (cfgM m hO).N) (y : S1024x512.Idx) (a : Fin 2) :
    ((((cfgM m hO).win 5).rect t).emb y a : Nat) = cc0_transform_5 (grid0.coords t) a * S1024x512.size a + (y a).val :=
  ((cfgM m hO).win 5).rect_emb_val t y a rfl

/-- Window 0's block: the tile's rows. -/
theorem blk0 (c : Dev nD) (t : Fin (cfgM m hO).N) (r : Fin 512) (k : Fin 4096) (h : t.val / 4 * 512 + r.val < 147456) :
    (iblk m hO c 0 t : S512x4096.Idx → EReal) (ix2 r k) = m ((c : Thread nD τ).loc main_arg0) (ix2 ⟨t.val / 4 * 512 + r.val, h⟩ k) := by
  show V m c main_arg0 ((((cfgM m hO).win 0).rect t).emb (ix2 r k)) = _
  rw [V_main_arg0]
  refine congrArg _ (Shape.idx_ext₂ ?_ ?_)
  · rw [place0 m hO t _ 0, (index0 t).1]; rfl
  · rw [place0 m hO t _ 1, (index0 t).2, Nat.zero_mul, Nat.zero_add]; rfl

/-- Window 1's block: the gate's columns of the tile's expert. -/
theorem blk1 (c : Dev nD) (h : ∀ k, (experts m c k).toNat < 32) (t : Fin (cfgM m hO).N) (hu : usedAt m c t) (d : Fin 4096) (s : Fin 512)
    (hs : t.val % 4 * 512 + s.val < 4096) :
    (iblk m hO c 1 t : S1x4096x512.Idx → EReal) (ix3 0 d s)
      = m ((c : Thread nD τ).loc main_arg1) (ix3 (expert (experts m c) (tile t)) d ⟨t.val % 4 * 512 + s.val, hs⟩) := by
  show V m c main_v0 ((((cfgM m hO).win 1).rect t).emb (ix3 0 d s)) = _
  rw [V_v0]
  have hb := ((before_eq m c t).trans ((used_iff m c t).mp hu))
  have hc := (col_eq (tbl m) (grid0.coords t) hb).1.trans (coords0 t).2
  have he := expert_eq m c h t
  refine congrArg _ ?_
  funext a
  refine Fin.ext ((place1 m hO t (ix3 0 d s) a).trans ?_)
  rw [index_1]
  match a with
  | ⟨0, _⟩ => show (expertAt (tbl m) (grid0.coords t)).toNat * 1 + 0 = _; rw [he]; exact Nat.mul_one _
  | ⟨1, _⟩ => show 0 * 4096 + d.val = d.val; omega
  | ⟨2, _⟩ => show (colAt (tbl m) 0#32 (grid0.coords t)).toNat * 512 + s.val = _; rw [hc]; rfl

/-- Window 2's block: the linear part's columns of the tile's expert. -/
theorem blk2 (c : Dev nD) (h : ∀ k, (experts m c k).toNat < 32) (t : Fin (cfgM m hO).N) (hu : usedAt m c t) (d : Fin 4096) (s : Fin 512)
    (hs : 2048 + (t.val % 4 * 512 + s.val) < 4096) :
    (iblk m hO c 2 t : S1x4096x512.Idx → EReal) (ix3 0 d s)
      = m ((c : Thread nD τ).loc main_arg1) (ix3 (expert (experts m c) (tile t)) d ⟨2048 + (t.val % 4 * 512 + s.val), hs⟩) := by
  show V m c main_v0 ((((cfgM m hO).win 2).rect t).emb (ix3 0 d s)) = _
  rw [V_v0]
  have hb := ((before_eq m c t).trans ((used_iff m c t).mp hu))
  have hc := (col_eq (tbl m) (grid0.coords t) hb).2.trans (congrArg (· + 4) (coords0 t).2)
  have he := expert_eq m c h t
  refine congrArg _ ?_
  funext a
  refine Fin.ext ((place2 m hO t (ix3 0 d s) a).trans ?_)
  rw [index_2]
  match a with
  | ⟨0, _⟩ => show (expertAt (tbl m) (grid0.coords t)).toNat * 1 + 0 = _; rw [he]; exact Nat.mul_one _
  | ⟨1, _⟩ => show 0 * 4096 + d.val = d.val; omega
  | ⟨2, _⟩ => show (colAt (tbl m) 4#32 (grid0.coords t)).toNat * 512 + s.val = 2048 + (t.val % 4 * 512 + s.val); rw [hc]; omega

/-- Window 3's block: the gate's biases. -/
theorem blk3 (c : Dev nD) (h : ∀ k, (experts m c k).toNat < 32) (t : Fin (cfgM m hO).N) (hu : usedAt m c t) (s : Fin 512)
    (hs : t.val % 4 * 512 + s.val < 4096) :
    (iblk m hO c 3 t : S1x1x512.Idx → EReal) (ix3 0 0 s)
      = m ((c : Thread nD τ).loc main_arg2) (ix2 (expert (experts m c) (tile t)) ⟨t.val % 4 * 512 + s.val, hs⟩) := by
  show (V m c main_v1 : S32x1x4096.Idx → EReal) ((((cfgM m hO).win 3).rect t).emb (ix3 0 0 s)) = _
  have hb := ((before_eq m c t).trans ((used_iff m c t).mp hu))
  have hc := (col_eq (tbl m) (grid0.coords t) hb).1.trans (coords0 t).2
  have he := expert_eq m c h t
  refine Eq.trans (congrArg _ ?_) (V_v1 m c _ _)
  funext a
  refine Fin.ext ((place3 m hO t (ix3 0 0 s) a).trans ?_)
  rw [index_3]
  match a with
  | ⟨0, _⟩ => show (expertAt (tbl m) (grid0.coords t)).toNat * 1 + 0 = _; rw [he]; exact Nat.mul_one _
  | ⟨1, _⟩ => rfl
  | ⟨2, _⟩ => show (colAt (tbl m) 0#32 (grid0.coords t)).toNat * 512 + s.val = _; rw [hc]; rfl

/-- Window 4's block: the linear part's biases. -/
theorem blk4 (c : Dev nD) (h : ∀ k, (experts m c k).toNat < 32) (t : Fin (cfgM m hO).N) (hu : usedAt m c t) (s : Fin 512)
    (hs : 2048 + (t.val % 4 * 512 + s.val) < 4096) :
    (iblk m hO c 4 t : S1x1x512.Idx → EReal) (ix3 0 0 s)
      = m ((c : Thread nD τ).loc main_arg2) (ix2 (expert (experts m c) (tile t)) ⟨2048 + (t.val % 4 * 512 + s.val), hs⟩) := by
  show (V m c main_v2 : S32x1x4096.Idx → EReal) ((((cfgM m hO).win 4).rect t).emb (ix3 0 0 s)) = _
  have hb := ((before_eq m c t).trans ((used_iff m c t).mp hu))
  have hc := (col_eq (tbl m) (grid0.coords t) hb).2.trans (congrArg (· + 4) (coords0 t).2)
  have he := expert_eq m c h t
  refine Eq.trans (congrArg _ ?_) (V_v2 m c _ _)
  funext a
  refine Fin.ext ((place4 m hO t (ix3 0 0 s) a).trans ?_)
  rw [index_4]
  match a with
  | ⟨0, _⟩ => show (expertAt (tbl m) (grid0.coords t)).toNat * 1 + 0 = _; rw [he]; exact Nat.mul_one _
  | ⟨1, _⟩ => rfl
  | ⟨2, _⟩ => show (colAt (tbl m) 4#32 (grid0.coords t)).toNat * 512 + s.val = 2048 + (t.val % 4 * 512 + s.val); rw [hc]; omega

/-- What the kernel computes from the launch memory. -/
abbrev G (c : Dev nD) : FVec Ideal S294912x2048 .bf16 :=
  downAll (m ((c : Thread nD τ).loc main_arg0)) (m ((c : Thread nD τ).loc main_arg1)) (m ((c : Thread nD τ).loc main_arg2)) (experts m c) (inUse m c)

/-- Where an element of the result block at point `t` lies in the result. -/
theorem emb5 (t : Fin (cfgM m hO).N) (r : Fin 1024) (s : Fin 512) (h : t.val / 4 * 1024 + r.val < 294912) (h' : t.val % 4 * 512 + s.val < 2048) :
    (((cfgM m hO).win 5).rect t).emb (ix2 r s) = (ix2 ⟨t.val / 4 * 1024 + r.val, h⟩ ⟨t.val % 4 * 512 + s.val, h'⟩ : S294912x2048.Idx) := by
  refine Shape.idx_ext₂ ?_ ?_
  · rw [place5 m hO t _ 0, (index5 t).1]; rfl
  · rw [place5 m hO t _ 1, (index5 t).2]; rfl

/-- A point's row of the product is the whole product's entry. -/
theorem part_eq (c : Dev nD) (t : Fin (cfgM m hO).N) (r s : Fin 512) (col : Fin 4096)
    (x1 : Vec Ideal S1x4096x512 .bf16) (x3 : Vec Ideal S1x1x512 .f32)
    (h1 : ∀ d : Fin 4096, x1 (ix3 0 d s) = m ((c : Thread nD τ).loc main_arg1) (ix3 (expert (experts m c) (tile t)) d col))
    (h3 : x3 (ix3 0 0 s) = m ((c : Thread nD τ).loc main_arg2) (ix2 (expert (experts m c) (tile t)) col)) :
    part (iblk m hO c 0 t) x1 x3 r s
      = down (m ((c : Thread nD τ).loc main_arg0)) (m ((c : Thread nD τ).loc main_arg1)) (m ((c : Thread nD τ).loc main_arg2)) (experts m c) (tile t) r col := by
  have ht : t.val < 1152 := lt_of_lt_of_eq t.isLt N_1152
  unfold part down
  rw [h3]
  refine congrArg (· + _) (Finset.sum_congr rfl fun k _ => ?_)
  rw [h1]
  refine congrArg (· * _) ?_
  exact blk0 m hO c t r k (by omega)

theorem zero_apply (i : S1024x512.Idx) : k0_pay2 (F := Ideal) i = 0 := by
  idx_vars i
  pointwise [k0_pay2]

/-- What a point of a tile not in use leaves. -/
theorem unused_eq (c : Dev nD) (t : Fin (cfgM m hO).N) (hu : ¬ usedAt m c t) (y : S1024x512.Idx) (x : EReal) :
    outAt m hO c t y = Scalar.select (used (inUse m c) (tile t)) x 0 := by
  unfold outAt
  rw [if_neg hu, zero_apply]
  have e : used (inUse m c) (tile t) = 0#1 := by
    have hn := mt (used_iff m c t).mpr hu
    revert hn
    generalize used (inUse m c) (tile t) = p
    revert p
    decide
  rw [e]
  rfl

/-- What a point leaves in its even rows is its block of the formula. -/
theorem even_eq (c : Dev nD) (h : ∀ k, (experts m c k).toNat < 32) (t : Fin (cfgM m hO).N) (r s : Fin 512) :
    outAt m hO c t (ix2 ⟨2 * r.val, by omega⟩ s) = G m c ((((cfgM m hO).win 5).rect t).emb (ix2 (⟨2 * r.val, by omega⟩ : Fin 1024) s)) := by
  have ht : t.val < 1152 := lt_of_lt_of_eq t.isLt N_1152
  rw [emb5 m hO t ⟨2 * r.val, by omega⟩ s (by show t.val / 4 * 1024 + 2 * r.val < 294912; omega) (by omega)]
  refine Eq.trans ?_ (downAll_apply _ _ _ _ _ (tile t) r ⟨t.val % 4 * 512 + s.val, by omega⟩ _ _
    (by show t.val / 4 * 1024 + 2 * r.val = t.val / 4 * 1024 + 2 * r.val + (t.val % 4 * 512 + s.val) / 2048; omega)
    (by show t.val % 4 * 512 + s.val = (t.val % 4 * 512 + s.val) % 2048; omega)).symm
  unfold downAt
  by_cases hu : usedAt m c t
  · unfold outAt
    rw [if_pos hu, (used_iff m c t).mp hu]
    refine (out_even _ _ _ _ _ r s).trans ?_
    exact part_eq m hO c t r s _ _ _ (fun d => blk1 m hO c h t hu d s (by omega)) (blk3 m hO c h t hu s (by omega))
  · exact unused_eq m hO c t hu _ _

/-- And in its odd rows. -/
theorem odd_eq (c : Dev nD) (h : ∀ k, (experts m c k).toNat < 32) (t : Fin (cfgM m hO).N) (r s : Fin 512) :
    outAt m hO c t (ix2 ⟨2 * r.val + 1, by omega⟩ s) = G m c ((((cfgM m hO).win 5).rect t).emb (ix2 (⟨2 * r.val + 1, by omega⟩ : Fin 1024) s)) := by
  have ht : t.val < 1152 := lt_of_lt_of_eq t.isLt N_1152
  rw [emb5 m hO t ⟨2 * r.val + 1, by omega⟩ s (by show t.val / 4 * 1024 + (2 * r.val + 1) < 294912; omega) (by omega)]
  refine Eq.trans ?_ (downAll_apply _ _ _ _ _ (tile t) r ⟨2048 + (t.val % 4 * 512 + s.val), by omega⟩ _ _
    (by show t.val / 4 * 1024 + (2 * r.val + 1) = t.val / 4 * 1024 + 2 * r.val + (2048 + (t.val % 4 * 512 + s.val)) / 2048; omega)
    (by show t.val % 4 * 512 + s.val = (2048 + (t.val % 4 * 512 + s.val)) % 2048; omega)).symm
  unfold downAt
  by_cases hu : usedAt m c t
  · unfold outAt
    rw [if_pos hu, (used_iff m c t).mp hu]
    refine (out_odd _ _ _ _ _ r s).trans ?_
    exact part_eq m hO c t r s _ _ _ (fun d => blk2 m hO c h t hu d s (by omega)) (blk4 m hO c h t hu s (by omega))
  · exact unused_eq m hO c t hu _ _

/-- What a point leaves is its block of the formula. -/
theorem outAt_eq (c : Dev nD) (h : ∀ k, (experts m c k).toNat < 32) (t : Fin (cfgM m hO).N) (r : Fin 1024) (s : Fin 512) :
    outAt m hO c t (ix2 r s) = G m c ((((cfgM m hO).win 5).rect t).emb (ix2 r s)) := by
  obtain ⟨r, hr⟩ := r
  rcases Nat.even_or_odd' r with ⟨q, rfl | rfl⟩
  · exact even_eq m hO c h t ⟨q, by omega⟩ s
  · exact odd_eq m hO c h t ⟨q, by omega⟩ s

/-- What point `t` writes back is its block of the formula. -/
theorem flushed_eq (c : Dev nD) (h : ∀ k, (experts m c k).toNat < 32) (t : Fin (cfgM m hO).N) :
    (dats m hO 0 c).flushed 5 t = (((cfgM m hO).win 5).blk t).view.read (Elt Ideal) (G m c) := by
  show ((cfgM m hO).win 5).cut (grid0.coords t) ((dats m hO 0 c).after 5 t) = _
  rw [after0_5]
  funext (y : S1024x512.Idx)
  show outAt m hO c t y = G m c ((((cfgM m hO).win 5).rect t).emb y)
  obtain ⟨r, s, rfl⟩ : ∃ (r : Fin 1024) (s : Fin 512), y = ix2 r s := ⟨y 0, y 1, eq_ix2 y⟩
  exact outAt_eq m hO c h t r s

/-- Every element of the result lies in some point's block. -/
theorem covered (i : S294912x2048.Idx) : ∃ t : Fin (cfgM m hO).N, ((cfgM m hO).win 5).flush t = true ∧ i ∈ (((cfgM m hO).win 5).blk t).view.set := by
  obtain ⟨r, s, rfl⟩ : ∃ (r : Fin 294912) (s : Fin 2048), i = ix2 r s := ⟨i 0, i 1, eq_ix2 i⟩
  have hlt : r.val / 1024 * 4 + s.val / 512 < 1152 := by omega
  let t : Fin (cfgM m hO).N := ⟨r.val / 1024 * 4 + s.val / 512, lt_of_lt_of_eq hlt N_1152.symm⟩
  refine ⟨t, flush0_5 (adm m hO) t, ?_⟩
  have e : (ix2 r s : S294912x2048.Idx) = (((cfgM m hO).win 5).blk t).view.emb (ix2 ⟨r.val % 1024, by omega⟩ ⟨s.val % 512, by omega⟩ : S1024x512.Idx) := by
    refine Eq.trans ?_ (emb5 m hO t ⟨r.val % 1024, by omega⟩ ⟨s.val % 512, by omega⟩
      (by show (r.val / 1024 * 4 + s.val / 512) / 4 * 1024 + r.val % 1024 < 294912; omega)
      (by show (r.val / 1024 * 4 + s.val / 512) % 4 * 512 + s.val % 512 < 2048; omega)).symm
    refine Shape.idx_ext₂ ?_ ?_
    · show r.val = (r.val / 1024 * 4 + s.val / 512) / 4 * 1024 + r.val % 1024; omega
    · show s.val = (r.val / 1024 * 4 + s.val / 512) % 4 * 512 + s.val % 512; omega
  rw [e]
  exact View.emb_mem_set _ _

/-- The result array after the run. -/
theorem final (c : Dev nD) (h : ∀ k, (experts m c k).toNat < 32) : (dats m hO 0 c).arrAt 5 (cfgM m hO).N = G m c :=
  (dats m hO 0 c).arrAt_eq_of_cover 5 (G m c) (fun t _ => flushed_eq m hO c h t) (covered m hO)

/-- Every execution ends with the formula in the result array and the argument arrays unchanged. -/
theorem run (ρ : Dev nD → PrngReg) (h : ∀ c k, (experts m c k).toNat < 32) :
    θ_run defs (onTc (τ := τ) (main (F := Ideal))) ⟨m, fun _ => 0, ρ⟩ (fun r => (∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) := by
  have hO := ok_of_experts m h
  refine (θ_run defs _ _).mono (fun r hr c => ⟨?_, hr.2 c⟩) (θ_run_and (run_main m ρ hO) (unchanged m ρ hO))
  exact ((hr.1 c).1 5).trans (final m hO c (h c))

end Cert.DownIdeal.Math

end
-- ==== Proof.DownRefValue.lean ====
/-
  The reference of the experts' second product computes the formula of `DownMath.lean`: its gathers name each tile's
  expert, its batched product is the sum over the activations' row, and its selection zeroes the tiles not in use.
-/
module

public import proofs.«01_k».proof.Proof.DownMath
public import proofs.«01_k».proof.Proof.Gen.DownRefIdeal.Read

@[expose] public section

set_option maxRecDepth 16384

noncomputable section

namespace Cert.DownRefIdeal.Math

open Cert.DownRefIdeal Cert.DownRefIdeal.Gen Cert.DownRefIdeal.Read Idealize.ShloMosaic Cert.Experts

variable (x0 : FVec Ideal S147456x4096 .bf16) (x1 : FVec Ideal S32x4096x4096 .f32) (x2 : FVec Ideal S32x4096 .f32)
  (x3 : IVec S288 32) (x4 : IVec S1 32)

/-- An array of one element has one index. -/
theorem one_idx (i j : S1.Idx) : i = j := by
  funext a
  match a with
  | ⟨0, _⟩ => exact Subsingleton.elim (α := Fin 1) _ _

/-- The position a gather is given for tile `t`. -/
theorem pos_w (t : Fin 288) : val_main_v7 (F := Ideal) x3 (ix2 t 0) = Scalar.select (IntOp.cmpi .slt (x3 (ix1 t)) 0#32) (IntOp.addi (x3 (ix1 t)) 32#32) (x3 (ix1 t)) := by
  have e : idx_main_v7 (ix2 t 0) = ix1 t := by idx_ext
  rw [val_main_v7_apply, e]; rfl

theorem pos_b (t : Fin 288) : val_main_v15 (F := Ideal) x3 (ix2 t 0) = Scalar.select (IntOp.cmpi .slt (x3 (ix1 t)) 0#32) (IntOp.addi (x3 (ix1 t)) 32#32) (x3 (ix1 t)) := by
  have e : idx_main_v15 (ix2 t 0) = ix1 t := by idx_ext
  rw [val_main_v15_apply, e]; rfl

/-- With every expert one of the thirty-two, the gathered weights of tile `t` are its expert's. -/
theorem weights (h : ∀ k, (x3 k).toNat < 32) (t : Fin 288) (d : Fin 4096) (c : Fin 4096) :
    val_main_v8 (F := Ideal) x1 x3 (ix3 t d c) = x1 (ix3 (expert x3 t) d c) := by
  have e := gather_take3 (N := 32) (by decide) gather_S32x4096x4096_S288x1_S288x4096x4096_12_0_n_n_0_1_140964096_wf x1
    (val_main_v7 (F := Ideal) x3) t d c
  refine (show val_main_v8 (F := Ideal) x1 x3 (ix3 t d c) = _ from e).trans ?_
  refine congrArg (fun z => x1 (ix3 z d c)) (Fin.ext ?_)
  show min (val_main_v7 (F := Ideal) x3 (ix2 t 0)).toInt.toNat (32 - 1) = min (x3 (ix1 t)).toNat 31
  have h' := h (ix1 t)
  rw [pos_w, wrap_clamp _ h']
  omega

/-- And the gathered biases. -/
theorem biases (h : ∀ k, (x3 k).toNat < 32) (t : Fin 288) (c : Fin 4096) :
    val_main_v16 (F := Ideal) x2 x3 (ix2 t c) = x2 (ix2 (expert x3 t) c) := by
  have e := gather_take2 (N := 32) (by decide) gather_S32x4096_S288x1_S288x4096_1_0_n_n_0_1_14096_wf x2
    (val_main_v15 (F := Ideal) x3) t c
  refine (show val_main_v16 (F := Ideal) x2 x3 (ix2 t c) = _ from e).trans ?_
  refine congrArg (fun z => x2 (ix2 z c)) (Fin.ext ?_)
  show min (val_main_v15 (F := Ideal) x3 (ix2 t 0)).toInt.toNat (32 - 1) = min (x3 (ix1 t)).toNat 31
  have h' := h (ix1 t)
  rw [pos_b, wrap_clamp _ h']
  omega

/-- The product with its bias. -/
theorem product (h : ∀ k, (x3 k).toNat < 32) (t : Fin 288) (s : Fin 512) (c : Fin 4096) :
    val_main_v19 (F := Ideal) x0 x1 x2 x3 (ix3 t s c) = down x0 x1 x2 x3 t s c := by
  have eb : idx_main_v17 (idx_main_v18 (ix3 t s c)) = ix2 t c := by idx_ext
  rw [val_main_v19_apply, val_main_v9_apply, val_main_v18_apply, val_main_v17_apply, eb, biases x2 x3 h]
  refine congrArg (· + x2 (ix2 (expert x3 t) c)) (Finset.sum_congr rfl fun k _ => ?_)
  have el : lidx_main_v9 (ix3 t s c) k = ix3 t s k := by idx_ext
  have er : ridx_main_v9 (ix3 t s c) k = ix3 t k c := by idx_ext
  rw [el, er, weights x1 x3 h, val_main_v1_apply]
  refine congrArg (· * x1 (ix3 (expert x3 t) k c)) ?_
  have ei : idx_main_v1 (ix3 t s k) = ix2 ⟨t.val * 512 + s.val, by omega⟩ k := by
    funext a
    match a with
    | ⟨0, _⟩ => refine Fin.ext ?_; show ((t.val * 512 + s.val) * 4096 + k.val) / 4096 = t.val * 512 + s.val; omega
    | ⟨1, _⟩ => refine Fin.ext ?_; show ((t.val * 512 + s.val) * 4096 + k.val) % 4096 = k.val; omega
  rw [ei]; rfl

/-- The reference computes the formula. -/
theorem result (h : ∀ k, (x3 k).toNat < 32) : val_main_v27 (F := Ideal) x0 x1 x2 x3 x4 = downAll x0 x1 x2 x3 x4 := by
  funext i
  obtain ⟨R, f, rfl⟩ : ∃ (R : Fin 294912) (f : Fin 2048), i = ix2 R f := ⟨i 0, i 1, eq_ix2 i⟩
  have ei : idx_main_v27 (ix2 R f) = ix3 ⟨R.val / 1024, by omega⟩ ⟨R.val / 2 % 512, by omega⟩ ⟨R.val % 2 * 2048 + f.val, by omega⟩ := by
    funext a
    match a with
    | ⟨0, _⟩ => refine Fin.ext ?_; show (R.val * 2048 + f.val) / 2097152 = R.val / 1024; omega
    | ⟨1, _⟩ => refine Fin.ext ?_; show (R.val * 2048 + f.val) / 4096 % 512 = R.val / 2 % 512; omega
    | ⟨2, _⟩ => refine Fin.ext ?_; show (R.val * 2048 + f.val) % 4096 = R.val % 2 * 2048 + f.val; omega
  rw [val_main_v27_apply, ei, val_main_v26_apply, val_main_v25_apply, product x0 x1 x2 x3 h]
  rw [val_main_call0_v1_apply, val_main_v24_apply]
  show Scalar.select _ _ _ = Scalar.select _ _ _
  congr 1
  · rw [val_main_v23_apply, val_main_v22_apply]
    refine congrArg (IntOp.cmpi .slt _) ?_
    exact congrArg x4 (one_idx _ _)
  · unfold val_main_call0_v2 val_main_call0_v0 val_main_cst
    show constant (F := Ideal) S_ .f32 0x00000000#32 ix0 = 0
    pointwise

end Cert.DownRefIdeal.Math

end
-- ==== Proof.DownClaims.lean ====
/-
  The claims about the experts' second product: the frames, the rewrites of the packed words, and that the ideal reading's result is the
  reference's.
-/
module

public import proofs.«01_k».proof.Defs
public import proofs.«01_k».proof.Proof.DownOk
public import proofs.«01_k».proof.Proof.DownIdealValue
public import proofs.«01_k».proof.Proof.DownRefValue
public import proofs.«01_k».proof.Proof.Gen.DownRefIdeal.Run
public import Idealize.ShloMosaic.Lib.Bf16Pair

@[expose] public section

noncomputable section

namespace Cert.Proof

open Idealize.ShloMosaic Idealize.SL.Sem

/-- The precondition's one side condition. -/
theorem down_facts : Cert.Pre_experts_in_range_down.Facts := ⟨by decide⟩

theorem frame_Down (hp : Cert.Pre_experts_in_range_down.Facts) : Cert.quiescent_Down := fun m ρ h =>
  Cert.Down.Gen.frame m ρ (Cert.Down.Gen.ok_of_experts m fun c k => Cert.Down.Gen.experts_lt _ (h c) k)

/-- The precondition bounds every tile's expert. -/
theorem down_lt [Cert.Pre_experts_in_range_down.Facts] {m} (h : Cert.Pre_DownIdeal m) (c) (k) : (Cert.DownIdeal.Gen.experts m c k).toNat < 32 :=
  Cert.DownIdeal.Gen.experts_lt _ (h c) k

theorem frame_DownIdeal (hp : Cert.Pre_experts_in_range_down.Facts) : Cert.quiescent_DownIdeal := fun m ρ h =>
  Cert.DownIdeal.Gen.frame m ρ (Cert.DownIdeal.Gen.ok_of_experts m (down_lt h))

theorem frame_DownRefIdeal : Cert.quiescent_DownRefIdeal := fun m g _ =>
  (θ_run _ _ _).mono (fun r h => ⟨fun c => (h c).2, sem_eq_zero_of_no_sems (by decide) r.2⟩) (DownRefIdeal.Value.run (F := Ideal) m g)

theorem frame_DownRefIdeal_pre (hp : Cert.Pre_experts_in_range_down.Facts) : Cert.quiescent_DownRefIdeal_pre_experts_in_range_down := fun m g _ =>
  frame_DownRefIdeal m g trivial

theorem preserves_Down : Cert.preserves_Down_DownIdeal :=
  ⟨IdealRules.bf16_pair.statement _ _ (by decide), IdealRules.bf16_pack.statement _⟩

theorem algebraic_Down (hp : Cert.Pre_experts_in_range_down.Facts) : Cert.algebraic_DownIdeal_DownRefIdeal := by
  intro m g m' g' hpre hag
  refine ⟨fun c => DownIdeal.Math.G m c, DownIdeal.Math.run m g (down_lt hpre), ?_⟩
  refine (θ_run _ _ _).mono (fun r h c => ⟨(h c).1.trans ?_, (h c).2⟩) (DownRefIdeal.Value.run (F := Ideal) m' g')
  obtain ⟨h0, h1, h2, h3, h4⟩ := hag c
  rw [DownRefIdeal.Read.val_main_v27_eq, h0, h1, h2, h3, h4]
  exact DownRefIdeal.Math.result _ _ _ _ _ (down_lt hpre c)

end Cert.Proof

end
-- ==== Proof.MixValue.lean ====
/- The gated mix of the two branches, as one formula: what the kernel's result array holds after the run, and that
   the reference computes the same. -/
module

public import proofs.«01_k».proof.Defs
public import proofs.«01_k».proof.Proof.Gen.MixIdeal.Value
public import proofs.«01_k».proof.Proof.Gen.MixRefIdeal.Run
public import Idealize.ShloMosaic.Lib.Pointwise
public import Idealize.ShloMosaic.Lib.Pipeline.Value

@[expose] public section

set_option maxRecDepth 16384

noncomputable section

namespace Cert.MixIdeal.Math

open Cert.MixIdeal Cert.MixIdeal.Gen Idealize.ShloMosaic Idealize.ShloMosaic.TcCoe Idealize.SL.Sem
open Idealize.ShloMosaic.Pipeline (Dat)

/-- Row `r` of `A` times column `c` of `W`. -/
def dot {p q : Nat} {K : Nat} (A : (⟨2, ![p, K]⟩ : Shape).Idx → EReal) (W : (⟨2, ![K, q]⟩ : Shape).Idx → EReal) (r : Fin p)
    (c : Fin q) : EReal :=
  ∑ k : Fin K, A (ix2 r k) * W (ix2 k c)

/-- The mix: each branch's projection times the logistic function of its gate, summed. The gates' weights are the
    columns of `W` from 10240 on and from 14336 on. -/
def mix (H : FVec Ideal S32768x4096 .bf16) (W : FVec Ideal S4096x18432 .f32) (OA : FVec Ideal S32768x1024 .bf16)
    (WA : FVec Ideal S1024x4096 .f32) (OB : FVec Ideal S32768x1024 .bf16) (WB : FVec Ideal S1024x4096 .f32) :
    FVec Ideal S32768x4096 .bf16 :=
  fun i => Ideal.logistic (dot H W (i 0) ⟨10240 + (i 1).val, Nat.lt_of_lt_of_le (Nat.add_lt_add_left (i 1).isLt _) (by decide)⟩)
      * dot OA WA (i 0) (i 1)
    + Ideal.logistic (dot H W (i 0) ⟨14336 + (i 1).val, Nat.lt_of_lt_of_le (Nat.add_lt_add_left (i 1).isLt _) (by decide)⟩)
      * dot OB WB (i 0) (i 1)

/-- Which block each window is on at point `t`: row tile `t / 8`, column tile `t % 8`. -/
theorem maps : ∀ t : Fin grid0.N,
    (win0_0.index t 0 = t.val / 8 ∧ win0_0.index t 1 = 0)
    ∧ (win0_1.index t 0 = 0 ∧ win0_1.index t 1 = 20 + t.val % 8)
    ∧ (win0_2.index t 0 = 0 ∧ win0_2.index t 1 = 28 + t.val % 8)
    ∧ (win0_3.index t 0 = t.val / 8 ∧ win0_3.index t 1 = 0)
    ∧ (win0_4.index t 0 = 0 ∧ win0_4.index t 1 = t.val % 8)
    ∧ (win0_5.index t 0 = t.val / 8 ∧ win0_5.index t 1 = 0)
    ∧ (win0_6.index t 0 = 0 ∧ win0_6.index t 1 = t.val % 8)
    ∧ (win0_7.index t 0 = t.val / 8 ∧ win0_7.index t 1 = t.val % 8) := by decide +kernel

theorem hz2 : (![0, 0] : Fin 2 → Nat) = fun _ => 0 := funext fun a => by fin_cases a <;> rfl

/-- A point's result block, element by element, from the blocks it loads. -/
theorem out_apply (x0 : Vec Ideal S512x4096 .bf16) (x1 x2 : Vec Ideal S4096x512 .bf16) (x3 : Vec Ideal S512x1024 .bf16)
    (x4 : Vec Ideal S1024x512 .bf16) (x5 : Vec Ideal S512x1024 .bf16) (x6 : Vec Ideal S1024x512 .bf16) (r : Fin 512) (s : Fin 512) :
    out0_7 x0 x1 x2 x3 x4 x5 x6 (ix2 r s)
      = Ideal.logistic (dot x0 x1 r s) * dot x3 x4 r s + Ideal.logistic (dot x0 x2 r s) * dot x5 x6 r s := by
  unfold out0_7 dot
  rw [View.canon_unit_zero hz2, View.ld_unit_zero hz2, View.ld_unit_zero hz2, View.ld_unit_zero hz2,
    View.ld_unit_zero hz2, View.ld_unit_zero hz2, View.ld_unit_zero hz2, View.ld_unit_zero hz2]
  pointwise [k0_pay1]

variable (m : (ℓ : Loc nD τ sig) → Buf (Elt Ideal) ℓ)

/-! The host rounds the weights before the kernel, which at the ideal instance is no change. -/

theorem V_v0 (c : Dev nD) : V m c main_v0 = m ((c : Thread nD τ).loc main_arg1) := by
  show StableHlo.after hostOps0 (fun b => m (c, b)) main_v0 = _
  after_results
  rfl

theorem V_v1 (c : Dev nD) : V m c main_v1 = m ((c : Thread nD τ).loc main_arg3) := by
  show StableHlo.after hostOps0 (fun b => m (c, b)) main_v1 = _
  after_results
  rfl

theorem V_v2 (c : Dev nD) : V m c main_v2 = m ((c : Thread nD τ).loc main_arg5) := by
  show StableHlo.after hostOps0 (fun b => m (c, b)) main_v2 = _
  after_results
  rfl

/-- Window 0's block: rows of the normed activations. -/
theorem blk0 (c : Dev nD) (t : Fin cfg0.N) (r : Fin 512) (k : Fin 4096) (h : t.val / 8 * 512 + r.val < 32768) :
    (iblk m c 0 t : S512x4096.Idx → EReal) (ix2 r k) = m ((c : Thread nD τ).loc main_arg0) (ix2 ⟨t.val / 8 * 512 + r.val, h⟩ k) := by
  show V m c main_arg0 ((win0_0.rect t).emb (ix2 r k)) = _
  rw [V_main_arg0]
  refine congrArg _ (Shape.idx_ext₂ ?_ ?_)
  · exact (win0_0.rect_emb_val t _ 0).trans (by rw [(maps t).1.1]; rfl)
  · exact (win0_0.rect_emb_val t _ 1).trans (by rw [(maps t).1.2, Nat.zero_mul, Nat.zero_add]; rfl)

/-- Window 1's block: columns of the first gate's weights. -/
theorem blk1 (c : Dev nD) (t : Fin cfg0.N) (k : Fin 4096) (s : Fin 512) (h : (20 + t.val % 8) * 512 + s.val < 18432) :
    (iblk m c 1 t : S4096x512.Idx → EReal) (ix2 k s) = m ((c : Thread nD τ).loc main_arg1) (ix2 k ⟨(20 + t.val % 8) * 512 + s.val, h⟩) := by
  show V m c main_v0 ((win0_1.rect t).emb (ix2 k s)) = _
  rw [V_v0]
  refine congrArg _ (Shape.idx_ext₂ ?_ ?_)
  · exact (win0_1.rect_emb_val t _ 0).trans (by rw [(maps t).2.1.1, Nat.zero_mul, Nat.zero_add]; rfl)
  · exact (win0_1.rect_emb_val t _ 1).trans (by rw [(maps t).2.1.2]; rfl)

/-- Window 2's block: columns of the second gate's weights. -/
theorem blk2 (c : Dev nD) (t : Fin cfg0.N) (k : Fin 4096) (s : Fin 512) (h : (28 + t.val % 8) * 512 + s.val < 18432) :
    (iblk m c 2 t : S4096x512.Idx → EReal) (ix2 k s) = m ((c : Thread nD τ).loc main_arg1) (ix2 k ⟨(28 + t.val % 8) * 512 + s.val, h⟩) := by
  show V m c main_v0 ((win0_2.rect t).emb (ix2 k s)) = _
  rw [V_v0]
  refine congrArg _ (Shape.idx_ext₂ ?_ ?_)
  · exact (win0_2.rect_emb_val t _ 0).trans (by rw [(maps t).2.2.1.1, Nat.zero_mul, Nat.zero_add]; rfl)
  · exact (win0_2.rect_emb_val t _ 1).trans (by rw [(maps t).2.2.1.2]; rfl)

/-- Window 3's block: rows of the first branch. -/
theorem blk3 (c : Dev nD) (t : Fin cfg0.N) (r : Fin 512) (k : Fin 1024) (h : t.val / 8 * 512 + r.val < 32768) :
    (iblk m c 3 t : S512x1024.Idx → EReal) (ix2 r k) = m ((c : Thread nD τ).loc main_arg2) (ix2 ⟨t.val / 8 * 512 + r.val, h⟩ k) := by
  show V m c main_arg2 ((win0_3.rect t).emb (ix2 r k)) = _
  rw [V_main_arg2]
  refine congrArg _ (Shape.idx_ext₂ ?_ ?_)
  · exact (win0_3.rect_emb_val t _ 0).trans (by rw [(maps t).2.2.2.1.1]; rfl)
  · exact (win0_3.rect_emb_val t _ 1).trans (by rw [(maps t).2.2.2.1.2, Nat.zero_mul, Nat.zero_add]; rfl)

/-- Window 4's block: columns of the first branch's weights. -/
theorem blk4 (c : Dev nD) (t : Fin cfg0.N) (k : Fin 1024) (s : Fin 512) (h : t.val % 8 * 512 + s.val < 4096) :
    (iblk m c 4 t : S1024x512.Idx → EReal) (ix2 k s) = m ((c : Thread nD τ).loc main_arg3) (ix2 k ⟨t.val % 8 * 512 + s.val, h⟩) := by
  show V m c main_v1 ((win0_4.rect t).emb (ix2 k s)) = _
  rw [V_v1]
  refine congrArg _ (Shape.idx_ext₂ ?_ ?_)
  · exact (win0_4.rect_emb_val t _ 0).trans (by rw [(maps t).2.2.2.2.1.1, Nat.zero_mul, Nat.zero_add]; rfl)
  · exact (win0_4.rect_emb_val t _ 1).trans (by rw [(maps t).2.2.2.2.1.2]; rfl)

/-- Window 5's block: rows of the second branch. -/
theorem blk5 (c : Dev nD) (t : Fin cfg0.N) (r : Fin 512) (k : Fin 1024) (h : t.val / 8 * 512 + r.val < 32768) :
    (iblk m c 5 t : S512x1024.Idx → EReal) (ix2 r k) = m ((c : Thread nD τ).loc main_arg4) (ix2 ⟨t.val / 8 * 512 + r.val, h⟩ k) := by
  show V m c main_arg4 ((win0_5.rect t).emb (ix2 r k)) = _
  rw [V_main_arg4]
  refine congrArg _ (Shape.idx_ext₂ ?_ ?_)
  · exact (win0_5.rect_emb_val t _ 0).trans (by rw [(maps t).2.2.2.2.2.1.1]; rfl)
  · exact (win0_5.rect_emb_val t _ 1).trans (by rw [(maps t).2.2.2.2.2.1.2, Nat.zero_mul, Nat.zero_add]; rfl)

/-- Window 6's block: columns of the second branch's weights. -/
theorem blk6 (c : Dev nD) (t : Fin cfg0.N) (k : Fin 1024) (s : Fin 512) (h : t.val % 8 * 512 + s.val < 4096) :
    (iblk m c 6 t : S1024x512.Idx → EReal) (ix2 k s) = m ((c : Thread nD τ).loc main_arg5) (ix2 k ⟨t.val % 8 * 512 + s.val, h⟩) := by
  show V m c main_v2 ((win0_6.rect t).emb (ix2 k s)) = _
  rw [V_v2]
  refine congrArg _ (Shape.idx_ext₂ ?_ ?_)
  · exact (win0_6.rect_emb_val t _ 0).trans (by rw [(maps t).2.2.2.2.2.2.1.1, Nat.zero_mul, Nat.zero_add]; rfl)
  · exact (win0_6.rect_emb_val t _ 1).trans (by rw [(maps t).2.2.2.2.2.2.1.2]; rfl)

/-- Where an element of the result block at point `t` lies in the result. -/
theorem emb7 (t : Fin cfg0.N) (r : Fin 512) (s : Fin 512) (h : t.val / 8 * 512 + r.val < 32768)
    (h' : t.val % 8 * 512 + s.val < 4096) :
    (win0_7.rect t).emb (ix2 r s) = (ix2 ⟨t.val / 8 * 512 + r.val, h⟩ ⟨t.val % 8 * 512 + s.val, h'⟩ : S32768x4096.Idx) := by
  refine Shape.idx_ext₂ ?_ ?_
  · exact (win0_7.rect_emb_val t _ 0).trans (by rw [(maps t).2.2.2.2.2.2.2.1]; rfl)
  · exact (win0_7.rect_emb_val t _ 1).trans (by rw [(maps t).2.2.2.2.2.2.2.2]; rfl)

/-- What the kernel computes from the launch memory. -/
abbrev G (c : Dev nD) : FVec Ideal S32768x4096 .bf16 :=
  mix (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is its block of the mix. -/
theorem flushed_eq (c : Dev nD) (t : Fin cfg0.N) :
    (dats m 0 c).flushed 7 t = ((cfg0.win 7).blk t).view.read (Elt Ideal) (G m c) := by
  rw [Value.flushed7]
  funext y
  show out0_7 (iblk m c 0 t) (iblk m c 1 t) (iblk m c 2 t) (iblk m c 3 t) (iblk m c 4 t) (iblk m c 5 t) (iblk m c 6 t) y
    = G m c ((win0_7.rect t).emb y)
  have ht : t.val < 512 := lt_of_lt_of_eq t.isLt N_0
  obtain ⟨r, s, rfl⟩ : ∃ (r : Fin 512) (s : Fin 512), y = ix2 r s := ⟨y 0, y 1, eq_ix2 y⟩
  have h : t.val / 8 * 512 + r.val < 32768 := by omega
  have h' : t.val % 8 * 512 + s.val < 4096 := by omega
  have ha : (20 + t.val % 8) * 512 + s.val < 18432 := by omega
  have hb : (28 + t.val % 8) * 512 + s.val < 18432 := by omega
  have ea : (⟨(20 + t.val % 8) * 512 + s.val, ha⟩ : Fin 18432) = ⟨10240 + (t.val % 8 * 512 + s.val), by omega⟩ := Fin.ext (by show (20 + t.val % 8) * 512 + s.val = 10240 + (t.val % 8 * 512 + s.val); omega)
  have eb : (⟨(28 + t.val % 8) * 512 + s.val, hb⟩ : Fin 18432) = ⟨14336 + (t.val % 8 * 512 + s.val), by omega⟩ := Fin.ext (by show (28 + t.val % 8) * 512 + s.val = 14336 + (t.val % 8 * 512 + s.val); omega)
  rw [out_apply, emb7 t r s h h']
  unfold dot
  show Ideal.logistic _ * _ + Ideal.logistic _ * _ = Ideal.logistic _ * _ + Ideal.logistic _ * _
  refine congrArg₂ _ (congrArg₂ _ (congrArg _ ?_) ?_) (congrArg₂ _ (congrArg _ ?_) ?_)
  · exact Finset.sum_congr rfl fun k _ => congrArg₂ _ (blk0 m c t r k h) ((blk1 m c t k s ha).trans (by rw [ea]; rfl))
  · exact Finset.sum_congr rfl fun k _ => congrArg₂ _ (blk3 m c t r k h) (blk4 m c t k s h')
  · exact Finset.sum_congr rfl fun k _ => congrArg₂ _ (blk0 m c t r k h) ((blk2 m c t k s hb).trans (by rw [eb]; rfl))
  · exact Finset.sum_congr rfl fun k _ => congrArg₂ _ (blk5 m c t r k h) (blk6 m c t k s h')

/-- Every element of the result lies in some point's block. -/
theorem covered (i : S32768x4096.Idx) : ∃ t : Fin cfg0.N, (cfg0.win 7).flush t = true ∧ i ∈ ((cfg0.win 7).blk t).view.set := by
  obtain ⟨r, s, rfl⟩ : ∃ (r : Fin 32768) (s : Fin 4096), i = ix2 r s := ⟨i 0, i 1, eq_ix2 i⟩
  have hlt : r.val / 512 * 8 + s.val / 512 < 512 := by omega
  let t : Fin cfg0.N := ⟨r.val / 512 * 8 + s.val / 512, lt_of_lt_of_eq hlt N_0.symm⟩
  refine ⟨t, flush0_7 t, ?_⟩
  have e : (ix2 r s : S32768x4096.Idx) = ((cfg0.win 7).blk t).view.emb (ix2 ⟨r.val % 512, by omega⟩ ⟨s.val % 512, by omega⟩ : S512x512.Idx) := by
    refine Eq.trans ?_ (emb7 t ⟨r.val % 512, by omega⟩ ⟨s.val % 512, by omega⟩ (by show (r.val / 512 * 8 + s.val / 512) / 8 * 512 + r.val % 512 < 32768; omega)
      (by show (r.val / 512 * 8 + s.val / 512) % 8 * 512 + s.val % 512 < 4096; omega)).symm
    refine Shape.idx_ext₂ ?_ ?_
    · show r.val = (r.val / 512 * 8 + s.val / 512) / 8 * 512 + r.val % 512; omega
    · show s.val = (r.val / 512 * 8 + s.val / 512) % 8 * 512 + s.val % 512; omega
  rw [e]
  exact View.emb_mem_set _ _

/-- The result array after the run is the mix. -/
theorem final (c : Dev nD) : (dats m 0 c).arrAt 7 cfg0.N = G m c :=
  (dats m 0 c).arrAt_eq_of_cover 7 (G m c) (fun t _ => flushed_eq m c t) covered

/-- The reference's program text computes the same formula. -/
theorem ref_eq (H : FVec Ideal S32768x4096 .bf16) (W : FVec Ideal S4096x18432 .f32) (OA : FVec Ideal S32768x1024 .bf16)
    (WA : FVec Ideal S1024x4096 .f32) (OB : FVec Ideal S32768x1024 .bf16) (WB : FVec Ideal S1024x4096 .f32) :
    (open Cert.MixRefIdeal Cert.MixRefIdeal.Gen in truncf .bf16 (addf
        (mulf (Host.divf (broadcastInDim S32768x4096 ![] bcast_S_S32768x4096 (constant S_ .f32 0x3F800000#32))
          (addf (broadcastInDim S32768x4096 ![] bcast_S_S32768x4096 (constant S_ .f32 0x3F800000#32)) (Host.exp (Host.negf (Host.dotGeneral dot_S32768x4096_S4096x4096_S32768x4096_1_0_0_1_n_n none (extf .f32 H Cert.MixRefIdeal.Gen.bitsLt_bf16_f32)
            (extractStridedSlice S4096x4096 ![0, 10240] W slices_S4096x18432_S4096x4096_0_10240))))))
          (Host.dotGeneral dot_S32768x1024_S1024x4096_S32768x4096_1_0_0_1_n_n none (extf .f32 OA Cert.MixRefIdeal.Gen.bitsLt_bf16_f32) WA))
        (mulf (Host.divf (broadcastInDim S32768x4096 ![] bcast_S_S32768x4096 (constant S_ .f32 0x3F800000#32))
          (addf (broadcastInDim S32768x4096 ![] bcast_S_S32768x4096 (constant S_ .f32 0x3F800000#32)) (Host.exp (Host.negf (Host.dotGeneral dot_S32768x4096_S4096x4096_S32768x4096_1_0_0_1_n_n none (extf .f32 H Cert.MixRefIdeal.Gen.bitsLt_bf16_f32)
            (extractStridedSlice S4096x4096 ![0, 14336] W slices_S4096x18432_S4096x4096_0_14336))))))
          (Host.dotGeneral dot_S32768x1024_S1024x4096_S32768x4096_1_0_0_1_n_n none (extf .f32 OB Cert.MixRefIdeal.Gen.bitsLt_bf16_f32) WB))) Cert.MixRefIdeal.Gen.bitsLt_bf16_f32)
      = mix H W OA WA OB WB := by
  funext i
  unfold mix dot
  idx_vars i
  pointwise
  rfl

end Cert.MixIdeal.Math

namespace Cert.Proof

open Idealize.ShloMosaic Idealize.SL.Sem

theorem algebraic_mix : Cert.algebraic_MixIdeal_MixRefIdeal := by
  intro m g m' g' _ hag
  refine ⟨fun c => MixIdeal.Math.G m c, ?_, ?_⟩
  · exact (θ_run _ _ _).mono (fun r h c => ⟨(h c).1.trans (MixIdeal.Math.final m c), (h c).2⟩) (MixIdeal.Value.run_blocks m g)
  · refine (θ_run _ _ _).mono (fun r h c => ⟨(h c).1.trans ?_, (h c).2⟩) (MixRefIdeal.Value.run (F := Ideal) m' g')
    obtain ⟨h0, h1, h2, h3, h4, h5⟩ := hag c
    rw [h0, h1, h2, h3, h4, h5]
    exact MixIdeal.Math.ref_eq _ _ _ _ _ _

theorem frame_mixRef : Cert.quiescent_MixRefIdeal := fun m g _ =>
  (θ_run _ _ _).mono (fun r h => ⟨fun c => (h c).2, sem_eq_zero_of_no_sems (by decide) r.2⟩) (MixRefIdeal.Value.run (F := Ideal) m g)

end Cert.Proof

end
-- ==== Proof.OutProjValue.lean ====
/- The output projection with the residual, as one formula: what the kernel's result array holds after the run,
   and that the reference computes the same. -/
module

public import proofs.«01_k».proof.Defs
public import proofs.«01_k».proof.Proof.Gen.OutProjIdeal.Value
public import proofs.«01_k».proof.Proof.Gen.OutProjRefIdeal.Run
public import Idealize.ShloMosaic.Lib.Pointwise
public import Idealize.ShloMosaic.Lib.Pipeline.Value

@[expose] public section

set_option maxRecDepth 16384

noncomputable section

namespace Cert.OutProjIdeal.Math

open Cert.OutProjIdeal Cert.OutProjIdeal.Gen Idealize.ShloMosaic Idealize.ShloMosaic.TcCoe Idealize.SL.Sem
open Idealize.ShloMosaic.Pipeline (Dat)

/-- The projection: a row of `X` plus that row of `A` times the matrix `W`. -/
def proj (A : FVec Ideal S32768x4096 .bf16) (W : FVec Ideal S4096x4096 .f32) (X : FVec Ideal S32768x4096 .f32) :
    FVec Ideal S32768x4096 .f32 :=
  fun i => X i + ∑ k : Fin 4096, A (ix2 (i 0) k) * W (ix2 k (i 1))

/-- Which block each window is on at point `t`: row tile `t / 4`, column tile `t % 4`. -/
theorem maps : ∀ t : Fin grid0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 4 ∧ win0_3.index t 1 = t.val % 4) := by decide +kernel

variable (m : (ℓ : Loc nD τ sig) → Buf (Elt Ideal) ℓ)

/-- The host rounds the weights before the kernel, which at the ideal instance is no change. -/
theorem V_v0 (c : Dev nD) : V m c main_v0 = m ((c : Thread nD τ).loc main_arg1) := by
  show StableHlo.after hostOps0 (fun b => m (c, b)) main_v0 = _
  after_results
  rfl

theorem hz2 : (![0, 0] : Fin 2 → Nat) = fun _ => 0 := funext fun a => by fin_cases a <;> rfl

/-- A point's result block, element by element, from the blocks it loads. -/
theorem out_apply (x0 : Vec Ideal S512x4096 .bf16) (x1 : Vec Ideal S4096x1024 .bf16) (x2 : Vec Ideal S512x1024 .f32)
    (j : S512x1024.Idx) :
    out0_3 x0 x1 x2 j = x2 j + ∑ k : Fin 4096, x0 (ix2 (j 0) k) * x1 (ix2 k (j 1)) := by
  unfold out0_3
  rw [View.canon_unit_zero hz2, View.ld_unit_zero hz2, View.ld_unit_zero hz2, View.ld_unit_zero hz2]
  idx_vars j
  pointwise [k0_pay1]

/-- Window 0's block: rows of the first operand. -/
theorem blk0 (c : Dev nD) (t : Fin cfg0.N) (r : Fin 512) (k : Fin 4096) (h : t.val / 4 * 512 + r.val < 32768) :
    (iblk m c 0 t : S512x4096.Idx → EReal) (ix2 r k) = m ((c : Thread nD τ).loc main_arg0) (ix2 ⟨t.val / 4 * 512 + r.val, h⟩ k) := by
  show V m c main_arg0 ((win0_0.rect t).emb (ix2 r k)) = _
  rw [V_main_arg0]
  refine congrArg _ (Shape.idx_ext₂ ?_ ?_)
  · exact (win0_0.rect_emb_val t _ 0).trans (by rw [(maps t).1.1]; rfl)
  · exact (win0_0.rect_emb_val t _ 1).trans (by rw [(maps t).1.2, Nat.zero_mul, Nat.zero_add]; rfl)

/-- Window 1's block: columns of the weights. -/
theorem blk1 (c : Dev nD) (t : Fin cfg0.N) (k : Fin 4096) (r : Fin 1024) (h : t.val % 4 * 1024 + r.val < 4096) :
    (iblk m c 1 t : S4096x1024.Idx → EReal) (ix2 k r) = m ((c : Thread nD τ).loc main_arg1) (ix2 k ⟨t.val % 4 * 1024 + r.val, h⟩) := by
  show V m c main_v0 ((win0_1.rect t).emb (ix2 k r)) = _
  rw [V_v0]
  refine congrArg _ (Shape.idx_ext₂ ?_ ?_)
  · exact (win0_1.rect_emb_val t _ 0).trans (by rw [(maps t).2.1.1, Nat.zero_mul, Nat.zero_add]; rfl)
  · exact (win0_1.rect_emb_val t _ 1).trans (by rw [(maps t).2.1.2]; rfl)

/-- Window 2's block: the tile of the residual. -/
theorem blk2 (c : Dev nD) (t : Fin cfg0.N) (r : Fin 512) (s : Fin 1024) (h : t.val / 4 * 512 + r.val < 32768)
    (h' : t.val % 4 * 1024 + s.val < 4096) :
    (iblk m c 2 t : S512x1024.Idx → EReal) (ix2 r s)
      = m ((c : Thread nD τ).loc main_arg2) (ix2 ⟨t.val / 4 * 512 + r.val, h⟩ ⟨t.val % 4 * 1024 + s.val, h'⟩) := by
  show V m c main_arg2 ((win0_2.rect t).emb (ix2 r s)) = _
  rw [V_main_arg2]
  refine congrArg _ (Shape.idx_ext₂ ?_ ?_)
  · exact (win0_2.rect_emb_val t _ 0).trans (by rw [(maps t).2.2.1.1]; rfl)
  · exact (win0_2.rect_emb_val t _ 1).trans (by rw [(maps t).2.2.1.2]; rfl)

/-- Where an element of the result block at point `t` lies in the result. -/
theorem emb3 (t : Fin cfg0.N) (r : Fin 512) (s : Fin 1024) (h : t.val / 4 * 512 + r.val < 32768)
    (h' : t.val % 4 * 1024 + s.val < 4096) :
    (win0_3.rect t).emb (ix2 r s) = (ix2 ⟨t.val / 4 * 512 + r.val, h⟩ ⟨t.val % 4 * 1024 + s.val, h'⟩ : S32768x4096.Idx) := by
  refine Shape.idx_ext₂ ?_ ?_
  · exact (win0_3.rect_emb_val t _ 0).trans (by rw [(maps t).2.2.2.1]; rfl)
  · exact (win0_3.rect_emb_val t _ 1).trans (by rw [(maps t).2.2.2.2]; rfl)

/-- What the kernel computes from the launch memory. -/
abbrev G (c : Dev nD) : FVec Ideal S32768x4096 .f32 :=
  proj (m ((c : Thread nD τ).loc main_arg0)) (m ((c : Thread nD τ).loc main_arg1)) (m ((c : Thread nD τ).loc main_arg2))

/-- What point `t` writes back is its block of the projection. -/
theorem flushed_eq (c : Dev nD) (t : Fin cfg0.N) :
    (dats m 0 c).flushed 3 t = ((cfg0.win 3).blk t).view.read (Elt Ideal) (G m c) := by
  rw [Value.flushed3]
  funext y
  show out0_3 (iblk m c 0 t) (iblk m c 1 t) (iblk m c 2 t) y = G m c ((win0_3.rect t).emb y)
  have ht : t.val < 256 := lt_of_lt_of_eq t.isLt N_0
  obtain ⟨r, s, rfl⟩ : ∃ (r : Fin 512) (s : Fin 1024), y = ix2 r s := ⟨y 0, y 1, eq_ix2 y⟩
  have h : t.val / 4 * 512 + r.val < 32768 := by omega
  have h' : t.val % 4 * 1024 + s.val < 4096 := by omega
  rw [out_apply, emb3 t r s h h', blk2 m c t r s h h']
  show _ + _ = _ + _
  refine congrArg _ (Finset.sum_congr rfl fun k _ => ?_)
  exact congrArg₂ _ (blk0 m c t r k h) (blk1 m c t k s h')

/-- Every element of the result lies in some point's block. -/
theorem covered (i : S32768x4096.Idx) : ∃ t : Fin cfg0.N, (cfg0.win 3).flush t = true ∧ i ∈ ((cfg0.win 3).blk t).view.set := by
  obtain ⟨r, s, rfl⟩ : ∃ (r : Fin 32768) (s : Fin 4096), i = ix2 r s := ⟨i 0, i 1, eq_ix2 i⟩
  have hlt : r.val / 512 * 4 + s.val / 1024 < 256 := by omega
  let t : Fin cfg0.N := ⟨r.val / 512 * 4 + s.val / 1024, lt_of_lt_of_eq hlt N_0.symm⟩
  refine ⟨t, flush0_3 t, ?_⟩
  have e : (ix2 r s : S32768x4096.Idx) = ((cfg0.win 3).blk t).view.emb (ix2 ⟨r.val % 512, by omega⟩ ⟨s.val % 1024, by omega⟩ : S512x1024.Idx) := by
    refine Eq.trans ?_ (emb3 t ⟨r.val % 512, by omega⟩ ⟨s.val % 1024, by omega⟩ (by show (r.val / 512 * 4 + s.val / 1024) / 4 * 512 + r.val % 512 < 32768; omega)
      (by show (r.val / 512 * 4 + s.val / 1024) % 4 * 1024 + s.val % 1024 < 4096; omega)).symm
    refine Shape.idx_ext₂ ?_ ?_
    · show r.val = (r.val / 512 * 4 + s.val / 1024) / 4 * 512 + r.val % 512; omega
    · show s.val = (r.val / 512 * 4 + s.val / 1024) % 4 * 1024 + s.val % 1024; omega
  rw [e]
  exact View.emb_mem_set _ _

/-- The result array after the run is the projection. -/
theorem final (c : Dev nD) : (dats m 0 c).arrAt 3 cfg0.N = G m c :=
  (dats m 0 c).arrAt_eq_of_cover 3 (G m c) (fun t _ => flushed_eq m c t) covered

/-- The reference's program text computes the same formula. -/
theorem ref_eq (A : FVec Ideal S32768x4096 .bf16) (W : FVec Ideal S4096x4096 .f32) (X : FVec Ideal S32768x4096 .f32) :
    (open Cert.OutProjRefIdeal Cert.OutProjRefIdeal.Gen in addf X (Host.dotGeneral dot_S32768x4096_S4096x4096_S32768x4096_1_0_0_1_n_n none (extf .f32 A Cert.OutProjRefIdeal.Gen.bitsLt_bf16_f32) W)) = proj A W X := by
  funext i
  unfold proj
  idx_vars i
  pointwise

end Cert.OutProjIdeal.Math

namespace Cert.Proof

open Idealize.ShloMosaic Idealize.SL.Sem

theorem algebraic_outProj : Cert.algebraic_OutProjIdeal_OutProjRefIdeal := by
  intro m g m' g' _ hag
  refine ⟨fun c => OutProjIdeal.Math.G m c, ?_, ?_⟩
  · exact (θ_run _ _ _).mono (fun r h c => ⟨(h c).1.trans (OutProjIdeal.Math.final m c), (h c).2⟩) (OutProjIdeal.Value.run_blocks m g)
  · refine (θ_run _ _ _).mono (fun r h c => ⟨(h c).1.trans ?_, (h c).2⟩) (OutProjRefIdeal.Value.run (F := Ideal) m' g')
    obtain ⟨h0, h1, h2⟩ := hag c
    rw [h0, h1, h2]
    exact OutProjIdeal.Math.ref_eq _ _ _

theorem frame_outProjRef : Cert.quiescent_OutProjRefIdeal := fun m g _ =>
  (θ_run _ _ _).mono (fun r h => ⟨fun c => (h c).2, sem_eq_zero_of_no_sems (by decide) r.2⟩) (OutProjRefIdeal.Value.run (F := Ideal) m g)

end Cert.Proof

end
-- ==== Proof.HeadSlabs.lean ====
/- A block of four heads that is stored one head at a time, read back: the element of head `h` is what the store of
   head `h` put there. -/
module

public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.HeadSlabs

open Idealize.ShloMosaic

/-- The block of four heads, and one head of it. -/
abbrev Four : Shape := ⟨3, ![4, 512, 128]⟩
abbrev One : Shape := ⟨3, ![1, 512, 128]⟩

/-- A head's store, at an element that lies in it. -/
theorem tileAt_head (h : Fin 4) (r : Fin 512) (d : Fin 128) (n : Nat) (p : One.Idx → EReal) (v : EReal)
    (hp : h.val = n → p (ix3 0 r d) = v) : View.TileAt (Val := Elt Ideal) (e := .f32) (S := Four) (ix3 h r d) ![n, 0, 0] One.size p v := by
  intro x hx
  have e0 : h.val = n + (x 0 : ℕ) := hx 0
  have e1 : r.val = 0 + (x 1 : ℕ) := hx 1
  have e2 : d.val = 0 + (x 2 : ℕ) := hx 2
  have l0 : (x 0 : ℕ) < 1 := (x 0).isLt
  have e : x = (ix3 0 r d : One.Idx) := by
    funext a
    match a with
    | ⟨0, _⟩ => refine Fin.ext ?_; show (x 0 : ℕ) = 0; omega
    | ⟨1, _⟩ => refine Fin.ext ?_; show (x 1 : ℕ) = r.val; omega
    | ⟨2, _⟩ => refine Fin.ext ?_; show (x 2 : ℕ) = d.val; omega
  rw [e]
  exact hp (by omega)

/-- Four stores, one for each head, leave `g` where each leaves its head of `g`. -/
theorem canon_heads (p0 p1 p2 p3 : One.Idx → EReal) (g : Fin 4 → Fin 512 → Fin 128 → EReal)
    (i0 : ∀ a, ![0, 0, 0] a + One.size a ≤ Four.size a) (i1 : ∀ a, ![1, 0, 0] a + One.size a ≤ Four.size a)
    (i2 : ∀ a, ![2, 0, 0] a + One.size a ≤ Four.size a) (i3 : ∀ a, ![3, 0, 0] a + One.size a ≤ Four.size a)
    (h0 : ∀ r d, p0 (ix3 0 r d) = g 0 r d) (h1 : ∀ r d, p1 (ix3 0 r d) = g 1 r d)
    (h2 : ∀ r d, p2 (ix3 0 r d) = g 2 r d) (h3 : ∀ r d, p3 (ix3 0 r d) = g 3 r d) (h : Fin 4) (r : Fin 512) (d : Fin 128) :
    View.canon (Val := Elt Ideal) (s := Four) (e := .f32)
      [⟨Rect.unit (s := Four) ![3, 0, 0] One.size i3, p3⟩, ⟨Rect.unit (s := Four) ![2, 0, 0] One.size i2, p2⟩,
       ⟨Rect.unit (s := Four) ![1, 0, 0] One.size i1, p1⟩, ⟨Rect.unit (s := Four) ![0, 0, 0] One.size i0, p0⟩] (ix3 h r d)
      = g h r d := by
  refine View.canon_eq_of_allAt _ _ _ ?_ ?_
  · have hm (n : Nat) (i : ∀ a, ![n, 0, 0] a + One.size a ≤ Four.size a) (e : h.val = n) :
        (ix3 h r d : Four.Idx) ∈ (Rect.unit (s := Four) ![n, 0, 0] One.size i).set := by
      refine Rect.mem_set_unit.mpr fun a => ?_
      match a with
      | ⟨0, _⟩ => exact ⟨show n ≤ h.val by omega, show h.val < n + 1 by omega⟩
      | ⟨1, _⟩ => exact ⟨Nat.zero_le _, show r.val < 0 + 512 by omega⟩
      | ⟨2, _⟩ => exact ⟨Nat.zero_le _, show d.val < 0 + 128 by omega⟩
    rcases (by omega : h.val = 3 ∨ h.val = 2 ∨ h.val = 1 ∨ h.val = 0) with e | e | e | e
    · exact ⟨_, List.mem_cons_self, hm 3 i3 e⟩
    · exact ⟨_, List.mem_cons_of_mem _ List.mem_cons_self, hm 2 i2 e⟩
    · exact ⟨_, List.mem_cons_of_mem _ (List.mem_cons_of_mem _ List.mem_cons_self), hm 1 i1 e⟩
    · exact ⟨_, List.mem_cons_of_mem _ (List.mem_cons_of_mem _ (List.mem_cons_of_mem _ List.mem_cons_self)), hm 0 i0 e⟩
  refine View.allAt_cons_unit _ _ _ _ _ (tileAt_head h r d 3 p3 _ fun e => ?_) ?_
  · rw [show h = 3 from Fin.ext e]; exact h3 r d
  refine View.allAt_cons_unit _ _ _ _ _ (tileAt_head h r d 2 p2 _ fun e => ?_) ?_
  · rw [show h = 2 from Fin.ext e]; exact h2 r d
  refine View.allAt_cons_unit _ _ _ _ _ (tileAt_head h r d 1 p1 _ fun e => ?_) ?_
  · rw [show h = 1 from Fin.ext e]; exact h1 r d
  refine View.allAt_cons_unit _ _ _ _ _ (tileAt_head h r d 0 p0 _ fun e => ?_) (View.allAt_nil _ _)
  rw [show h = 0 from Fin.ext e]; exact h0 r d

/-- Indices of a three-axis array agree when their coordinates do. -/
theorem idx_ext₃ {n : Fin 3 → ℕ} {x y : (a : Fin 3) → Fin (n a)} (h0 : (x 0 : ℕ) = y 0) (h1 : (x 1 : ℕ) = y 1)
    (h2 : (x 2 : ℕ) = y 2) : x = y := by
  funext a
  match a with
  | ⟨0, _⟩ => exact Fin.ext h0
  | ⟨1, _⟩ => exact Fin.ext h1
  | ⟨2, _⟩ => exact Fin.ext h2

end Cert.HeadSlabs

end
-- ==== Proof.QkMath.lean ====
/- The query and key projections with their normalisation and rotation: the formula for one head's row, and that a
   kernel point's result block holds it. -/
module

public import proofs.«01_k».proof.Defs
public import proofs.«01_k».proof.Proof.Gen.QkProjIdeal.Value
public import proofs.«01_k».proof.Proof.HeadSlabs
public import Idealize.ShloMosaic.Lib.Pointwise
public import Idealize.ShloMosaic.Lib.Pipeline.Value

@[expose] public section

set_option maxRecDepth 16384

noncomputable section

namespace Cert.QkProjIdeal.Math

open Cert.QkProjIdeal Cert.QkProjIdeal.Gen Idealize.ShloMosaic Idealize.ShloMosaic.TcCoe Idealize.SL.Sem
open Idealize.ShloMosaic.Pipeline (Dat)

/-- A head's row `x` divided by the root of its mean square (with the small constant added under the root), times the
    gain `g`. -/
def normed (x g : Fin 128 → EReal) : Fin 128 → EReal :=
  fun d => x d * Ideal.rsqrt (Ideal.div (∑ e, x e * x e) (Ideal.ofBits .f32 0x43000000#32) + Ideal.ofBits .f32 0x358637BD#32) * g d

/-- The other half's element that is turned together with element `d`. -/
def partner (d : Fin 128) : Fin 128 := ⟨(d.val + 128 - 64) % 128, Nat.mod_lt _ (by decide)⟩

/-- A row turned, as the kernel does it: each element times its cosine plus its partner times its signed sine. -/
def turned (t c s : Fin 128 → EReal) : Fin 128 → EReal := fun d => t d * c d + t (partner d) * s d

theorem hz2 : (![0, 0] : Fin 2 → Nat) = fun _ => 0 := funext fun a => by fin_cases a <;> rfl

/-- One head's row of a point's result block, from the blocks it loads. -/
def headRow (x0 : Vec Ideal S512x4096 .bf16) (x1 : Vec Ideal S4096x512 .bf16) (x2 : Vec Ideal S1x512 .f32)
    (x3 x4 : Vec Ideal S512x128 .f32) (h : Fin 4) (r : Fin 512) : Fin 128 → EReal :=
  turned (normed (fun e => ∑ k : Fin 4096, x0 (ix2 r k) * x1 (ix2 k ⟨h.val * 128 + e.val, by omega⟩)) (fun e => x2 (ix2 0 ⟨h.val * 128 + e.val, by omega⟩)))
    (fun e => x3 (ix2 r e)) (fun e => x4 (ix2 r e))

/-- A point's result block, head by head. -/
theorem out_apply (x0 : Vec Ideal S512x4096 .bf16) (x1 : Vec Ideal S4096x512 .bf16) (x2 : Vec Ideal S1x512 .f32)
    (x3 x4 : Vec Ideal S512x128 .f32) (h : Fin 4) (r : Fin 512) (d : Fin 128) :
    out0_5 x0 x1 x2 x3 x4 (ix3 h r d) = headRow x0 x1 x2 x3 x4 h r d := by
  unfold_out out0_5
  rw [View.ld_unit_zero hz2, View.ld_unit_zero hz2, View.ld_unit_zero hz2, View.ld_unit_zero hz2]
  refine HeadSlabs.canon_heads _ _ _ _ (fun h r d => headRow x0 x1 x2 x3 x4 h r d)
    _ _ _ _ (fun r d => ?_) (fun r d => ?_) (fun r d => ?_) (fun r d => ?_) h r d
  · unfold headRow turned normed partner
    pointwise [k0_pay5, k0_pay4, k0_pay3, k0_pay2]
  · unfold headRow turned normed partner
    pointwise [k0_pay8, k0_pay7, k0_pay6, k0_pay4, k0_pay3, k0_pay2]
  · unfold headRow turned normed partner
    pointwise [k0_pay9, k0_pay4, k0_pay3, k0_pay2]
  · unfold headRow turned normed partner
    pointwise [k0_pay1, k0_pay11, k0_pay10, k0_pay4, k0_pay3, k0_pay2]

end Cert.QkProjIdeal.Math

end
-- ==== Proof.QkRefValue.lean ====
/- What the reference of the query and key projections computes, as one formula. -/
module

public import proofs.«01_k».proof.Proof.QkMath
public import proofs.«01_k».proof.Proof.Gen.QkProjRefIdeal.Read

@[expose] public section

set_option maxRecDepth 16384

noncomputable section

namespace Cert.QkProjIdeal.Math

open Cert.QkProjIdeal Idealize.ShloMosaic
open Cert.QkProjRefIdeal.Read

/-- The place of element `d` in its half of the row. -/
def half (d : Fin 128) : Fin 64 := ⟨d.val % 64, Nat.mod_lt _ (by decide)⟩

/-- A row turned, as the reference does it: in the first half the partner's part is subtracted, in the second added. -/
def turnedHalves (t : Fin 128 → EReal) (c s : Fin 64 → EReal) : Fin 128 → EReal := fun d =>
  if d.val < 64 then t d * c (half d) - t (partner d) * s (half d) else t d * c (half d) + t (partner d) * s (half d)

/-- The kernel's signed sines give the same turn. -/
theorem turned_eq (t : Fin 128 → EReal) (c s : Fin 64 → EReal) :
    turned t (fun d => c (half d)) (fun d => if d.val < 64 then -s (half d) else s (half d)) = turnedHalves t c s := by
  funext d
  show t d * c (half d) + t (partner d) * (if d.val < 64 then -s (half d) else s (half d)) = turnedHalves t c s d
  unfold turnedHalves
  by_cases h : d.val < 64
  · rw [if_pos h, if_pos h, mul_neg, sub_eq_add_neg]
  · rw [if_neg h, if_neg h]

/-- The cosines and sines of the angles: position in its sequence times the frequency of the place. -/
abbrev cosT : FVec Ideal S32768x64 .f32 := val_main_v34 (F := Ideal)
abbrev sinT : FVec Ideal S32768x64 .f32 := val_main_v36 (F := Ideal)

/-- The two halves joined again. -/
theorem join_apply (a b : FVec Ideal Cert.QkProjRefIdeal.S32768x3x8x64 .f32) (r : Fin 32768) (g : Fin 3) (j : Fin 8) (d : Fin 128) :
    (concatenate Cert.QkProjRefIdeal.S32768x3x8x128 3 [⟨Cert.QkProjRefIdeal.S32768x3x8x64, a⟩, ⟨Cert.QkProjRefIdeal.S32768x3x8x64, b⟩] Cert.QkProjRefIdeal.Gen.concatenates_S32768x3x8x64_S32768x3x8x64_S32768x3x8x128_d3) (ix4 r g j d)
      = if d.val < 64 then a (ix4 r g j (half d)) else b (ix4 r g j (half d)) := by
  unfold half
  pointwise
  by_cases h : d.val < 64
  · rw [dif_pos h, if_pos h]
    exact congrArg a (congrArg (ix4 r g j) (Fin.ext (show d.val = d.val % 64 by omega)))
  · rw [dif_neg h, if_neg h]
    exact congrArg b (congrArg (ix4 r g j) (Fin.ext (show d.val - 64 = d.val % 64 by omega)))

variable (A : FVec Ideal S32768x4096 .bf16) (W : FVec Ideal S4096x18432 .f32) (qn kn : FVec Ideal S3x128 .f32)

theorem q_row (r : Fin 32768) (g : Fin 3) (j : Fin 8) (e : Fin 128) :
    val_main_v8 (F := Ideal) A W (ix4 r g j e) = ∑ k : Fin 4096, A (ix2 r k) * W (ix2 k ⟨(g.val * 8 + j.val) * 128 + e.val, by omega⟩) := by
  pointwise [val_main_v8, val_main_v7, val_main_v2, val_main_v1, val_main_v0]
  refine Finset.sum_congr rfl fun k _ => congrArg _ (congrArg W (congrArg (ix2 k) (Fin.ext ?_)))
  show g.val * 1024 + j.val * 128 + e.val = (g.val * 8 + j.val) * 128 + e.val
  omega

theorem k_row (r : Fin 32768) (g : Fin 3) (j : Fin 8) (e : Fin 128) :
    val_main_v52 (F := Ideal) A W (ix4 r g j e) = ∑ k : Fin 4096, A (ix2 r k) * W (ix2 k ⟨3072 + ((g.val * 8 + j.val) * 128 + e.val), by omega⟩) := by
  pointwise [val_main_v52, val_main_v51, val_main_v2, val_main_v1, val_main_v0]
  refine Finset.sum_congr rfl fun k _ => congrArg _ (congrArg W (congrArg (ix2 k) (Fin.ext ?_)))
  show 3072 + (g.val * 1024 + j.val * 128 + e.val) = 3072 + ((g.val * 8 + j.val) * 128 + e.val)
  omega

theorem q_normed (r : Fin 32768) (g : Fin 3) (j : Fin 8) (d : Fin 128) :
    val_main_v22 (F := Ideal) A W qn (ix4 r g j d) = normed (fun e => val_main_v8 (F := Ideal) A W (ix4 r g j e)) (fun e => qn (ix2 g e)) d := by
  unfold normed
  pointwise [val_main_v22, val_main_v21, val_main_v20, val_main_v19, val_main_v18, val_main_v17, val_main_v16, val_main_v15, val_main_v14, val_main_cst_1, val_main_v13, val_main_v12, val_main_cst_0, val_main_v11, val_main_v10, val_main_cst, val_main_v9]

theorem k_normed (r : Fin 32768) (g : Fin 3) (j : Fin 8) (d : Fin 128) :
    val_main_v66 (F := Ideal) A W kn (ix4 r g j d) = normed (fun e => val_main_v52 (F := Ideal) A W (ix4 r g j e)) (fun e => kn (ix2 g e)) d := by
  unfold normed
  pointwise [val_main_v66, val_main_v65, val_main_v64, val_main_v63, val_main_v62, val_main_v61, val_main_v60, val_main_v59, val_main_v58, val_main_cst_6, val_main_v57, val_main_v56, val_main_cst_5, val_main_v55, val_main_v54, val_main_cst_4, val_main_v53]

/-- The reference computes the keys' angles as it did the queries'. -/
theorem cos_again : val_main_v78 (F := Ideal) = cosT := rfl
theorem sin_again : val_main_v80 (F := Ideal) = sinT := rfl

/-- In the first half the place is the element itself and the partner lies 64 further on. -/
theorem first_half {d : Fin 128} (h : d.val < 64) (p : d.val % 64 < 128) (p' : 64 + d.val % 64 < 128) :
    (⟨d.val % 64, p⟩ : Fin 128) = d ∧ (⟨64 + d.val % 64, p'⟩ : Fin 128) = partner d :=
  ⟨Fin.ext (show d.val % 64 = d.val by omega), Fin.ext (show 64 + d.val % 64 = (d.val + 128 - 64) % 128 by omega)⟩

/-- In the second half the element lies 64 past its place, and the partner is at the place. -/
theorem second_half {d : Fin 128} (h : ¬d.val < 64) (p : d.val % 64 < 128) (p' : 64 + d.val % 64 < 128) :
    (⟨d.val % 64, p⟩ : Fin 128) = partner d ∧ (⟨64 + d.val % 64, p'⟩ : Fin 128) = d :=
  ⟨Fin.ext (show d.val % 64 = (d.val + 128 - 64) % 128 by omega), Fin.ext (show 64 + d.val % 64 = d.val by omega)⟩

theorem q_turned (r : Fin 32768) (g : Fin 3) (j : Fin 8) (d : Fin 128) :
    val_main_v50 (F := Ideal) A W qn (ix4 r g j d)
      = turnedHalves (fun e => val_main_v22 (F := Ideal) A W qn (ix4 r g j e)) (fun e => cosT (ix2 r e)) (fun e => sinT (ix2 r e)) d := by
  unfold val_main_v50
  rw [join_apply]
  unfold turnedHalves half
  by_cases h : d.val < 64
  · rw [if_pos h, if_pos h]
    pointwise [val_main_v44, val_main_v43, val_main_v42, val_main_v41, val_main_v40, val_main_v39, val_main_v38, val_main_v37, val_main_v35]
    rw [(first_half h (by omega) (by omega)).1, (first_half h (by omega) (by omega)).2]
  · rw [if_neg h, if_neg h]
    pointwise [val_main_v49, val_main_v48, val_main_v47, val_main_v46, val_main_v45, val_main_v39, val_main_v38, val_main_v37, val_main_v35]
    rw [(second_half h (by omega) (by omega)).1, (second_half h (by omega) (by omega)).2]

theorem k_turned (r : Fin 32768) (g : Fin 3) (j : Fin 8) (d : Fin 128) :
    val_main_v94 (F := Ideal) A W kn (ix4 r g j d)
      = turnedHalves (fun e => val_main_v66 (F := Ideal) A W kn (ix4 r g j e)) (fun e => cosT (ix2 r e)) (fun e => sinT (ix2 r e)) d := by
  unfold val_main_v94
  rw [join_apply]
  unfold turnedHalves half
  rw [← cos_again, ← sin_again]
  by_cases h : d.val < 64
  · rw [if_pos h, if_pos h]
    pointwise [val_main_v88, val_main_v87, val_main_v86, val_main_v85, val_main_v84, val_main_v83, val_main_v82, val_main_v81, val_main_v79]
    rw [(first_half h (by omega) (by omega)).1, (first_half h (by omega) (by omega)).2]
  · rw [if_neg h, if_neg h]
    pointwise [val_main_v93, val_main_v92, val_main_v91, val_main_v90, val_main_v89, val_main_v83, val_main_v82, val_main_v81, val_main_v79]
    rw [(second_half h (by omega) (by omega)).1, (second_half h (by omega) (by omega)).2]

/-- The gain of head `h`: heads 0 to 23 are queries, 24 to 47 keys, in three groups of eight each. -/
def gain (h : Fin 48) (e : Fin 128) : EReal :=
  if q : h.val < 24 then qn (ix2 ⟨h.val / 8, by omega⟩ e) else kn (ix2 ⟨(h.val - 24) / 8, by omega⟩ e)

/-- The queries and keys: head `h` of a row of `A` is that row times columns `128 h` to `128 h + 127` of `W`,
    normalised and turned. -/
def qk : FVec Ideal S48x32768x128 .f32 := fun i =>
  turnedHalves (normed (fun e => ∑ k : Fin 4096, A (ix2 (i 1) k)
      * W (ix2 k ⟨(i 0).val * 128 + e.val, by have h : (i 0).val < 48 := (i 0).isLt; omega⟩)) (gain qn kn (i 0)))
    (fun e => cosT (ix2 (i 1) e)) (fun e => sinT (ix2 (i 1) e)) (i 2)

/-- The heads by number, from the heads by group and place. -/
theorem q_head (h : Fin 24) (r : Fin 32768) (d : Fin 128) :
    val_main_v96 (F := Ideal) A W qn (ix3 h r d) = val_main_v50 (F := Ideal) A W qn (ix4 r ⟨h.val / 8, by omega⟩ ⟨h.val % 8, by omega⟩ d) := by
  pointwise [val_main_v96, val_main_v95]

theorem k_head (h : Fin 24) (r : Fin 32768) (d : Fin 128) :
    val_main_v98 (F := Ideal) A W kn (ix3 h r d) = val_main_v94 (F := Ideal) A W kn (ix4 r ⟨h.val / 8, by omega⟩ ⟨h.val % 8, by omega⟩ d) := by
  pointwise [val_main_v98, val_main_v97]

/-- The queries' heads before the keys'. -/
theorem both_apply (a b : FVec Ideal Cert.QkProjRefIdeal.S24x32768x128 .f32) (h : Fin 48) (r : Fin 32768) (d : Fin 128) :
    (concatenate Cert.QkProjRefIdeal.S48x32768x128 0 [⟨Cert.QkProjRefIdeal.S24x32768x128, a⟩, ⟨Cert.QkProjRefIdeal.S24x32768x128, b⟩] Cert.QkProjRefIdeal.Gen.concatenates_S24x32768x128_S24x32768x128_S48x32768x128_d0) (ix3 h r d)
      = if q : h.val < 24 then a (ix3 ⟨h.val, q⟩ r d) else b (ix3 ⟨h.val - 24, by omega⟩ r d) := by
  pointwise

/-- The reference's program text computes that formula. -/
theorem ref_eq : val_main_v99 (F := Ideal) A W qn kn = qk A W qn kn := by
  funext i
  obtain ⟨h, r, d, rfl⟩ : ∃ (h : Fin 48) (r : Fin 32768) (d : Fin 128), i = ix3 h r d := ⟨i 0, i 1, i 2, eq_ix3 i⟩
  show _ = turnedHalves (normed (fun e => ∑ k : Fin 4096, A (ix2 r k) * W (ix2 k ⟨h.val * 128 + e.val, by omega⟩)) (gain qn kn h))
    (fun e => cosT (ix2 r e)) (fun e => sinT (ix2 r e)) d
  unfold val_main_v99
  rw [both_apply]
  by_cases q : h.val < 24
  · rw [dif_pos q, q_head, q_turned]
    refine congrArg (fun t => turnedHalves t _ _ d) (funext fun e => ?_)
    rw [q_normed]
    refine congrFun (congrArg₂ normed (funext fun e => ?_) (funext fun e => ?_)) e
    · rw [q_row]
      refine Finset.sum_congr rfl fun k _ => congrArg _ (congrArg W (congrArg (ix2 k) (Fin.ext ?_)))
      show (h.val / 8 * 8 + h.val % 8) * 128 + e.val = h.val * 128 + e.val
      omega
    · unfold gain
      rw [dif_pos q]
  · rw [dif_neg q, k_head, k_turned]
    refine congrArg (fun t => turnedHalves t _ _ d) (funext fun e => ?_)
    rw [k_normed]
    refine congrFun (congrArg₂ normed (funext fun e => ?_) (funext fun e => ?_)) e
    · rw [k_row]
      refine Finset.sum_congr rfl fun k _ => congrArg _ (congrArg W (congrArg (ix2 k) (Fin.ext ?_)))
      show 3072 + (((h.val - 24) / 8 * 8 + (h.val - 24) % 8) * 128 + e.val) = h.val * 128 + e.val
      omega
    · unfold gain
      rw [dif_neg q]

end Cert.QkProjIdeal.Math

end
-- ==== Proof.QkProjValue.lean ====
/- The query and key projections: what the kernel's result array holds after the run, and that the reference
   computes the same. -/
module

public import proofs.«01_k».proof.Defs
public import proofs.«01_k».proof.Proof.Gen.QkProjIdeal.Value
public import proofs.«01_k».proof.Proof.Gen.QkProjRefIdeal.Run
public import proofs.«01_k».proof.Proof.Gen.QkProjRefIdeal.Read
public import Idealize.ShloMosaic.Lib.Pointwise
public import Idealize.ShloMosaic.Lib.Pipeline.Value
public import proofs.«01_k».proof.Proof.QkRefValue

@[expose] public section

set_option maxRecDepth 16384

noncomputable section

namespace Cert.QkProjIdeal.Math

open Cert.QkProjIdeal Cert.QkProjIdeal.Gen Idealize.ShloMosaic Idealize.ShloMosaic.TcCoe Idealize.SL.Sem
open Idealize.ShloMosaic.Pipeline (Dat)

/-- Which block each window is on at point `t`: row tile `t / 12`, four heads `t % 12`. -/
theorem maps : ∀ t : Fin grid0.N,
    (win0_0.index t 0 = t.val / 12 ∧ win0_0.index t 1 = 0)
    ∧ (win0_1.index t 0 = 0 ∧ win0_1.index t 1 = t.val % 12)
    ∧ (win0_2.index t 0 = 0 ∧ win0_2.index t 1 = t.val % 12)
    ∧ (win0_3.index t 0 = t.val / 12 ∧ win0_3.index t 1 = 0)
    ∧ (win0_4.index t 0 = t.val / 12 ∧ win0_4.index t 1 = 0)
    ∧ (win0_5.index t 0 = t.val % 12 ∧ win0_5.index t 1 = t.val / 12 ∧ win0_5.index t 2 = 0) := by decide +kernel

variable (m : (ℓ : Loc nD τ sig) → Buf (Elt Ideal) ℓ)

/-- The host rounds the weights before the kernel, which at the ideal instance is no change. -/
theorem V_v29 (c : Dev nD) : V m c main_v29 = m ((c : Thread nD τ).loc main_arg1) := by
  show StableHlo.after hostOps0 (fun b => m (c, b)) main_v29 = _
  after_results
  rfl

/-- The table of cosines the host lays out: the same half twice. -/
theorem cosTable_apply (a : FVec Ideal S32768x64 .f32) (r : Fin 32768) (d : Fin 128) :
    concatenate S32768x128 1 [⟨S32768x64, a⟩, ⟨S32768x64, a⟩] concatenates_S32768x64_S32768x64_S32768x128_d1 (ix2 r d) = a (ix2 r (half d)) := by
  unfold half
  pointwise
  by_cases h : d.val < 64
  · rw [dif_pos h]
    exact congrArg a (congrArg (ix2 r) (Fin.ext (show d.val = d.val % 64 by omega)))
  · rw [dif_neg h]
    exact congrArg a (congrArg (ix2 r) (Fin.ext (show d.val - 64 = d.val % 64 by omega)))

/-- The table of sines the host lays out: negated in the first half. -/
theorem sinTable_apply (a : FVec Ideal S32768x64 .f32) (r : Fin 32768) (d : Fin 128) :
    concatenate S32768x128 1 [⟨S32768x64, Host.negf a⟩, ⟨S32768x64, a⟩] concatenates_S32768x64_S32768x64_S32768x128_d1 (ix2 r d)
      = if d.val < 64 then -a (ix2 r (half d)) else a (ix2 r (half d)) := by
  unfold half
  pointwise
  by_cases h : d.val < 64
  · rw [dif_pos h, if_pos h]
    exact congrArg (fun x => -a x) (congrArg (ix2 r) (Fin.ext (show d.val = d.val % 64 by omega)))
  · rw [dif_neg h, if_neg h]
    exact congrArg a (congrArg (ix2 r) (Fin.ext (show d.val - 64 = d.val % 64 by omega)))

/-- The gains the host lays out, a column for each column of the product: each head has its group's. -/
theorem gainRow_apply (qn kn : FVec Ideal S3x128 .f32) (h : Fin 48) (e : Fin 128) :
    concatenate S1x6144 1
      [⟨S1x3072, shapeCast S1x3072 (shapeCast S3x1024 (broadcastInDim S1x3x8x128 ![0, 1, 2, 3] bcast_S1x3x1x128_S1x3x8x128_0_1_2_3 (shapeCast S1x3x1x128 qn shapeCasts_S3x128_S1x3x1x128)) shapeCasts_S1x3x8x128_S3x1024) shapeCasts_S3x1024_S1x3072⟩,
       ⟨S1x3072, shapeCast S1x3072 (shapeCast S3x1024 (broadcastInDim S1x3x8x128 ![0, 1, 2, 3] bcast_S1x3x1x128_S1x3x8x128_0_1_2_3 (shapeCast S1x3x1x128 kn shapeCasts_S3x128_S1x3x1x128)) shapeCasts_S1x3x8x128_S3x1024) shapeCasts_S3x1024_S1x3072⟩]
      concatenates_S1x3072_S1x3072_S1x6144_d1 (ix2 0 ⟨h.val * 128 + e.val, by omega⟩) = gain qn kn h e := by
  unfold gain
  pointwise
  by_cases q : h.val < 24
  · rw [dif_pos (by omega), dif_pos q]
    exact congrArg qn (Shape.idx_ext₂ (show (h.val * 128 + e.val) / 1024 = h.val / 8 by omega) rfl)
  · rw [dif_neg (by omega), dif_neg q]
    exact congrArg kn (Shape.idx_ext₂ (show (h.val * 128 + e.val - 3072) / 1024 = (h.val - 24) / 8 by omega)
      (show (h.val * 128 + e.val - 3072) % 128 = e.val by omega))

theorem V_v8 (c : Dev nD) (h : Fin 48) (e : Fin 128) :
    (V m c main_v8 : S1x6144.Idx → EReal) (ix2 0 ⟨h.val * 128 + e.val, by omega⟩)
      = gain (m ((c : Thread nD τ).loc main_arg2)) (m ((c : Thread nD τ).loc main_arg3)) h e := by
  refine Eq.trans ?_ (gainRow_apply _ _ h e)
  refine congrFun ?_ _
  show StableHlo.after hostOps0 (fun b => m (c, b)) main_v8 = _
  after_results
  rfl

theorem V_v26 (c : Dev nD) (r : Fin 32768) (d : Fin 128) :
    (V m c main_v26 : S32768x128.Idx → EReal) (ix2 r d) = cosT (ix2 r (half d)) := by
  refine Eq.trans ?_ (cosTable_apply cosT r d)
  refine congrFun ?_ _
  show StableHlo.after hostOps0 (fun b => m (c, b)) main_v26 = _
  after_results
  rfl

theorem V_v28 (c : Dev nD) (r : Fin 32768) (d : Fin 128) :
    (V m c main_v28 : S32768x128.Idx → EReal) (ix2 r d) = if d.val < 64 then -sinT (ix2 r (half d)) else sinT (ix2 r (half d)) := by
  refine Eq.trans ?_ (sinTable_apply sinT r d)
  refine congrFun ?_ _
  show StableHlo.after hostOps0 (fun b => m (c, b)) main_v28 = _
  after_results
  rfl

/-- Window 0's block: rows of the activations. -/
theorem blk0 (c : Dev nD) (t : Fin cfg0.N) (r : Fin 512) (k : Fin 4096) (h : t.val / 12 * 512 + r.val < 32768) :
    (iblk m c 0 t : S512x4096.Idx → EReal) (ix2 r k) = m ((c : Thread nD τ).loc main_arg0) (ix2 ⟨t.val / 12 * 512 + r.val, h⟩ k) := by
  show V m c main_arg0 ((win0_0.rect t).emb (ix2 r k)) = _
  rw [V_main_arg0]
  refine congrArg _ (Shape.idx_ext₂ ?_ ?_)
  · exact (win0_0.rect_emb_val t _ 0).trans (by rw [(maps t).1.1]; rfl)
  · exact (win0_0.rect_emb_val t _ 1).trans (by rw [(maps t).1.2, Nat.zero_mul, Nat.zero_add]; rfl)

/-- Window 1's block: the columns of four heads. -/
theorem blk1 (c : Dev nD) (t : Fin cfg0.N) (k : Fin 4096) (q : Fin 4) (e : Fin 128) (h : (t.val % 12 * 4 + q.val) * 128 + e.val < 18432) :
    (iblk m c 1 t : S4096x512.Idx → EReal) (ix2 k ⟨q.val * 128 + e.val, by omega⟩)
      = m ((c : Thread nD τ).loc main_arg1) (ix2 k ⟨(t.val % 12 * 4 + q.val) * 128 + e.val, h⟩) := by
  show V m c main_v29 ((win0_1.rect t).emb (ix2 k ⟨q.val * 128 + e.val, by omega⟩)) = _
  rw [V_v29]
  refine congrArg _ (Shape.idx_ext₂ ?_ ?_)
  · exact (win0_1.rect_emb_val t _ 0).trans (by rw [(maps t).2.1.1, Nat.zero_mul, Nat.zero_add]; rfl)
  · refine (win0_1.rect_emb_val t _ 1).trans ?_
    rw [(maps t).2.1.2]
    show t.val % 12 * 512 + (q.val * 128 + e.val) = (t.val % 12 * 4 + q.val) * 128 + e.val
    omega

/-- Window 2's block: the gains of four heads. -/
theorem blk2 (c : Dev nD) (t : Fin cfg0.N) (q : Fin 4) (e : Fin 128) (h : t.val % 12 * 4 + q.val < 48) :
    (iblk m c 2 t : S1x512.Idx → EReal) (ix2 0 ⟨q.val * 128 + e.val, by omega⟩)
      = gain (m ((c : Thread nD τ).loc main_arg2)) (m ((c : Thread nD τ).loc main_arg3)) ⟨t.val % 12 * 4 + q.val, h⟩ e := by
  refine Eq.trans ?_ (V_v8 m c ⟨t.val % 12 * 4 + q.val, h⟩ e)
  show V m c main_v8 ((win0_2.rect t).emb (ix2 0 ⟨q.val * 128 + e.val, by omega⟩)) = _
  refine congrArg _ (Shape.idx_ext₂ ?_ ?_)
  · exact (win0_2.rect_emb_val t _ 0).trans (by rw [(maps t).2.2.1.1, Nat.zero_mul, Nat.zero_add]; rfl)
  · refine (win0_2.rect_emb_val t _ 1).trans ?_
    rw [(maps t).2.2.1.2]
    show t.val % 12 * 512 + (q.val * 128 + e.val) = (t.val % 12 * 4 + q.val) * 128 + e.val
    omega

/-- Window 3's block: the cosines of the point's rows. -/
theorem blk3 (c : Dev nD) (t : Fin cfg0.N) (r : Fin 512) (d : Fin 128) (h : t.val / 12 * 512 + r.val < 32768) :
    (iblk m c 3 t : S512x128.Idx → EReal) (ix2 r d) = cosT (ix2 ⟨t.val / 12 * 512 + r.val, h⟩ (half d)) := by
  refine Eq.trans ?_ (V_v26 m c ⟨t.val / 12 * 512 + r.val, h⟩ d)
  show V m c main_v26 ((win0_3.rect t).emb (ix2 r d)) = _
  refine congrArg _ (Shape.idx_ext₂ ?_ ?_)
  · exact (win0_3.rect_emb_val t _ 0).trans (by rw [(maps t).2.2.2.1.1]; rfl)
  · exact (win0_3.rect_emb_val t _ 1).trans (by rw [(maps t).2.2.2.1.2, Nat.zero_mul, Nat.zero_add]; rfl)

/-- Window 4's block: the signed sines of the point's rows. -/
theorem blk4 (c : Dev nD) (t : Fin cfg0.N) (r : Fin 512) (d : Fin 128) (h : t.val / 12 * 512 + r.val < 32768) :
    (iblk m c 4 t : S512x128.Idx → EReal) (ix2 r d)
      = if d.val < 64 then -sinT (ix2 ⟨t.val / 12 * 512 + r.val, h⟩ (half d)) else sinT (ix2 ⟨t.val / 12 * 512 + r.val, h⟩ (half d)) := by
  refine Eq.trans ?_ (V_v28 m c ⟨t.val / 12 * 512 + r.val, h⟩ d)
  show V m c main_v28 ((win0_4.rect t).emb (ix2 r d)) = _
  refine congrArg _ (Shape.idx_ext₂ ?_ ?_)
  · exact (win0_4.rect_emb_val t _ 0).trans (by rw [(maps t).2.2.2.2.1.1]; rfl)
  · exact (win0_4.rect_emb_val t _ 1).trans (by rw [(maps t).2.2.2.2.1.2, Nat.zero_mul, Nat.zero_add]; rfl)

/-- Where an element of the result block at point `t` lies in the result. -/
theorem emb5 (t : Fin cfg0.N) (q : Fin 4) (r : Fin 512) (d : Fin 128) (hq : t.val % 12 * 4 + q.val < 48) (h : t.val / 12 * 512 + r.val < 32768) :
    (win0_5.rect t).emb (ix3 q r d) = (ix3 ⟨t.val % 12 * 4 + q.val, hq⟩ ⟨t.val / 12 * 512 + r.val, h⟩ d : S48x32768x128.Idx) := by
  refine HeadSlabs.idx_ext₃ ?_ ?_ ?_
  · exact (win0_5.rect_emb_val t _ 0).trans (by rw [(maps t).2.2.2.2.2.1]; rfl)
  · exact (win0_5.rect_emb_val t _ 1).trans (by rw [(maps t).2.2.2.2.2.2.1]; rfl)
  · exact (win0_5.rect_emb_val t _ 2).trans (by rw [(maps t).2.2.2.2.2.2.2, Nat.zero_mul, Nat.zero_add]; rfl)

/-- What the kernel computes from the launch memory. -/
abbrev G (c : Dev nD) : FVec Ideal S48x32768x128 .f32 :=
  qk (m ((c : Thread nD τ).loc main_arg0)) (m ((c : Thread nD τ).loc main_arg1)) (m ((c : Thread nD τ).loc main_arg2)) (m ((c : Thread nD τ).loc main_arg3))

/-- What point `t` writes back is its block of the queries and keys. -/
theorem flushed_eq (c : Dev nD) (t : Fin cfg0.N) :
    (dats m 0 c).flushed 5 t = ((cfg0.win 5).blk t).view.read (Elt Ideal) (G m c) := by
  rw [Value.flushed5]
  funext (y : S4x512x128.Idx)
  show out0_5 (iblk m c 0 t) (iblk m c 1 t) (iblk m c 2 t) (iblk m c 3 t) (iblk m c 4 t) y = G m c ((win0_5.rect t).emb y)
  have ht : t.val < 768 := lt_of_lt_of_eq t.isLt N_0
  obtain ⟨q, r, d, rfl⟩ : ∃ (q : Fin 4) (r : Fin 512) (d : Fin 128), y = ix3 q r d := ⟨y 0, y 1, y 2, eq_ix3 y⟩
  have h : t.val / 12 * 512 + r.val < 32768 := by omega
  have hq : t.val % 12 * 4 + q.val < 48 := by omega
  rw [out_apply, emb5 t q r d hq h]
  refine Eq.trans ?_ (congrFun (turned_eq _ _ _) d)
  refine congrFun ?_ d
  unfold headRow
  refine congr (congr (congrArg turned (congrArg₂ normed (funext fun e => Finset.sum_congr rfl fun k _ => ?_) (funext fun e => ?_))) (funext fun e => ?_)) (funext fun e => ?_)
  · exact congrArg₂ _ (blk0 m c t r k h) (blk1 m c t k q e (by omega))
  · exact blk2 m c t q e hq
  · exact blk3 m c t r e h
  · exact blk4 m c t r e h

/-- Every element of the result lies in some point's block. -/
theorem covered (i : S48x32768x128.Idx) : ∃ t : Fin cfg0.N, (cfg0.win 5).flush t = true ∧ i ∈ ((cfg0.win 5).blk t).view.set := by
  obtain ⟨q, r, d, rfl⟩ : ∃ (q : Fin 48) (r : Fin 32768) (d : Fin 128), i = ix3 q r d := ⟨i 0, i 1, i 2, eq_ix3 i⟩
  have hlt : r.val / 512 * 12 + q.val / 4 < 768 := by omega
  let t : Fin cfg0.N := ⟨r.val / 512 * 12 + q.val / 4, lt_of_lt_of_eq hlt N_0.symm⟩
  refine ⟨t, flush0_5 t, ?_⟩
  have e : (ix3 q r d : S48x32768x128.Idx) = ((cfg0.win 5).blk t).view.emb (ix3 ⟨q.val % 4, by omega⟩ ⟨r.val % 512, by omega⟩ d : S4x512x128.Idx) := by
    refine Eq.trans ?_ (emb5 t ⟨q.val % 4, by omega⟩ ⟨r.val % 512, by omega⟩ d (by show (r.val / 512 * 12 + q.val / 4) % 12 * 4 + q.val % 4 < 48; omega)
      (by show (r.val / 512 * 12 + q.val / 4) / 12 * 512 + r.val % 512 < 32768; omega)).symm
    refine HeadSlabs.idx_ext₃ ?_ ?_ rfl
    · show q.val = (r.val / 512 * 12 + q.val / 4) % 12 * 4 + q.val % 4; omega
    · show r.val = (r.val / 512 * 12 + q.val / 4) / 12 * 512 + r.val % 512; omega
  rw [e]
  exact View.emb_mem_set _ _

/-- The result array after the run is the queries and keys. -/
theorem final (c : Dev nD) : (dats m 0 c).arrAt 5 cfg0.N = G m c :=
  (dats m 0 c).arrAt_eq_of_cover 5 (G m c) (fun t _ => flushed_eq m c t) covered

end Cert.QkProjIdeal.Math

namespace Cert.Proof

open Idealize.ShloMosaic Idealize.SL.Sem

theorem algebraic_qkProj : Cert.algebraic_QkProjIdeal_QkProjRefIdeal := by
  intro m g m' g' _ hag
  refine ⟨fun c => QkProjIdeal.Math.G m c, ?_, ?_⟩
  · exact (θ_run _ _ _).mono (fun r h c => ⟨(h c).1.trans (QkProjIdeal.Math.final m c), (h c).2⟩) (QkProjIdeal.Value.run_blocks m g)
  · refine (θ_run _ _ _).mono (fun r h c => ⟨(h c).1.trans ?_, (h c).2⟩) (QkProjRefIdeal.Value.run (F := Ideal) m' g')
    obtain ⟨h0, h1, h2, h3⟩ := hag c
    rw [QkProjRefIdeal.Read.val_main_v99_eq, h0, h1, h2, h3]
    exact QkProjIdeal.Math.ref_eq _ _ _ _

theorem frame_qkProjRef : Cert.quiescent_QkProjRefIdeal := fun m g _ =>
  (θ_run _ _ _).mono (fun r h => ⟨fun c => (h c).2, sem_eq_zero_of_no_sems (by decide) r.2⟩) (QkProjRefIdeal.Value.run (F := Ideal) m g)

end Cert.Proof

end
-- ==== Proof.VProjValue.lean ====
/- The value projection, head by head, as one formula: what the kernel's result array holds after the run,
   and that the reference computes the same. -/
module

public import proofs.«01_k».proof.Defs
public import proofs.«01_k».proof.Proof.Gen.VProjIdeal.Value
public import proofs.«01_k».proof.Proof.Gen.VProjRefIdeal.Run
public import Idealize.ShloMosaic.Lib.Pointwise
public import Idealize.ShloMosaic.Lib.Pipeline.Value
public import proofs.«01_k».proof.Proof.HeadSlabs

@[expose] public section

set_option maxRecDepth 16384

noncomputable section

namespace Cert.VProjIdeal.Math

open Cert.VProjIdeal Cert.VProjIdeal.Gen Idealize.ShloMosaic Idealize.ShloMosaic.TcCoe Idealize.SL.Sem
open Idealize.ShloMosaic.Pipeline (Dat)

/-- The projection: element `d` of head `h` for a row of `A` is that row times column `6144 + 128 h + d` of `W`. -/
def proj (A : FVec Ideal S32768x4096 .bf16) (W : FVec Ideal S4096x18432 .f32) : FVec Ideal S24x32768x128 .f32 :=
  fun i => ∑ k : Fin 4096, A (ix2 (i 1) k)
    * W (ix2 k ⟨6144 + ((i 0).val * 128 + (i 2).val), by have h : (i 0).val < 24 := (i 0).isLt; have h' : (i 2).val < 128 := (i 2).isLt; omega⟩)

/-- Which block each window is on at point `t`: row tile `t / 6`, four heads `t % 6`. -/
theorem maps : ∀ t : Fin grid0.N,
    (win0_0.index t 0 = t.val / 6 ∧ win0_0.index t 1 = 0)
    ∧ (win0_1.index t 0 = 0 ∧ win0_1.index t 1 = 12 + t.val % 6)
    ∧ (win0_2.index t 0 = t.val % 6 ∧ win0_2.index t 1 = t.val / 6 ∧ win0_2.index t 2 = 0) := by decide +kernel

variable (m : (ℓ : Loc nD τ sig) → Buf (Elt Ideal) ℓ)

/-- The host rounds the weights before the kernel, which at the ideal instance is no change. -/
theorem V_v0 (c : Dev nD) : V m c main_v0 = m ((c : Thread nD τ).loc main_arg1) := by
  show StableHlo.after hostOps0 (fun b => m (c, b)) main_v0 = _
  after_results
  rfl

theorem hz2 : (![0, 0] : Fin 2 → Nat) = fun _ => 0 := funext fun a => by fin_cases a <;> rfl

/-- A point's result block, element by element, from the blocks it loads. -/
theorem out_apply (x0 : Vec Ideal S512x4096 .bf16) (x1 : Vec Ideal S4096x512 .bf16) (h : Fin 4) (r : Fin 512) (d : Fin 128) :
    out0_2 x0 x1 (ix3 h r d) = ∑ k : Fin 4096, x0 (ix2 r k) * x1 (ix2 k ⟨h.val * 128 + d.val, by omega⟩) := by
  unfold out0_2
  rw [View.ld_unit_zero hz2, View.ld_unit_zero hz2]
  refine HeadSlabs.canon_heads _ _ _ _ (fun h r d => ∑ k : Fin 4096, x0 (ix2 r k) * x1 (ix2 k ⟨h.val * 128 + d.val, by omega⟩))
    _ _ _ _ (fun r d => ?_) (fun r d => ?_) (fun r d => ?_) (fun r d => ?_) h r d
  · pointwise [k0_pay2, k0_pay1]
  · pointwise [k0_pay3, k0_pay1]
  · pointwise [k0_pay4, k0_pay1]
  · pointwise [k0_pay5, k0_pay1]

/-- Window 0's block: rows of the activations. -/
theorem blk0 (c : Dev nD) (t : Fin cfg0.N) (r : Fin 512) (k : Fin 4096) (h : t.val / 6 * 512 + r.val < 32768) :
    (iblk m c 0 t : S512x4096.Idx → EReal) (ix2 r k) = m ((c : Thread nD τ).loc main_arg0) (ix2 ⟨t.val / 6 * 512 + r.val, h⟩ k) := by
  show V m c main_arg0 ((win0_0.rect t).emb (ix2 r k)) = _
  rw [V_main_arg0]
  refine congrArg _ (Shape.idx_ext₂ ?_ ?_)
  · exact (win0_0.rect_emb_val t _ 0).trans (by rw [(maps t).1.1]; rfl)
  · exact (win0_0.rect_emb_val t _ 1).trans (by rw [(maps t).1.2, Nat.zero_mul, Nat.zero_add]; rfl)

/-- Window 1's block: columns of the weights. -/
theorem blk1 (c : Dev nD) (t : Fin cfg0.N) (k : Fin 4096) (r : Fin 512) (h : 6144 + (t.val % 6 * 512 + r.val) < 18432) :
    (iblk m c 1 t : S4096x512.Idx → EReal) (ix2 k r) = m ((c : Thread nD τ).loc main_arg1) (ix2 k ⟨6144 + (t.val % 6 * 512 + r.val), h⟩) := by
  show V m c main_v0 ((win0_1.rect t).emb (ix2 k r)) = _
  rw [V_v0]
  refine congrArg _ (Shape.idx_ext₂ ?_ ?_)
  · exact (win0_1.rect_emb_val t _ 0).trans (by rw [(maps t).2.1.1, Nat.zero_mul, Nat.zero_add]; rfl)
  · refine (win0_1.rect_emb_val t _ 1).trans ?_
    rw [(maps t).2.1.2]
    show (12 + t.val % 6) * 512 + r.val = 6144 + (t.val % 6 * 512 + r.val)
    omega

/-- Where an element of the result block at point `t` lies in the result. -/
theorem emb2 (t : Fin cfg0.N) (q : Fin 4) (r : Fin 512) (d : Fin 128) (hq : t.val % 6 * 4 + q.val < 24) (h : t.val / 6 * 512 + r.val < 32768) :
    (win0_2.rect t).emb (ix3 q r d) = (ix3 ⟨t.val % 6 * 4 + q.val, hq⟩ ⟨t.val / 6 * 512 + r.val, h⟩ d : S24x32768x128.Idx) := by
  refine HeadSlabs.idx_ext₃ ?_ ?_ ?_
  · exact (win0_2.rect_emb_val t _ 0).trans (by rw [(maps t).2.2.1]; rfl)
  · exact (win0_2.rect_emb_val t _ 1).trans (by rw [(maps t).2.2.2.1]; rfl)
  · exact (win0_2.rect_emb_val t _ 2).trans (by rw [(maps t).2.2.2.2, Nat.zero_mul, Nat.zero_add]; rfl)

/-- What the kernel computes from the launch memory. -/
abbrev G (c : Dev nD) : FVec Ideal S24x32768x128 .f32 :=
  proj (m ((c : Thread nD τ).loc main_arg0)) (m ((c : Thread nD τ).loc main_arg1))

/-- What point `t` writes back is its block of the projection. -/
theorem flushed_eq (c : Dev nD) (t : Fin cfg0.N) :
    (dats m 0 c).flushed 2 t = ((cfg0.win 2).blk t).view.read (Elt Ideal) (G m c) := by
  rw [Value.flushed2]
  funext (y : S4x512x128.Idx)
  show out0_2 (iblk m c 0 t) (iblk m c 1 t) y = G m c ((win0_2.rect t).emb y)
  have ht : t.val < 384 := lt_of_lt_of_eq t.isLt N_0
  obtain ⟨q, r, d, rfl⟩ : ∃ (q : Fin 4) (r : Fin 512) (d : Fin 128), y = ix3 q r d := ⟨y 0, y 1, y 2, eq_ix3 y⟩
  have h : t.val / 6 * 512 + r.val < 32768 := by omega
  have hq : t.val % 6 * 4 + q.val < 24 := by omega
  rw [out_apply, emb2 t q r d hq h]
  refine Finset.sum_congr rfl fun k _ => ?_
  refine congrArg₂ _ (blk0 m c t r k h) ((blk1 m c t k ⟨q.val * 128 + d.val, by omega⟩ (by show 6144 + (t.val % 6 * 512 + (q.val * 128 + d.val)) < 18432; omega)).trans ?_)
  refine congrArg _ (Shape.idx_ext₂ rfl ?_)
  show 6144 + (t.val % 6 * 512 + (q.val * 128 + d.val)) = 6144 + ((t.val % 6 * 4 + q.val) * 128 + d.val)
  omega

/-- Every element of the result lies in some point's block. -/
theorem covered (i : S24x32768x128.Idx) : ∃ t : Fin cfg0.N, (cfg0.win 2).flush t = true ∧ i ∈ ((cfg0.win 2).blk t).view.set := by
  obtain ⟨q, r, d, rfl⟩ : ∃ (q : Fin 24) (r : Fin 32768) (d : Fin 128), i = ix3 q r d := ⟨i 0, i 1, i 2, eq_ix3 i⟩
  have hlt : r.val / 512 * 6 + q.val / 4 < 384 := by omega
  let t : Fin cfg0.N := ⟨r.val / 512 * 6 + q.val / 4, lt_of_lt_of_eq hlt N_0.symm⟩
  refine ⟨t, flush0_2 t, ?_⟩
  have e : (ix3 q r d : S24x32768x128.Idx) = ((cfg0.win 2).blk t).view.emb (ix3 ⟨q.val % 4, by omega⟩ ⟨r.val % 512, by omega⟩ d : S4x512x128.Idx) := by
    refine Eq.trans ?_ (emb2 t ⟨q.val % 4, by omega⟩ ⟨r.val % 512, by omega⟩ d (by show (r.val / 512 * 6 + q.val / 4) % 6 * 4 + q.val % 4 < 24; omega)
      (by show (r.val / 512 * 6 + q.val / 4) / 6 * 512 + r.val % 512 < 32768; omega)).symm
    refine HeadSlabs.idx_ext₃ ?_ ?_ rfl
    · show q.val = (r.val / 512 * 6 + q.val / 4) % 6 * 4 + q.val % 4; omega
    · show r.val = (r.val / 512 * 6 + q.val / 4) / 6 * 512 + r.val % 512; omega
  rw [e]
  exact View.emb_mem_set _ _

/-- The result array after the run is the projection. -/
theorem final (c : Dev nD) : (dats m 0 c).arrAt 2 cfg0.N = G m c :=
  (dats m 0 c).arrAt_eq_of_cover 2 (G m c) (fun t _ => flushed_eq m c t) covered

/-- The reference's program text computes the same formula. -/
theorem ref_eq (A : FVec Ideal S32768x4096 .bf16) (W : FVec Ideal S4096x18432 .f32) :
    (open Cert.VProjRefIdeal Cert.VProjRefIdeal.Gen in transpose S24x32768x128 [1, 0, 2] (shapeCast _ (Host.dotGeneral dot_S32768x4096_S4096x3072_S32768x3072_1_0_0_1_n_n none (extf .f32 A Cert.VProjRefIdeal.Gen.bitsLt_bf16_f32) (extractStridedSlice S4096x3072 ![0, 6144] W slices_S4096x18432_S4096x3072_0_6144)) shapeCasts_S32768x3072_S32768x24x128) transposes_S32768x24x128_S24x32768x128_1_0_2) = proj A W := by
  funext i
  unfold proj
  idx_vars i
  pointwise

end Cert.VProjIdeal.Math

namespace Cert.Proof

open Idealize.ShloMosaic Idealize.SL.Sem

theorem algebraic_vProj : Cert.algebraic_VProjIdeal_VProjRefIdeal := by
  intro m g m' g' _ hag
  refine ⟨fun c => VProjIdeal.Math.G m c, ?_, ?_⟩
  · exact (θ_run _ _ _).mono (fun r h c => ⟨(h c).1.trans (VProjIdeal.Math.final m c), (h c).2⟩) (VProjIdeal.Value.run_blocks m g)
  · refine (θ_run _ _ _).mono (fun r h c => ⟨(h c).1.trans ?_, (h c).2⟩) (VProjRefIdeal.Value.run (F := Ideal) m' g')
    obtain ⟨h0, h1⟩ := hag c
    rw [h0, h1]
    exact VProjIdeal.Math.ref_eq _ _

theorem frame_vProjRef : Cert.quiescent_VProjRefIdeal := fun m g _ =>
  (θ_run _ _ _).mono (fun r h => ⟨fun c => (h c).2, sem_eq_zero_of_no_sems (by decide) r.2⟩) (VProjRefIdeal.Value.run (F := Ideal) m g)

end Cert.Proof

end
-- ==== Proof.UProjValue.lean ====
/- The projection that feeds the pooled branch, as one formula: what the kernel's result array holds after the run,
   and that the reference computes the same. -/
module

public import proofs.«01_k».proof.Defs
public import proofs.«01_k».proof.Proof.Gen.UProjIdeal.Value
public import proofs.«01_k».proof.Proof.Gen.UProjRefIdeal.Run
public import Idealize.ShloMosaic.Lib.Pointwise
public import Idealize.ShloMosaic.Lib.Pipeline.Value

@[expose] public section

set_option maxRecDepth 16384

noncomputable section

namespace Cert.UProjIdeal.Math

open Cert.UProjIdeal Cert.UProjIdeal.Gen Idealize.ShloMosaic Idealize.ShloMosaic.TcCoe Idealize.SL.Sem
open Idealize.ShloMosaic.Pipeline (Dat)

/-- The projection: a row of `A` times columns 9216 to 10239 of the matrix `W`. -/
def proj (A : FVec Ideal S32768x4096 .bf16) (W : FVec Ideal S4096x18432 .f32) : FVec Ideal S32768x1024 .f32 :=
  fun i => ∑ k : Fin 4096, A (ix2 (i 0) k) * W (ix2 k ⟨9216 + (i 1).val, by have h : (i 1).val < 1024 := (i 1).isLt; omega⟩)

/-- Which block each window is on at point `t`: row tile `t / 2`, column tile `t % 2`. -/
theorem maps : ∀ t : Fin grid0.N,
    (win0_0.index t 0 = t.val / 2 ∧ win0_0.index t 1 = 0)
    ∧ (win0_1.index t 0 = 0 ∧ win0_1.index t 1 = 18 + t.val % 2)
    ∧ (win0_2.index t 0 = t.val / 2 ∧ win0_2.index t 1 = t.val % 2) := by decide +kernel

variable (m : (ℓ : Loc nD τ sig) → Buf (Elt Ideal) ℓ)

/-- The host rounds the weights before the kernel, which at the ideal instance is no change. -/
theorem V_v0 (c : Dev nD) : V m c main_v0 = m ((c : Thread nD τ).loc main_arg1) := by
  show StableHlo.after hostOps0 (fun b => m (c, b)) main_v0 = _
  after_results
  rfl

theorem hz2 : (![0, 0] : Fin 2 → Nat) = fun _ => 0 := funext fun a => by fin_cases a <;> rfl

/-- A point's result block, element by element, from the blocks it loads. -/
theorem out_apply (x0 : Vec Ideal S512x4096 .bf16) (x1 : Vec Ideal S4096x512 .bf16) (j : S512x512.Idx) :
    out0_2 x0 x1 j = ∑ k : Fin 4096, x0 (ix2 (j 0) k) * x1 (ix2 k (j 1)) := by
  unfold out0_2
  rw [View.canon_unit_zero hz2, View.ld_unit_zero hz2, View.ld_unit_zero hz2]
  idx_vars j
  pointwise [k0_pay1]

/-- Window 0's block: rows of the activations. -/
theorem blk0 (c : Dev nD) (t : Fin cfg0.N) (r : Fin 512) (k : Fin 4096) (h : t.val / 2 * 512 + r.val < 32768) :
    (iblk m c 0 t : S512x4096.Idx → EReal) (ix2 r k) = m ((c : Thread nD τ).loc main_arg0) (ix2 ⟨t.val / 2 * 512 + r.val, h⟩ k) := by
  show V m c main_arg0 ((win0_0.rect t).emb (ix2 r k)) = _
  rw [V_main_arg0]
  refine congrArg _ (Shape.idx_ext₂ ?_ ?_)
  · exact (win0_0.rect_emb_val t _ 0).trans (by rw [(maps t).1.1]; rfl)
  · exact (win0_0.rect_emb_val t _ 1).trans (by rw [(maps t).1.2, Nat.zero_mul, Nat.zero_add]; rfl)

/-- Window 1's block: columns of the weights. -/
theorem blk1 (c : Dev nD) (t : Fin cfg0.N) (k : Fin 4096) (r : Fin 512) (h : 9216 + (t.val % 2 * 512 + r.val) < 18432) :
    (iblk m c 1 t : S4096x512.Idx → EReal) (ix2 k r) = m ((c : Thread nD τ).loc main_arg1) (ix2 k ⟨9216 + (t.val % 2 * 512 + r.val), h⟩) := by
  show V m c main_v0 ((win0_1.rect t).emb (ix2 k r)) = _
  rw [V_v0]
  refine congrArg _ (Shape.idx_ext₂ ?_ ?_)
  · exact (win0_1.rect_emb_val t _ 0).trans (by rw [(maps t).2.1.1, Nat.zero_mul, Nat.zero_add]; rfl)
  · refine (win0_1.rect_emb_val t _ 1).trans ?_
    rw [(maps t).2.1.2]
    show (18 + t.val % 2) * 512 + r.val = 9216 + (t.val % 2 * 512 + r.val)
    omega

/-- Where an element of the result block at point `t` lies in the result. -/
theorem emb2 (t : Fin cfg0.N) (r : Fin 512) (s : Fin 512) (h : t.val / 2 * 512 + r.val < 32768)
    (h' : t.val % 2 * 512 + s.val < 1024) :
    (win0_2.rect t).emb (ix2 r s) = (ix2 ⟨t.val / 2 * 512 + r.val, h⟩ ⟨t.val % 2 * 512 + s.val, h'⟩ : S32768x1024.Idx) := by
  refine Shape.idx_ext₂ ?_ ?_
  · exact (win0_2.rect_emb_val t _ 0).trans (by rw [(maps t).2.2.1]; rfl)
  · exact (win0_2.rect_emb_val t _ 1).trans (by rw [(maps t).2.2.2]; rfl)

/-- What the kernel computes from the launch memory. -/
abbrev G (c : Dev nD) : FVec Ideal S32768x1024 .f32 :=
  proj (m ((c : Thread nD τ).loc main_arg0)) (m ((c : Thread nD τ).loc main_arg1))

/-- What point `t` writes back is its block of the projection. -/
theorem flushed_eq (c : Dev nD) (t : Fin cfg0.N) :
    (dats m 0 c).flushed 2 t = ((cfg0.win 2).blk t).view.read (Elt Ideal) (G m c) := by
  rw [Value.flushed2]
  funext (y : S512x512.Idx)
  show out0_2 (iblk m c 0 t) (iblk m c 1 t) y = G m c ((win0_2.rect t).emb y)
  have ht : t.val < 128 := lt_of_lt_of_eq t.isLt N_0
  obtain ⟨r, s, rfl⟩ : ∃ (r : Fin 512) (s : Fin 512), y = ix2 r s := ⟨y 0, y 1, eq_ix2 y⟩
  have h : t.val / 2 * 512 + r.val < 32768 := by omega
  have h' : t.val % 2 * 512 + s.val < 1024 := by omega
  rw [out_apply, emb2 t r s h h']
  refine Finset.sum_congr rfl fun k _ => ?_
  exact congrArg₂ _ (blk0 m c t r k h) (blk1 m c t k s (by omega))

/-- Every element of the result lies in some point's block. -/
theorem covered (i : S32768x1024.Idx) : ∃ t : Fin cfg0.N, (cfg0.win 2).flush t = true ∧ i ∈ ((cfg0.win 2).blk t).view.set := by
  obtain ⟨r, s, rfl⟩ : ∃ (r : Fin 32768) (s : Fin 1024), i = ix2 r s := ⟨i 0, i 1, eq_ix2 i⟩
  have hlt : r.val / 512 * 2 + s.val / 512 < 128 := by omega
  let t : Fin cfg0.N := ⟨r.val / 512 * 2 + s.val / 512, lt_of_lt_of_eq hlt N_0.symm⟩
  refine ⟨t, flush0_2 t, ?_⟩
  have e : (ix2 r s : S32768x1024.Idx) = ((cfg0.win 2).blk t).view.emb (ix2 ⟨r.val % 512, by omega⟩ ⟨s.val % 512, by omega⟩ : S512x512.Idx) := by
    refine Eq.trans ?_ (emb2 t ⟨r.val % 512, by omega⟩ ⟨s.val % 512, by omega⟩ (by show (r.val / 512 * 2 + s.val / 512) / 2 * 512 + r.val % 512 < 32768; omega)
      (by show (r.val / 512 * 2 + s.val / 512) % 2 * 512 + s.val % 512 < 1024; omega)).symm
    refine Shape.idx_ext₂ ?_ ?_
    · show r.val = (r.val / 512 * 2 + s.val / 512) / 2 * 512 + r.val % 512; omega
    · show s.val = (r.val / 512 * 2 + s.val / 512) % 2 * 512 + s.val % 512; omega
  rw [e]
  exact View.emb_mem_set _ _

/-- The result array after the run is the projection. -/
theorem final (c : Dev nD) : (dats m 0 c).arrAt 2 cfg0.N = G m c :=
  (dats m 0 c).arrAt_eq_of_cover 2 (G m c) (fun t _ => flushed_eq m c t) covered

/-- The reference's program text computes the same formula. -/
theorem ref_eq (A : FVec Ideal S32768x4096 .bf16) (W : FVec Ideal S4096x18432 .f32) :
    (open Cert.UProjRefIdeal Cert.UProjRefIdeal.Gen in Host.dotGeneral dot_S32768x4096_S4096x1024_S32768x1024_1_0_0_1_n_n none (extf .f32 A Cert.UProjRefIdeal.Gen.bitsLt_bf16_f32) (extractStridedSlice S4096x1024 ![0, 9216] W slices_S4096x18432_S4096x1024_0_9216)) = proj A W := by
  funext i
  unfold proj
  idx_vars i
  pointwise

end Cert.UProjIdeal.Math

namespace Cert.Proof

open Idealize.ShloMosaic Idealize.SL.Sem

theorem algebraic_uProj : Cert.algebraic_UProjIdeal_UProjRefIdeal := by
  intro m g m' g' _ hag
  refine ⟨fun c => UProjIdeal.Math.G m c, ?_, ?_⟩
  · exact (θ_run _ _ _).mono (fun r h c => ⟨(h c).1.trans (UProjIdeal.Math.final m c), (h c).2⟩) (UProjIdeal.Value.run_blocks m g)
  · refine (θ_run _ _ _).mono (fun r h c => ⟨(h c).1.trans ?_, (h c).2⟩) (UProjRefIdeal.Value.run (F := Ideal) m' g')
    obtain ⟨h0, h1⟩ := hag c
    rw [h0, h1]
    exact UProjIdeal.Math.ref_eq _ _

theorem frame_uProjRef : Cert.quiescent_UProjRefIdeal := fun m g _ =>
  (θ_run _ _ _).mono (fun r h => ⟨fun c => (h c).2, sem_eq_zero_of_no_sems (by decide) r.2⟩) (UProjRefIdeal.Value.run (F := Ideal) m g)

end Cert.Proof

end
-- ==== Proof.RmsNormValue.lean ====
/- The root-mean-square normalisation of the rows, as one formula: what the kernel's result array holds after the
   run, and that the reference computes the same. -/
module

public import proofs.«01_k».proof.Defs
public import proofs.«01_k».proof.Proof.Gen.RmsNormIdeal.Value
public import proofs.«01_k».proof.Proof.Gen.RmsNormRefIdeal.Run
public import Idealize.ShloMosaic.Lib.Pointwise
public import Idealize.ShloMosaic.Lib.Pipeline.Value

@[expose] public section

set_option maxRecDepth 16384

noncomputable section

namespace Cert.RmsNormIdeal.Math

open Cert.RmsNormIdeal Cert.RmsNormIdeal.Gen Idealize.ShloMosaic Idealize.ShloMosaic.TcCoe Idealize.SL.Sem
open Idealize.ShloMosaic.Pipeline (Dat)

/-- One element `x` of a row, divided by the root of the row's mean square (with the small constant added under the
    root), times its gain `g`. -/
def scaled (x ss g : EReal) : EReal :=
  x * Ideal.rsqrt (Ideal.div ss (Ideal.ofBits .f32 0x45800000#32) + Ideal.ofBits .f32 0x358637BD#32) * g

/-- The sum of a row's squares. -/
def squares (x : Fin 4096 → EReal) : EReal := ∑ k, x k * x k

/-- The normalised rows of `X` with the gains `g`. -/
def norm (X : FVec Ideal S32768x4096 .f32) (g : FVec Ideal S4096 .f32) : FVec Ideal S32768x4096 .bf16 :=
  fun i => scaled (X i) (squares fun k => X (ix2 (i 0) k)) (g (ix1 (i 1)))

theorem hz2 : (![0, 0] : Fin 2 → Nat) = fun _ => 0 := funext fun a => by fin_cases a <;> rfl

/-- A point's result block, element by element, from the blocks it loads. -/
theorem out_apply (x0 : Vec Ideal S256x4096 .f32) (x1 : Vec Ideal S1x4096 .f32) (j : S256x4096.Idx) :
    out0_2 x0 x1 j = scaled (x0 j) (squares fun k => x0 (ix2 (j 0) k)) (x1 (ix2 0 (j 1))) := by
  unfold out0_2 scaled squares
  rw [View.canon_unit_zero hz2, View.ld_unit_zero hz2, View.ld_unit_zero hz2]
  idx_vars j
  pointwise [k0_pay1]

/-- The reference's program text computes the same formula. -/
theorem ref_eq (X : FVec Ideal S32768x4096 .f32) (g : FVec Ideal S4096 .f32) :
    (open Cert.RmsNormRefIdeal Cert.RmsNormRefIdeal.Gen in truncf .bf16 (mulf (mulf X (broadcastInDim S32768x4096 ![0, 1] bcast_S32768x1_S32768x4096_0_1 (Host.rsqrt (addf (Host.divf (broadcastInDim S32768x1 ![0] bcast_S32768_S32768x1_0 (Host.reduceAdd (mulf X X) (constant S_ .f32 0x00000000#32) reducesTo_S32768x4096_S32768_d1 h_S_)) (broadcastInDim S32768x1 ![] bcast_S_S32768x1 (constant S_ .f32 0x45800000#32))) (broadcastInDim S32768x1 ![] bcast_S_S32768x1 (constant S_ .f32 0x358637BD#32)))))) (broadcastInDim S32768x4096 ![0, 1] bcast_S1x4096_S32768x4096_0_1 (broadcastInDim S1x4096 ![1] bcast_S4096_S1x4096_1 g))) Cert.RmsNormRefIdeal.Gen.bitsLt_bf16_f32) = norm X g := by
  funext i
  unfold norm scaled squares
  idx_vars i
  pointwise

/-- Which block each window is on at point `t`: row tile `t`, and always the whole gain. -/
theorem maps : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0) := by decide +kernel

variable (m : (ℓ : Loc nD τ sig) → Buf (Elt Ideal) ℓ)

/-- A vector given a first axis of one element, at an element. -/
theorem row_apply (g : FVec Ideal S4096 .f32) (s : Fin 4096) : shapeCast S1x4096 g shapeCasts_S4096_S1x4096 (ix2 0 s) = g (ix1 s) := by
  pointwise

/-- The host gives the gain a first axis of one element before the kernel. -/
theorem V_v0 (c : Dev nD) (s : Fin 4096) :
    (V m c main_v0 : S1x4096.Idx → EReal) (ix2 0 s) = m ((c : Thread nD τ).loc main_arg1) (ix1 s) := by
  have e : (V m c main_v0 : S1x4096.Idx → EReal) = shapeCast S1x4096 (m ((c : Thread nD τ).loc main_arg1) : S4096.Idx → EReal) shapeCasts_S4096_S1x4096 := by
    show StableHlo.after hostOps0 (fun b => m (c, b)) main_v0 = _
    after_results
    rfl
  rw [e]
  exact row_apply _ s

/-- Window 0's block: rows of the input. -/
theorem blk0 (c : Dev nD) (t : Fin cfg0.N) (r : Fin 256) (k : Fin 4096) (h : t.val * 256 + r.val < 32768) :
    (iblk m c 0 t : S256x4096.Idx → EReal) (ix2 r k) = m ((c : Thread nD τ).loc main_arg0) (ix2 ⟨t.val * 256 + r.val, h⟩ k) := by
  show V m c main_arg0 ((win0_0.rect t).emb (ix2 r k)) = _
  rw [V_main_arg0]
  refine congrArg _ (Shape.idx_ext₂ ?_ ?_)
  · exact (win0_0.rect_emb_val t _ 0).trans (by rw [(maps t).1.1]; rfl)
  · exact (win0_0.rect_emb_val t _ 1).trans (by rw [(maps t).1.2, Nat.zero_mul, Nat.zero_add]; rfl)

/-- Window 1's block: the gain. -/
theorem blk1 (c : Dev nD) (t : Fin cfg0.N) (k : Fin 4096) :
    (iblk m c 1 t : S1x4096.Idx → EReal) (ix2 0 k) = m ((c : Thread nD τ).loc main_arg1) (ix1 k) := by
  refine Eq.trans ?_ (V_v0 m c k)
  show V m c main_v0 ((win0_1.rect t).emb (ix2 0 k)) = _
  refine congrArg _ (Shape.idx_ext₂ ?_ ?_)
  · exact (win0_1.rect_emb_val t _ 0).trans (by rw [(maps t).2.1.1, Nat.zero_mul, Nat.zero_add])
  · exact (win0_1.rect_emb_val t _ 1).trans (by rw [(maps t).2.1.2, Nat.zero_mul, Nat.zero_add])

/-- Where an element of the result block at point `t` lies in the result. -/
theorem emb2 (t : Fin cfg0.N) (r : Fin 256) (s : Fin 4096) (h : t.val * 256 + r.val < 32768) :
    (win0_2.rect t).emb (ix2 r s) = (ix2 ⟨t.val * 256 + r.val, h⟩ s : S32768x4096.Idx) := by
  refine Shape.idx_ext₂ ?_ ?_
  · exact (win0_2.rect_emb_val t _ 0).trans (by rw [(maps t).2.2.1]; rfl)
  · exact (win0_2.rect_emb_val t _ 1).trans (by rw [(maps t).2.2.2, Nat.zero_mul, Nat.zero_add]; rfl)

/-- What the kernel computes from the launch memory. -/
abbrev G (c : Dev nD) : FVec Ideal S32768x4096 .bf16 :=
  norm (m ((c : Thread nD τ).loc main_arg0)) (m ((c : Thread nD τ).loc main_arg1))

/-- What point `t` writes back is its block of the normalised rows. -/
theorem flushed_eq (c : Dev nD) (t : Fin cfg0.N) :
    (dats m 0 c).flushed 2 t = ((cfg0.win 2).blk t).view.read (Elt Ideal) (G m c) := by
  rw [Value.flushed2]
  funext (y : S256x4096.Idx)
  show out0_2 (iblk m c 0 t) (iblk m c 1 t) y = G m c ((win0_2.rect t).emb y)
  have ht : t.val < 128 := lt_of_lt_of_eq t.isLt N_0
  obtain ⟨r, s, rfl⟩ : ∃ (r : Fin 256) (s : Fin 4096), y = ix2 r s := ⟨y 0, y 1, eq_ix2 y⟩
  have h : t.val * 256 + r.val < 32768 := by omega
  rw [out_apply, emb2 t r s h]
  exact congr (congr (congrArg scaled (blk0 m c t r s h)) (congrArg squares (funext fun k => blk0 m c t r k h))) (blk1 m c t s)

/-- Every element of the result lies in some point's block. -/
theorem covered (i : S32768x4096.Idx) : ∃ t : Fin cfg0.N, (cfg0.win 2).flush t = true ∧ i ∈ ((cfg0.win 2).blk t).view.set := by
  obtain ⟨r, s, rfl⟩ : ∃ (r : Fin 32768) (s : Fin 4096), i = ix2 r s := ⟨i 0, i 1, eq_ix2 i⟩
  have hlt : r.val / 256 < 128 := by omega
  let t : Fin cfg0.N := ⟨r.val / 256, lt_of_lt_of_eq hlt N_0.symm⟩
  refine ⟨t, flush0_2 t, ?_⟩
  have e : (ix2 r s : S32768x4096.Idx) = ((cfg0.win 2).blk t).view.emb (ix2 ⟨r.val % 256, by omega⟩ s : S256x4096.Idx) := by
    refine Eq.trans ?_ (emb2 t ⟨r.val % 256, by omega⟩ s (by show r.val / 256 * 256 + r.val % 256 < 32768; omega)).symm
    refine Shape.idx_ext₂ ?_ rfl
    show r.val = r.val / 256 * 256 + r.val % 256; omega
  rw [e]
  exact View.emb_mem_set _ _

/-- The result array after the run is the normalised rows. -/
theorem final (c : Dev nD) : (dats m 0 c).arrAt 2 cfg0.N = G m c :=
  (dats m 0 c).arrAt_eq_of_cover 2 (G m c) (fun t _ => flushed_eq m c t) covered

end Cert.RmsNormIdeal.Math

namespace Cert.Proof

open Idealize.ShloMosaic Idealize.SL.Sem

theorem algebraic_rmsNorm : Cert.algebraic_RmsNormIdeal_RmsNormRefIdeal := by
  intro m g m' g' _ hag
  refine ⟨fun c => RmsNormIdeal.Math.G m c, ?_, ?_⟩
  · exact (θ_run _ _ _).mono (fun r h c => ⟨(h c).1.trans (RmsNormIdeal.Math.final m c), (h c).2⟩) (RmsNormIdeal.Value.run_blocks m g)
  · refine (θ_run _ _ _).mono (fun r h c => ⟨(h c).1.trans ?_, (h c).2⟩) (RmsNormRefIdeal.Value.run (F := Ideal) m' g')
    obtain ⟨h0, h1⟩ := hag c
    rw [h0, h1]
    exact RmsNormIdeal.Math.ref_eq _ _

theorem frame_rmsNormRef : Cert.quiescent_RmsNormRefIdeal := fun m g _ =>
  (θ_run _ _ _).mono (fun r h => ⟨fun c => (h c).2, sem_eq_zero_of_no_sems (by decide) r.2⟩) (RmsNormRefIdeal.Value.run (F := Ideal) m g)

end Cert.Proof

end
-- ==== Proof.PoolMath.lean ====
/- The pooling's mathematics: the sequences a token may lie in, the sum of a token's window within its sequence, the same
   sum taken tap by tap along rows that are zero outside the sequence, and the words the programs compute them with. -/
module

public import Mathlib.Data.EReal.Operations
public import Mathlib.Algebra.BigOperators.Fin
public import Mathlib.Algebra.BigOperators.Intervals
public import Idealize.ShloMosaic.PureOps.Ideal

@[expose] public section

noncomputable section

namespace Cert.PoolMath

open Idealize.ShloMosaic Finset

/-- Where the sequence of token `n` begins. -/
def first (n : ℕ) : ℕ := if n < 16384 then 0 else if n < 24576 then 16384 else 24576

/-- Where the sequence of token `n` ends. -/
def last (n : ℕ) : ℕ := if n < 16384 then 16384 else if n < 24576 then 24576 else 32768

/-- Token `s` is of `n`'s sequence and of `n`'s window, `h` tokens back and `h - 1` on. -/
def Member (h n s : ℕ) : Prop := (first n ≤ s ∧ n ≤ s + h) ∧ (s < last n ∧ s < n + h)

instance (h n s : ℕ) : Decidable (Member h n s) := inferInstanceAs (Decidable (_ ∧ _))

/-- The sum of `u` over the tokens of `n`'s window. -/
def total (h : ℕ) (u : Fin 32768 → EReal) (n : ℕ) : EReal := ∑ s : Fin 32768, if Member h n s.val then u s else 0

/-- Token `q - 8` if it is of `n`'s sequence, else zero. -/
def spread (u : Fin 32768 → EReal) (n q : ℕ) : EReal :=
  if h : (first n + 8 ≤ q ∧ q < last n + 8) ∧ q < 32776 then u ⟨q - 8, by omega⟩ else 0

theorem last_le (n : ℕ) : last n ≤ 32768 := by unfold last; split_ifs <;> omega

/-- The window's sum, tap by tap. -/
theorem total_eq (h : ℕ) (hh : h ≤ 8) (u : Fin 32768 → EReal) (n : ℕ) :
    total h u n = ∑ k ∈ range (2 * h), spread u n (n + 8 - h + k) := by
  have hl := last_le n
  let v : ℕ → EReal := fun s => if hs : s < 32768 then u ⟨s, hs⟩ else 0
  have e1 : total h u n = ∑ s ∈ range 32768, if Member h n s then v s else 0 := by
    rw [← Fin.sum_univ_eq_sum_range (fun s => if Member h n s then v s else 0)]
    refine sum_congr rfl fun s _ => ?_
    show _ = if Member h n s.val then (if hs : s.val < 32768 then u ⟨s.val, hs⟩ else 0) else 0
    rw [dif_pos s.isLt]
  have e2 : ∑ k ∈ range (2 * h), spread u n (n + 8 - h + k) = ∑ q ∈ Ico (n + 8 - h) (n + 8 + h), spread u n q := by
    rw [sum_Ico_eq_sum_range]
    exact sum_congr (congrArg range (by omega)) fun _ _ => rfl
  rw [e1, e2, ← sum_filter]
  have e3 : ∑ q ∈ Ico (n + 8 - h) (n + 8 + h), spread u n q
      = ∑ q ∈ (Ico (n + 8 - h) (n + 8 + h)).filter (fun q => first n + 8 ≤ q ∧ q < last n + 8), v (q - 8) := by
    rw [sum_filter]
    refine sum_congr rfl fun q _ => ?_
    unfold spread
    by_cases hq : first n + 8 ≤ q ∧ q < last n + 8
    · rw [dif_pos ⟨hq, by omega⟩, if_pos hq]
      show _ = if hs : q - 8 < 32768 then u ⟨q - 8, hs⟩ else 0
      rw [dif_pos (show q - 8 < 32768 by omega)]
    · rw [dif_neg (fun e => hq e.1), if_neg hq]
  rw [e3]
  refine sum_nbij' (· + 8) (· - 8) ?_ ?_ ?_ ?_ ?_
  · intro s hs
    obtain ⟨_, ⟨h1, h2⟩, h3, h4⟩ := mem_filter.1 hs
    exact mem_filter.2 ⟨mem_Ico.2 ⟨by omega, by omega⟩, by omega, by omega⟩
  · intro q hq
    obtain ⟨hI, h1, h2⟩ := mem_filter.1 hq
    have h3 := (mem_Ico.1 hI).1
    have h4 := (mem_Ico.1 hI).2
    exact mem_filter.2 ⟨mem_range.2 (by omega), ⟨by omega, by omega⟩, by omega, by omega⟩
  · intro s _; exact Nat.add_sub_cancel s 8
  · intro q hq
    simp only [mem_filter, mem_Ico] at hq
    show q - 8 + 8 = q
    omega
  · intro s _; rw [Nat.add_sub_cancel]

/-- The taps of the four windows, in the order a row's shifted copies are added. -/
theorem taps (h : ℕ) (hh : h ≤ 8) (u : Fin 32768 → EReal) (n : ℕ) : total h u n = ∑ k ∈ range (2 * h), spread u n (n + (8 - h + k)) := by
  rw [total_eq h hh]
  exact sum_congr rfl fun k _ => congrArg (spread u n) (by omega)

theorem taps1 (u : Fin 32768 → EReal) (n : ℕ) : total 1 u n = spread u n (n + 7) + spread u n (n + 8) := by
  rw [taps 1 (by omega)]
  simp only [Nat.reduceMul, sum_range_succ, sum_range_zero, zero_add]

theorem taps2 (u : Fin 32768 → EReal) (n : ℕ) :
    total 2 u n = spread u n (n + 6) + spread u n (n + 7) + spread u n (n + 8) + spread u n (n + 9) := by
  rw [taps 2 (by omega)]
  simp only [Nat.reduceMul, sum_range_succ, sum_range_zero, zero_add]

theorem taps4 (u : Fin 32768 → EReal) (n : ℕ) :
    total 4 u n = spread u n (n + 4) + spread u n (n + 5) + spread u n (n + 6) + spread u n (n + 7)
      + spread u n (n + 8) + spread u n (n + 9) + spread u n (n + 10) + spread u n (n + 11) := by
  rw [taps 4 (by omega)]
  simp only [Nat.reduceMul, sum_range_succ, sum_range_zero, zero_add]

theorem taps8 (u : Fin 32768 → EReal) (n : ℕ) :
    total 8 u n = spread u n (n + 0) + spread u n (n + 1) + spread u n (n + 2) + spread u n (n + 3)
      + spread u n (n + 4) + spread u n (n + 5) + spread u n (n + 6) + spread u n (n + 7)
      + spread u n (n + 8) + spread u n (n + 9) + spread u n (n + 10) + spread u n (n + 11)
      + spread u n (n + 12) + spread u n (n + 13) + spread u n (n + 14) + spread u n (n + 15) := by
  rw [taps 8 (by omega)]
  simp only [Nat.reduceMul, sum_range_succ, sum_range_zero, zero_add]

/-- Tokens of one tile of 512 are of one sequence, and the tile lies in it. -/
theorem first_tile (b r : ℕ) (hr : r < 512) : first (512 * b + r) = first (512 * b) := by unfold first; split_ifs <;> omega
theorem last_tile (b r : ℕ) (hr : r < 512) : last (512 * b + r) = last (512 * b) := by unfold last; split_ifs <;> omega
theorem first_le_tile (b : ℕ) : first (512 * b) ≤ 512 * b := by unfold first; split_ifs <;> omega
theorem tile_le_last (b : ℕ) (hb : b < 64) : 512 * b + 512 ≤ last (512 * b) := by unfold last; split_ifs <;> omega

theorem spread_tile (u : Fin 32768 → EReal) (b r q : ℕ) (hr : r < 512) : spread u (512 * b) q = spread u (512 * b + r) q := by
  simp only [spread, first_tile b r hr, last_tile b r hr]

/-- A spread row: a token of the sequence, a row outside it. -/
theorem spread_in (u : Fin 32768 → EReal) (n q : ℕ) (t : Fin 32768) (ht : q = t.val + 8) (h : first n ≤ t.val ∧ t.val < last n) :
    spread u n q = u t := by
  have hq : (first n + 8 ≤ q ∧ q < last n + 8) ∧ q < 32776 := by have := t.isLt; omega
  unfold spread
  rw [dif_pos hq]
  exact congrArg u (Fin.ext (by show q - 8 = t.val; omega))

theorem spread_out (u : Fin 32768 → EReal) (n q : ℕ) (h : ¬(first n + 8 ≤ q ∧ q < last n + 8)) : spread u n q = 0 :=
  dif_neg fun e => h e.1

/-! ## Words -/

/-- The words of a sequence's ends. -/
def firstW (n : ℕ) : BitVec 32 := BitVec.ofNat 32 (first n)
def lastW (n : ℕ) : BitVec 32 := BitVec.ofNat 32 (last n)

/-- The words of a window's ends, and how many tokens are between them. -/
def lowW (h n : ℕ) : BitVec 32 := IntOp.maxsi (IntOp.subi (BitVec.ofNat 32 n) (BitVec.ofNat 32 h)) (firstW n)
def highW (h n : ℕ) : BitVec 32 := IntOp.minsi (IntOp.addi (BitVec.ofNat 32 n) (BitVec.ofNat 32 h)) (lastW n)
def count (h n : ℕ) : EReal := (((IntOp.subi (highW h n) (lowW h n)).toInt : ℝ) : EReal)

theorem toInt_small (a : ℕ) (ha : a < 2 ^ 20) : (BitVec.ofNat 32 a).toInt = a := by
  rw [BitVec.toInt_ofNat']
  exact Int.bmod_eq_of_le (by omega) (by omega)

theorem toInt_sub_small (a b : ℕ) (ha : a < 2 ^ 20) (hb : b < 2 ^ 20) : (BitVec.ofNat 32 a - BitVec.ofNat 32 b).toInt = (a : ℤ) - b := by
  rw [BitVec.toInt_sub, toInt_small a ha, toInt_small b hb]
  exact Int.bmod_eq_of_le (by omega) (by omega)

theorem toInt_add_small (a b : ℕ) (ha : a < 2 ^ 20) (hb : b < 2 ^ 20) : (BitVec.ofNat 32 a + BitVec.ofNat 32 b).toInt = (a : ℤ) + b := by
  rw [BitVec.toInt_add, toInt_small a ha, toInt_small b hb]
  exact Int.bmod_eq_of_le (by omega) (by omega)

theorem first_small (n : ℕ) : first n < 2 ^ 20 := by unfold first; split_ifs <;> omega
theorem last_small (n : ℕ) : last n < 2 ^ 20 := by unfold last; split_ifs <;> omega

theorem low_toInt (h n : ℕ) (hh : h ≤ 8) (hn : n < 32768) : (lowW h n).toInt = max ((n : ℤ) - h) (first n) := by
  have e1 := toInt_sub_small n h (by omega) (by omega)
  have e2 := toInt_small (first n) (first_small n)
  unfold lowW IntOp.maxsi IntOp.subi firstW
  split_ifs with hc
  · rw [BitVec.slt_iff_toInt_lt, e1, e2] at hc; rw [e1]; omega
  · rw [BitVec.slt_iff_toInt_lt, e1, e2] at hc; rw [e2]; omega

theorem high_toInt (h n : ℕ) (hh : h ≤ 8) (hn : n < 32768) : (highW h n).toInt = min ((n : ℤ) + h) (last n) := by
  have e1 := toInt_add_small n h (by omega) (by omega)
  have e2 := toInt_small (last n) (last_small n)
  unfold highW IntOp.minsi IntOp.addi lastW
  split_ifs with hc
  · rw [BitVec.slt_iff_toInt_lt, e1, e2] at hc; rw [e1]; omega
  · rw [BitVec.slt_iff_toInt_lt, e1, e2] at hc; rw [e2]; omega

/-- The two compares of a token's word with a window's ends, as membership. -/
theorem member_word (h n s : ℕ) (hh : h ≤ 8) (hn : n < 32768) (hs : s < 32768) :
    IntOp.andi (IntOp.cmpi .sge (BitVec.ofNat 32 s) (lowW h n)) (IntOp.cmpi .slt (BitVec.ofNat 32 s) (highW h n))
      = BitVec.ofBool (decide (Member h n s)) := by
  have e1 := low_toInt h n hh hn
  have e2 := high_toInt h n hh hn
  have e3 := toInt_small s (by omega)
  have c1 : (lowW h n).sle (BitVec.ofNat 32 s) = decide (first n ≤ s ∧ n ≤ s + h) := by
    rw [BitVec.sle, e1, e3]
    exact decide_eq_decide.2 ⟨fun _ => by omega, fun _ => by omega⟩
  have c2 : (BitVec.ofNat 32 s).slt (highW h n) = decide (s < last n ∧ s < n + h) := by
    rw [BitVec.slt, e2, e3]
    exact decide_eq_decide.2 ⟨fun _ => by omega, fun _ => by omega⟩
  show BitVec.ofBool ((lowW h n).sle (BitVec.ofNat 32 s)) &&& BitVec.ofBool ((BitVec.ofNat 32 s).slt (highW h n)) = _
  rw [c1, c2]
  by_cases h1 : first n ≤ s ∧ n ≤ s + h
  · by_cases h2 : s < last n ∧ s < n + h
    · rw [decide_eq_true h1, decide_eq_true h2, decide_eq_true (show Member h n s from ⟨h1, h2⟩)]; rfl
    · rw [decide_eq_true h1, decide_eq_false h2, decide_eq_false (fun e : Member h n s => h2 e.2)]; rfl
  · rw [decide_eq_false h1, decide_eq_false (fun e : Member h n s => h1 e.1)]
    cases decide (s < last n ∧ s < n + h) <;> rfl

/-- Whether a row before the tile is of its sequence, as a word. -/
theorem left_word (b r : ℕ) (hb : b < 64) (hr : r < 8) :
    IntOp.cmpi .sge (IntOp.addi (IntOp.subi (BitVec.ofNat 32 (512 * b)) 8#32) (BitVec.ofNat 32 r)) (firstW (512 * b))
      = BitVec.ofBool (decide (first (512 * b) + 8 ≤ 512 * b + r)) := by
  have e1 := toInt_sub_small (512 * b) 8 (by omega) (by omega)
  have e2 : (BitVec.ofNat 32 (512 * b) - 8#32 + BitVec.ofNat 32 r).toInt = (512 * b : ℤ) - 8 + r := by
    rw [BitVec.toInt_add, e1, toInt_small r (by omega)]
    exact Int.bmod_eq_of_le (by omega) (by omega)
  have e3 := toInt_small (first (512 * b)) (first_small _)
  show BitVec.ofBool ((firstW (512 * b)).sle (BitVec.ofNat 32 (512 * b) - 8#32 + BitVec.ofNat 32 r)) = _
  rw [BitVec.sle, e2, firstW, e3]
  exact congrArg BitVec.ofBool (decide_eq_decide.2 ⟨fun _ => by omega, fun _ => by omega⟩)

/-- Whether a row after the tile is of its sequence, as a word. -/
theorem right_word (b r : ℕ) (hb : b < 64) (hr : r < 8) :
    IntOp.cmpi .slt (IntOp.addi (IntOp.addi (BitVec.ofNat 32 (512 * b)) 512#32) (BitVec.ofNat 32 r)) (lastW (512 * b))
      = BitVec.ofBool (decide (512 * b + 512 + r < last (512 * b))) := by
  have e1 := toInt_add_small (512 * b) 512 (by omega) (by omega)
  have e2 : (BitVec.ofNat 32 (512 * b) + 512#32 + BitVec.ofNat 32 r).toInt = (512 * b : ℤ) + 512 + r := by
    rw [BitVec.toInt_add, e1, toInt_small r (by omega)]
    exact Int.bmod_eq_of_le (by omega) (by omega)
  have e3 := toInt_small (last (512 * b)) (last_small _)
  show BitVec.ofBool ((BitVec.ofNat 32 (512 * b) + 512#32 + BitVec.ofNat 32 r).slt (lastW (512 * b))) = _
  rw [BitVec.slt, e2, lastW, e3]
  exact congrArg BitVec.ofBool (decide_eq_decide.2 ⟨fun _ => by omega, fun _ => by omega⟩)

/-- A choice by a mask's word. -/
theorem mask_ite (p : Prop) [Decidable p] (x y : EReal) : (if BitVec.ofBool (decide p) = 1#1 then x else y) = if p then x else y := by
  by_cases hp : p
  · rw [decide_eq_true hp, if_pos hp]; rfl
  · rw [decide_eq_false hp, if_neg hp]; rfl

/-- A mask's word read as a number, times an element. -/
theorem mask_mul (p : Prop) [Decidable p] (x : EReal) :
    ((((BitVec.ofBool (decide p)).toNat : ℝ) : EReal)) * x = if p then x else 0 := by
  by_cases hp : p
  · rw [decide_eq_true hp, if_pos hp]
    show (((1 : ℕ) : ℝ) : EReal) * x = x
    rw [Nat.cast_one, EReal.coe_one, one_mul]
  · rw [decide_eq_false hp, if_neg hp]
    show (((0 : ℕ) : ℝ) : EReal) * x = 0
    rw [Nat.cast_zero, EReal.coe_zero, zero_mul]

/-! ## The pooling -/

/-- One row of a group's linear map: over the group's channels, the window's mean less the token, times the weight. -/
def mixed (h : ℕ) (x : Fin 256 → Fin 32768 → EReal) (w : Fin 256 → EReal) (n : Fin 32768) : EReal :=
  ∑ k : Fin 256, (Ideal.div (total h (x k) n.val) (count h n.val) - x k n) * w k

end Cert.PoolMath

end
-- ==== Proof.PoolBlock.lean ====
/- What one point of the pooling leaves in its block. The point lays its tile's rows and eight rows either side in a
   scratch block, zero where a row is of another sequence; each group adds the scratch's shifted rows, divides by the
   window's count, takes the token off and applies the group's weights. -/
module

public import proofs.«01_k».proof.Defs
public import proofs.«01_k».proof.Proof.PoolMath
public import proofs.«01_k».proof.Proof.Gen.PoolIdeal.Frame
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.PoolIdeal.Math

open Cert.PoolIdeal Cert.PoolIdeal.Gen Cert.PoolMath Idealize.ShloMosaic Idealize.ShloMosaic.TcCoe Idealize.SL.Sem

/-! ## Stores and loads at an element -/

theorem tileAt_rows (N o : ℕ) (y : Fin 528) (c : Fin 1024) (p : (⟨2, ![N, 1024]⟩ : Shape).Idx → EReal) (v : EReal)
    (hp : ∀ r : Fin N, y.val = o + r.val → p (ix2 r c) = v) :
    View.TileAt (Val := Elt Ideal) (e := .f32) (S := S528x1024) (ix2 y c) ![o, 0] ![N, 1024] p v := by
  intro x hx
  have e0 : y.val = o + (x 0 : ℕ) := hx 0
  have e1 : c.val = 0 + (x 1 : ℕ) := hx 1
  have e : x = (ix2 (x 0) c : (⟨2, ![N, 1024]⟩ : Shape).Idx) := Shape.idx_ext₂ rfl (by show (x 1 : ℕ) = c.val; omega)
  rw [e]
  exact hp (x 0) e0

theorem tileAt_cols (o : ℕ) (r : Fin 512) (c : Fin 1024) (p : S512x256.Idx → EReal) (v : EReal)
    (hp : ∀ k : Fin 256, c.val = o + k.val → p (ix2 r k) = v) :
    View.TileAt (Val := Elt Ideal) (e := .bf16) (S := S512x1024) (ix2 r c) ![0, o] S512x256.size p v := by
  intro x hx
  have e0 : r.val = 0 + (x 0 : ℕ) := hx 0
  have e1 : c.val = o + (x 1 : ℕ) := hx 1
  have e : x = (ix2 r (x 1) : S512x256.Idx) := Shape.idx_ext₂ (by show (x 0 : ℕ) = r.val; omega) rfl
  rw [e]
  exact hp (x 1) e1

/-- The scratch block from its three stores. -/
theorem canon_rows (lo : S8x1024.Idx → EReal) (mid : S512x1024.Idx → EReal) (hi : S8x1024.Idx → EReal) (g : ℕ → Fin 1024 → EReal)
    (hlo : ∀ r c, lo (ix2 r c) = g r.val c) (hmid : ∀ r c, mid (ix2 r c) = g (8 + r.val) c) (hhi : ∀ r c, hi (ix2 r c) = g (520 + r.val) c)
    (y : Fin 528) (c : Fin 1024) :
    View.canon (Val := Elt Ideal) (s := S528x1024) (e := .f32)
      [⟨Rect.unit ![520, 0] ![8, 1024] inb_S528x1024_S8x1024_520_0, hi⟩, ⟨Rect.unit ![8, 0] ![512, 1024] inb_S528x1024_S512x1024_8_0, mid⟩,
       ⟨Rect.unit ![0, 0] ![8, 1024] inb_S528x1024_S8x1024_0_0, lo⟩] (ix2 y c) = g y.val c := by
  refine View.canon_eq_of_allAt _ _ _ ?_ ?_
  · have hm (o N : ℕ) (i : ∀ a, ![o, 0] a + (![N, 1024] : Fin 2 → ℕ) a ≤ S528x1024.size a) (e : o ≤ y.val ∧ y.val < o + N) :
        (ix2 y c : S528x1024.Idx) ∈ (Rect.unit (s := S528x1024) ![o, 0] ![N, 1024] i).set := by
      refine Rect.mem_set_unit.mpr fun a => ?_
      match a with
      | ⟨0, _⟩ => exact e
      | ⟨1, _⟩ => exact ⟨Nat.zero_le _, show c.val < 0 + 1024 by omega⟩
    rcases (by omega : 520 ≤ y.val ∨ (8 ≤ y.val ∧ y.val < 520) ∨ y.val < 8) with e | e | e
    · exact ⟨_, List.mem_cons_self, hm 520 8 inb_S528x1024_S8x1024_520_0 ⟨e, by omega⟩⟩
    · exact ⟨_, List.mem_cons_of_mem _ List.mem_cons_self, hm 8 512 inb_S528x1024_S512x1024_8_0 ⟨e.1, by omega⟩⟩
    · exact ⟨_, List.mem_cons_of_mem _ (List.mem_cons_of_mem _ List.mem_cons_self), hm 0 8 inb_S528x1024_S8x1024_0_0 ⟨Nat.zero_le _, by omega⟩⟩
  refine View.allAt_cons_unit _ _ _ _ _ (tileAt_rows 8 520 y c hi _ fun r e => ?_) ?_
  · rw [e]; exact hhi r c
  refine View.allAt_cons_unit _ _ _ _ _ (tileAt_rows 512 8 y c mid _ fun r e => ?_) ?_
  · rw [e]; exact hmid r c
  refine View.allAt_cons_unit _ _ _ _ _ (tileAt_rows 8 0 y c lo _ fun r e => ?_) (View.allAt_nil _ _)
  rw [e, Nat.zero_add]; exact hlo r c

/-- The result's block from its four stores, at group `g`'s channel `c`. -/
theorem canon_groups (p0 p1 p2 p3 : S512x256.Idx → EReal) (v : Fin 4 → EReal) (r : Fin 512) (g : Fin 4) (c : Fin 256)
    (h0 : p0 (ix2 r c) = v 0) (h1 : p1 (ix2 r c) = v 1) (h2 : p2 (ix2 r c) = v 2) (h3 : p3 (ix2 r c) = v 3) :
    View.canon (Val := Elt Ideal) (s := S512x1024) (e := .bf16)
      [⟨Rect.unit ![0, 768] ![512, 256] inb_S512x1024_S512x256_0_768, p3⟩, ⟨Rect.unit ![0, 512] ![512, 256] inb_S512x1024_S512x256_0_512, p2⟩,
       ⟨Rect.unit ![0, 256] ![512, 256] inb_S512x1024_S512x256_0_256, p1⟩, ⟨Rect.unit ![0, 0] ![512, 256] inb_S512x1024_S512x256_0_0, p0⟩]
      (ix2 r ⟨256 * g.val + c.val, by omega⟩) = v g := by
  have hk (k : Fin 256) (o : ℕ) (e : 256 * g.val + c.val = 256 * o + k.val) : g.val = o ∧ k = c := by
    have := k.isLt; have := c.isLt
    exact ⟨by omega, Fin.ext (by omega)⟩
  refine View.canon_eq_of_allAt _ _ _ ?_ ?_
  · have hm (o : ℕ) (i : ∀ a, ![0, 256 * o] a + (![512, 256] : Fin 2 → ℕ) a ≤ S512x1024.size a) (e : g.val = o) :
        (ix2 r ⟨256 * g.val + c.val, by omega⟩ : S512x1024.Idx) ∈ (Rect.unit (s := S512x1024) ![0, 256 * o] ![512, 256] i).set := by
      refine Rect.mem_set_unit.mpr fun a => ?_
      match a with
      | ⟨0, _⟩ => exact ⟨Nat.zero_le _, show r.val < 0 + 512 by omega⟩
      | ⟨1, _⟩ => exact ⟨show 256 * o ≤ 256 * g.val + c.val by omega, show 256 * g.val + c.val < 256 * o + 256 by omega⟩
    rcases (by omega : g.val = 3 ∨ g.val = 2 ∨ g.val = 1 ∨ g.val = 0) with e | e | e | e
    · exact ⟨_, List.mem_cons_self, hm 3 inb_S512x1024_S512x256_0_768 e⟩
    · exact ⟨_, List.mem_cons_of_mem _ List.mem_cons_self, hm 2 inb_S512x1024_S512x256_0_512 e⟩
    · exact ⟨_, List.mem_cons_of_mem _ (List.mem_cons_of_mem _ List.mem_cons_self), hm 1 inb_S512x1024_S512x256_0_256 e⟩
    · exact ⟨_, List.mem_cons_of_mem _ (List.mem_cons_of_mem _ (List.mem_cons_of_mem _ List.mem_cons_self)), hm 0 inb_S512x1024_S512x256_0_0 e⟩
  refine View.allAt_cons_unit _ _ _ _ _ (tileAt_cols 768 r _ p3 _ fun k e => ?_) ?_
  · obtain ⟨eg, rfl⟩ := hk k 3 e; rw [show g = 3 from Fin.ext eg]; exact h3
  refine View.allAt_cons_unit _ _ _ _ _ (tileAt_cols 512 r _ p2 _ fun k e => ?_) ?_
  · obtain ⟨eg, rfl⟩ := hk k 2 e; rw [show g = 2 from Fin.ext eg]; exact h2
  refine View.allAt_cons_unit _ _ _ _ _ (tileAt_cols 256 r _ p1 _ fun k e => ?_) ?_
  · obtain ⟨eg, rfl⟩ := hk k 1 e; rw [show g = 1 from Fin.ext eg]; exact h1
  refine View.allAt_cons_unit _ _ _ _ _ (tileAt_cols 0 r _ p0 _ fun k e => ?_) (View.allAt_nil _ _)
  obtain ⟨eg, rfl⟩ := hk k 0 e; rw [show g = 0 from Fin.ext eg]; exact h0

/-- A load of shifted rows of a scratch block that holds tile `b`'s rows spread. -/
theorem load_apply (arg9 : Memref sig .tc .vmem S528x1024 .f32) (L : List (View.Piece (Elt Ideal) S528x1024 .f32))
    (u : Fin 1024 → Fin 32768 → EReal) (b : ℕ) (hL : ∀ (y : Fin 528) (c : Fin 1024), View.canon L (ix2 y c) = spread (u c) (512 * b) (512 * b + y.val))
    (y col : ℕ) (inb : ∀ a, ![y, col] a + (![512, 256] : Fin 2 → ℕ) a ≤ S528x1024.size a) (r : Fin 512) (k : Fin 256) (h : col + k.val < 1024) :
    (arg9.view.readCov L (Rect.unit (s := S528x1024) ![y, col] ![512, 256] inb).toLoadRect : S512x256.Idx → EReal) (ix2 r k)
      = spread (u ⟨col + k.val, h⟩) (512 * b + r.val) (512 * b + r.val + y) := by
  have hy : y + 512 ≤ 528 := inb 0
  have e : (Rect.unit (s := S528x1024) ![y, col] ![512, 256] inb).toLoadRect.idx (ix2 r k : S512x256.Idx)
      = (ix2 ⟨y + r.val, by omega⟩ ⟨col + k.val, h⟩ : S528x1024.Idx) :=
    Shape.idx_ext₂ (by show y + 1 * r.val = y + r.val; omega) (by show col + 1 * k.val = col + k.val; omega)
  refine (congrFun (View.readCov_eq_canon' arg9.view L (Rect.unit (s := S528x1024) ![y, col] ![512, 256] inb).toLoadRect) (ix2 r k : S512x256.Idx)).trans ?_
  refine (congrArg (View.canon L) e).trans ((hL _ _).trans ?_)
  rw [spread_tile _ b r.val _ r.isLt]
  exact congrArg (spread _ _) (by show 512 * b + (y + r.val) = 512 * b + r.val + y; omega)

theorem ld_cols (x : Vec Ideal S512x1024 .f32) (col : ℕ) (inb : ∀ a, ![0, col] a + (![512, 256] : Fin 2 → ℕ) a ≤ S512x1024.size a)
    (r : Fin 512) (k : Fin 256) (h : col + k.val < 1024) :
    (View.ld x (Rect.unit (s := S512x1024) ![0, col] ![512, 256] inb) : S512x256.Idx → EReal) (ix2 r k) = x (ix2 r ⟨col + k.val, h⟩) :=
  congrArg x (Shape.idx_ext₂ (by show 0 + 1 * r.val = r.val; omega) (by show col + 1 * k.val = col + k.val; omega))

theorem ld_weights (x : Vec Ideal S4x256x256 .bf16) (g : Fin 4) (inb : ∀ a, ![g.val, 0, 0] a + (![1, 256, 256] : Fin 3 → ℕ) a ≤ S4x256x256.size a)
    (k c : Fin 256) :
    (View.ld x (Rect.unit (s := S4x256x256) ![g.val, 0, 0] ![1, 256, 256] inb) : S1x256x256.Idx → EReal) (ix3 0 k c) = x (ix3 g k c) := by
  refine congrArg x ?_
  funext a
  match a with
  | ⟨0, _⟩ => exact Fin.ext (by show g.val + 1 * 0 = g.val; omega)
  | ⟨1, _⟩ => exact Fin.ext (by show 0 + 1 * k.val = k.val; omega)
  | ⟨2, _⟩ => exact Fin.ext (by show 0 + 1 * c.val = c.val; omega)

theorem ld_scales (x : Vec Ideal S1x1024 .f32) (col : ℕ) (inb : ∀ a, ![0, col] a + (![1, 256] : Fin 2 → ℕ) a ≤ S1x1024.size a)
    (k : Fin 256) (h : col + k.val < 1024) :
    (View.ld x (Rect.unit (s := S1x1024) ![0, col] ![1, 256] inb) : S1x256.Idx → EReal) (ix2 0 k) = x (ix2 0 ⟨col + k.val, h⟩) :=
  congrArg x (Shape.idx_ext₂ (by show 0 + 1 * 0 = 0; omega) (by show col + 1 * k.val = col + k.val; omega))

/-! ## The payloads at an element -/

/-- The counts of a window of half width `h`. -/
def counts (h v2 v4 : BitVec 32) (p : IVec S512x1 32) : FVec Ideal S512x1 .f32 :=
  sitofp .f32 (subi (minsi (addi p (broadcast S512x1 h)) (broadcast S512x1 v4)) (maxsi (subi p (broadcast S512x1 h)) (broadcast S512x1 v2)))

theorem counts_apply (h n : ℕ) (p : IVec S512x1 32) (r : Fin 512) (hp : p (ix2 r 0) = BitVec.ofNat 32 n) :
    counts (BitVec.ofNat 32 h) (firstW n) (lastW n) p (ix2 r 0) = count h n := by
  show (((IntOp.subi (IntOp.minsi (IntOp.addi (p (ix2 r 0)) (BitVec.ofNat 32 h)) (lastW n))
    (IntOp.maxsi (IntOp.subi (p (ix2 r 0)) (BitVec.ofNat 32 h)) (firstW n))).toInt : ℝ) : EReal) = _
  rw [hp]
  rfl

theorem pay7_eq (v2 v4 : BitVec 32) (v37 v38 : IVec S512x1 32) (a b x : Vec Ideal S512x256 .f32) (w : Vec Ideal S1x256x256 .bf16) (s : Vec Ideal S1x256 .f32) :
    k0_pay7 v2 v4 v37 v38 a b x w s = k0_pay1 (addf a b) (counts 1#32 v2 v4 (k0_pay6 v37 v38)) x w s := rfl

theorem pay9_eq (v2 v4 : BitVec 32) (p : IVec S512x1 32) (a x : Vec Ideal S512x256 .f32) (w : Vec Ideal S1x256x256 .bf16) (s : Vec Ideal S1x256 .f32) :
    k0_pay9 v2 v4 p a x w s = k0_pay1 a (counts 2#32 v2 v4 p) x w s := rfl

theorem pay11_eq (v2 v4 : BitVec 32) (p : IVec S512x1 32) (a b d x : Vec Ideal S512x256 .f32) (w : Vec Ideal S1x256x256 .bf16) (s : Vec Ideal S1x256 .f32) :
    k0_pay11 v2 v4 p a b d x w s = k0_pay1 (addf (addf a b) d) (counts 4#32 v2 v4 p) x w s := rfl

theorem pay14_eq (v2 v4 : BitVec 32) (p : IVec S512x1 32) : k0_pay14 (F := Ideal) v2 v4 p = counts 8#32 v2 v4 p := rfl

theorem pay1_apply (S : FVec Ideal S512x256 .f32) (C : FVec Ideal S512x1 .f32) (x : Vec Ideal S512x256 .f32) (w : Vec Ideal S1x256x256 .bf16)
    (s : Vec Ideal S1x256 .f32) (r : Fin 512) (c : Fin 256) :
    k0_pay1 S C x w s (ix2 r c)
      = (∑ k : Fin 256, (Ideal.div (S (ix2 r k)) (C (ix2 r 0)) - x (ix2 r k)) * w (ix3 0 k c)) * s (ix2 0 c) := by
  pointwise [k0_pay1]

/-- A group's store, once its sums, counts, tokens, weights and scale are known. -/
theorem group_apply (h : ℕ) (S : FVec Ideal S512x256 .f32) (C : FVec Ideal S512x1 .f32) (x : Vec Ideal S512x256 .f32) (w : Vec Ideal S1x256x256 .bf16)
    (s : Vec Ideal S1x256 .f32) (r : Fin 512) (c : Fin 256) (u : Fin 256 → Fin 32768 → EReal) (wt : Fin 256 → EReal) (sc : EReal) (n : Fin 32768)
    (hS : ∀ k, S (ix2 r k) = total h (u k) n.val) (hC : C (ix2 r 0) = count h n.val) (hx : ∀ k, x (ix2 r k) = u k n)
    (hw : ∀ k, w (ix3 0 k c) = wt k) (hs : s (ix2 0 c) = sc) :
    k0_pay1 S C x w s (ix2 r c) = mixed h u wt n * sc := by
  rw [pay1_apply, hC, hs]
  unfold mixed
  refine congrArg (· * sc) (Finset.sum_congr rfl fun k _ => ?_)
  rw [hS, hx, hw]

theorem pay3_apply (x : Vec Ideal S512x1024 .f32) (r : Fin 512) (c : Fin 1024) : k0_pay3 x (ix2 r c) = x (ix2 r c) := by
  pointwise [k0_pay3]

theorem tile_word : ∀ b : Fin 64, IntOp.muli (BitVec.ofNat 32 b.val) 512#32 = BitVec.ofNat 32 (512 * b.val) := by decide +kernel

theorem pay2_apply (i : grid0.Coords) (v2 : BitVec 32) (x : Vec Ideal S8x1024 .f32) (r : Fin 8) (c : Fin 1024) :
    k0_pay2 (F := Ideal) i v2 x (ix2 r c)
      = if IntOp.cmpi .sge (IntOp.addi (IntOp.subi (IntOp.muli (BitVec.ofNat 32 (i 0).val) 512#32) 8#32) (BitVec.ofNat 32 r.val)) v2 = 1#1
        then x (ix2 r c) else 0 := by
  pointwise [k0_pay2]
  rfl

theorem pay4_apply (i : grid0.Coords) (v4 : BitVec 32) (x : Vec Ideal S8x1024 .f32) (r : Fin 8) (c : Fin 1024) :
    k0_pay4 (F := Ideal) i v4 x (ix2 r c)
      = if IntOp.cmpi .slt (IntOp.addi (IntOp.addi (IntOp.muli (BitVec.ofNat 32 (i 0).val) 512#32) 512#32) (BitVec.ofNat 32 r.val)) v4 = 1#1
        then x (ix2 r c) else 0 := by
  pointwise [k0_pay4]
  rfl

/-! ## The block -/

section

/-- What the point of tile `b` finds: the tile's rows, the rows either side where there are any, the weights and scales. -/
structure Finds (b : ℕ) (U : Fin 1024 → Fin 32768 → EReal) (W : Fin 4 → Fin 256 → Fin 256 → EReal) (s : Fin 1024 → EReal)
    (x0 : Vec Ideal S512x1024 .f32) (x1 x2 : Vec Ideal S8x1024 .f32) (x3 : Vec Ideal S4x256x256 .bf16) (x4 : Vec Ideal S1x1024 .f32) : Prop where
  tile : b < 64
  rows : ∀ (r : Fin 512) (c : Fin 1024), x0 (ix2 r c) = U c ⟨512 * b + r.val, by omega⟩
  before : ∀ (r : Fin 8) (c : Fin 1024) (t : Fin 32768), t.val + 8 = 512 * b + r.val → x1 (ix2 r c) = U c t
  after : ∀ (r : Fin 8) (c : Fin 1024) (t : Fin 32768), t.val = 512 * b + 512 + r.val → x2 (ix2 r c) = U c t
  weights : ∀ (g : Fin 4) (k c : Fin 256), x3 (ix3 g k c) = W g k c
  scales : ∀ c : Fin 1024, x4 (ix2 0 c) = s c

variable {b : ℕ} {U : Fin 1024 → Fin 32768 → EReal} {W : Fin 4 → Fin 256 → Fin 256 → EReal} {s : Fin 1024 → EReal}
  {x0 : Vec Ideal S512x1024 .f32} {x1 x2 : Vec Ideal S8x1024 .f32} {x3 : Vec Ideal S4x256x256 .bf16} {x4 : Vec Ideal S1x1024 .f32}

/-- The scratch holds the tile's rows spread. -/
theorem scratch_apply (H : Finds b U W s x0 x1 x2 x3 x4) (i : grid0.Coords) (hi : (i 0).val = b) (lo up : BitVec 32) (hlo : lo = firstW (512 * b))
    (hup : up = lastW (512 * b)) (y : Fin 528) (c : Fin 1024) :
    View.canon (Val := Elt Ideal) (s := S528x1024) (e := .f32)
      [⟨Rect.unit ![520, 0] ![8, 1024] inb_S528x1024_S8x1024_520_0, k0_pay4 i up x2⟩,
       ⟨Rect.unit ![8, 0] ![512, 1024] inb_S528x1024_S512x1024_8_0, k0_pay3 x0⟩,
       ⟨Rect.unit ![0, 0] ![8, 1024] inb_S528x1024_S8x1024_0_0, k0_pay2 i lo x1⟩] (ix2 y c)
      = spread (U c) (512 * b) (512 * b + y.val) := by
  subst hlo hup
  have hb := H.tile
  have hf := first_le_tile b
  have hl := tile_le_last b hb
  have hl' := last_le (512 * b)
  have ew : IntOp.muli (BitVec.ofNat 32 (i 0).val) 512#32 = BitVec.ofNat 32 (512 * b) := by rw [hi]; exact tile_word ⟨b, hb⟩
  refine canon_rows _ _ _ (fun q c => spread (U c) (512 * b) (512 * b + q)) (fun r c => ?_) (fun r c => ?_) (fun r c => ?_) y c
  · rw [pay2_apply, ew, left_word b r.val hb r.isLt, mask_ite]
    by_cases h : first (512 * b) + 8 ≤ 512 * b + r.val
    · have ht : 512 * b + r.val - 8 < 32768 := by omega
      rw [if_pos h, H.before r c ⟨_, ht⟩ (by show 512 * b + r.val - 8 + 8 = _; omega)]
      exact (spread_in _ _ _ ⟨_, ht⟩ (by show 512 * b + r.val = 512 * b + r.val - 8 + 8; omega)
        (by show _ ≤ 512 * b + r.val - 8 ∧ 512 * b + r.val - 8 < _; omega)).symm
    · rw [if_neg h]
      exact (spread_out _ _ _ fun e => h e.1).symm
  · rw [pay3_apply, H.rows]
    have ht : 512 * b + r.val < 32768 := by omega
    exact (spread_in _ _ _ ⟨_, ht⟩ (by show 512 * b + (8 + r.val) = 512 * b + r.val + 8; omega)
      (by show _ ≤ 512 * b + r.val ∧ 512 * b + r.val < _; omega)).symm
  · rw [pay4_apply, ew, right_word b r.val hb r.isLt, mask_ite]
    by_cases h : 512 * b + 512 + r.val < last (512 * b)
    · have ht : 512 * b + 512 + r.val < 32768 := by omega
      rw [if_pos h, H.after r c ⟨_, ht⟩ rfl]
      exact (spread_in _ _ _ ⟨_, ht⟩ (by show 512 * b + (520 + r.val) = 512 * b + 512 + r.val + 8; omega)
        (by show _ ≤ 512 * b + 512 + r.val ∧ 512 * b + 512 + r.val < _; omega)).symm
    · rw [if_neg h]
      exact (spread_out _ _ _ fun e => h (by omega)).symm

theorem firstW_tile (b r : ℕ) (hr : r < 512) : firstW (512 * b) = firstW (512 * b + r) := by unfold firstW; rw [first_tile b r hr]
theorem lastW_tile (b r : ℕ) (hr : r < 512) : lastW (512 * b) = lastW (512 * b + r) := by unfold lastW; rw [last_tile b r hr]

/-- The counts of a tile's row. -/
theorem tile_counts (hb : b < 64) (i : grid0.Coords) (hi : (i 0).val = b) (h : ℕ) (r : Fin 512) (lo up : BitVec 32)
    (hlo : lo = firstW (512 * b)) (hup : up = lastW (512 * b)) :
    counts (BitVec.ofNat 32 h) lo up (k0_pay6 (iota .tc S512x1 32 [0] iota_S512x1_d0_w32) (k0_pay5 i)) (ix2 r 0)
      = count h (512 * b + r.val) := by
  rw [hlo, hup, firstW_tile b r.val r.isLt, lastW_tile b r.val r.isLt]
  refine counts_apply h (512 * b + r.val) _ r ?_
  have ew : IntOp.muli (BitVec.ofNat 32 (i 0).val) 512#32 = BitVec.ofNat 32 (512 * b) := by rw [hi]; exact tile_word ⟨b, hb⟩
  have e : k0_pay6 (iota .tc S512x1 32 [0] iota_S512x1_d0_w32) (k0_pay5 i) (ix2 r 0)
      = IntOp.addi (IntOp.muli (BitVec.ofNat 32 (i 0).val) 512#32) (BitVec.ofNat 32 r.val) := by
    pointwise [k0_pay6, k0_pay5]
    rfl
  rw [e, ew]
  exact BitVec.ofNat_add_ofNat (512 * b) r.val

variable (c : Dev nD) (i : grid0.Coords) (arg3 : Memref sig .tc .vmem S512x1024 .f32) (harg3 : arg3.IsWhole)
  (arg4 : Memref sig .tc .vmem S8x1024 .f32) (harg4 : arg4.IsWhole) (arg5 : Memref sig .tc .vmem S8x1024 .f32) (harg5 : arg5.IsWhole)
  (arg6 : Memref sig .tc .vmem S4x256x256 .bf16) (harg6 : arg6.IsWhole) (arg7 : Memref sig .tc .vmem S1x1024 .f32) (harg7 : arg7.IsWhole)
  (arg8 : Memref sig .tc .vmem S512x1024 .bf16) (harg8 : arg8.IsWhole) (arg9 : Memref sig .tc .vmem S528x1024 .f32) (harg9 : arg9.IsWhole)
  (xt0 : TbBuf0 (F := Ideal) c tbM0_0) (xt1 : TbBuf0 (F := Ideal) c tbM0_1)

/-- A sum of two equal terms each. -/
theorem add {a b x y : EReal} (h : a = x) (h' : b = y) : a + b = x + y := congrArg₂ (· + ·) h h'

/-- The words a point reads of the two tables. -/
abbrev firstAt : BitVec 32 :=
  (View.ld (View.read (Elt Ideal) (View.whole main_c) xt0) (Rect.unit (s := S64) (k0_off1 i) S1.size (k0_off1_inb i)) : S1.Idx → BitVec 32) (Shape.Idx.first (s := S1) (by decide))
abbrev lastAt : BitVec 32 :=
  (View.ld (View.read (Elt Ideal) (View.whole main_c_0) xt1) (Rect.unit (s := S64) (k0_off1 i) S1.size (k0_off1_inb i)) : S1.Idx → BitVec 32) (Shape.Idx.first (s := S1) (by decide))

/-- The point of tile `b` leaves the pooling of the tile's tokens. -/
theorem block_apply (H : Finds b U W s x0 x1 x2 x3 x4) (hi : (i 0).val = b) (hlo : firstAt c i xt0 = firstW (512 * b)) (hhi : lastAt c i xt1 = lastW (512 * b))
    (r : Fin 512) (g : Fin 4) (k : Fin 256) (n : Fin 32768) (hn : n.val = 512 * b + r.val) :
    out0_A_5 c i arg3 harg3 arg4 harg4 arg5 harg5 arg6 harg6 arg7 harg7 arg8 harg8 arg9 harg9 x0 x1 x2 x3 x4 xt0 xt1 (ix2 r ⟨256 * g.val + k.val, by omega⟩)
      = mixed (2 ^ g.val) (fun k => U ⟨256 * g.val + k.val, by omega⟩) (fun d => W g d k) n * s ⟨256 * g.val + k.val, by omega⟩ := by
  have hb := H.tile
  have en : n = ⟨512 * b + r.val, by omega⟩ := Fin.ext hn
  have ld (L : List (View.Piece (Elt Ideal) S528x1024 .f32)) (hL : ∀ (y : Fin 528) (c : Fin 1024), View.canon L (ix2 y c) = spread (U c) (512 * b) (512 * b + y.val))
      (g : Fin 4) (y : ℕ) (inb : ∀ a, ![y, 256 * g.val] a + (![512, 256] : Fin 2 → ℕ) a ≤ S528x1024.size a) (d : Fin 256) :
      (arg9.view.readCov L (Rect.unit (s := S528x1024) ![y, 256 * g.val] ![512, 256] inb).toLoadRect : S512x256.Idx → EReal) (ix2 r d)
        = spread (U ⟨256 * g.val + d.val, by omega⟩) n.val (n.val + y) := by
    rw [hn]; exact load_apply arg9 L U b hL y _ inb r d (by omega)
  have lx (g : Fin 4) (inb : ∀ a, ![0, 256 * g.val] a + (![512, 256] : Fin 2 → ℕ) a ≤ S512x1024.size a) (d : Fin 256) :
      (View.ld x0 (Rect.unit (s := S512x1024) ![0, 256 * g.val] ![512, 256] inb) : S512x256.Idx → EReal) (ix2 r d) = U ⟨256 * g.val + d.val, by omega⟩ n := by
    exact ((ld_cols x0 _ inb r d (by omega)).trans (H.rows r _)).trans (congrArg (U _) en.symm)
  have lw (g : Fin 4) (inb : ∀ a, ![g.val, 0, 0] a + (![1, 256, 256] : Fin 3 → ℕ) a ≤ S4x256x256.size a) (d : Fin 256) :
      (View.ld x3 (Rect.unit (s := S4x256x256) ![g.val, 0, 0] ![1, 256, 256] inb) : S1x256x256.Idx → EReal) (ix3 0 d k) = W g d k :=
    (ld_weights x3 g inb d k).trans (H.weights g d k)
  have ls (g : Fin 4) (inb : ∀ a, ![0, 256 * g.val] a + (![1, 256] : Fin 2 → ℕ) a ≤ S1x1024.size a) :
      (View.ld x4 (Rect.unit (s := S1x1024) ![0, 256 * g.val] ![1, 256] inb) : S1x256.Idx → EReal) (ix2 0 k) = s ⟨256 * g.val + k.val, by omega⟩ :=
    (ld_scales x4 _ inb k (by omega)).trans (H.scales _)
  have tp (g : Fin 4) := ld _ (scratch_apply H i hi _ _ hlo hhi) g
  frame_out
  refine canon_groups _ _ _ _ (fun g => mixed (2 ^ g.val) (fun k => U ⟨256 * g.val + k.val, by omega⟩) (fun d => W g d k) n * s ⟨256 * g.val + k.val, by omega⟩)
    r g k ?_ ?_ ?_ ?_
  · rw [pay7_eq]
    refine group_apply 1 _ _ _ _ _ r k _ _ _ n (fun d => ?_) ?_ (lx 0 _) (lw 0 _) (ls 0 _)
    · rw [taps1]
      exact add (tp 0 7 _ d) (tp 0 8 _ d)
    · rw [hn]; exact tile_counts hb i hi 1 r _ _ hlo hhi
  · rw [pay9_eq]
    refine group_apply 2 _ _ _ _ _ r k _ _ _ n (fun d => ?_) ?_ (lx 1 _) (lw 1 _) (ls 1 _)
    · rw [taps2]
      exact add (add (add (tp 1 6 _ d) (tp 1 7 _ d)) (tp 1 8 _ d)) (tp 1 9 _ d)
    · rw [hn]; exact tile_counts hb i hi 2 r _ _ hlo hhi
  · rw [pay11_eq]
    refine group_apply 4 _ _ _ _ _ r k _ _ _ n (fun d => ?_) ?_ (lx 2 _) (lw 2 _) (ls 2 _)
    · rw [taps4]
      exact add (add (add (add (add (add (add (tp 2 4 _ d) (tp 2 5 _ d)) (tp 2 6 _ d)) (tp 2 7 _ d)) (tp 2 8 _ d)) (tp 2 9 _ d)) (tp 2 10 _ d)) (tp 2 11 _ d)
    · rw [hn]; exact tile_counts hb i hi 4 r _ _ hlo hhi
  · rw [pay14_eq]
    refine group_apply 8 _ _ _ _ _ r k _ _ _ n (fun d => ?_) ?_ (lx 3 _) (lw 3 _) (ls 3 _)
    · rw [taps8]
      exact add (add (add (add (add (add (add (add (add (add (add (add (add (add (add (tp 3 0 _ d) (tp 3 1 _ d)) (tp 3 2 _ d)) (tp 3 3 _ d)) (tp 3 4 _ d)) (tp 3 5 _ d)) (tp 3 6 _ d)) (tp 3 7 _ d)) (tp 3 8 _ d)) (tp 3 9 _ d)) (tp 3 10 _ d)) (tp 3 11 _ d)) (tp 3 12 _ d)) (tp 3 13 _ d)) (tp 3 14 _ d)) (tp 3 15 _ d)
    · rw [hn]; exact tile_counts hb i hi 8 r _ _ hlo hhi

end

end Cert.PoolIdeal.Math

end
-- ==== Proof.PoolRefValue.lean ====
/- What the pooling's reference computes, element by element. Its four groups are one form in the half window `h`: a mask
   of 32768 by 32768, that product's mean, and the group's linear map. -/
module

public import proofs.«01_k».proof.Defs
public import proofs.«01_k».proof.Proof.PoolMath
public import proofs.«01_k».proof.Proof.Gen.PoolRefIdeal.Run
public import Idealize.ShloMosaic.Lib.Pointwise
public import Idealize.ShloMosaic.Lib.Pipeline.Value

@[expose] public section

set_option maxRecDepth 16384

noncomputable section

namespace Cert.PoolRefIdeal.Math

open Cert.PoolRefIdeal Cert.PoolRefIdeal.Gen Cert.PoolMath Idealize.ShloMosaic Idealize.ShloMosaic.TcCoe Idealize.SL.Sem Idealize.ShloMosaic.StableHlo

/-- Every token's number, and a word for every token. -/
abbrev tokens : IVec S32768 32 := iotaInDim S32768 32 0
abbrev every (x : BitVec 32) : IVec S32768 32 := broadcastInDim S32768 ![] bcast_S_S32768 (constantI S_ 32 x)

/-- One of three words by the sequence of the token. -/
abbrev choose (x y z : BitVec 32) : IVec S32768 32 :=
  id (select (cmpi .slt tokens (every 16384#32)) (every x) (select (cmpi .slt tokens (every 24576#32)) (every y) (every z)))

abbrev lows (h : BitVec 32) : IVec S32768 32 := maxsi (subi tokens (every h)) (choose 0#32 16384#32 24576#32)
abbrev highs (h : BitVec 32) : IVec S32768 32 := minsi (addi tokens (every h)) (choose 16384#32 24576#32 32768#32)

/-- A vector along the rows, along the columns. -/
abbrev asRow (x : IVec S32768 32) : IVec S32768x32768 32 :=
  broadcastInDim S32768x32768 ![0, 1] bcast_S1x32768_S32768x32768_0_1 (broadcastInDim S1x32768 ![1] bcast_S32768_S1x32768_1 x)
abbrev asCol (x : IVec S32768 32) : IVec S32768x32768 32 :=
  broadcastInDim S32768x32768 ![0, 1] bcast_S32768x1_S32768x32768_0_1 (broadcastInDim S32768x1 ![0] bcast_S32768_S32768x1_0 x)

/-- Which tokens are in which window. -/
abbrev mask (h : BitVec 32) : IVec S32768x32768 1 :=
  andi (cmpi .sge (asRow tokens) (asCol (lows h))) (cmpi .slt (asRow tokens) (asCol (highs h)))

/-- A group from its mask and its counts. -/
abbrev groupOf (M : IVec S32768x32768 1) (N : IVec S32768 32) (X : FVec Ideal S32768x256 .f32) (W : FVec Ideal S256x256 .f32) :
    FVec Ideal S32768x256 .f32 :=
  Host.dotGeneral dot_S32768x256_S256x256_S32768x256_1_0_0_1_n_n none
    (subf (Host.divf (Host.dotGeneral dot_S32768x32768_S32768x256_S32768x256_1_0_0_1_n_n none (uitofp .f32 M) X)
      (broadcastInDim S32768x256 ![0, 1] bcast_S32768x1_S32768x256_0_1
        (broadcastInDim S32768x1 ![0] bcast_S32768_S32768x1_0 (sitofp .f32 N)))) X) W

abbrev group (h : BitVec 32) (X : FVec Ideal S32768x256 .f32) (W : FVec Ideal S256x256 .f32) : FVec Ideal S32768x256 .f32 :=
  groupOf (mask h) (subi (highs h) (lows h)) X W

theorem groupOf_apply (M : IVec S32768x32768 1) (N : IVec S32768 32) (X : FVec Ideal S32768x256 .f32) (W : FVec Ideal S256x256 .f32)
    (n : Fin 32768) (c : Fin 256) :
    groupOf M N X W (ix2 n c)
      = ∑ k : Fin 256, (Ideal.div (∑ s : Fin 32768, (((M (ix2 n s)).toNat : ℝ) : EReal) * X (ix2 s k)) (((N (ix1 n)).toInt : ℝ) : EReal)
          - X (ix2 n k)) * W (ix2 k c) := by
  pointwise [groupOf]
  rfl

theorem slt_small (a b : ℕ) (ha : a < 2 ^ 20) (hb : b < 2 ^ 20) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt, toInt_small a ha, toInt_small b hb]
  exact congrArg BitVec.ofBool (decide_eq_decide.2 Int.ofNat_lt)

theorem choose_apply (x y z : BitVec 32) (n : Fin 32768) :
    choose x y z (ix1 n) = if n.val < 16384 then x else if n.val < 24576 then y else z := by
  show (if IntOp.cmpi .slt (BitVec.ofNat 32 n.val) (BitVec.ofNat 32 16384) = 1#1 then x else
    if IntOp.cmpi .slt (BitVec.ofNat 32 n.val) (BitVec.ofNat 32 24576) = 1#1 then y else z) = _
  have hn := n.isLt
  rw [slt_small _ _ (by omega) (by omega), slt_small _ _ (by omega) (by omega)]
  by_cases h1 : n.val < 16384
  · rw [decide_eq_true h1, if_pos h1]; rfl
  · by_cases h2 : n.val < 24576
    · rw [decide_eq_false h1, decide_eq_true h2, if_neg h1, if_pos h2]; rfl
    · rw [decide_eq_false h1, decide_eq_false h2, if_neg h1, if_neg h2]; rfl

theorem lows_apply (h : ℕ) (n : Fin 32768) : lows (BitVec.ofNat 32 h) (ix1 n) = lowW h n.val := by
  show IntOp.maxsi (IntOp.subi (BitVec.ofNat 32 n.val) (BitVec.ofNat 32 h)) (choose 0#32 16384#32 24576#32 (ix1 n)) = _
  rw [choose_apply]
  unfold lowW firstW first
  split_ifs <;> rfl

theorem highs_apply (h : ℕ) (n : Fin 32768) : highs (BitVec.ofNat 32 h) (ix1 n) = highW h n.val := by
  show IntOp.minsi (IntOp.addi (BitVec.ofNat 32 n.val) (BitVec.ofNat 32 h)) (choose 16384#32 24576#32 32768#32 (ix1 n)) = _
  rw [choose_apply]
  unfold highW lastW last
  split_ifs <;> rfl

theorem asRow_apply (x : IVec S32768 32) (n s : Fin 32768) : asRow x (ix2 n s) = x (ix1 s) := by pointwise [asRow]
theorem asCol_apply (x : IVec S32768 32) (n s : Fin 32768) : asCol x (ix2 n s) = x (ix1 n) := by pointwise [asCol]

theorem mask_apply (h : ℕ) (hh : h ≤ 8) (n s : Fin 32768) :
    mask (BitVec.ofNat 32 h) (ix2 n s) = BitVec.ofBool (decide (Member h n.val s.val)) := by
  show IntOp.andi (IntOp.cmpi .sge (asRow tokens (ix2 n s)) (asCol (lows (BitVec.ofNat 32 h)) (ix2 n s)))
    (IntOp.cmpi .slt (asRow tokens (ix2 n s)) (asCol (highs (BitVec.ofNat 32 h)) (ix2 n s))) = _
  rw [asRow_apply, asCol_apply, asCol_apply, lows_apply, highs_apply]
  exact member_word h n.val s.val hh n.isLt s.isLt

/-- A group is its windows' means less the tokens, times its weights. -/
theorem group_apply (h : ℕ) (hh : h ≤ 8) (X : FVec Ideal S32768x256 .f32) (W : FVec Ideal S256x256 .f32) (n : Fin 32768) (c : Fin 256) :
    group (BitVec.ofNat 32 h) X W (ix2 n c) = mixed h (fun k t => X (ix2 t k)) (fun k => W (ix2 k c)) n := by
  refine (groupOf_apply _ _ X W n c).trans ?_
  unfold mixed
  refine Finset.sum_congr rfl fun k _ => congrArg (· * W (ix2 k c)) (congrArg (· - X (ix2 n k)) (congrArg₂ Ideal.div ?_ ?_))
  · unfold total
    refine Finset.sum_congr rfl fun s _ => ?_
    rw [mask_apply h hh]
    exact mask_mul _ _
  · show (((IntOp.subi (highs (BitVec.ofNat 32 h) (ix1 n)) (lows (BitVec.ofNat 32 h) (ix1 n))).toInt : ℝ) : EReal) = count h n.val
    rw [highs_apply, lows_apply]
    rfl

/-- A group's columns of the tokens, a group's weights. -/
abbrev cols0 (U : FVec Ideal S32768x1024 .f32) : FVec Ideal S32768x256 .f32 := extractStridedSlice S32768x256 ![0, 0] U slices_S32768x1024_S32768x256_0_0
abbrev cols1 (U : FVec Ideal S32768x1024 .f32) : FVec Ideal S32768x256 .f32 := extractStridedSlice S32768x256 ![0, 256] U slices_S32768x1024_S32768x256_0_256
abbrev cols2 (U : FVec Ideal S32768x1024 .f32) : FVec Ideal S32768x256 .f32 := extractStridedSlice S32768x256 ![0, 512] U slices_S32768x1024_S32768x256_0_512
abbrev cols3 (U : FVec Ideal S32768x1024 .f32) : FVec Ideal S32768x256 .f32 := extractStridedSlice S32768x256 ![0, 768] U slices_S32768x1024_S32768x256_0_768
abbrev wts0 (W : FVec Ideal S4x256x256 .f32) : FVec Ideal S256x256 .f32 := shapeCast _ (extractStridedSlice S1x256x256 ![0, 0, 0] W slices_S4x256x256_S1x256x256_0_0_0) shapeCasts_S1x256x256_S256x256
abbrev wts1 (W : FVec Ideal S4x256x256 .f32) : FVec Ideal S256x256 .f32 := shapeCast _ (extractStridedSlice S1x256x256 ![1, 0, 0] W slices_S4x256x256_S1x256x256_1_0_0) shapeCasts_S1x256x256_S256x256
abbrev wts2 (W : FVec Ideal S4x256x256 .f32) : FVec Ideal S256x256 .f32 := shapeCast _ (extractStridedSlice S1x256x256 ![2, 0, 0] W slices_S4x256x256_S1x256x256_2_0_0) shapeCasts_S1x256x256_S256x256
abbrev wts3 (W : FVec Ideal S4x256x256 .f32) : FVec Ideal S256x256 .f32 := shapeCast _ (extractStridedSlice S1x256x256 ![3, 0, 0] W slices_S4x256x256_S1x256x256_3_0_0) shapeCasts_S1x256x256_S256x256

/-- The whole from its four groups. -/
abbrev joined (f : Fin 4 → FVec Ideal S32768x256 .f32) (s : FVec Ideal S1024 .f32) : FVec Ideal S32768x1024 .bf16 :=
  truncf .bf16 (mulf (concatenate S32768x1024 1 [⟨S32768x256, f 0⟩, ⟨S32768x256, f 1⟩, ⟨S32768x256, f 2⟩, ⟨S32768x256, f 3⟩]
      concatenates_S32768x256_S32768x256_S32768x256_S32768x256_S32768x1024_d1)
    (broadcastInDim S32768x1024 ![0, 1] bcast_S1x1024_S32768x1024_0_1 (broadcastInDim S1x1024 ![1] bcast_S1024_S1x1024_1 s))) Cert.PoolRefIdeal.Gen.bitsLt_bf16_f32

theorem scaled_apply (X : FVec Ideal S32768x1024 .f32) (s : FVec Ideal S1024 .f32) (n : Fin 32768) (c : Fin 1024) :
    truncf .bf16 (mulf X (broadcastInDim S32768x1024 ![0, 1] bcast_S1x1024_S32768x1024_0_1 (broadcastInDim S1x1024 ![1] bcast_S1024_S1x1024_1 s)))
      Cert.PoolRefIdeal.Gen.bitsLt_bf16_f32 (ix2 n c) = X (ix2 n c) * s (ix1 c) := by
  pointwise

theorem joined_apply (f : Fin 4 → FVec Ideal S32768x256 .f32) (s : FVec Ideal S1024 .f32) (n : Fin 32768) (g : Fin 4) (c : Fin 256) :
    joined f s (ix2 n ⟨256 * g.val + c.val, by omega⟩) = f g (ix2 n c) * s (ix1 ⟨256 * g.val + c.val, by omega⟩) := by
  refine (scaled_apply _ s n _).trans (congrArg (· * _) ?_)
  have hd : (256 * g.val + c.val) / 256 = g.val := by omega
  have hm : c.val = (256 * g.val + c.val) % 256 := by omega
  exact concatenate_ofFn_apply (t := S32768x1024) (s₁ := S32768x256) 1 f concatenates_S32768x256_S32768x256_S32768x256_S32768x256_S32768x1024_d1
    rfl 256 rfl (ix2 n ⟨256 * g.val + c.val, by omega⟩) g hd (ix2 n c) hm (fun b hb => by
      match b, hb with
      | ⟨0, _⟩, _ => rfl
      | ⟨1, _⟩, h => exact absurd rfl h)

/-- The pooling, at group `g`, channel `c` of the group. -/
def pool (U : FVec Ideal S32768x1024 .f32) (W : FVec Ideal S4x256x256 .f32) (s : FVec Ideal S1024 .f32) (n : Fin 32768) (g : Fin 4) (c : Fin 256) : EReal :=
  mixed (2 ^ g.val) (fun k t => U (ix2 t ⟨256 * g.val + k.val, by omega⟩)) (fun k => W (ix3 g k c)) n * s (ix1 ⟨256 * g.val + c.val, by omega⟩)

theorem cols0_apply (U : FVec Ideal S32768x1024 .f32) (t : Fin 32768) (k : Fin 256) : cols0 U (ix2 t k) = U (ix2 t ⟨256 * 0 + k.val, by omega⟩) := by pointwise [cols0]
theorem cols1_apply (U : FVec Ideal S32768x1024 .f32) (t : Fin 32768) (k : Fin 256) : cols1 U (ix2 t k) = U (ix2 t ⟨256 * 1 + k.val, by omega⟩) := by pointwise [cols1]
theorem cols2_apply (U : FVec Ideal S32768x1024 .f32) (t : Fin 32768) (k : Fin 256) : cols2 U (ix2 t k) = U (ix2 t ⟨256 * 2 + k.val, by omega⟩) := by pointwise [cols2]
theorem cols3_apply (U : FVec Ideal S32768x1024 .f32) (t : Fin 32768) (k : Fin 256) : cols3 U (ix2 t k) = U (ix2 t ⟨256 * 3 + k.val, by omega⟩) := by pointwise [cols3]
theorem wts0_apply (W : FVec Ideal S4x256x256 .f32) (k c : Fin 256) : wts0 W (ix2 k c) = W (ix3 0 k c) := by pointwise [wts0]
theorem wts1_apply (W : FVec Ideal S4x256x256 .f32) (k c : Fin 256) : wts1 W (ix2 k c) = W (ix3 1 k c) := by pointwise [wts1]
theorem wts2_apply (W : FVec Ideal S4x256x256 .f32) (k c : Fin 256) : wts2 W (ix2 k c) = W (ix3 2 k c) := by pointwise [wts2]
theorem wts3_apply (W : FVec Ideal S4x256x256 .f32) (k c : Fin 256) : wts3 W (ix2 k c) = W (ix3 3 k c) := by pointwise [wts3]

/-- The reference's four groups. -/
abbrev groups (U : FVec Ideal S32768x1024 .f32) (W : FVec Ideal S4x256x256 .f32) : Fin 4 → FVec Ideal S32768x256 .f32 :=
  ![group 1#32 (cols0 U) (wts0 W), group 2#32 (cols1 U) (wts1 W), group 4#32 (cols2 U) (wts2 W), group 8#32 (cols3 U) (wts3 W)]

/-- A group of the whole, once its columns and its weights are known by element. -/
theorem group_of (h : ℕ) (hh : h ≤ 8) (X : FVec Ideal S32768x256 .f32) (Z : FVec Ideal S256x256 .f32) (x : Fin 256 → Fin 32768 → EReal)
    (w : Fin 256 → EReal) (n : Fin 32768) (c : Fin 256) (hX : ∀ t k, X (ix2 t k) = x k t) (hZ : ∀ k, Z (ix2 k c) = w k) :
    group (BitVec.ofNat 32 h) X Z (ix2 n c) = mixed h x w n := by
  rw [group_apply h hh]
  exact congrArg₂ (fun a b => mixed h a b n) (funext fun k => funext fun t => hX t k) (funext hZ)

theorem groups_apply (U : FVec Ideal S32768x1024 .f32) (W : FVec Ideal S4x256x256 .f32) (n : Fin 32768) (g : Fin 4) (c : Fin 256) :
    groups U W g (ix2 n c) = mixed (2 ^ g.val) (fun k t => U (ix2 t ⟨256 * g.val + k.val, by omega⟩)) (fun k => W (ix3 g k c)) n := by
  match g with
  | 0 => exact group_of 1 (by omega) (cols0 U) (wts0 W) _ _ n c (cols0_apply U) (fun k => wts0_apply W k c)
  | 1 => exact group_of 2 (by omega) (cols1 U) (wts1 W) _ _ n c (cols1_apply U) (fun k => wts1_apply W k c)
  | 2 => exact group_of 4 (by omega) (cols2 U) (wts2 W) _ _ n c (cols2_apply U) (fun k => wts2_apply W k c)
  | 3 => exact group_of 8 (by omega) (cols3 U) (wts3 W) _ _ n c (cols3_apply U) (fun k => wts3_apply W k c)

variable (m : (ℓ : Loc nD τ sig) → Buf (Elt Ideal) ℓ)

/-- The reference's result is the pooling. -/
theorem res_apply (c : Dev nD) (n : Fin 32768) (g : Fin 4) (k : Fin 256) :
    (Cert.PoolRefIdeal.Value.res_out0 m c : S32768x1024.Idx → EReal) (ix2 n ⟨256 * g.val + k.val, by omega⟩)
      = pool (m ((c.tc : Thread nD τ).loc main_arg0)) (m ((c.tc : Thread nD τ).loc main_arg1)) (m ((c.tc : Thread nD τ).loc main_arg2)) n g k := by
  refine Eq.trans ?_ ((joined_apply (groups (m ((c.tc : Thread nD τ).loc main_arg0)) (m ((c.tc : Thread nD τ).loc main_arg1))) (m ((c.tc : Thread nD τ).loc main_arg2)) n g k).trans ?_)
  · rfl
  · unfold pool
    rw [groups_apply]

end Cert.PoolRefIdeal.Math

end
-- ==== Proof.PoolValue.lean ====
/- What the pooling's result holds after the run, and that the reference computes the same. -/
module

public import proofs.«01_k».proof.Proof.Gen.Pool.Frame
public import proofs.«01_k».proof.Proof.PoolBlock
public import proofs.«01_k».proof.Proof.PoolRefValue

@[expose] public section

set_option maxRecDepth 16384

noncomputable section

namespace Cert.PoolIdeal.Math

open Cert.PoolIdeal Cert.PoolIdeal.Gen Cert.PoolMath Idealize.ShloMosaic Idealize.ShloMosaic.TcCoe Idealize.SL.Sem
open Idealize.ShloMosaic.Pipeline (Dat)

/-- Channel `d` of group `g` of the pooling at a token: the window's mean less the token through the group's map, scaled. -/
def pooledAt (U : FVec Ideal S32768x1024 .f32) (W : FVec Ideal S4x256x256 .f32) (s : FVec Ideal S1024 .f32) (n : Fin 32768) (g : Fin 4) (d : Fin 256) : EReal :=
  mixed (2 ^ g.val) (fun k t => U (ix2 t ⟨256 * g.val + k.val, by omega⟩)) (fun k => W (ix3 g k d)) n * s (ix1 ⟨256 * g.val + d.val, by omega⟩)

/-- The pooling: a channel's group is its number over 256. -/
def pooled (U : FVec Ideal S32768x1024 .f32) (W : FVec Ideal S4x256x256 .f32) (s : FVec Ideal S1024 .f32) : FVec Ideal S32768x1024 .bf16 := fun i =>
  have h : (i 1).val < 1024 := (i 1).isLt
  pooledAt U W s (i 0) ⟨(i 1).val / 256, by omega⟩ ⟨(i 1).val % 256, by omega⟩

theorem pooled_apply (U : FVec Ideal S32768x1024 .f32) (W : FVec Ideal S4x256x256 .f32) (s : FVec Ideal S1024 .f32) (n : Fin 32768) (g : Fin 4) (c : Fin 256) :
    pooled U W s (ix2 n ⟨256 * g.val + c.val, by omega⟩) = pooledAt U W s n g c :=
  congrArg₂ (pooledAt U W s n) (Fin.ext (by show (256 * g.val + c.val) / 256 = g.val; omega)) (Fin.ext (by show (256 * g.val + c.val) % 256 = c.val; omega))

/-- The two tables' words at a point are the ends of its tile's sequence. -/
theorem words : ∀ t : Fin grid0.N,
    lit0 (S64.rowMajor ((Rect.unit (s := S64) (k0_off1 (grid0.coords t)) S1.size (k0_off1_inb (grid0.coords t))).emb (Shape.Idx.first (s := S1) (by decide)))) = firstW (512 * t.val)
    ∧ lit1 (S64.rowMajor ((Rect.unit (s := S64) (k0_off1 (grid0.coords t)) S1.size (k0_off1_inb (grid0.coords t))).emb (Shape.Idx.first (s := S1) (by decide)))) = lastW (512 * t.val) := by
  decide +kernel

/-- Which block each window is on. -/
theorem maps : ∀ t : Fin grid0.N, (grid0.coords t 0).val = t.val
    ∧ (cc0_transform_0 (grid0.coords t) 0 = t.val ∧ cc0_transform_0 (grid0.coords t) 1 = 0)
    ∧ (cc0_transform_1 (grid0.coords t) 0 = 64 * t.val - 1 ∧ cc0_transform_1 (grid0.coords t) 1 = 0)
    ∧ (cc0_transform_2 (grid0.coords t) 0 = min (64 * (t.val + 1)) 4095 ∧ cc0_transform_2 (grid0.coords t) 1 = 0)
    ∧ (cc0_transform_3 (grid0.coords t) 0 = 0 ∧ cc0_transform_3 (grid0.coords t) 1 = 0 ∧ cc0_transform_3 (grid0.coords t) 2 = 0)
    ∧ (cc0_transform_4 (grid0.coords t) 0 = 0 ∧ cc0_transform_4 (grid0.coords t) 1 = 0)
    ∧ (cc0_transform_5 (grid0.coords t) 0 = t.val ∧ cc0_transform_5 (grid0.coords t) 1 = 0) := by decide +kernel

variable (m : (ℓ : Loc nD τ sig) → Buf (Elt Ideal) ℓ)

/-- The host rounds the weights before the kernel, which at the ideal instance is no change, -/
theorem V_v0 (c : Dev nD) : V m c main_v0 = m ((c : Thread nD τ).loc main_arg1) := by
  show StableHlo.after hostOps0 (fun b => m (c, b)) main_v0 = _
  after_results
  rfl

/-- gives the scales an axis of one element, -/
theorem V_v1 (c : Dev nD) (k : Fin 1024) : (V m c main_v1 : S1x1024.Idx → EReal) (ix2 0 k) = m ((c : Thread nD τ).loc main_arg2) (ix1 k) := by
  show (StableHlo.after hostOps0 (fun b => m (c, b)) main_v1 : S1x1024.Idx → EReal) _ = _
  after_results
  pointwise

/-- and writes the two tables out. -/
theorem tbl_zero : (tbl m 0 : S64.Idx → BitVec 32) = fun i => lit0 (S64.rowMajor i) := by
  show StableHlo.after hostOps0 (fun b => m ((0 : Dev nD), b)) main_c = _
  after_results
  rfl

theorem tbl_one : (tbl m 1 : S64.Idx → BitVec 32) = fun i => lit1 (S64.rowMajor i) := by
  show StableHlo.after hostOps0 (fun b => m ((0 : Dev nD), b)) main_c_0 = _
  after_results
  rfl

theorem first_at (c : Dev nD) (t : Fin grid0.N) : firstAt c (grid0.coords t) (tbl m 0) = firstW (512 * t.val) := by
  show (tbl m 0 : S64.Idx → BitVec 32) _ = _
  rw [tbl_zero]
  exact (words t).1

theorem last_at (c : Dev nD) (t : Fin grid0.N) : lastAt c (grid0.coords t) (tbl m 1) = lastW (512 * t.val) := by
  show (tbl m 1 : S64.Idx → BitVec 32) _ = _
  rw [tbl_one]
  exact (words t).2

variable (hO : Ok m)

theorem place0 (t : Fin (cfgM m hO).N) (y : S512x1024.Idx) (a : Fin 2) :
    ((((cfgM m hO).win 0).rect t).emb y a : Nat) = cc0_transform_0 (grid0.coords t) a * S512x1024.size a + (y a).val :=
  ((cfgM m hO).win 0).rect_emb_val t y a rfl
theorem place1 (t : Fin (cfgM m hO).N) (y : S8x1024.Idx) (a : Fin 2) :
    ((((cfgM m hO).win 1).rect t).emb y a : Nat) = cc0_transform_1 (grid0.coords t) a * S8x1024.size a + (y a).val :=
  ((cfgM m hO).win 1).rect_emb_val t y a rfl
theorem place2 (t : Fin (cfgM m hO).N) (y : S8x1024.Idx) (a : Fin 2) :
    ((((cfgM m hO).win 2).rect t).emb y a : Nat) = cc0_transform_2 (grid0.coords t) a * S8x1024.size a + (y a).val :=
  ((cfgM m hO).win 2).rect_emb_val t y a rfl
theorem place3 (t : Fin (cfgM m hO).N) (y : S4x256x256.Idx) (a : Fin 3) :
    ((((cfgM m hO).win 3).rect t).emb y a : Nat) = cc0_transform_3 (grid0.coords t) a * S4x256x256.size a + (y a).val :=
  ((cfgM m hO).win 3).rect_emb_val t y a rfl
theorem place4 (t : Fin (cfgM m hO).N) (y : S1x1024.Idx) (a : Fin 2) :
    ((((cfgM m hO).win 4).rect t).emb y a : Nat) = cc0_transform_4 (grid0.coords t) a * S1x1024.size a + (y a).val :=
  ((cfgM m hO).win 4).rect_emb_val t y a rfl
theorem place5 (t : Fin (cfgM m hO).N) (y : S512x1024.Idx) (a : Fin 2) :
    ((((cfgM m hO).win 5).rect t).emb y a : Nat) = cc0_transform_5 (grid0.coords t) a * S512x1024.size a + (y a).val :=
  ((cfgM m hO).win 5).rect_emb_val t y a rfl

/-- What a point finds in its blocks. -/
theorem finds (c : Dev nD) (t : Fin (cfgM m hO).N) :
    Finds t.val (fun k n => m ((c : Thread nD τ).loc main_arg0) (ix2 n k)) (fun g k d => m ((c : Thread nD τ).loc main_arg1) (ix3 g k d))
      (fun k => m ((c : Thread nD τ).loc main_arg2) (ix1 k)) (iblk m hO c 0 t) (iblk m hO c 1 t) (iblk m hO c 2 t) (iblk m hO c 3 t) (iblk m hO c 4 t) := by
  have ht : t.val < 64 := lt_of_lt_of_eq t.isLt N_0
  obtain ⟨_, h0, h1, h2, h3, h4, _⟩ := maps t
  refine ⟨ht, fun r k => ?_, fun r k n hn => ?_, fun r k n hn => ?_, fun g k d => ?_, fun k => ?_⟩
  · show V m c main_arg0 ((((cfgM m hO).win 0).rect t).emb (ix2 r k)) = _
    rw [V_main_arg0]
    refine congrArg _ (Shape.idx_ext₂ ?_ ?_)
    · rw [place0 m hO t _ 0, h0.1]; show t.val * 512 + r.val = 512 * t.val + r.val; omega
    · rw [place0 m hO t _ 1, h0.2, Nat.zero_mul, Nat.zero_add]; rfl
  · show V m c main_arg0 ((((cfgM m hO).win 1).rect t).emb (ix2 r k)) = _
    rw [V_main_arg0]
    refine congrArg _ (Shape.idx_ext₂ ?_ ?_)
    · rw [place1 m hO t _ 0, h1.1]; show (64 * t.val - 1) * 8 + r.val = n.val; omega
    · rw [place1 m hO t _ 1, h1.2, Nat.zero_mul, Nat.zero_add]; rfl
  · show V m c main_arg0 ((((cfgM m hO).win 2).rect t).emb (ix2 r k)) = _
    rw [V_main_arg0]
    refine congrArg _ (Shape.idx_ext₂ ?_ ?_)
    · rw [place2 m hO t _ 0, h2.1]; show min (64 * (t.val + 1)) 4095 * 8 + r.val = n.val; omega
    · rw [place2 m hO t _ 1, h2.2, Nat.zero_mul, Nat.zero_add]; rfl
  · show V m c main_v0 ((((cfgM m hO).win 3).rect t).emb (ix3 g k d)) = _
    rw [V_v0]
    refine congrArg _ ?_
    funext a
    refine Fin.ext ((place3 m hO t (ix3 g k d) a).trans ?_)
    match a with
    | ⟨0, _⟩ => exact (congrArg (· * 4 + g.val) h3.1).trans (by show 0 * 4 + g.val = g.val; omega)
    | ⟨1, _⟩ => exact (congrArg (· * 256 + k.val) h3.2.1).trans (by show 0 * 256 + k.val = k.val; omega)
    | ⟨2, _⟩ => exact (congrArg (· * 256 + d.val) h3.2.2).trans (by show 0 * 256 + d.val = d.val; omega)
  · show (V m c main_v1 : S1x1024.Idx → EReal) ((((cfgM m hO).win 4).rect t).emb (ix2 0 k)) = _
    refine Eq.trans (congrArg _ (Shape.idx_ext₂ ?_ ?_)) (V_v1 m c k)
    · rw [place4 m hO t _ 0, h4.1]; rfl
    · rw [place4 m hO t _ 1, h4.2, Nat.zero_mul, Nat.zero_add]

/-- What the kernel computes from the launch memory. -/
abbrev G (c : Dev nD) : FVec Ideal S32768x1024 .bf16 :=
  pooled (m ((c : Thread nD τ).loc main_arg0)) (m ((c : Thread nD τ).loc main_arg1)) (m ((c : Thread nD τ).loc main_arg2))

/-- Where an element of the result block at point `t` lies in the result. -/
theorem emb5 (t : Fin (cfgM m hO).N) (r : Fin 512) (k : Fin 1024) (h : 512 * t.val + r.val < 32768) :
    (((cfgM m hO).win 5).rect t).emb (ix2 r k) = (ix2 ⟨512 * t.val + r.val, h⟩ k : S32768x1024.Idx) := by
  obtain ⟨_, _, _, _, _, _, h5⟩ := maps t
  refine Shape.idx_ext₂ ?_ ?_
  · rw [place5 m hO t _ 0, h5.1]; show t.val * 512 + r.val = 512 * t.val + r.val; omega
  · rw [place5 m hO t _ 1, h5.2, Nat.zero_mul, Nat.zero_add]; rfl

/-- What a point leaves is its block of the pooling. -/
theorem outsAt_eq (c : Dev nD) (t : Fin (cfgM m hO).N) (r : Fin 512) (k : Fin 1024) :
    outsAt0 m hO c t (ix2 r k) = G m c ((((cfgM m hO).win 5).rect t).emb (ix2 r k)) := by
  have ht : t.val < 64 := lt_of_lt_of_eq t.isLt N_0
  rw [emb5 m hO t r k (by omega)]
  have ek : k = ⟨256 * (⟨k.val / 256, by omega⟩ : Fin 4).val + (⟨k.val % 256, by omega⟩ : Fin 256).val, by show 256 * (k.val / 256) + k.val % 256 < 1024; omega⟩ :=
    Fin.ext (by show k.val = 256 * (k.val / 256) + k.val % 256; omega)
  rw [ek]
  refine Eq.trans ?_ (pooled_apply _ _ _ _ _ _).symm
  unfold outsAt0
  exact block_apply c (grid0.coords t) _ _ _ _ _ _ _ _ _ _ _ _ _ _ _ _ (finds m hO c t) (maps t).1 (first_at m c t) (last_at m c t) r _ _ _ rfl

theorem flushed_eq (c : Dev nD) (t : Fin (cfgM m hO).N) :
    (dats m hO 0 c).flushed 5 t = (((cfgM m hO).win 5).blk t).view.read (Elt Ideal) (G m c) := by
  show ((cfgM m hO).win 5).cut (grid0.coords t) ((dats m hO 0 c).after 5 t) = _
  rw [after0_5]
  funext (y : S512x1024.Idx)
  show outsAt0 m hO c t y = G m c ((((cfgM m hO).win 5).rect t).emb y)
  obtain ⟨r, k, rfl⟩ : ∃ (r : Fin 512) (k : Fin 1024), y = ix2 r k := ⟨y 0, y 1, eq_ix2 y⟩
  exact outsAt_eq m hO c t r k

/-- Every element of the result lies in some point's block. -/
theorem covered (i : S32768x1024.Idx) : ∃ t : Fin (cfgM m hO).N, ((cfgM m hO).win 5).flush t = true ∧ i ∈ (((cfgM m hO).win 5).blk t).view.set := by
  obtain ⟨n, k, rfl⟩ : ∃ (n : Fin 32768) (k : Fin 1024), i = ix2 n k := ⟨i 0, i 1, eq_ix2 i⟩
  have hlt : n.val / 512 < 64 := by omega
  let t : Fin (cfgM m hO).N := ⟨n.val / 512, lt_of_lt_of_eq hlt N_0.symm⟩
  refine ⟨t, flush0_5 (adm m hO) t, ?_⟩
  have e : (ix2 n k : S32768x1024.Idx) = (((cfgM m hO).win 5).blk t).view.emb (ix2 ⟨n.val % 512, by omega⟩ k : S512x1024.Idx) := by
    refine Eq.trans ?_ (emb5 m hO t ⟨n.val % 512, by omega⟩ k (by show 512 * (n.val / 512) + n.val % 512 < 32768; omega)).symm
    refine Shape.idx_ext₂ ?_ rfl
    show n.val = 512 * (n.val / 512) + n.val % 512
    omega
  rw [e]
  exact View.emb_mem_set _ _

/-- The result array after the run. -/
theorem final (c : Dev nD) : (dats m hO 0 c).arrAt 5 (cfgM m hO).N = G m c :=
  (dats m hO 0 c).arrAt_eq_of_cover 5 (G m c) (fun t _ => flushed_eq m hO c t) (covered m hO)

end Cert.PoolIdeal.Math

namespace Cert.Proof

open Idealize.ShloMosaic Idealize.SL.Sem

/-- No map of the pooling's windows reads a table. -/
theorem frame_Pool : Cert.quiescent_Pool := fun m ρ _ => Cert.Pool.Gen.frame m ρ trivial

theorem frame_PoolIdeal : Cert.quiescent_PoolIdeal := fun m ρ _ => Cert.PoolIdeal.Gen.frame m ρ trivial

theorem frame_PoolRef : Cert.quiescent_PoolRefIdeal := fun m g _ =>
  (θ_run _ _ _).mono (fun r h => ⟨fun c => (h c).2, sem_eq_zero_of_no_sems (by decide) r.2⟩) (PoolRefIdeal.Value.run (F := Ideal) m g)

theorem algebraic_Pool : Cert.algebraic_PoolIdeal_PoolRefIdeal := by
  intro m g m' g' _ hag
  have hO : PoolIdeal.Gen.Ok m := trivial
  refine ⟨fun c => PoolIdeal.Math.G m c, ?_, ?_⟩
  · exact (θ_run _ _ _).mono (fun r hr c => ⟨((hr.1 c).1 5).trans (PoolIdeal.Math.final m hO c), hr.2 c⟩)
      (θ_run_and (PoolIdeal.Gen.run_main m g hO) (PoolIdeal.Gen.unchanged m g hO))
  · refine (θ_run _ _ _).mono (fun r h c => ⟨(h c).1.trans ?_, (h c).2⟩) (PoolRefIdeal.Value.run (F := Ideal) m' g')
    obtain ⟨h0, h1, h2⟩ := hag c
    funext (i : PoolIdeal.S32768x1024.Idx)
    obtain ⟨n, k, rfl⟩ : ∃ (n : Fin 32768) (k : Fin 1024), i = ix2 n k := ⟨i 0, i 1, eq_ix2 i⟩
    have ek : k = ⟨256 * (⟨k.val / 256, by omega⟩ : Fin 4).val + (⟨k.val % 256, by omega⟩ : Fin 256).val, by show 256 * (k.val / 256) + k.val % 256 < 1024; omega⟩ :=
      Fin.ext (by show k.val = 256 * (k.val / 256) + k.val % 256; omega)
    rw [ek]
    refine (PoolRefIdeal.Math.res_apply m' c n _ _).trans ?_
    rw [h0, h1, h2]
    exact (PoolIdeal.Math.pooled_apply _ _ _ n _ _).symm

end Cert.Proof

end
-- ==== Proof.RouterOrder.lean ====
/-
  The order in which the router picks experts: by falling logit, the lower expert first among equals. The stable sort
  leaves the experts in that order, and picking the greatest of a row four times over, each time with the
  experts already picked set to minus infinity, picks them in that order too.
-/
module

public import Idealize.ShloMosaic.Lib.SortFacts
public import Idealize.ShloMosaic.Lib.SortNet.Extract
public import Idealize.ShloMosaic.PureOps.Ideal.Laws

@[expose] public section

noncomputable section

namespace Cert.RouterOrder

open Idealize.ShloMosaic

variable {n : Nat} (L : Fin n → EReal)

/-- `e` is picked before `f`: it has the greater logit, or the same and the lower number. -/
def First (e f : Fin n) : Prop := L f < L e ∨ (L e = L f ∧ e < f)

/-- Inserting a number below all of an ordered list leaves the list ordered. -/
theorem pairwise_insert (a : Fin n) (l : List (Fin n)) (ha : ∀ b ∈ l, a < b) (hl : l.Pairwise (First L)) :
    (insertBefore (fun x y => decide (L y < L x)) a l).Pairwise (First L) := by
  induction l with
  | nil => simp [insertBefore]
  | cons b l ih =>
    obtain ⟨hb, hl'⟩ := List.pairwise_cons.mp hl
    unfold insertBefore
    split
    · next h =>
      have hba : L a < L b := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : L b ≤ L a := by simpa using h
      refine List.pairwise_cons.mpr ⟨fun x hx => ?_, hl⟩
      have hle : L x ≤ L a := by
        rcases List.mem_cons.mp hx with rfl | hx'
        · exact hab
        · rcases hb x hx' with h1 | ⟨h1, -⟩
          · exact h1.le.trans hab
          · exact h1.symm.le.trans hab
      rcases hle.lt_or_eq with h1 | h1
      · exact Or.inl h1
      · exact Or.inr ⟨h1.symm, ha x hx⟩

theorem pairwise_sort (l : List (Fin n)) (hl : l.Pairwise (· < ·)) :
    (stableSort (fun x y => decide (L y < L x)) l).Pairwise (First L) := by
  induction l with
  | nil => simp [stableSort]
  | cons a l ih =>
    obtain ⟨ha, hl'⟩ := List.pairwise_cons.mp hl
    unfold stableSort
    exact pairwise_insert L a _ (fun b hb => ha b ((perm_stableSort _ l).mem_iff.mp hb)) (ih hl')

/-- The experts in the order they are picked. -/
def rank (k : Fin n) : Fin n := sortedFrom (fun a b => decide (L b < L a)) k

theorem rank_first (i j : Fin n) (hij : i < j) : First L (rank L i) (rank L j) := by
  have hp : ∀ a b : Fin (sortPositions n fun a b => decide (L b < L a)).length, a < b →
      First L ((sortPositions n fun a b => decide (L b < L a)).get a) ((sortPositions n fun a b => decide (L b < L a)).get b) :=
    List.pairwise_iff_get.mp (pairwise_sort L _ (List.pairwise_lt_finRange n))
  unfold rank sortedFrom
  exact hp _ _ (by simp only [Fin.lt_def, Fin.val_cast]; exact hij)

theorem rank_le (i j : Fin n) (hij : i ≤ j) : L (rank L j) ≤ L (rank L i) := by
  rcases hij.lt_or_eq with h | rfl
  · rcases rank_first L i j h with h | ⟨h, -⟩
    · exact h.le
    · exact h.ge
  · exact le_rfl

/-- The logits once the first `k` experts are picked: theirs are minus infinity. -/
def left (k : Nat) (e : Fin n) : EReal := if ∃ j : Fin n, j.val < k ∧ rank L j = e then ⊥ else L e

theorem left_zero : left L 0 = L := by
  funext e
  unfold left
  rw [if_neg (by rintro ⟨j, hj, -⟩; exact absurd hj (Nat.not_lt_zero _))]

/-- Picking one more. -/
theorem left_succ (k : Fin n) (e : Fin n) : left L (k.val + 1) e = if e = rank L k then ⊥ else left L k.val e := by
  unfold left
  by_cases h : e = rank L k
  · rw [if_pos ⟨k, Nat.lt_succ_self _, h.symm⟩, if_pos h]
  · rw [if_neg h]
    refine if_congr ⟨?_, ?_⟩ rfl rfl
    · rintro ⟨j, hj, rfl⟩
      refine ⟨j, lt_of_le_of_ne (Nat.lt_succ_iff.mp hj) fun hjk => h ?_, rfl⟩
      rw [Fin.ext hjk]
    · rintro ⟨j, hj, rfl⟩
      exact ⟨j, Nat.lt_succ_of_lt hj, rfl⟩

/-- The next one's logit is still there. -/
theorem left_rank (k : Fin n) : left L k.val (rank L k) = L (rank L k) := by
  unfold left
  refine if_neg ?_
  rintro ⟨j, hj, he⟩
  exact absurd (congrArg Fin.val (sortedFrom_injective _ he)) (Nat.ne_of_lt hj)

/-- The next one's is the greatest left. -/
theorem left_le (k f : Fin n) : left L k.val f ≤ left L k.val (rank L k) := by
  rw [left_rank]
  obtain ⟨j, rfl⟩ := sortedFrom_surjective (fun a b => decide (L b < L a)) f
  change left L k.val (rank L j) ≤ _
  unfold left
  split
  · exact bot_le
  · next h => exact rank_le L k j (not_lt.mp fun hj => h ⟨j, hj, rfl⟩)

/-- And of those that hold the greatest it is the lowest. -/
theorem left_least (hL : ∀ e, L e ≠ ⊥) (k f : Fin n) (h : left L k.val f = left L k.val (rank L k)) : rank L k ≤ f := by
  rw [left_rank] at h
  obtain ⟨j, rfl⟩ := sortedFrom_surjective (fun a b => decide (L b < L a)) f
  change left L k.val (rank L j) = _ at h
  change rank L k ≤ rank L j
  unfold left at h
  split at h
  · exact absurd h.symm (hL _)
  · next hj =>
    have hkj : k ≤ j := not_lt.mp fun hj' => hj ⟨j, hj', rfl⟩
    rcases hkj.lt_or_eq with h1 | h1
    · rcases rank_first L k j h1 with h2 | ⟨-, h2⟩
      · exact absurd h h2.ne
      · exact h2.le
    · rw [h1]

/-- A maximum from minus infinity is the element that is at least every other. -/
theorem fold_max {ι : Type} (s : Finset ι) (g : ι → EReal) (e : ι) (he : e ∈ s) (h : ∀ i ∈ s, g i ≤ g e) : s.fold max ⊥ g = g e :=
  le_antisymm ((Finset.fold_max_le _).mpr ⟨bot_le, h⟩) ((Finset.le_fold_max _).mpr (Or.inr ⟨e, he, le_rfl⟩))

/-- A signed minimum of words is the element that is at most every other and at most the start. -/
theorem fold_min {ι : Type} (s : Finset ι) (g : ι → BitVec 32) (b : BitVec 32) (e : ι) (he : e ∈ s)
    (hb : (g e).toInt ≤ b.toInt) (h : ∀ i ∈ s, (g e).toInt ≤ (g i).toInt) : s.fold IntOp.minsi b g = g e := by
  refine BitVec.eq_of_toInt_eq (le_antisymm ?_ ?_)
  · exact (Finset.fold_op_rel_iff_or (r := fun x y : BitVec 32 => y.toInt ≤ x.toInt)
      (fun {x y z} => by rw [SortNet.toInt_minsi, min_le_iff])).mpr (Or.inr ⟨e, he, le_rfl⟩)
  · exact (Finset.fold_op_rel_iff_and (r := fun x y : BitVec 32 => x.toInt ≤ y.toInt)
      (fun {x y z} => by rw [SortNet.toInt_minsi, le_min_iff])).mpr ⟨hb, h⟩

end Cert.RouterOrder

end
-- ==== Proof.RouterMath.lean ====
/-
  What the router computes, as formulas: the normalised rows, the logits, the four experts picked for a token and their
  gates.
-/
module

public import proofs.«01_k».proof.Proof.RouterOrder
public import Idealize.ShloMosaic.Lib.Pointwise

@[expose] public section

noncomputable section

namespace Cert.RouterMath

open Cert.RouterOrder Idealize.ShloMosaic

/-- One element `x` of a row, divided by the root of the row's mean square (with the small constant added under the
    root), times its gain `g`. -/
def scaled (x ss g : EReal) : EReal :=
  x * Ideal.rsqrt (Ideal.div ss (Ideal.ofBits .f32 0x45800000#32) + Ideal.ofBits .f32 0x358637BD#32) * g

/-- A normalised row. -/
def normal (x g : Fin 4096 → EReal) (k : Fin 4096) : EReal := scaled (x k) (∑ j, x j * x j) (g k)

/-- The logits of a token. -/
def logit (x g : Fin 4096 → EReal) (w : Fin 4096 → Fin 32 → EReal) (b : Fin 32 → EReal) (e : Fin 32) : EReal :=
  (∑ k, normal x g k * w k e) + b e

/-- The `k`-th expert picked for logits `L`. -/
def pick (L : Fin 32 → EReal) (k : Fin 4) : Fin 32 := rank L ⟨k.val, by omega⟩

/-- What the `k`-th picked weighs before the weights are made to sum to one. -/
def weight (L : Fin 32 → EReal) (k : Fin 4) : EReal := Ideal.exp (L (pick L k) - L (pick L 0))

/-- Its gate. -/
def gate (L : Fin 32 → EReal) (k : Fin 4) : EReal := Ideal.div (weight L k) (∑ j, weight L j)

/-- No picked logit is greater than the first picked. -/
theorem pick_le (L : Fin 32 → EReal) (k : Fin 4) : L (pick L k) ≤ L (pick L 0) := rank_le L _ _ (Fin.mk_le_mk.mpr (Nat.zero_le _))

variable (X : (⟨2, ![32768, 4096]⟩ : Shape).Idx → EReal) (g : (⟨1, ![4096]⟩ : Shape).Idx → EReal)
  (W : (⟨2, ![4096, 32]⟩ : Shape).Idx → EReal) (b : (⟨1, ![32]⟩ : Shape).Idx → EReal)

/-- The logits of token `t`. -/
def logits (t : Fin 32768) : Fin 32 → EReal :=
  logit (fun k => X (ix2 t k)) (fun k => g (ix1 k)) (fun k e => W (ix2 k e)) (fun e => b (ix1 e))

/-- The normalised rows, each laid as two of half the length. -/
def halves : (⟨2, ![65536, 2048]⟩ : Shape).Idx → EReal := fun i =>
  normal (fun k => X (ix2 ⟨(i 0).val / 2, by have : (i 0).val < 65536 := (i 0).isLt; omega⟩ k)) (fun k => g (ix1 k))
    ⟨(i 0).val % 2 * 2048 + (i 1).val, by have : (i 1).val < 2048 := (i 1).isLt; omega⟩

/-- The experts picked. -/
def picks : (⟨2, ![32768, 4]⟩ : Shape).Idx → BitVec 32 := fun i => BitVec.ofNat 32 (pick (logits X g W b (i 0)) (i 1)).val

/-- Their gates. -/
def gates : (⟨2, ![32768, 4]⟩ : Shape).Idx → EReal := fun i => gate (logits X g W b (i 0)) (i 1)

end Cert.RouterMath

end
-- ==== Proof.RouterFinite.lean ====
/-
  Finite inputs give finite logits: no mean square with the small constant added is zero, so no row is scaled by an
  infinity.
-/
module

public import proofs.«01_k».proof.Defs
public import proofs.«01_k».proof.Proof.RouterMath
public import Idealize.ShloMosaic.Lib.ReduceAll

@[expose] public section

set_option maxRecDepth 16384

noncomputable section

namespace Cert.RouterMath

open Cert.RouterOrder Idealize.ShloMosaic

theorem count_eq : Ideal.ofBits .f32 0x45800000#32 = ((4096 : ℝ) : EReal) := by
  simp [Ideal.ofBits, Ideal.ieee]
  rw [← EReal.coe_mul]
  norm_num

theorem eps_eq : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-- A sum of real numbers is a real number. -/
theorem sum_coe {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem normal_real (x g : Fin 4096 → ℝ) (k : Fin 4096) :
    ∃ r : ℝ, normal (fun k => (x k : EReal)) (fun k => (g k : EReal)) k = (r : EReal) := by
  obtain ⟨e, he, hb⟩ := eps_eq
  have hss : (∑ j, (x j : EReal) * (x j : EReal)) = ((∑ j, x j * x j : ℝ) : EReal) := by
    rw [← sum_coe]
    exact Finset.sum_congr rfl fun j _ => (EReal.coe_mul _ _).symm
  have hpos : 0 < (∑ j, x j * x j) * (1 / 4096) + e :=
    add_pos_of_nonneg_of_pos (mul_nonneg (Finset.sum_nonneg fun j _ => mul_self_nonneg _) (by norm_num)) he
  refine ⟨x k * (Real.sqrt ((∑ j, x j * x j) * (1 / 4096) + e))⁻¹ * g k, ?_⟩
  unfold normal scaled
  rw [hss, count_eq, hb, Ideal.div_coe (by norm_num), ← EReal.coe_mul, ← EReal.coe_add, Ideal.rsqrt_coe, if_neg hpos.le.not_gt, if_neg hpos.ne',
    ← EReal.coe_mul, ← EReal.coe_mul]

theorem logit_real (x g : Fin 4096 → ℝ) (w : Fin 4096 → Fin 32 → ℝ) (b : Fin 32 → ℝ) (e : Fin 32) :
    ∃ r : ℝ, logit (fun k => (x k : EReal)) (fun k => (g k : EReal)) (fun k e => (w k e : EReal)) (fun e => (b e : EReal)) e = (r : EReal) := by
  choose n hn using normal_real x g
  refine ⟨(∑ k, n k * w k e) + b e, ?_⟩
  unfold logit
  rw [EReal.coe_add, ← sum_coe]
  refine congrArg (· + _) (Finset.sum_congr rfl fun k _ => ?_)
  rw [hn k, EReal.coe_mul]

/-- A number whose magnitude is below infinity is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    unfold Ideal.cmp at h
    simp only [decide_eq_false hn] at h
    exact absurd h (by decide)
  obtain ⟨h1, h2⟩ := max_lt_iff.mp hlt
  induction x with
  | bot => exact absurd h2 (by simp)
  | top => exact absurd h1 (lt_irrefl _)
  | coe r => exact ⟨r, rfl⟩

/-- The precondition: every element of the four inputs is a real number. -/
theorem finite_of_pre [Cert.Pre_finite_router.Facts] (X : FVec Ideal Cert.Pre_finite_router.S32768x4096 .f32) (g : FVec Ideal Cert.Pre_finite_router.S4096 .f32)
    (W : FVec Ideal Cert.Pre_finite_router.S4096x32 .f32) (b : FVec Ideal Cert.Pre_finite_router.S32 .f32)
    (h : ∀ i, Cert.Pre_finite_router.fn (F := Ideal) X g W b i = 1#1) :
    (∀ i, ∃ r : ℝ, X i = (r : EReal)) ∧ (∀ i, ∃ r : ℝ, g i = (r : EReal)) ∧ (∀ i, ∃ r : ℝ, W i = (r : EReal)) ∧ ∀ i, ∃ r : ℝ, b i = (r : EReal) := by
  have : Subsingleton Cert.Pre_finite_router.S_.Idx := ⟨fun i j => funext fun a => a.elim0⟩
  have h0 := h fun a => a.elim0
  unfold Cert.Pre_finite_router.fn Cert.Pre_finite_router.fn_part1 at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i)⟩

/-- So no logit is minus infinity. -/
theorem logits_ne_bot [Cert.Pre_finite_router.Facts] (X : FVec Ideal Cert.Pre_finite_router.S32768x4096 .f32) (g : FVec Ideal Cert.Pre_finite_router.S4096 .f32)
    (W : FVec Ideal Cert.Pre_finite_router.S4096x32 .f32) (b : FVec Ideal Cert.Pre_finite_router.S32 .f32)
    (h : ∀ i, Cert.Pre_finite_router.fn (F := Ideal) X g W b i = 1#1) (t : Fin 32768) (e : Fin 32) : logits X g W b t e ≠ ⊥ := by
  obtain ⟨h1, h2, h3, h4⟩ := finite_of_pre X g W b h
  choose x hx using h1
  choose y hy using h2
  choose w hw using h3
  choose c hc using h4
  obtain ⟨r, hr⟩ := logit_real (fun k => x (ix2 t k)) (fun k => y (ix1 k)) (fun k e => w (ix2 k e)) (fun e => c (ix1 e)) e
  unfold logits
  simp only [hx, hy, hw, hc]
  rw [hr]
  exact EReal.coe_ne_bot r

end Cert.RouterMath

end
-- ==== Proof.RouterRounds.lean ====
/-
  One round of the router's kernel at a row of a block: the greatest logit left, the lowest expert holding it, and the logits with
  that expert's set to minus infinity.
-/
module

public import proofs.«01_k».proof.Defs
public import proofs.«01_k».proof.Proof.RouterOrder
public import proofs.«01_k».proof.Proof.Gen.RouterIdeal.Value
public import Idealize.ShloMosaic.Lib.Pointwise

@[expose] public section

set_option maxRecDepth 16384

noncomputable section

namespace Cert.RouterIdeal.Math

open Cert.RouterIdeal Cert.RouterIdeal.Gen Cert.RouterOrder Idealize.ShloMosaic Idealize.SL.Sem

/-- The experts' numbers along a row. -/
abbrev lanes : IVec S256x32 32 := iota .tc S256x32 32 [1] iota_S256x32_d1_w32

theorem lanes_apply (r : Fin 256) (e : Fin 32) : lanes (ix2 r e) = BitVec.ofNat 32 e.val := by
  pointwise

theorem drop_row (r : Fin 256) (i : S256x32.Idx) : reduces_S256x32_S256.drop i = ix1 r ↔ i 0 = r := by
  have h0 : ((reduces_S256x32_S256.drop i) 0).val = (i 0).val := reduces_S256x32_S256.drop_apply_val_of_eq i 0 0 (by decide)
  constructor
  · intro h
    refine Fin.ext ?_
    rw [← h0, h]; rfl
  · intro h
    funext a
    match a with
    | ⟨0, _⟩ => exact Fin.ext (h0.trans (congrArg Fin.val h))

theorem mem_row (r : Fin 256) (e : Fin 32) : (ix2 r e : S256x32.Idx) ∈ Finset.univ.filter fun i => reduces_S256x32_S256.drop i = ix1 r :=
  Finset.mem_filter.mpr ⟨Finset.mem_univ _, (drop_row r _).mpr rfl⟩

theorem of_mem_row (r : Fin 256) (i : S256x32.Idx) (h : i ∈ Finset.univ.filter fun i => reduces_S256x32_S256.drop i = ix1 r) :
    ∃ e : Fin 32, i = ix2 r e := by
  have h0 := (drop_row r i).mp (Finset.mem_filter.mp h).2
  exact ⟨i 1, (eq_ix2 i).trans (by rw [h0])⟩

theorem column_apply {α : Type} (v : S256.Idx → α) (r : Fin 256) : shapeCast S256x1 v shapeCasts_S256_S256x1 (ix2 r 0) = v (ix1 r) := by
  pointwise

theorem spread_apply {α : Type} (v : S256x1.Idx → α) (r : Fin 256) (e : Fin 32) :
    broadcastTo S256x32 v broadcasts_S256x1_S256x32 (ix2 r e) = v (ix2 r 0) := by
  pointwise

/-- The greatest of each row. -/
def greatest (v : FVec Ideal S256x32 .f32) : FVec Ideal S256x1 .f32 :=
  shapeCast S256x1 (multiReduction .maximumf [1] S256 v 0xFF800000#32 reduces_S256x32_S256 (.inl rfl) rfl) shapeCasts_S256_S256x1

/-- The lowest position of each row holding the greatest. -/
def lowest (v : FVec Ideal S256x32 .f32) : IVec S256x1 32 :=
  shapeCast S256x1 (multiReductionI .minsi [1] S256
    (select (cmpf .oeq v (broadcastTo S256x32 (greatest v) broadcasts_S256x1_S256x32)) lanes (broadcast S256x32 32#32))
    2147483647#32 reduces_S256x32_S256 rfl) shapeCasts_S256_S256x1

/-- The rows with that position set to minus infinity. -/
def dropLowest (v : FVec Ideal S256x32 .f32) : FVec Ideal S256x32 .f32 :=
  select (cmpi .eq lanes (broadcastTo S256x32 (lowest v) broadcasts_S256x1_S256x32))
    (broadcast S256x32 (Scalar.ofBits (F := Ideal) .f32 0xFF800000#32)) v

theorem ofBits_bot : Ideal.ofBits .f32 0xFF800000#32 = ⊥ := by simp [Ideal.ofBits, Ideal.ieee]

theorem greatest_apply (v : FVec Ideal S256x32 .f32) (r : Fin 256) (e : Fin 32) (h : ∀ f, v (ix2 r f) ≤ v (ix2 r e)) :
    greatest v (ix2 r 0) = v (ix2 r e) := by
  unfold greatest
  refine (column_apply _ r).trans ?_
  refine (multiReduction_maximumf_eq_fold v _ _ _ _ (ix1 r)).trans ?_
  refine Eq.trans (congrArg (fun b => Finset.fold max b v _) ofBits_bot) ?_
  refine fold_max _ v (ix2 r e) (mem_row r e) fun i hi => ?_
  obtain ⟨f, rfl⟩ := of_mem_row r i hi
  exact h f

theorem toInt_lane (e : Nat) (h : e ≤ 32) : (BitVec.ofNat 32 e).toInt = e := by
  interval_cases e <;> rfl

theorem lane_select (v : FVec Ideal S256x32 .f32) (g : FVec Ideal S256x1 .f32) (r : Fin 256) (f : Fin 32) :
    select (cmpf .oeq v (broadcastTo S256x32 g broadcasts_S256x1_S256x32)) lanes (broadcast S256x32 32#32) (ix2 r f)
      = if v (ix2 r f) = g (ix2 r 0) then BitVec.ofNat 32 f.val else 32#32 := by
  show Scalar.select (Ideal.cmp .oeq (v (ix2 r f)) (broadcastTo S256x32 g broadcasts_S256x1_S256x32 (ix2 r f))) (lanes (ix2 r f)) 32#32 = _
  rw [spread_apply, lanes_apply]
  unfold Scalar.select Ideal.cmp
  by_cases h : v (ix2 r f) = g (ix2 r 0)
  · rw [if_pos h]; simp [h]
  · rw [if_neg h]; simp [h]

theorem lowest_apply (v : FVec Ideal S256x32 .f32) (r : Fin 256) (e : Fin 32) (h : ∀ f, v (ix2 r f) ≤ v (ix2 r e))
    (hl : ∀ f, v (ix2 r f) = v (ix2 r e) → e ≤ f) : lowest v (ix2 r 0) = BitVec.ofNat 32 e.val := by
  unfold lowest
  refine (column_apply _ r).trans ?_
  refine (multiReductionI_eq_fold _ _ _ _ _ (ix1 r)).trans ?_
  have at_ : ∀ f, select (cmpf .oeq v (broadcastTo S256x32 (greatest v) broadcasts_S256x1_S256x32)) lanes (broadcast S256x32 32#32) (ix2 r f)
      = if v (ix2 r f) = v (ix2 r e) then BitVec.ofNat 32 f.val else 32#32 := fun f => by
    rw [lane_select, greatest_apply v r e h]
  have ate := (at_ e).trans (if_pos rfl)
  refine (fold_min _ _ _ (ix2 r e) (mem_row r e) ?_ fun i hi => ?_).trans ate
  · rw [ate, toInt_lane _ (by omega)]
    have := e.isLt
    show (e.val : Int) ≤ 2147483647
    omega
  · obtain ⟨f, rfl⟩ := of_mem_row r i hi
    rw [ate, at_ f, toInt_lane _ (by omega)]
    have he := e.isLt
    split
    · next hf => rw [toInt_lane _ (by omega)]; exact_mod_cast hl f hf
    · show (e.val : Int) ≤ 32; omega

theorem dropLowest_apply (v : FVec Ideal S256x32 .f32) (r : Fin 256) (e f : Fin 32) (hl : lowest v (ix2 r 0) = BitVec.ofNat 32 e.val) :
    dropLowest v (ix2 r f) = if f = e then ⊥ else v (ix2 r f) := by
  unfold dropLowest
  show Scalar.select (IntOp.cmpi .eq (lanes (ix2 r f)) (broadcastTo S256x32 (lowest v) broadcasts_S256x1_S256x32 (ix2 r f)))
    (Ideal.ofBits .f32 0xFF800000#32) (v (ix2 r f)) = _
  rw [spread_apply, lanes_apply, hl, ofBits_bot]
  unfold Scalar.select IntOp.cmpi
  have : (BitVec.ofNat 32 f.val = BitVec.ofNat 32 e.val) ↔ f = e := by
    constructor
    · intro h
      have := congrArg BitVec.toNat h
      simp only [BitVec.toNat_ofNat] at this
      exact Fin.ext (by omega)
    · intro h; rw [h]
  by_cases h : f = e
  · rw [if_pos h]; simp [h]
  · have hn : ¬ BitVec.ofNat 32 f.val = BitVec.ofNat 32 e.val := fun hh => h (this.mp hh)
    rw [if_neg h, beq_eq_false_iff_ne.mpr hn]
    rfl

/-- The logits left after some rounds. -/
def after (v : FVec Ideal S256x32 .f32) : Nat → FVec Ideal S256x32 .f32
  | 0 => v
  | k + 1 => dropLowest (after v k)

variable (v : FVec Ideal S256x32 .f32) (r : Fin 256) (hv : ∀ e, v (ix2 r e) ≠ ⊥)
include hv

/-- After `k` rounds the first `k` experts are gone, and the round picks the next. -/
theorem after_apply (k : Nat) (hk : k ≤ 32) : ∀ e, after v k (ix2 r e) = left (fun e => v (ix2 r e)) k e := by
  induction k with
  | zero => intro e; rw [left_zero]; rfl
  | succ k ih =>
    intro e
    have ih := ih (by omega)
    have hw : lowest (after v k) (ix2 r 0) = BitVec.ofNat 32 (rank (fun e => v (ix2 r e)) ⟨k, hk⟩).val :=
      lowest_apply _ r _ (fun f => by rw [ih, ih]; exact left_le _ ⟨k, hk⟩ f)
        (fun f h => left_least _ hv ⟨k, hk⟩ f (by rw [ih, ih] at h; exact h))
    refine (dropLowest_apply _ r _ e hw).trans ?_
    rw [ih e]
    exact (left_succ _ ⟨k, hk⟩ e).symm

theorem lowest_after (k : Fin 32) : lowest (after v k.val) (ix2 r 0) = BitVec.ofNat 32 (rank (fun e => v (ix2 r e)) k).val :=
  have ih := after_apply v r hv k.val k.isLt.le
  lowest_apply _ r _ (fun f => by rw [ih, ih]; exact left_le _ k f) (fun f h => left_least _ hv k f (by rw [ih, ih] at h; exact h))

theorem greatest_after (k : Fin 32) : greatest (after v k.val) (ix2 r 0) = v (ix2 r (rank (fun e => v (ix2 r e)) k)) :=
  have ih := after_apply v r hv k.val k.isLt.le
  (greatest_apply _ r _ (fun f => by rw [ih, ih]; exact left_le _ k f)).trans ((ih _).trans (left_rank _ k))

end Cert.RouterIdeal.Math

end
-- ==== Proof.RouterBlock.lean ====
/-
  What a point of the router's grid leaves in its three result blocks, from the blocks it loads.
-/
module

public import proofs.«01_k».proof.Proof.RouterMath
public import proofs.«01_k».proof.Proof.RouterRounds
public import Idealize.ShloMosaic.Lib.Pipeline.Value
public import Idealize.ShloMosaic.Lib.Pipeline.ValueKit

@[expose] public section

set_option maxRecDepth 16384

noncomputable section

namespace Cert.RouterIdeal.Math

open Cert.RouterIdeal Cert.RouterIdeal.Gen Cert.RouterOrder Cert.RouterMath Idealize.ShloMosaic Idealize.SL.Sem

theorem hz2 : (![0, 0] : Fin 2 → Nat) = fun _ => 0 := funext fun a => by fin_cases a <;> rfl

variable (x0 : Vec Ideal S256x4096 .f32) (x1 : Vec Ideal S1x4096 .f32) (x2 : Vec Ideal S4096x32 .bf16) (x3 : Vec Ideal S1x32 .f32)

/-- A row of the block's logits. -/
def rowLogits (r : Fin 256) : Fin 32 → EReal :=
  logit (fun k => x0 (ix2 r k)) (fun k => x1 (ix2 0 k)) (fun k e => x2 (ix2 k e)) (fun e => x3 (ix2 0 e))

theorem normal_apply (r : Fin 256) (k : Fin 4096) :
    k0_pay7 x0 x1 (ix2 r k) = normal (fun k => x0 (ix2 r k)) (fun k => x1 (ix2 0 k)) k := by
  unfold normal scaled
  pointwise [k0_pay7]

theorem logits_apply (r : Fin 256) (e : Fin 32) : k0_pay9 x0 x1 x2 x3 (ix2 r e) = rowLogits x0 x1 x2 x3 r e := by
  have h := fun k => normal_apply x0 x1 r k
  unfold rowLogits logit
  simp only [← h]
  unfold k0_pay9
  generalize k0_pay7 x0 x1 = y
  pointwise

/-- The block of normalised rows: even rows are first halves. -/
theorem halves_even (r : Fin 256) (s : Fin 2048) :
    k0_pay8 x0 x1 (ix2 ⟨2 * r.val, by omega⟩ s) = normal (fun k => x0 (ix2 r k)) (fun k => x1 (ix2 0 k)) ⟨s.val, by omega⟩ := by
  rw [← normal_apply]
  unfold k0_pay8
  generalize k0_pay7 x0 x1 = y
  pointwise
  have e : (⟨2 * r.val / 2, by omega⟩ : Fin 256) = r := Fin.ext (by show 2 * r.val / 2 = r.val; omega)
  rw [if_pos (by omega), e]

/-- And odd rows second halves. -/
theorem halves_odd (r : Fin 256) (s : Fin 2048) :
    k0_pay8 x0 x1 (ix2 ⟨2 * r.val + 1, by omega⟩ s) = normal (fun k => x0 (ix2 r k)) (fun k => x1 (ix2 0 k)) ⟨2048 + s.val, by omega⟩ := by
  rw [← normal_apply]
  unfold k0_pay8
  generalize k0_pay7 x0 x1 = y
  pointwise
  have e : (⟨(2 * r.val + 1) / 2, by omega⟩ : Fin 256) = r := Fin.ext (by show (2 * r.val + 1) / 2 = r.val; omega)
  rw [if_neg (by omega), e]

/-- Four stores, one for each column, leave `g` in a row where each leaves its column of `g`. -/
theorem canon_columns {e : EltTy} (p0 p1 p2 p3 : S256x1.Idx → Elt Ideal e) (r : Fin 256) (g : Fin 4 → Elt Ideal e)
    (h0 : p0 (ix2 r 0) = g 0) (h1 : p1 (ix2 r 0) = g 1) (h2 : p2 (ix2 r 0) = g 2) (h3 : p3 (ix2 r 0) = g 3) (k : Fin 4) :
    View.canon (Val := Elt Ideal) (s := S256x4) (e := e) [⟨r0_8, p3⟩, ⟨r0_7, p2⟩, ⟨r0_6, p1⟩, ⟨r0_5, p0⟩] (ix2 r k) = g k := by
  have at_ (n : Nat) (hn : n < 4) (p : S256x1.Idx → Elt Ideal e) (hp : p (ix2 r 0) = g ⟨n, hn⟩) :
      View.TileAt (Val := Elt Ideal) (S := S256x4) (e := e) (ix2 r k) ![0, n] S256x1.size p (g k) := by
    intro x hx
    have e0 : r.val = 0 + (x 0 : ℕ) := hx 0
    have e1 : k.val = n + (x 1 : ℕ) := hx 1
    have hx1 : (x 1 : ℕ) < 1 := (x 1).isLt
    have ek : (⟨n, hn⟩ : Fin 4) = k := Fin.ext (by show n = k.val; omega)
    rw [← ek, ← hp]
    refine congrArg p (Shape.idx_ext₂ ?_ ?_)
    · show (x 0 : ℕ) = r.val; omega
    · show (x 1 : ℕ) = 0; omega
  refine View.canon_eq_of_allAt _ _ _ (View.cover_of_tiled [⟨r0_8, p3⟩, ⟨r0_7, p2⟩, ⟨r0_6, p1⟩, ⟨r0_5, p0⟩] S256x1.size (by rfl) _) ?_
  refine View.allAt_cons_unit _ _ _ _ _ (at_ 3 (by decide) p3 h3) ?_
  refine View.allAt_cons_unit _ _ _ _ _ (at_ 2 (by decide) p2 h2) ?_
  refine View.allAt_cons_unit _ _ _ _ _ (at_ 1 (by decide) p1 h1) ?_
  exact View.allAt_cons_unit _ _ _ _ _ (at_ 0 (by decide) p0 h0) (View.allAt_nil _ _)

/-! The kernel's values are the rounds'. -/

theorem first_best : k0_pay10 x0 x1 x2 x3 = greatest (k0_pay9 x0 x1 x2 x3) := rfl

theorem first_lowest : k0_pay12 lanes (k0_pay11 x0 x1 x2 x3) 32#32 = lowest (k0_pay9 x0 x1 x2 x3) := rfl

variable (v : FVec Ideal S256x32 .f32) (q : IVec S256x32 1) (hq : k0_pay12 lanes q 32#32 = lowest v)
include hq

theorem left_1 : k0_pay13 v lanes q 32#32 = after v 1 := by
  unfold k0_pay13; rw [hq]; rfl

theorem best_1 : k0_pay14 v lanes q 32#32 = greatest (after v 1) := by
  unfold k0_pay14; rw [left_1 v q hq]; rfl

theorem lowest_1 : k0_pay15 v lanes q 32#32 = lowest (after v 1) := by
  unfold k0_pay15; rw [best_1 v q hq, left_1 v q hq]; rfl

theorem left_2 : k0_pay16 v lanes q 32#32 = after v 2 := by
  unfold k0_pay16; rw [lowest_1 v q hq, left_1 v q hq]; rfl

theorem best_2 : k0_pay17 v lanes q 32#32 = greatest (after v 2) := by
  unfold k0_pay17; rw [left_2 v q hq]; rfl

theorem lowest_2 : k0_pay18 v lanes q 32#32 = lowest (after v 2) := by
  unfold k0_pay18; rw [best_2 v q hq, left_2 v q hq]; rfl

theorem left_3 : k0_pay19 v lanes q 32#32 = after v 3 := by
  unfold k0_pay19; rw [lowest_2 v q hq, left_2 v q hq]; rfl

theorem best_3 : k0_pay20 v lanes q 32#32 = greatest (after v 3) := by
  unfold k0_pay20; rw [left_3 v q hq]; rfl

theorem lowest_3 : k0_pay21 v lanes q 32#32 = lowest (after v 3) := by
  unfold k0_pay21; rw [best_3 v q hq, left_3 v q hq]; rfl

omit hq

/-- The four experts picked at a row of the block. -/
theorem picks_apply (r : Fin 256) (hL : ∀ e, rowLogits x0 x1 x2 x3 r e ≠ ⊥) (k : Fin 4) :
    out0_5 x0 x1 x2 x3 (ix2 r k) = BitVec.ofNat 32 (pick (rowLogits x0 x1 x2 x3 r) k).val := by
  have hrow : (fun e => k0_pay9 x0 x1 x2 x3 (ix2 r e)) = rowLogits x0 x1 x2 x3 r := funext fun e => logits_apply x0 x1 x2 x3 r e
  have hv : ∀ e, k0_pay9 x0 x1 x2 x3 (ix2 r e) ≠ ⊥ := fun e => by rw [logits_apply]; exact hL e
  have hq := first_lowest x0 x1 x2 x3
  have low := fun k : Fin 32 => (lowest_after (k0_pay9 x0 x1 x2 x3) r hv k).trans (by rw [hrow])
  unfold out0_5 k0_pay26 k0_pay27 k0_pay29
  rw [View.ld_unit_zero hz2, View.ld_unit_zero hz2, View.ld_unit_zero hz2, View.ld_unit_zero hz2]
  refine canon_columns (e := .i32) _ _ _ _ r (fun k => BitVec.ofNat 32 (pick (rowLogits x0 x1 x2 x3 r) k).val) ?_ ?_ ?_ ?_ k
  · exact (congrFun hq _).trans (low 0)
  · exact (congrFun (lowest_1 _ _ hq) _).trans (low 1)
  · exact (congrFun (lowest_2 _ _ hq) _).trans (low 2)
  · exact (congrFun (lowest_3 _ _ hq) _).trans (low 3)

/-- Their gates: each exponential over the four's sum. -/
theorem gate_column (a b c d : FVec Ideal S256x1 .f32) (r : Fin 256) (L : Fin 32 → EReal) (ha : a (ix2 r 0) = weight L 0) (hb : b (ix2 r 0) = weight L 1)
    (hc : c (ix2 r 0) = weight L 2) (hd : Ideal.exp (d (ix2 r 0)) = weight L 3) :
    k0_pay3 a b c d (ix2 r 0) = gate L 0 ∧ k0_pay4 a b c d (ix2 r 0) = gate L 1 ∧ k0_pay5 a b c d (ix2 r 0) = gate L 2
      ∧ k0_pay6 a b c d (ix2 r 0) = gate L 3 := by
  have hs : k0_pay2 a b c d (ix2 r 0) = ∑ j, weight L j := by
    rw [Fin.sum_univ_four, ← ha, ← hb, ← hc, ← hd]
    show Ideal.ofBits .f32 0x00000000#32 + a (ix2 r 0) + b (ix2 r 0) + c (ix2 r 0) + Ideal.exp (d (ix2 r 0)) = _
    rw [Ideal.ofBits_zero_f32, zero_add]
  unfold gate
  rw [← hs, ← ha, ← hb, ← hc, ← hd]
  exact ⟨rfl, rfl, rfl, rfl⟩

theorem gates_apply (r : Fin 256) (hL : ∀ e, rowLogits x0 x1 x2 x3 r e ≠ ⊥) (k : Fin 4) :
    out0_6 x0 x1 x2 x3 (ix2 r k) = gate (rowLogits x0 x1 x2 x3 r) k := by
  have hrow : (fun e => k0_pay9 x0 x1 x2 x3 (ix2 r e)) = rowLogits x0 x1 x2 x3 r := funext fun e => logits_apply x0 x1 x2 x3 r e
  have hv : ∀ e, k0_pay9 x0 x1 x2 x3 (ix2 r e) ≠ ⊥ := fun e => by rw [logits_apply]; exact hL e
  have hq := first_lowest x0 x1 x2 x3
  have best := fun k : Fin 32 => (greatest_after (k0_pay9 x0 x1 x2 x3) r hv k).trans
    ((congrArg (fun L => k0_pay9 x0 x1 x2 x3 (ix2 r (rank L k))) hrow).trans (logits_apply x0 x1 x2 x3 r _))
  unfold out0_6 k0_pay30 k0_pay31 k0_pay32 k0_pay33 k0_pay28 k0_pay26 k0_pay27 k0_pay29
  rw [View.ld_unit_zero hz2, View.ld_unit_zero hz2, View.ld_unit_zero hz2, View.ld_unit_zero hz2]
  have m0 : k0_pay10 x0 x1 x2 x3 (ix2 r 0) = rowLogits x0 x1 x2 x3 r (pick (rowLogits x0 x1 x2 x3 r) 0) := best 0
  have m1 : k0_pay14 (k0_pay9 x0 x1 x2 x3) lanes (k0_pay11 x0 x1 x2 x3) 32#32 (ix2 r 0) = rowLogits x0 x1 x2 x3 r (pick (rowLogits x0 x1 x2 x3 r) 1) :=
    (congrFun (best_1 _ _ hq) _).trans (best 1)
  have m2 : k0_pay17 (k0_pay9 x0 x1 x2 x3) lanes (k0_pay11 x0 x1 x2 x3) 32#32 (ix2 r 0) = rowLogits x0 x1 x2 x3 r (pick (rowLogits x0 x1 x2 x3 r) 2) :=
    (congrFun (best_2 _ _ hq) _).trans (best 2)
  have m3 : k0_pay20 (k0_pay9 x0 x1 x2 x3) lanes (k0_pay11 x0 x1 x2 x3) 32#32 (ix2 r 0) = rowLogits x0 x1 x2 x3 r (pick (rowLogits x0 x1 x2 x3 r) 3) :=
    (congrFun (best_3 _ _ hq) _).trans (best 3)
  have all := gate_column (k0_pay22 (k0_pay10 x0 x1 x2 x3)) (k0_pay23 (k0_pay9 x0 x1 x2 x3) lanes (k0_pay10 x0 x1 x2 x3) (k0_pay11 x0 x1 x2 x3) 32#32)
    (k0_pay24 (k0_pay9 x0 x1 x2 x3) lanes (k0_pay10 x0 x1 x2 x3) (k0_pay11 x0 x1 x2 x3) 32#32)
    (k0_pay25 (k0_pay9 x0 x1 x2 x3) lanes (k0_pay10 x0 x1 x2 x3) (k0_pay11 x0 x1 x2 x3) 32#32) r (rowLogits x0 x1 x2 x3 r)
    (congrArg Ideal.exp (congrArg₂ (fun a b : EReal => a - b) m0 m0)) (congrArg Ideal.exp (congrArg₂ (fun a b : EReal => a - b) m1 m0))
    (congrArg Ideal.exp (congrArg₂ (fun a b : EReal => a - b) m2 m0)) (congrArg Ideal.exp (congrArg₂ (fun a b : EReal => a - b) m3 m0))
  exact canon_columns (e := .f32) _ _ _ _ r (gate (rowLogits x0 x1 x2 x3 r)) all.1 all.2.1 all.2.2.1 all.2.2.2 k

end Cert.RouterIdeal.Math

end
-- ==== Proof.RouterIdealValue.lean ====
/-
  What the router's kernel leaves in its three results, from the memory it starts from.
-/
module

public import proofs.«01_k».proof.Defs
public import proofs.«01_k».proof.Proof.RouterBlock
public import proofs.«01_k».proof.Proof.Gen.RouterIdeal.Value
public import Idealize.ShloMosaic.Lib.Pointwise
public import Idealize.ShloMosaic.Lib.Pipeline.Value

@[expose] public section

set_option maxRecDepth 16384

noncomputable section

namespace Cert.RouterIdeal.Math

open Cert.RouterIdeal Cert.RouterIdeal.Gen Cert.RouterOrder Cert.RouterMath Idealize.ShloMosaic Idealize.ShloMosaic.TcCoe Idealize.SL.Sem
open Idealize.ShloMosaic.Pipeline (Dat)

/-- Which block each window is on at point `t`: row tile `t`, and always the whole gain, weights and bias. -/
theorem maps : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by decide +kernel

variable (m : (ℓ : Loc nD τ sig) → Buf (Elt Ideal) ℓ)

/-- The four arrays the router is given. -/
abbrev argX (c : Dev nD) : FVec Ideal S32768x4096 .f32 := m ((c : Thread nD τ).loc main_arg0)
abbrev argG (c : Dev nD) : FVec Ideal S4096 .f32 := m ((c : Thread nD τ).loc main_arg1)
abbrev argW (c : Dev nD) : FVec Ideal S4096x32 .f32 := m ((c : Thread nD τ).loc main_arg2)
abbrev argB (c : Dev nD) : FVec Ideal S32 .f32 := m ((c : Thread nD τ).loc main_arg3)

/-- Vectors given a first axis of one element, at an element. -/
theorem gain_apply (g : FVec Ideal S4096 .f32) (s : Fin 4096) : shapeCast S1x4096 g shapeCasts_S4096_S1x4096 (ix2 0 s) = g (ix1 s) := by
  pointwise

theorem bias_apply (b : FVec Ideal S32 .f32) (e : Fin 32) : shapeCast S1x32 b shapeCasts_S32_S1x32 (ix2 0 e) = b (ix1 e) := by
  pointwise

/-- What the host makes of the weights, the gain and the bias before the kernel. -/
theorem V_v0 (c : Dev nD) : (V m c main_v0 : S4096x32.Idx → EReal) = argW m c := by
  show StableHlo.after hostOps0 (fun b => m (c, b)) main_v0 = _
  after_results
  rfl

theorem V_v1 (c : Dev nD) (s : Fin 4096) : (V m c main_v1 : S1x4096.Idx → EReal) (ix2 0 s) = argG m c (ix1 s) := by
  have e : (V m c main_v1 : S1x4096.Idx → EReal) = shapeCast S1x4096 (argG m c) shapeCasts_S4096_S1x4096 := by
    show StableHlo.after hostOps0 (fun b => m (c, b)) main_v1 = _
    after_results
    rfl
  rw [e]
  exact gain_apply _ s

theorem V_v2 (c : Dev nD) (e : Fin 32) : (V m c main_v2 : S1x32.Idx → EReal) (ix2 0 e) = argB m c (ix1 e) := by
  have h : (V m c main_v2 : S1x32.Idx → EReal) = shapeCast S1x32 (argB m c) shapeCasts_S32_S1x32 := by
    show StableHlo.after hostOps0 (fun b => m (c, b)) main_v2 = _
    after_results
    rfl
  rw [h]
  exact bias_apply _ e

/-- The blocks of the four inputs. -/
theorem blk0 (c : Dev nD) (t : Fin cfg0.N) (r : Fin 256) (k : Fin 4096) (h : t.val * 256 + r.val < 32768) :
    (iblk m c 0 t : S256x4096.Idx → EReal) (ix2 r k) = argX m c (ix2 ⟨t.val * 256 + r.val, h⟩ k) := by
  show V m c main_arg0 ((win0_0.rect t).emb (ix2 r k)) = _
  rw [V_main_arg0]
  refine congrArg _ (Shape.idx_ext₂ ?_ ?_)
  · exact (win0_0.rect_emb_val t _ 0).trans (by rw [(maps t).1.1]; rfl)
  · exact (win0_0.rect_emb_val t _ 1).trans (by rw [(maps t).1.2, Nat.zero_mul, Nat.zero_add]; rfl)

theorem blk1 (c : Dev nD) (t : Fin cfg0.N) (k : Fin 4096) : (iblk m c 1 t : S1x4096.Idx → EReal) (ix2 0 k) = argG m c (ix1 k) := by
  refine Eq.trans ?_ (V_v1 m c k)
  show V m c main_v1 ((win0_1.rect t).emb (ix2 0 k)) = _
  refine congrArg _ (Shape.idx_ext₂ ?_ ?_)
  · exact (win0_1.rect_emb_val t _ 0).trans (by rw [(maps t).2.1.1, Nat.zero_mul, Nat.zero_add])
  · exact (win0_1.rect_emb_val t _ 1).trans (by rw [(maps t).2.1.2, Nat.zero_mul, Nat.zero_add])

theorem blk2 (c : Dev nD) (t : Fin cfg0.N) (k : Fin 4096) (e : Fin 32) :
    (iblk m c 2 t : S4096x32.Idx → EReal) (ix2 k e) = argW m c (ix2 k e) := by
  refine Eq.trans ?_ (congrFun (V_v0 m c) (ix2 k e))
  show V m c main_v0 ((win0_2.rect t).emb (ix2 k e)) = _
  refine congrArg _ (Shape.idx_ext₂ ?_ ?_)
  · exact (win0_2.rect_emb_val t _ 0).trans (by rw [(maps t).2.2.1.1, Nat.zero_mul, Nat.zero_add])
  · exact (win0_2.rect_emb_val t _ 1).trans (by rw [(maps t).2.2.1.2, Nat.zero_mul, Nat.zero_add])

theorem blk3 (c : Dev nD) (t : Fin cfg0.N) (e : Fin 32) : (iblk m c 3 t : S1x32.Idx → EReal) (ix2 0 e) = argB m c (ix1 e) := by
  refine Eq.trans ?_ (V_v2 m c e)
  show V m c main_v2 ((win0_3.rect t).emb (ix2 0 e)) = _
  refine congrArg _ (Shape.idx_ext₂ ?_ ?_)
  · exact (win0_3.rect_emb_val t _ 0).trans (by rw [(maps t).2.2.2.1.1, Nat.zero_mul, Nat.zero_add])
  · exact (win0_3.rect_emb_val t _ 1).trans (by rw [(maps t).2.2.2.1.2, Nat.zero_mul, Nat.zero_add])

/-- A row of a point's logits is the token's. -/
theorem row_logits (c : Dev nD) (t : Fin cfg0.N) (r : Fin 256) (h : t.val * 256 + r.val < 32768) :
    rowLogits (iblk m c 0 t) (iblk m c 1 t) (iblk m c 2 t) (iblk m c 3 t) r
      = logits (argX m c) (argG m c) (argW m c) (argB m c) ⟨t.val * 256 + r.val, h⟩ :=
  congr (congr (congr (congrArg logit (funext fun k => blk0 m c t r k h)) (funext fun k => blk1 m c t k))
    (funext fun k => funext fun e => blk2 m c t k e)) (funext fun e => blk3 m c t e)

/-- A normalised row of a point is the token's. -/
theorem row_normal (c : Dev nD) (t : Fin cfg0.N) (r : Fin 256) (h : t.val * 256 + r.val < 32768) :
    normal (fun k => (iblk m c 0 t : S256x4096.Idx → EReal) (ix2 r k)) (fun k => (iblk m c 1 t : S1x4096.Idx → EReal) (ix2 0 k))
      = normal (fun k => argX m c (ix2 ⟨t.val * 256 + r.val, h⟩ k)) (fun k => argG m c (ix1 k)) :=
  congr (congrArg normal (funext fun k => blk0 m c t r k h)) (funext fun k => blk1 m c t k)

/-- Where an element of each result's block at point `t` lies in the result. -/
theorem emb4 (t : Fin cfg0.N) (r : Fin 512) (s : Fin 2048) (h : t.val * 512 + r.val < 65536) :
    (win0_4.rect t).emb (ix2 r s) = (ix2 ⟨t.val * 512 + r.val, h⟩ s : S65536x2048.Idx) := by
  refine Shape.idx_ext₂ ?_ ?_
  · exact (win0_4.rect_emb_val t _ 0).trans (by rw [(maps t).2.2.2.2.1.1]; rfl)
  · exact (win0_4.rect_emb_val t _ 1).trans (by rw [(maps t).2.2.2.2.1.2, Nat.zero_mul, Nat.zero_add]; rfl)

theorem emb5 (t : Fin cfg0.N) (r : Fin 256) (k : Fin 4) (h : t.val * 256 + r.val < 32768) :
    (win0_5.rect t).emb (ix2 r k) = (ix2 ⟨t.val * 256 + r.val, h⟩ k : S32768x4.Idx) := by
  refine Shape.idx_ext₂ ?_ ?_
  · exact (win0_5.rect_emb_val t _ 0).trans (by rw [(maps t).2.2.2.2.2.1.1]; rfl)
  · exact (win0_5.rect_emb_val t _ 1).trans (by rw [(maps t).2.2.2.2.2.1.2, Nat.zero_mul, Nat.zero_add]; rfl)

theorem emb6 (t : Fin cfg0.N) (r : Fin 256) (k : Fin 4) (h : t.val * 256 + r.val < 32768) :
    (win0_6.rect t).emb (ix2 r k) = (ix2 ⟨t.val * 256 + r.val, h⟩ k : S32768x4.Idx) := by
  refine Shape.idx_ext₂ ?_ ?_
  · exact (win0_6.rect_emb_val t _ 0).trans (by rw [(maps t).2.2.2.2.2.2.1]; rfl)
  · exact (win0_6.rect_emb_val t _ 1).trans (by rw [(maps t).2.2.2.2.2.2.2, Nat.zero_mul, Nat.zero_add]; rfl)

/-- The point whose blocks hold a row. -/
def point (r : Fin 32768) : Fin cfg0.N := ⟨r.val / 256, lt_of_lt_of_eq (by omega) N_0.symm⟩

theorem covered4 (i : S65536x2048.Idx) : ∃ t : Fin cfg0.N, (cfg0.win 4).flush t = true ∧ i ∈ ((cfg0.win 4).blk t).view.set := by
  obtain ⟨r, s, rfl⟩ : ∃ (r : Fin 65536) (s : Fin 2048), i = ix2 r s := ⟨i 0, i 1, eq_ix2 i⟩
  have hlt : r.val / 512 < 128 := by omega
  let t : Fin cfg0.N := ⟨r.val / 512, lt_of_lt_of_eq hlt N_0.symm⟩
  refine ⟨t, flush0_4 t, ?_⟩
  have e : (ix2 r s : S65536x2048.Idx) = ((cfg0.win 4).blk t).view.emb (ix2 ⟨r.val % 512, by omega⟩ s : S512x2048.Idx) := by
    refine Eq.trans ?_ (emb4 t ⟨r.val % 512, by omega⟩ s (by show r.val / 512 * 512 + r.val % 512 < 65536; omega)).symm
    refine Shape.idx_ext₂ ?_ rfl
    show r.val = r.val / 512 * 512 + r.val % 512; omega
  rw [e]
  exact View.emb_mem_set _ _

theorem covered5 (i : S32768x4.Idx) : ∃ t : Fin cfg0.N, (cfg0.win 5).flush t = true ∧ i ∈ ((cfg0.win 5).blk t).view.set := by
  obtain ⟨r, k, rfl⟩ : ∃ (r : Fin 32768) (k : Fin 4), i = ix2 r k := ⟨i 0, i 1, eq_ix2 i⟩
  refine ⟨point r, flush0_5 _, ?_⟩
  have e : (ix2 r k : S32768x4.Idx) = ((cfg0.win 5).blk (point r)).view.emb (ix2 ⟨r.val % 256, by omega⟩ k : S256x4.Idx) := by
    refine Eq.trans ?_ (emb5 (point r) ⟨r.val % 256, by omega⟩ k (by show r.val / 256 * 256 + r.val % 256 < 32768; omega)).symm
    refine Shape.idx_ext₂ ?_ rfl
    show r.val = r.val / 256 * 256 + r.val % 256; omega
  rw [e]
  exact View.emb_mem_set _ _

theorem covered6 (i : S32768x4.Idx) : ∃ t : Fin cfg0.N, (cfg0.win 6).flush t = true ∧ i ∈ ((cfg0.win 6).blk t).view.set := by
  obtain ⟨r, k, rfl⟩ : ∃ (r : Fin 32768) (k : Fin 4), i = ix2 r k := ⟨i 0, i 1, eq_ix2 i⟩
  refine ⟨point r, flush0_6 _, ?_⟩
  have e : (ix2 r k : S32768x4.Idx) = ((cfg0.win 6).blk (point r)).view.emb (ix2 ⟨r.val % 256, by omega⟩ k : S256x4.Idx) := by
    refine Eq.trans ?_ (emb6 (point r) ⟨r.val % 256, by omega⟩ k (by show r.val / 256 * 256 + r.val % 256 < 32768; omega)).symm
    refine Shape.idx_ext₂ ?_ rfl
    show r.val = r.val / 256 * 256 + r.val % 256; omega
  rw [e]
  exact View.emb_mem_set _ _

/-- A point's block of the normalised rows: of two rows of the block, the first half of a row and the second. -/
theorem out4_apply (x0 : Vec Ideal S256x4096 .f32) (x1 : Vec Ideal S1x4096 .f32) (x2 : Vec Ideal S4096x32 .bf16) (x3 : Vec Ideal S1x32 .f32)
    (r : Fin 512) (s : Fin 2048) :
    out0_4 x0 x1 x2 x3 (ix2 r s) = normal (fun k => x0 (ix2 ⟨r.val / 2, by omega⟩ k)) (fun k => x1 (ix2 0 k)) ⟨r.val % 2 * 2048 + s.val, by omega⟩ := by
  unfold out0_4
  rw [View.canon_unit_zero hz2, View.ld_unit_zero hz2, View.ld_unit_zero hz2]
  rcases Nat.mod_two_eq_zero_or_one r.val with hr | hr
  · have e : r = ⟨2 * (r.val / 2), by omega⟩ := Fin.ext (by show r.val = 2 * (r.val / 2); omega)
    have e' : (⟨r.val % 2 * 2048 + s.val, by omega⟩ : Fin 4096) = ⟨s.val, by omega⟩ := Fin.ext (by show r.val % 2 * 2048 + s.val = s.val; omega)
    rw [e']
    exact (congrArg (fun q => k0_pay8 x0 x1 (ix2 q s)) e).trans (halves_even x0 x1 ⟨r.val / 2, by omega⟩ s)
  · have e : r = ⟨2 * (r.val / 2) + 1, by omega⟩ := Fin.ext (by show r.val = 2 * (r.val / 2) + 1; omega)
    have e' : (⟨r.val % 2 * 2048 + s.val, by omega⟩ : Fin 4096) = ⟨2048 + s.val, by omega⟩ := Fin.ext (by show r.val % 2 * 2048 + s.val = 2048 + s.val; omega)
    rw [e']
    exact (congrArg (fun q => k0_pay8 x0 x1 (ix2 q s)) e).trans (halves_odd x0 x1 ⟨r.val / 2, by omega⟩ s)

/-- What point `t` writes back is its block of the normalised rows laid as halves. -/
theorem flushed4_eq (c : Dev nD) (t : Fin cfg0.N) :
    (dats m 0 c).flushed 4 t = ((cfg0.win 4).blk t).view.read (Elt Ideal) (halves (argX m c) (argG m c)) := by
  rw [Value.flushed4]
  funext (y : S512x2048.Idx)
  show out0_4 (iblk m c 0 t) (iblk m c 1 t) (iblk m c 2 t) (iblk m c 3 t) y = halves (argX m c) (argG m c) ((win0_4.rect t).emb y)
  have ht : t.val < 128 := lt_of_lt_of_eq t.isLt N_0
  obtain ⟨r, s, rfl⟩ : ∃ (r : Fin 512) (s : Fin 2048), y = ix2 r s := ⟨y 0, y 1, eq_ix2 y⟩
  have h : t.val * 512 + r.val < 65536 := by omega
  have h' : t.val * 256 + r.val / 2 < 32768 := by omega
  rw [out4_apply, emb4 t r s h, row_normal m c t ⟨r.val / 2, by omega⟩ h']
  unfold halves
  have e : (⟨(t.val * 512 + r.val) / 2, by omega⟩ : Fin 32768) = ⟨t.val * 256 + r.val / 2, h'⟩ := Fin.ext (by show (t.val * 512 + r.val) / 2 = t.val * 256 + r.val / 2; omega)
  have e' : (⟨(t.val * 512 + r.val) % 2 * 2048 + s.val, by omega⟩ : Fin 4096) = ⟨r.val % 2 * 2048 + s.val, by omega⟩ :=
    Fin.ext (by show (t.val * 512 + r.val) % 2 * 2048 + s.val = r.val % 2 * 2048 + s.val; omega)
  show _ = normal (fun k => argX m c (ix2 (⟨(t.val * 512 + r.val) / 2, by omega⟩ : Fin 32768) k)) _ ⟨(t.val * 512 + r.val) % 2 * 2048 + s.val, by omega⟩
  rw [e, e']

/-- Points write back their blocks of the picks and of the gates, if no logit is minus infinity. -/
theorem flushed5_eq (c : Dev nD) (hL : ∀ t e, logits (argX m c) (argG m c) (argW m c) (argB m c) t e ≠ ⊥) (t : Fin cfg0.N) :
    (dats m 0 c).flushed 5 t = ((cfg0.win 5).blk t).view.read (Elt Ideal) (picks (argX m c) (argG m c) (argW m c) (argB m c)) := by
  rw [Value.flushed5]
  funext (y : S256x4.Idx)
  show out0_5 (iblk m c 0 t) (iblk m c 1 t) (iblk m c 2 t) (iblk m c 3 t) y = picks (argX m c) (argG m c) (argW m c) (argB m c) ((win0_5.rect t).emb y)
  have ht : t.val < 128 := lt_of_lt_of_eq t.isLt N_0
  obtain ⟨r, k, rfl⟩ : ∃ (r : Fin 256) (k : Fin 4), y = ix2 r k := ⟨y 0, y 1, eq_ix2 y⟩
  have h : t.val * 256 + r.val < 32768 := by omega
  have hrow := row_logits m c t r h
  rw [emb5 t r k h]
  refine (picks_apply _ _ _ _ r (fun e => ?_) k).trans ?_
  · rw [hrow]; exact hL _ e
  · rw [hrow]; rfl

theorem flushed6_eq (c : Dev nD) (hL : ∀ t e, logits (argX m c) (argG m c) (argW m c) (argB m c) t e ≠ ⊥) (t : Fin cfg0.N) :
    (dats m 0 c).flushed 6 t = ((cfg0.win 6).blk t).view.read (Elt Ideal) (gates (argX m c) (argG m c) (argW m c) (argB m c)) := by
  rw [Value.flushed6]
  funext (y : S256x4.Idx)
  show out0_6 (iblk m c 0 t) (iblk m c 1 t) (iblk m c 2 t) (iblk m c 3 t) y = gates (argX m c) (argG m c) (argW m c) (argB m c) ((win0_6.rect t).emb y)
  have ht : t.val < 128 := lt_of_lt_of_eq t.isLt N_0
  obtain ⟨r, k, rfl⟩ : ∃ (r : Fin 256) (k : Fin 4), y = ix2 r k := ⟨y 0, y 1, eq_ix2 y⟩
  have h : t.val * 256 + r.val < 32768 := by omega
  have hrow := row_logits m c t r h
  rw [emb6 t r k h]
  refine (gates_apply _ _ _ _ r (fun e => ?_) k).trans ?_
  · rw [hrow]; exact hL _ e
  · rw [hrow]; rfl

/-- The three results after the run. -/
theorem final4 (c : Dev nD) : (dats m 0 c).arrAt 4 cfg0.N = halves (argX m c) (argG m c) :=
  (dats m 0 c).arrAt_eq_of_cover 4 _ (fun t _ => flushed4_eq m c t) covered4

theorem final5 (c : Dev nD) (hL : ∀ t e, logits (argX m c) (argG m c) (argW m c) (argB m c) t e ≠ ⊥) :
    (dats m 0 c).arrAt 5 cfg0.N = picks (argX m c) (argG m c) (argW m c) (argB m c) :=
  (dats m 0 c).arrAt_eq_of_cover 5 _ (fun t _ => flushed5_eq m c hL t) covered5

theorem final6 (c : Dev nD) (hL : ∀ t e, logits (argX m c) (argG m c) (argW m c) (argB m c) t e ≠ ⊥) :
    (dats m 0 c).arrAt 6 cfg0.N = gates (argX m c) (argG m c) (argW m c) (argB m c) :=
  (dats m 0 c).arrAt_eq_of_cover 6 _ (fun t _ => flushed6_eq m c hL t) covered6

end Cert.RouterIdeal.Math

end
-- ==== Proof.RouterRefValue.lean ====
/-
  What the router's reference computes: the formulas of `RouterMath.lean`.
-/
module

public import proofs.«01_k».proof.Defs
public import proofs.«01_k».proof.Proof.RouterMath
public import proofs.«01_k».proof.Proof.Gen.RouterRefIdeal.Read
public import Idealize.ShloMosaic.Lib.Pointwise

@[expose] public section

set_option maxRecDepth 16384

noncomputable section

namespace Cert.RouterRefIdeal.Math

open Cert.RouterRefIdeal Cert.RouterRefIdeal.Gen Cert.RouterRefIdeal.Read Cert.RouterOrder Cert.RouterMath Idealize.ShloMosaic Idealize.SL.Sem

variable (X : FVec Ideal S32768x4096 .f32) (g : FVec Ideal S4096 .f32) (W : FVec Ideal S4096x32 .f32) (b : FVec Ideal S32 .f32)

theorem normal_apply (t : Fin 32768) (k : Fin 4096) :
    val_main_v12 (F := Ideal) X g (ix2 t k) = normal (fun k => X (ix2 t k)) (fun k => g (ix1 k)) k := by
  unfold normal scaled
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

theorem logits_apply (t : Fin 32768) (e : Fin 32) : val_main_v16 (F := Ideal) X g W b (ix2 t e) = logits X g W b t e := by
  have h := fun k => normal_apply X g t k
  unfold logits logit
  simp only [← h]
  unfold val_main_v16 val_main_v15 val_main_v14 val_main_v13
  generalize val_main_v12 (F := Ideal) X g = y
  pointwise

/-- The normalised rows, laid as halves. -/
theorem halves_eq : val_main_v29 (F := Ideal) X g = halves X g := by
  funext i
  have h0 : (i 0).val < 65536 := (i 0).isLt
  have h1 : (i 1).val < 2048 := (i 1).isLt
  rw [val_main_v29_apply]
  show val_main_v12 (F := Ideal) X g (idx_main_v29 i) = _
  have e : (idx_main_v29 i : S32768x4096.Idx) = ix2 ⟨(i 0).val / 2, by omega⟩ ⟨(i 0).val % 2 * 2048 + (i 1).val, by omega⟩ := by
    refine Shape.idx_ext₂ ?_ ?_
    · show ((i 0).val * 2048 + (i 1).val) / 4096 = (i 0).val / 2; omega
    · show ((i 0).val * 2048 + (i 1).val) % 4096 = (i 0).val % 2 * 2048 + (i 1).val; omega
  rw [e, normal_apply]
  rfl

/-- The order of the sort is that of the picks. -/
theorem before_eq (L : Fin 32 → EReal) :
    (fun a b => FloatOps.cmpfTotal (F := Ideal) (φ := .f32) .gt (L a) (L b) == 1#1) = fun a b => decide (L b < L a) := by
  funext p q
  show (BitVec.ofBool (decide (L q < L p)) == 1#1) = _
  cases decide (L q < L p) <;> rfl

theorem along_row (t : Fin 32768) (e f : Fin 32) : (ix2 t e : S32768x32.Idx).along 1 f = ix2 t f := by
  refine Shape.idx_ext₂ ?_ ?_
  · exact congrArg Fin.val (Function.update_of_ne (by decide) _ _)
  · exact congrArg Fin.val (Function.update_self _ _ _)

theorem slice_row (t : Fin 32768) (k : Fin 4) {α : Type} (v : S32768x32.Idx → α) :
    extractStridedSlice S32768x4 (fun _ => 0) v sliceFits_S32768x32_S32768x4 (ix2 t k) = v (ix2 t ⟨k.val, by omega⟩) := by
  refine congrArg v (Shape.idx_ext₂ ?_ ?_)
  · show 0 + t.val = t.val; omega
  · show 0 + k.val = k.val; omega

/-- A row of two arrays sorted by the first. -/
theorem sort_row {β : Type} (x : FVec Ideal S32768x32 .f32) (y : S32768x32.Idx → β) (t : Fin 32768) (k : Fin 32) :
    (Host.sort2 S32768x32 1 (fun l r => FloatOps.cmpfTotal (F := Ideal) (φ := .f32) .gt l.1 r.1) x y).1 (ix2 t k) = x (ix2 t (rank (fun e => x (ix2 t e)) k))
    ∧ (Host.sort2 S32768x32 1 (fun l r => FloatOps.cmpfTotal (F := Ideal) (φ := .f32) .gt l.1 r.1) x y).2 (ix2 t k) = y (ix2 t (rank (fun e => x (ix2 t e)) k)) := by
  have hd : 1 < S32768x32.rank := by decide
  have hp : sortedFrom (fun k₁ k₂ : Fin 32 => FloatOps.cmpfTotal (F := Ideal) (φ := .f32) .gt (x ((ix2 t k : S32768x32.Idx).along 1 k₁))
      (x ((ix2 t k : S32768x32.Idx).along 1 k₂)) == 1#1) k = rank (fun e => x (ix2 t e)) k := by
    simp only [along_row]
    rw [before_eq fun e => x (ix2 t e)]
    rfl
  unfold Host.sort2
  rw [dif_pos hd]
  constructor
  · exact (congrArg x (along_row t k _)).trans (congrArg (fun e => x (ix2 t e)) hp)
  · exact (congrArg y (along_row t k _)).trans (congrArg (fun e => y (ix2 t e)) hp)

/-- The lane of each element, as the sort carries it along. -/
def columns : IVec S32768x32 32 := fun i => if hd : 1 < S32768x32.rank then iotaInDim S32768x32 32 ⟨1, hd⟩ i else 0#32

/-- The four greatest of a row, and where they stand. -/
theorem topK_row (x : FVec Ideal S32768x32 .f32) (t : Fin 32768) (k : Fin 4) :
    (Host.topK S32768x4 1 (FloatOps.cmpfTotal (F := Ideal) (φ := .f32) .gt) x sliceFits_S32768x32_S32768x4).1 (ix2 t k)
        = x (ix2 t (pick (fun e => x (ix2 t e)) k))
    ∧ (Host.topK S32768x4 1 (FloatOps.cmpfTotal (F := Ideal) (φ := .f32) .gt) x sliceFits_S32768x32_S32768x4).2 (ix2 t k)
        = BitVec.ofNat 32 (pick (fun e => x (ix2 t e)) k).val :=
  ⟨(slice_row t k (Host.sort2 S32768x32 1 (fun l r => FloatOps.cmpfTotal (F := Ideal) (φ := .f32) .gt l.1 r.1) x columns).1).trans
      (sort_row x columns t ⟨k.val, by omega⟩).1,
    (slice_row t k (Host.sort2 S32768x32 1 (fun l r => FloatOps.cmpfTotal (F := Ideal) (φ := .f32) .gt l.1 r.1) x columns).2).trans
      (sort_row x columns t ⟨k.val, by omega⟩).2⟩

theorem row_eq (t : Fin 32768) : (fun e => val_main_v16 (F := Ideal) X g W b (ix2 t e)) = logits X g W b t :=
  funext fun e => logits_apply X g W b t e

theorem values_apply (t : Fin 32768) (k : Fin 4) :
    val_main_values (F := Ideal) X g W b (ix2 t k) = logits X g W b t (pick (logits X g W b t) k) :=
  (topK_row (val_main_v16 (F := Ideal) X g W b) t k).1.trans
    ((congrArg (fun L => val_main_v16 (F := Ideal) X g W b (ix2 t (pick L k))) (row_eq X g W b t)).trans (logits_apply X g W b t _))

theorem picks_eq : val_main_indices (F := Ideal) X g W b = picks X g W b := by
  funext i
  obtain ⟨t, k, rfl⟩ : ∃ (t : Fin 32768) (k : Fin 4), i = ix2 t k := ⟨i 0, i 1, eq_ix2 i⟩
  exact (topK_row (val_main_v16 (F := Ideal) X g W b) t k).2.trans (congrArg (fun L => BitVec.ofNat 32 (pick L k).val) (row_eq X g W b t))

theorem ofBits_bot : Ideal.ofBits .f32 0xFF800000#32 = ⊥ := by simp [Ideal.ofBits, Ideal.ieee]

theorem drop_row (t : Fin 32768) (i : S32768x4.Idx) : reducesTo_S32768x4_S32768_d1.drop i = ix1 t ↔ i 0 = t := by
  have h0 : ((reducesTo_S32768x4_S32768_d1.drop i) 0).val = (i 0).val := reducesTo_S32768x4_S32768_d1.drop_apply_val_of_eq i 0 0 (by decide)
  constructor
  · intro h
    refine Fin.ext ?_
    rw [← h0, h]; rfl
  · intro h
    funext a
    match a with
    | ⟨0, _⟩ => exact Fin.ext (h0.trans (congrArg Fin.val h))

/-- The greatest of the picked logits is the first. -/
theorem greatest_apply (t : Fin 32768) : val_main_v17 (F := Ideal) X g W b (ix1 t) = logits X g W b t (pick (logits X g W b t) 0) := by
  unfold val_main_v17
  refine (Host.reduce_eq_fold (FloatOps.maximumf (F := Ideal) (φ := .f32)) _ _ _ _ (ix1 t)).trans ?_
  refine Eq.trans (congrArg (fun z => Finset.fold max z _ _) ofBits_bot) ?_
  refine (fold_max _ (val_main_values (F := Ideal) X g W b) (ix2 t 0) (Finset.mem_filter.mpr ⟨Finset.mem_univ _, (drop_row t _).mpr rfl⟩) fun i hi => ?_).trans
    (values_apply X g W b t 0)
  have h0 := (drop_row t i).mp (Finset.mem_filter.mp hi).2
  obtain ⟨s, k, rfl⟩ : ∃ (s : Fin 32768) (k : Fin 4), i = ix2 s k := ⟨i 0, i 1, eq_ix2 i⟩
  obtain rfl : s = t := h0
  rw [values_apply, values_apply]
  exact pick_le _ k

theorem weight_apply (t : Fin 32768) (k : Fin 4) : val_main_v23 (F := Ideal) X g W b (ix2 t k) = weight (logits X g W b t) k := by
  have e19 : val_main_v19 (F := Ideal) X g W b (ix1 t) = logits X g W b t (pick (logits X g W b t) 0) := by
    show max (Ideal.ofBits .f32 0xFF800000#32) (val_main_v17 (F := Ideal) X g W b (ix1 t)) = _
    rw [ofBits_bot, greatest_apply]
    exact max_eq_right bot_le
  have e21 : val_main_v21 (F := Ideal) X g W b (ix2 t k) = val_main_v19 (F := Ideal) X g W b (ix1 t) := by
    unfold val_main_v21 val_main_v20
    generalize val_main_v19 (F := Ideal) X g W b = y
    pointwise
  unfold weight
  show Ideal.exp (val_main_values (F := Ideal) X g W b (ix2 t k) - val_main_v21 (F := Ideal) X g W b (ix2 t k)) = _
  rw [e21, e19, values_apply]

theorem gates_eq : val_main_v27 (F := Ideal) X g W b = gates X g W b := by
  funext i
  obtain ⟨t, k, rfl⟩ : ∃ (t : Fin 32768) (k : Fin 4), i = ix2 t k := ⟨i 0, i 1, eq_ix2 i⟩
  have h := fun k => weight_apply X g W b t k
  show _ = gate (logits X g W b t) k
  unfold gate
  simp only [← h]
  unfold val_main_v27 val_main_v26 val_main_v25 val_main_v24 val_main_cst_4
  generalize val_main_v23 (F := Ideal) X g W b = y
  pointwise

end Cert.RouterRefIdeal.Math

end
-- ==== Proof.RouterClaims.lean ====
/-
  The claims about the router: the frames, the rewrites of the packed words, and that the ideal reading's three results
  are the reference's when the inputs are finite.
-/
module

public import proofs.«01_k».proof.Defs
public import proofs.«01_k».proof.Proof.RouterFinite
public import proofs.«01_k».proof.Proof.RouterIdealValue
public import proofs.«01_k».proof.Proof.RouterRefValue
public import proofs.«01_k».proof.Proof.Gen.Router.Frame
public import proofs.«01_k».proof.Proof.Gen.RouterRefIdeal.Run
public import Idealize.ShloMosaic.Lib.Bf16Pair

@[expose] public section

noncomputable section

namespace Cert.Proof

open Idealize.ShloMosaic Idealize.SL.Sem

/-- The precondition's side conditions. -/
theorem router_facts : Cert.Pre_finite_router.Facts := by constructor <;> decide

theorem frame_RouterIdeal : Cert.quiescent_RouterIdeal := fun m ρ _ => Cert.RouterIdeal.Gen.frame m ρ

theorem frame_RouterIdeal_pre (hp : Cert.Pre_finite_router.Facts) : Cert.quiescent_RouterIdeal_pre_finite_router :=
  fun m ρ _ => Cert.RouterIdeal.Gen.frame m ρ

theorem frame_RouterRef : Cert.quiescent_RouterRefIdeal := fun m g _ =>
  (θ_run _ _ _).mono (fun r h => ⟨fun c => (h c).2.2.2, sem_eq_zero_of_no_sems (by decide) r.2⟩) (RouterRefIdeal.Value.run (F := Ideal) m g)

theorem frame_RouterRef_pre (hp : Cert.Pre_finite_router.Facts) : Cert.quiescent_RouterRefIdeal_pre_finite_router :=
  fun m g _ => frame_RouterRef m g trivial

theorem preserves_Router : Cert.preserves_Router_RouterIdeal :=
  ⟨IdealRules.bf16_pair.statement _ _ (by decide), IdealRules.bf16_pack.statement _⟩

theorem algebraic_Router (hp : Cert.Pre_finite_router.Facts) : Cert.algebraic_RouterIdeal_RouterRefIdeal_pre_finite_router := by
  intro m g m' g' hpre hag
  have hL := fun c => RouterMath.logits_ne_bot (RouterIdeal.Math.argX m c) (RouterIdeal.Math.argG m c) (RouterIdeal.Math.argW m c)
    (RouterIdeal.Math.argB m c) (congrFun (hpre c))
  refine ⟨fun c => RouterMath.halves (RouterIdeal.Math.argX m c) (RouterIdeal.Math.argG m c),
    fun c => RouterMath.picks (RouterIdeal.Math.argX m c) (RouterIdeal.Math.argG m c) (RouterIdeal.Math.argW m c) (RouterIdeal.Math.argB m c),
    fun c => RouterMath.gates (RouterIdeal.Math.argX m c) (RouterIdeal.Math.argG m c) (RouterIdeal.Math.argW m c) (RouterIdeal.Math.argB m c), ?_, ?_⟩
  · exact (θ_run _ _ _).mono (fun r h c => ⟨(h c).1.trans (RouterIdeal.Math.final4 m c), (h c).2.1.trans (RouterIdeal.Math.final5 m c (hL c)),
      (h c).2.2.1.trans (RouterIdeal.Math.final6 m c (hL c)), (h c).2.2.2⟩) (RouterIdeal.Value.run_blocks m g)
  · refine (θ_run _ _ _).mono (fun r h c => ⟨(h c).1.trans ?_, (h c).2.1.trans ?_, (h c).2.2.1.trans ?_, (h c).2.2.2⟩)
      (RouterRefIdeal.Value.run (F := Ideal) m' g')
    all_goals obtain ⟨h0, h1, h2, h3⟩ := hag c
    · rw [RouterRefIdeal.Read.val_main_v29_eq, h0, h1]
      exact RouterRefIdeal.Math.halves_eq _ _
    · rw [RouterRefIdeal.Read.val_main_indices_eq, h0, h1, h2, h3]
      exact RouterRefIdeal.Math.picks_eq _ _ _ _
    · rw [RouterRefIdeal.Read.val_main_v27_eq, h0, h1, h2, h3]
      exact RouterRefIdeal.Math.gates_eq _ _ _ _

end Cert.Proof

end
-- ==== Proof.lean ====
module

public import proofs.«01_k».proof.Defs
public import proofs.«01_k».proof.Proof.Gen.GateUp
public import proofs.«01_k».proof.Proof.Gen.GateUp.Launch
public import proofs.«01_k».proof.Proof.Gen.GateUp.Skeleton
public import proofs.«01_k».proof.Proof.Gen.GateUpIdeal
public import proofs.«01_k».proof.Proof.Gen.GateUpIdeal.Launch
public import proofs.«01_k».proof.Proof.Gen.GateUpIdeal.Skeleton
public import proofs.«01_k».proof.Proof.Gen.Down
public import proofs.«01_k».proof.Proof.Gen.Down.Launch
public import proofs.«01_k».proof.Proof.Gen.Down.Skeleton
public import proofs.«01_k».proof.Proof.Gen.DownIdeal
public import proofs.«01_k».proof.Proof.Gen.DownIdeal.Launch
public import proofs.«01_k».proof.Proof.Gen.DownIdeal.Skeleton
public import proofs.«01_k».proof.Proof.Gen.GateUpRefIdeal
public import proofs.«01_k».proof.Proof.Gen.GateUpRefIdeal.Run
public import proofs.«01_k».proof.Proof.Gen.GateUpRefIdeal.Read
public import proofs.«01_k».proof.Proof.Gen.DownRefIdeal
public import proofs.«01_k».proof.Proof.Gen.DownRefIdeal.Run
public import proofs.«01_k».proof.Proof.Gen.DownRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.MixIdeal.Value
public import proofs.«01_k».proof.Proof.Gen.OutProjIdeal.Value
public import proofs.«01_k».proof.Proof.Gen.MixRefIdeal.Run
public import proofs.«01_k».proof.Proof.Gen.OutProjRefIdeal.Run
public import proofs.«01_k».proof.Proof.Gen.QkProj
public import proofs.«01_k».proof.Proof.Gen.QkProj.Skeleton
public import proofs.«01_k».proof.Proof.Gen.QkProj.Launch
public import proofs.«01_k».proof.Proof.Gen.QkProj.Points
public import proofs.«01_k».proof.Proof.Gen.QkProj.Frame
public import proofs.«01_k».proof.Proof.Gen.QkProjIdeal
public import proofs.«01_k».proof.Proof.Gen.QkProjIdeal.Skeleton
public import proofs.«01_k».proof.Proof.Gen.QkProjIdeal.Launch
public import proofs.«01_k».proof.Proof.Gen.QkProjIdeal.Points
public import proofs.«01_k».proof.Proof.Gen.QkProjIdeal.Frame
public import proofs.«01_k».proof.Proof.Gen.QkProjRefIdeal
public import proofs.«01_k».proof.Proof.Gen.VProj
public import proofs.«01_k».proof.Proof.Gen.VProj.Skeleton
public import proofs.«01_k».proof.Proof.Gen.VProj.Launch
public import proofs.«01_k».proof.Proof.Gen.VProj.Points
public import proofs.«01_k».proof.Proof.Gen.VProj.Frame
public import proofs.«01_k».proof.Proof.Gen.VProjIdeal
public import proofs.«01_k».proof.Proof.Gen.VProjIdeal.Skeleton
public import proofs.«01_k».proof.Proof.Gen.VProjIdeal.Launch
public import proofs.«01_k».proof.Proof.Gen.VProjIdeal.Points
public import proofs.«01_k».proof.Proof.Gen.VProjIdeal.Frame
public import proofs.«01_k».proof.Proof.Gen.VProjRefIdeal
public import proofs.«01_k».proof.Proof.Gen.UProj
public import proofs.«01_k».proof.Proof.Gen.UProj.Skeleton
public import proofs.«01_k».proof.Proof.Gen.UProj.Launch
public import proofs.«01_k».proof.Proof.Gen.UProj.Points
public import proofs.«01_k».proof.Proof.Gen.UProj.Frame
public import proofs.«01_k».proof.Proof.Gen.UProjIdeal
public import proofs.«01_k».proof.Proof.Gen.UProjIdeal.Skeleton
public import proofs.«01_k».proof.Proof.Gen.UProjIdeal.Launch
public import proofs.«01_k».proof.Proof.Gen.UProjIdeal.Points
public import proofs.«01_k».proof.Proof.Gen.UProjIdeal.Frame
public import proofs.«01_k».proof.Proof.Gen.UProjRefIdeal
public import proofs.«01_k».proof.Proof.Gen.RmsNorm
public import proofs.«01_k».proof.Proof.Gen.RmsNorm.Skeleton
public import proofs.«01_k».proof.Proof.Gen.RmsNorm.Launch
public import proofs.«01_k».proof.Proof.Gen.RmsNorm.Points
public import proofs.«01_k».proof.Proof.Gen.RmsNorm.Frame
public import proofs.«01_k».proof.Proof.Gen.RmsNormIdeal
public import proofs.«01_k».proof.Proof.Gen.RmsNormIdeal.Skeleton
public import proofs.«01_k».proof.Proof.Gen.RmsNormIdeal.Launch
public import proofs.«01_k».proof.Proof.Gen.RmsNormIdeal.Points
public import proofs.«01_k».proof.Proof.Gen.RmsNormIdeal.Frame
public import proofs.«01_k».proof.Proof.Gen.RmsNormRefIdeal
public import proofs.«01_k».proof.Proof.Gen.QkProjIdeal.Value
public import proofs.«01_k».proof.Proof.Gen.QkProjRefIdeal.Run
public import proofs.«01_k».proof.Proof.Gen.QkProjRefIdeal.Read
public import proofs.«01_k».proof.Proof.Gen.VProjIdeal.Value
public import proofs.«01_k».proof.Proof.Gen.VProjRefIdeal.Run
public import proofs.«01_k».proof.Proof.Gen.VProjRefIdeal.Read
public import proofs.«01_k».proof.Proof.Gen.UProjIdeal.Value
public import proofs.«01_k».proof.Proof.Gen.UProjRefIdeal.Run
public import proofs.«01_k».proof.Proof.Gen.UProjRefIdeal.Read
public import proofs.«01_k».proof.Proof.Gen.RmsNormIdeal.Value
public import proofs.«01_k».proof.Proof.Gen.RmsNormRefIdeal.Run
public import proofs.«01_k».proof.Proof.Gen.RmsNormRefIdeal.Read
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolRefIdeal.Run
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.Gen.RouterRefIdeal.Read
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.GateUpClaims
public import proofs.«01_k».proof.Proof.DownClaims
public import proofs.«01_k».proof.Proof.MixValue
public import proofs.«01_k».proof.Proof.OutProjValue
public import proofs.«01_k».proof.Proof.QkProjValue
public import proofs.«01_k».proof.Proof.VProjValue
public import proofs.«01_k».proof.Proof.UProjValue
public import proofs.«01_k».proof.Proof.RmsNormValue
public import proofs.«01_k».proof.Proof.PoolValue
public import proofs.«01_k».proof.Proof.RouterClaims
public import Idealize.ShloMosaic.Adequacy
public import Idealize.ShloMosaic.Init

@[expose] public section

noncomputable section

namespace Cert.Proof

open Idealize.ShloMosaic Idealize.SL.Sem Cert.Mix

theorem claim : Cert.Claim :=
  ⟨Cert.GateUp.Gen.facts, Cert.GateUpIdeal.Gen.facts, Cert.GateUpRefIdeal.Gen.facts,
    Cert.Down.Gen.facts, Cert.DownIdeal.Gen.facts, Cert.DownRefIdeal.Gen.facts,
    Cert.Mix.Gen.facts, Cert.MixIdeal.Gen.facts, Cert.MixRefIdeal.Gen.facts,
    Cert.OutProj.Gen.facts, Cert.OutProjIdeal.Gen.facts, Cert.OutProjRefIdeal.Gen.facts,
    Cert.QkProj.Gen.facts, Cert.QkProjIdeal.Gen.facts, Cert.QkProjRefIdeal.Gen.facts,
    Cert.VProj.Gen.facts, Cert.VProjIdeal.Gen.facts, Cert.VProjRefIdeal.Gen.facts,
    Cert.UProj.Gen.facts, Cert.UProjIdeal.Gen.facts, Cert.UProjRefIdeal.Gen.facts,
    Cert.RmsNorm.Gen.facts, Cert.RmsNormIdeal.Gen.facts, Cert.RmsNormRefIdeal.Gen.facts,
    Cert.Pool.Gen.facts, Cert.PoolIdeal.Gen.facts, Cert.PoolRefIdeal.Gen.facts,
    Cert.Router.Gen.facts, Cert.RouterIdeal.Gen.facts, Cert.RouterRefIdeal.Gen.facts,
    Cert.Attention.Gen.facts, Cert.AttentionIdeal.Gen.facts,
    gate_up_facts, down_facts, router_facts,
    frame_GateUp gate_up_facts, frame_GateUpIdeal gate_up_facts, frame_GateUpRefIdeal, frame_GateUpRefIdeal_pre gate_up_facts,
    frame_Down down_facts, frame_DownIdeal down_facts, frame_DownRefIdeal, frame_DownRefIdeal_pre down_facts,
    fun m ρ _ => Cert.Mix.Gen.frame m ρ, fun m ρ _ => Cert.MixIdeal.Gen.frame m ρ, frame_mixRef,
    fun m ρ _ => Cert.OutProj.Gen.frame m ρ, fun m ρ _ => Cert.OutProjIdeal.Gen.frame m ρ, frame_outProjRef,
    fun m ρ _ => Cert.QkProj.Gen.frame m ρ, fun m ρ _ => Cert.QkProjIdeal.Gen.frame m ρ, frame_qkProjRef,
    fun m ρ _ => Cert.VProj.Gen.frame m ρ, fun m ρ _ => Cert.VProjIdeal.Gen.frame m ρ, frame_vProjRef,
    fun m ρ _ => Cert.UProj.Gen.frame m ρ, fun m ρ _ => Cert.UProjIdeal.Gen.frame m ρ, frame_uProjRef,
    fun m ρ _ => Cert.RmsNorm.Gen.frame m ρ, fun m ρ _ => Cert.RmsNormIdeal.Gen.frame m ρ, frame_rmsNormRef,
    frame_Pool, frame_PoolIdeal, frame_PoolRef,
    fun m ρ _ => Cert.Router.Gen.frame m ρ, frame_RouterIdeal, frame_RouterIdeal_pre router_facts, frame_RouterRef, frame_RouterRef_pre router_facts,
    fun m ρ _ => Cert.Attention.Gen.frame m ρ trivial, fun m ρ _ => Cert.AttentionIdeal.Gen.frame m ρ trivial,
    preserves_GateUp, algebraic_GateUp gate_up_facts, preserves_Down, algebraic_Down down_facts,
    trivial, algebraic_mix, trivial, algebraic_outProj,
    trivial, algebraic_qkProj, trivial, algebraic_vProj, trivial, algebraic_uProj, trivial, algebraic_rmsNorm, trivial, algebraic_Pool,
    preserves_Router, algebraic_Router router_facts, trivial⟩

end Cert.Proof

end
